-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)) (v3 : (c : Dev Cert.Kernel4Ideal.nD) → Buf (Elt Ideal) ((c.tc : Thread Cert.Kernel4Ideal.nD Cert.Kernel4Ideal.τ).loc Cert.Kernel4Ideal.main_v4_3)) (v4 : (c : Dev Cert.Kernel4Ideal.nD) → Buf (Elt Ideal) ((c.tc : Thread Cert.Kernel4Ideal.nD Cert.Kernel4Ideal.τ).loc Cert.Kernel4Ideal.main_v4_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_v4_3) = v3 c
          ∧ r.2.mem ((c.tc : Thread Cert.Kernel4Ideal.nD Cert.Kernel4Ideal.τ).loc Cert.Kernel4Ideal.main_v4_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v59) = v0 c
          ∧ r.2.mem ((c.tc : Thread Cert.Reference4Ideal.nD Cert.Reference4Ideal.τ).loc Cert.Reference4Ideal.main_v61) = v1 c
          ∧ r.2.mem ((c.tc : Thread Cert.Reference4Ideal.nD Cert.Reference4Ideal.τ).loc Cert.Reference4Ideal.main_v62) = v2 c
          ∧ r.2.mem ((c.tc : Thread Cert.Reference4Ideal.nD Cert.Reference4Ideal.τ).loc Cert.Reference4Ideal.main_v64) = v3 c
          ∧ r.2.mem ((c.tc : Thread Cert.Reference4Ideal.nD Cert.Reference4Ideal.τ).loc Cert.Reference4Ideal.main_v65) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v29_0)) (v1 : (c : Dev Cert.Kernel5Ideal.nD) → Buf (Elt Ideal) ((c.tc : Thread Cert.Kernel5Ideal.nD Cert.Kernel5Ideal.τ).loc Cert.Kernel5Ideal.main_v29_1)) (v2 : (c : Dev Cert.Kernel5Ideal.nD) → Buf (Elt Ideal) ((c.tc : Thread Cert.Kernel5Ideal.nD Cert.Kernel5Ideal.τ).loc Cert.Kernel5Ideal.main_v29_2)) (v3 : (c : Dev Cert.Kernel5Ideal.nD) → Buf (Elt Ideal) ((c.tc : Thread Cert.Kernel5Ideal.nD Cert.Kernel5Ideal.τ).loc Cert.Kernel5Ideal.main_v29_3)) (v4 : (c : Dev Cert.Kernel5Ideal.nD) → Buf (Elt Ideal) ((c.tc : Thread Cert.Kernel5Ideal.nD Cert.Kernel5Ideal.τ).loc Cert.Kernel5Ideal.main_v29_4)) (v5 : (c : Dev Cert.Kernel5Ideal.nD) → Buf (Elt Ideal) ((c.tc : Thread Cert.Kernel5Ideal.nD Cert.Kernel5Ideal.τ).loc Cert.Kernel5Ideal.main_v29_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v29_0) = v0 c
          ∧ r.2.mem ((c.tc : Thread Cert.Kernel5Ideal.nD Cert.Kernel5Ideal.τ).loc Cert.Kernel5Ideal.main_v29_1) = v1 c
          ∧ r.2.mem ((c.tc : Thread Cert.Kernel5Ideal.nD Cert.Kernel5Ideal.τ).loc Cert.Kernel5Ideal.main_v29_2) = v2 c
          ∧ r.2.mem ((c.tc : Thread Cert.Kernel5Ideal.nD Cert.Kernel5Ideal.τ).loc Cert.Kernel5Ideal.main_v29_3) = v3 c
          ∧ r.2.mem ((c.tc : Thread Cert.Kernel5Ideal.nD Cert.Kernel5Ideal.τ).loc Cert.Kernel5Ideal.main_v29_4) = v4 c
          ∧ r.2.mem ((c.tc : Thread Cert.Kernel5Ideal.nD Cert.Kernel5Ideal.τ).loc Cert.Kernel5Ideal.main_v29_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v94) = v0 c
          ∧ r.2.mem ((c.tc : Thread Cert.Reference5Ideal.nD Cert.Reference5Ideal.τ).loc Cert.Reference5Ideal.main_v98) = v1 c
          ∧ r.2.mem ((c.tc : Thread Cert.Reference5Ideal.nD Cert.Reference5Ideal.τ).loc Cert.Reference5Ideal.main_v102) = v2 c
          ∧ r.2.mem ((c.tc : Thread Cert.Reference5Ideal.nD Cert.Reference5Ideal.τ).loc Cert.Reference5Ideal.main_v103) = v3 c
          ∧ r.2.mem ((c.tc : Thread Cert.Reference5Ideal.nD Cert.Reference5Ideal.τ).loc Cert.Reference5Ideal.main_v104) = v4 c
          ∧ r.2.mem ((c.tc : Thread Cert.Reference5Ideal.nD Cert.Reference5Ideal.τ).loc Cert.Reference5Ideal.main_v105) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S8 : Shape := ⟨1, ![8]⟩
abbrev S16384x512 : Shape := ⟨2, ![16384, 512]⟩
abbrev S16384x128 : Shape := ⟨2, ![16384, 128]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S16384x128 : S_.BroadcastsInDim S16384x128 (![] : Fin 0 → Fin S16384x128.rank)
  reducesTo_S16384x128_S_d0_1 : S16384x128.ReducesTo [0, 1] S_

variable [Facts]

def fn {F : FTy → Type} [FloatOps F] (main_arg0 : FVec F S8 .f32) (main_arg1 : FVec F S16384x512 .f32) (main_arg2 : FVec F S16384x128 .f32) (main_arg3 : FVec F S16384x128 .f32) : IVec S_ 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_c : IVec S_ 1 := constantI S_ 1 1#1
  let main_v3 : IVec S_ 1 := (fun x v => Host.reduce IntOp.andi x v reducesTo_S8_S_d0 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x128 .f32 := Host.absf main_arg2
  let main_cst_2 : FVec F S_ .f32 := constant S_ .f32 0x7F800000#32
  let main_v10 : FVec F S16384x128 .f32 := broadcastInDim S16384x128 ![] bcast_S_S16384x128 main_cst_2
  let main_v11 : IVec S16384x128 1 := cmpf .olt main_v9 main_v10
  let main_c_3 : IVec S_ 1 := constantI S_ 1 1#1
  let main_v12 : IVec S_ 1 := (fun x v => Host.reduce IntOp.andi x v reducesTo_S16384x128_S_d0_1 h_S_) main_v11 main_c_3
  let main_v13 : IVec S_ 1 := andi main_v8 main_v12
  main_v13
-- ==== Kernel.lean ====
abbrev S8 : Shape := ⟨1, ![8]⟩
abbrev S16384x512 : Shape := ⟨2, ![16384, 512]⟩
abbrev S16384x128 : Shape := ⟨2, ![16384, 128]⟩
abbrev S_ : Shape := ⟨0, ![]⟩
abbrev S16384x2x1x64 : Shape := ⟨4, ![16384, 2, 1, 64]⟩
abbrev S16384x2x2x64 : Shape := ⟨4, ![16384, 2, 2, 64]⟩
abbrev S16384x256 : Shape := ⟨2, ![16384, 256]⟩
abbrev S128x384 : Shape := ⟨2, ![128, 384]⟩
abbrev S8x1x1 : Shape := ⟨3, ![8, 1, 1]⟩
abbrev S8x128x384 : Shape := ⟨3, ![8, 128, 384]⟩
abbrev S1x128x384 : Shape := ⟨3, ![1, 128, 384]⟩
abbrev S512x512 : Shape := ⟨2, ![512, 512]⟩
abbrev S512x256 : Shape := ⟨2, ![512, 256]⟩
abbrev S1x128 : Shape := ⟨2, ![1, 128]⟩
abbrev S1x384 : Shape := ⟨2, ![1, 384]⟩
abbrev S128x128 : Shape := ⟨2, ![128, 128]⟩
abbrev S512x128 : Shape := ⟨2, ![512, 128]⟩
abbrev S768x128 : Shape := ⟨2, ![768, 128]⟩
abbrev S384x128 : Shape := ⟨2, ![384, 128]⟩
abbrev S512x384 : Shape := ⟨2, ![512, 384]⟩
abbrev S1 : Shape := ⟨1, ![1]⟩
abbrev S128 : Shape := ⟨1, ![128]⟩
abbrev S128x1 : Shape := ⟨2, ![128, 1]⟩
abbrev S512x1 : Shape := ⟨2, ![512, 1]⟩

abbrev nBuf : Space → Nat
  | .hbm => 57
  | .vmem => 17
  | .smem => 1
  | _ => 0

abbrev bufTy : (tb : Table) → Fin (tcTables nBuf tb) → BufTy
  | .hbm, ⟨0, _⟩ => ⟨S8, .f32⟩
  | .hbm, ⟨1, _⟩ => ⟨S16384x512, .f32⟩
  | .hbm, ⟨2, _⟩ => ⟨S16384x128, .f32⟩
  | .hbm, ⟨3, _⟩ => ⟨S16384x128, .f32⟩
  | .hbm, ⟨4, _⟩ => ⟨S8, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16384x512, .f32⟩
  | .hbm, ⟨12, _⟩ => ⟨S16384x512, .f32⟩
  | .hbm, ⟨13, _⟩ => ⟨S16384x512, .bf16⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S16384x2x1x64, .f32⟩
  | .hbm, ⟨21, _⟩ => ⟨S16384x2x2x64, .f32⟩
  | .hbm, ⟨22, _⟩ => ⟨S16384x256, .f32⟩
  | .hbm, ⟨23, _⟩ => ⟨S16384x256, .bf16⟩
  | .hbm, ⟨24, _⟩ => ⟨S16384x2x1x64, .f32⟩
  | .hbm, ⟨25, _⟩ => ⟨S16384x2x2x64, .f32⟩
  | .hbm, ⟨26, _⟩ => ⟨S16384x256, .f32⟩
  | .hbm, ⟨27, _⟩ => ⟨S16384x256, .bf16⟩
  | .hbm, ⟨28, _⟩ => ⟨S128x384, .i32⟩
  | .hbm, ⟨29, _⟩ => ⟨S_, .i32⟩
  | .hbm, ⟨30, _⟩ => ⟨S128x384, .i32⟩
  | .hbm, ⟨31, _⟩ => ⟨S128x384, .i32⟩
  | .hbm, ⟨32, _⟩ => ⟨S128x384, .i32⟩
  | .hbm, ⟨33, _⟩ => ⟨S128x384, .i32⟩
  | .hbm, ⟨34, _⟩ => ⟨S128x384, .i32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S8x1x1, .f32⟩
  | .hbm, ⟨42, _⟩ => ⟨S8x1x1, .f32⟩
  | .hbm, ⟨43, _⟩ => ⟨S8x128x384, .f32⟩
  | .hbm, ⟨44, _⟩ => ⟨S128x384, .f32⟩
  | .hbm, ⟨45, _⟩ => ⟨S1x128x384, .f32⟩
  | .hbm, ⟨46, _⟩ => ⟨S8x128x384, .f32⟩
  | .hbm, ⟨47, _⟩ => ⟨S8x128x384, .f32⟩
  | .hbm, ⟨48, _⟩ => ⟨S_, .i32⟩
  | .hbm, ⟨49, _⟩ => ⟨S128x384, .i32⟩
  | .hbm, ⟨50, _⟩ => ⟨S128x384, .i1⟩
  | .hbm, ⟨51, _⟩ => ⟨S1x128x384, .i1⟩
  | .hbm, ⟨52, _⟩ => ⟨S8x128x384, .i1⟩
  | .hbm, ⟨53, _⟩ => ⟨S_, .f32⟩
  | .hbm, ⟨54, _⟩ => ⟨S8x128x384, .f32⟩
  | .hbm, ⟨55, _⟩ => ⟨S8x128x384, .f32⟩
  | .hbm, ⟨56, _⟩ => ⟨S16384x512, .bf16⟩
  | .local _ .vmem, ⟨0, _⟩ => ⟨S8x128x384, .f32⟩
  | .local _ .vmem, ⟨1, _⟩ => ⟨S512x512, .bf16⟩
  | .local _ .vmem, ⟨2, _⟩ => ⟨S512x512, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x512, .bf16⟩
  | .local _ .vmem, ⟨16, _⟩ => ⟨S512x512, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_cst_2 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_cst_4 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S8 : Shape := ⟨1, ![8]⟩
abbrev S16384x512 : Shape := ⟨2, ![16384, 512]⟩
abbrev S16384x128 : Shape := ⟨2, ![16384, 128]⟩
abbrev S128x128x2x4x64 : Shape := ⟨5, ![128, 128, 2, 4, 64]⟩
abbrev S16384x2x64 : Shape := ⟨3, ![16384, 2, 64]⟩
abbrev S_ : Shape := ⟨0, ![]⟩
abbrev S16640x2x64 : Shape := ⟨3, ![16640, 2, 64]⟩
abbrev S130x128x2x64 : Shape := ⟨4, ![130, 128, 2, 64]⟩
abbrev S128x128x2x64 : Shape := ⟨4, ![128, 128, 2, 64]⟩
abbrev S128x384x2x64 : Shape := ⟨4, ![128, 384, 2, 64]⟩
abbrev S128x2x384x128x4 : Shape := ⟨5, ![128, 2, 384, 128, 4]⟩
abbrev S128x2x4x128x384 : Shape := ⟨5, ![128, 2, 4, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S128x1x1 : Shape := ⟨3, ![128, 1, 1]⟩
abbrev S1x1x384 : Shape := ⟨3, ![1, 1, 384]⟩
abbrev S128x1x384 : Shape := ⟨3, ![128, 1, 384]⟩
abbrev S1x128x384 : Shape := ⟨3, ![1, 128, 384]⟩
abbrev S128x128x384 : Shape := ⟨3, ![128, 128, 384]⟩
abbrev S2x4x1x1 : Shape := ⟨4, ![2, 4, 1, 1]⟩
abbrev S1x1x128x384 : Shape := ⟨4, ![1, 1, 128, 384]⟩
abbrev S2x4x128x384 : Shape := ⟨4, ![2, 4, 128, 384]⟩
abbrev S1x2x4x128x384 : Shape := ⟨5, ![1, 2, 4, 128, 384]⟩
abbrev S128x1x1x128x384 : Shape := ⟨5, ![128, 1, 1, 128, 384]⟩
abbrev S2x4 : Shape := ⟨2, ![2, 4]⟩
abbrev S1x2x4x1x1 : Shape := ⟨5, ![1, 2, 4, 1, 1]⟩
abbrev S128x2x4x128 : Shape := ⟨4, ![128, 2, 4, 128]⟩
abbrev S128x2x4x128x1 : Shape := ⟨5, ![128, 2, 4, 128, 1]⟩
abbrev S128x2x64x4x128 : Shape := ⟨5, ![128, 2, 64, 4, 128]⟩

abbrev nBuf : Space → Nat
  | .hbm => 115
  | .vmem => 0
  | .smem => 0
  | _ => 0

abbrev bufTy : (tb : Table) → Fin (tcTables nBuf tb) → BufTy
  | .hbm, ⟨0, _⟩ => ⟨S8, .f32⟩
  | .hbm, ⟨1, _⟩ => ⟨S16384x512, .f32⟩
  | .hbm, ⟨2, _⟩ => ⟨S16384x128, .f32⟩
  | .hbm, ⟨3, _⟩ => ⟨S16384x128, .f32⟩
  | .hbm, ⟨4, _⟩ => ⟨S128x128x2x4x64, .f32⟩
  | .hbm, ⟨5, _⟩ => ⟨S16384x2x64, .f32⟩
  | .hbm, ⟨6, _⟩ => ⟨S_, .i32⟩
  | .hbm, ⟨7, _⟩ => ⟨S_, .f32⟩
  | .hbm, ⟨8, _⟩ => ⟨S16640x2x64, .f32⟩
  | .hbm, ⟨9, _⟩ => ⟨S130x128x2x64, .f32⟩
  | .hbm, ⟨10, _⟩ => ⟨S16384x2x64, .f32⟩
  | .hbm, ⟨11, _⟩ => ⟨S_, .i32⟩
  | .hbm, ⟨12, _⟩ => ⟨S_, .f32⟩
  | .hbm, ⟨13, _⟩ => ⟨S16640x2x64, .f32⟩
  | .hbm, ⟨14, _⟩ => ⟨S130x128x2x64, .f32⟩
  | .hbm, ⟨15, _⟩ => ⟨S128x128x2x64, .f32⟩
  | .hbm, ⟨16, _⟩ => ⟨S128x128x2x64, .f32⟩
  | .hbm, ⟨17, _⟩ => ⟨S128x128x2x64, .f32⟩
  | .hbm, ⟨18, _⟩ => ⟨S128x384x2x64, .f32⟩
  | .hbm, ⟨19, _⟩ => ⟨S128x128x2x64, .f32⟩
  | .hbm, ⟨20, _⟩ => ⟨S128x128x2x64, .f32⟩
  | .hbm, ⟨21, _⟩ => ⟨S128x128x2x64, .f32⟩
  | .hbm, ⟨22, _⟩ => ⟨S128x384x2x64, .f32⟩
  | .hbm, ⟨23, _⟩ => ⟨S128x2x384x128x4, .f32⟩
  | .hbm, ⟨24, _⟩ => ⟨S128x2x4x128x384, .f32⟩
  | .hbm, ⟨25, _⟩ => ⟨S_, .f32⟩
  | .hbm, ⟨26, _⟩ => ⟨S128x2x4x128x384, .f32⟩
  | .hbm, ⟨27, _⟩ => ⟨S128x2x4x128x384, .f32⟩
  | .hbm, ⟨28, _⟩ => ⟨S128, .i32⟩
  | .hbm, ⟨29, _⟩ => ⟨S128x1, .i32⟩
  | .hbm, ⟨30, _⟩ => ⟨S384, .i32⟩
  | .hbm, ⟨31, _⟩ => ⟨S1x384, .i32⟩
  | .hbm, ⟨32, _⟩ => ⟨S_, .i32⟩
  | .hbm, ⟨33, _⟩ => ⟨S1x384, .i32⟩
  | .hbm, ⟨34, _⟩ => ⟨S1x384, .i32⟩
  | .hbm, ⟨35, _⟩ => ⟨S128x384, .i32⟩
  | .hbm, ⟨36, _⟩ => ⟨S128x384, .i32⟩
  | .hbm, ⟨37, _⟩ => ⟨S128x384, .i32⟩
  | .hbm, ⟨38, _⟩ => ⟨S128, .i32⟩
  | .hbm, ⟨39, _⟩ => ⟨S128x1x1, .i32⟩
  | .hbm, ⟨40, _⟩ => ⟨S_, .i32⟩
  | .hbm, ⟨41, _⟩ => ⟨S128x1x1, .i32⟩
  | .hbm, ⟨42, _⟩ => ⟨S128x1x1, .i32⟩
  | .hbm, ⟨43, _⟩ => ⟨S1x1x384, .i32⟩
  | .hbm, ⟨44, _⟩ => ⟨S128x1x384, .i32⟩
  | .hbm, ⟨45, _⟩ => ⟨S128x1x384, .i32⟩
  | .hbm, ⟨46, _⟩ => ⟨S128x1x384, .i32⟩
  | .hbm, ⟨47, _⟩ => ⟨S_, .i32⟩
  | .hbm, ⟨48, _⟩ => ⟨S128x1x384, .i32⟩
  | .hbm, ⟨49, _⟩ => ⟨S128x1x384, .i32⟩
  | .hbm, ⟨50, _⟩ => ⟨S128x384, .i32⟩
  | .hbm, ⟨51, _⟩ => ⟨S_, .i32⟩
  | .hbm, ⟨52, _⟩ => ⟨S128x384, .i32⟩
  | .hbm, ⟨53, _⟩ => ⟨S128x384, .i1⟩
  | .hbm, ⟨54, _⟩ => ⟨S1x128x384, .i1⟩
  | .hbm, ⟨55, _⟩ => ⟨S_, .i32⟩
  | .hbm, ⟨56, _⟩ => ⟨S128x1x384, .i32⟩
  | .hbm, ⟨57, _⟩ => ⟨S128x1x384, .i1⟩
  | .hbm, ⟨58, _⟩ => ⟨S128x128x384, .i1⟩
  | .hbm, ⟨59, _⟩ => ⟨S128x128x384, .i1⟩
  | .hbm, ⟨60, _⟩ => ⟨S128x128x384, .i1⟩
  | .hbm, ⟨61, _⟩ => ⟨S_, .i32⟩
  | .hbm, ⟨62, _⟩ => ⟨S128x1x384, .i32⟩
  | .hbm, ⟨63, _⟩ => ⟨S128x1x384, .i1⟩
  | .hbm, ⟨64, _⟩ => ⟨S128x128x384, .i1⟩
  | .hbm, ⟨65, _⟩ => ⟨S128x128x384, .i1⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8, .f32⟩
  | .hbm, ⟨73, _⟩ => ⟨S_, .f32⟩
  | .hbm, ⟨74, _⟩ => ⟨S8, .f32⟩
  | .hbm, ⟨75, _⟩ => ⟨S8, .f32⟩
  | .hbm, ⟨76, _⟩ => ⟨S2x4x1x1, .f32⟩
  | .hbm, ⟨77, _⟩ => ⟨S128x384, .i32⟩
  | .hbm, ⟨78, _⟩ => ⟨S128x384, .f32⟩
  | .hbm, ⟨79, _⟩ => ⟨S1x1x128x384, .f32⟩
  | .hbm, ⟨80, _⟩ => ⟨S2x4x128x384, .f32⟩
  | .hbm, ⟨81, _⟩ => ⟨S2x4x128x384, .f32⟩
  | .hbm, ⟨82, _⟩ => ⟨S2x4x128x384, .f32⟩
  | .hbm, ⟨83, _⟩ => ⟨S1x2x4x128x384, .f32⟩
  | .hbm, ⟨84, _⟩ => ⟨S128x2x4x128x384, .f32⟩
  | .hbm, ⟨85, _⟩ => ⟨S128x2x4x128x384, .f32⟩
  | .hbm, ⟨86, _⟩ => ⟨S128x1x1x128x384, .i1⟩
  | .hbm, ⟨87, _⟩ => ⟨S_, .f32⟩
  | .hbm, ⟨88, _⟩ => ⟨S_, .f32⟩
  | .hbm, ⟨89, _⟩ => ⟨S128x2x4x128x384, .i1⟩
  | .hbm, ⟨90, _⟩ => ⟨S128x2x4x128x384, .f32⟩
  | .hbm, ⟨91, _⟩ => ⟨S128x2x4x128x384, .f32⟩
  | .hbm, ⟨92, _⟩ => ⟨S2x4, .f32⟩
  | .hbm, ⟨93, _⟩ => ⟨S1x2x4x1x1, .f32⟩
  | .hbm, ⟨94, _⟩ => ⟨S_, .f32⟩
  | .hbm, ⟨95, _⟩ => ⟨S128x2x4x128, .f32⟩
  | .hbm, ⟨96, _⟩ => ⟨S128x2x4x128x1, .f32⟩
  | .hbm, ⟨97, _⟩ => ⟨S128x2x4x128x1, .f32⟩
  | .hbm, ⟨98, _⟩ => ⟨S128x2x4x128x1, .f32⟩
  | .hbm, ⟨99, _⟩ => ⟨S128x2x4x128x384, .f32⟩
  | .hbm, ⟨100, _⟩ => ⟨S128x2x4x128x384, .f32⟩
  | .hbm, ⟨101, _⟩ => ⟨S128x2x4x128x384, .f32⟩
  | .hbm, ⟨102, _⟩ => ⟨S_, .f32⟩
  | .hbm, ⟨103, _⟩ => ⟨S128x2x4x128, .f32⟩
  | .hbm, ⟨104, _⟩ => ⟨S128x2x4x128x1, .f32⟩
  | .hbm, ⟨105, _⟩ => ⟨S128x2x4x128x1, .f32⟩
  | .hbm, ⟨106, _⟩ => ⟨S128x2x4x128x1, .f32⟩
  | .hbm, ⟨107, _⟩ => ⟨S128x2x4x128x1, .f32⟩
  | .hbm, ⟨108, _⟩ => ⟨S128x2x4x128x1, .f32⟩
  | .hbm, ⟨109, _⟩ => ⟨S128x2x4x128x384, .f32⟩
  | .hbm, ⟨110, _⟩ => ⟨S128x2x4x128x384, .f32⟩
  | .hbm, ⟨111, _⟩ => ⟨S128x2x64x4x128, .f32⟩
  | .hbm, ⟨112, _⟩ => ⟨S128x128x2x4x64, .f32⟩
  | .hbm, ⟨113, _⟩ => ⟨S16384x512, .f32⟩
  | .hbm, ⟨114, _⟩ => ⟨S16384x512, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_6 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_10 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_11 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_12 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩

abbrev nD : Nat := 1
abbrev τ : Topo := Topo.v7x

variable {F : FTy → Type} [FloatOps F]
-- ==== Kernel2.lean ====
abbrev S16384x1024 : Shape := ⟨2, ![16384, 1024]⟩
abbrev S16384x2048 : Shape := ⟨2, ![16384, 2048]⟩
abbrev S1x2048 : Shape := ⟨2, ![1, 2048]⟩
abbrev S1x2048x1024 : Shape := ⟨3, ![1, 2048, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024 : Shape := ⟨2, ![1, 1024]⟩
abbrev S1024 : Shape := ⟨1, ![1024]⟩
abbrev S512x1024 : Shape := ⟨2, ![512, 1024]⟩
abbrev S512x2048 : Shape := ⟨2, ![512, 2048]⟩
abbrev S1x256x1024 : Shape := ⟨3, ![1, 256, 1024]⟩
abbrev S1x128x4096 : Shape := ⟨3, ![1, 128, 4096]⟩
abbrev S1x512x1024 : Shape := ⟨3, ![1, 512, 1024]⟩
abbrev S2048x1024 : Shape := ⟨2, ![2048, 1024]⟩
abbrev S1024x4096 : Shape := ⟨2, ![1024, 4096]⟩
abbrev S4096x1024 : Shape := ⟨2, ![4096, 1024]⟩
abbrev S256x1024 : Shape := ⟨2, ![256, 1024]⟩
abbrev S128x4096 : Shape := ⟨2, ![128, 4096]⟩
abbrev S512x256 : Shape := ⟨2, ![512, 256]⟩
abbrev S512 : Shape := ⟨1, ![512]⟩
abbrev S512x1 : Shape := ⟨2, ![512, 1]⟩
abbrev S1x256 : Shape := ⟨2, ![1, 256]⟩
abbrev S1024x1024 : Shape := ⟨2, ![1024, 1024]⟩

abbrev nBuf : Space → Nat
  | .hbm => 12
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S16384x2048, .bf16⟩
  | .hbm, ⟨3, _⟩ => ⟨S1x2048, .f32⟩
  | .hbm, ⟨4, _⟩ => ⟨S1x2048x1024, .f32⟩
  | .hbm, ⟨5, _⟩ => ⟨S2x1024, .f32⟩
  | .hbm, ⟨6, _⟩ => ⟨S2x1024x4096, .f32⟩
  | .hbm, ⟨7, _⟩ => ⟨S2x4096x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S1x256x1024, .f32⟩
  | .local _ .vmem, ⟨8, _⟩ => ⟨S1x256x1024, .f32⟩
  | .local _ .vmem, ⟨9, _⟩ => ⟨S1x1024, .f32⟩
  | .local _ .vmem, ⟨10, _⟩ => ⟨S1x128x4096, .f32⟩
  | .local _ .vmem, ⟨11, _⟩ => ⟨S1x128x4096, .f32⟩
  | .local _ .vmem, ⟨12, _⟩ => ⟨S1x512x1024, .f32⟩
  | .local _ .vmem, ⟨13, _⟩ => ⟨S1x512x1024, .f32⟩
  | .local _ .vmem, ⟨14, _⟩ => ⟨S512x1024, .f32⟩
  | .local _ .vmem, ⟨15, _⟩ => ⟨S512x1024, .f32⟩
  | .local _ .vmem, ⟨16, _⟩ => ⟨S2048x1024, .bf16⟩
  | .local _ .vmem, ⟨17, _⟩ => ⟨S1024x4096, .bf16⟩
  | .local _ .vmem, ⟨18, _⟩ => ⟨S4096x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![40], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c256_i32 : BitVec 32 := 256#32
  let v9 : BitVec 32 := Scalar.muli arg0 c256_i32
  v9
def k0_off1 (i : grid0.Coords) : Fin 2 → Nat :=
  let arg0 : BitVec 32 := BitVec.ofNat 32 (i 0).val
  let c256_i32 : BitVec 32 := 256#32
  let v9 : BitVec 32 := Scalar.muli arg0 c256_i32
  let v10 : BitVec 32 := v9
  let v11 : Index := Scalar.indexCast v10
  let c0_4 : Index := 0#32
  ![v11.toNat, 0]
def k0_mult2 (i : grid0.Coords) : BitVec 32 :=
  let arg0 : BitVec 32 := BitVec.ofNat 32 (i 0).val
  let c128_i32 : BitVec 32 := 128#32
  let v18 : BitVec 32 := Scalar.muli arg0 c128_i32
  v18
def k0_off2 (i : grid0.Coords) : Fin 2 → Nat :=
  let arg0 : BitVec 32 := BitVec.ofNat 32 (i 0).val
  let c128_i32 : BitVec 32 := 128#32
  let v18 : BitVec 32 := Scalar.muli arg0 c128_i32
  let v19 : BitVec 32 := v18
  let v20 : Index := Scalar.indexCast v19
  let c0_8 : Index := 0#32
  ![v20.toNat, 0]
def k0_mult3 (i : grid0.Coords) : BitVec 32 :=
  let arg0 : BitVec 32 := BitVec.ofNat 32 (i 0).val
  let c512_i32 : BitVec 32 := 512#32
  let v27 : BitVec 32 := Scalar.muli arg0 c512_i32
  v27
def k0_off3 (i : grid0.Coords) : Fin 2 → Nat :=
  let arg0 : BitVec 32 := BitVec.ofNat 32 (i 0).val
  let c512_i32 : BitVec 32 := 512#32
  let v27 : BitVec 32 := Scalar.muli arg0 c512_i32
  let v28 : BitVec 32 := v27
  let v29 : Index := Scalar.indexCast v28
  let c0_12 : Index := 0#32
  ![v29.toNat, 0]
def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c7_i32 : BitVec 32 := 7#32
  let v0 : BitVec 32 := Scalar.minsi arg0 c7_i32
  let c1_i32 : BitVec 32 := 1#32
  let c0_i32 : BitVec 32 := 0#32
  let c0_i32_0 : BitVec 32 := 0#32
  ![c1_i32.toNat, v0.toNat, c0_i32.toNat]

def cc0_transform_7 (i : grid0.Coords) : Fin 3 → Nat :=
  let arg0 : BitVec 32 := BitVec.ofNat 32 (i 0).val
  let c7_i32 : BitVec 32 := 7#32
  let v0 : BitVec 32 := Scalar.minsi arg0 c7_i32
  let c1_i32 : BitVec 32 := 1#32
  let c0_i32 : BitVec 32 := 0#32
  let c0_i32_0 : BitVec 32 := 0#32
  ![c1_i32.toNat, v0.toNat, c0_i32.toNat]

def cc0_transform_8 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S16384x1024 : Shape := ⟨2, ![16384, 1024]⟩
abbrev S16384x2048 : Shape := ⟨2, ![16384, 2048]⟩
abbrev S1x2048 : Shape := ⟨2, ![1, 2048]⟩
abbrev S1x2048x1024 : Shape := ⟨3, ![1, 2048, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S16384x8x256 : Shape := ⟨3, ![16384, 8, 256]⟩
abbrev S_ : Shape := ⟨0, ![]⟩
abbrev S16384x8 : Shape := ⟨2, ![16384, 8]⟩
abbrev S16384x8x1 : Shape := ⟨3, ![16384, 8, 1]⟩
abbrev S8x256 : Shape := ⟨2, ![8, 256]⟩
abbrev S1x8x256 : Shape := ⟨3, ![1, 8, 256]⟩
abbrev S2048x1024 : Shape := ⟨2, ![2048, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 72
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S16384x2048, .bf16⟩
  | .hbm, ⟨3, _⟩ => ⟨S1x2048, .f32⟩
  | .hbm, ⟨4, _⟩ => ⟨S1x2048x1024, .f32⟩
  | .hbm, ⟨5, _⟩ => ⟨S2x1024, .f32⟩
  | .hbm, ⟨6, _⟩ => ⟨S2x1024x4096, .f32⟩
  | .hbm, ⟨7, _⟩ => ⟨S2x4096x1024, .f32⟩
  | .hbm, ⟨8, _⟩ => ⟨S16384x2048, .f32⟩
  | .hbm, ⟨9, _⟩ => ⟨S16384x8x256, .f32⟩
  | .hbm, ⟨10, _⟩ => ⟨S_, .f32⟩
  | .hbm, ⟨11, _⟩ => ⟨S16384x8, .f32⟩
  | .hbm, ⟨12, _⟩ => ⟨S16384x8x1, .f32⟩
  | .hbm, ⟨13, _⟩ => ⟨S_, .f32⟩
  | .hbm, ⟨14, _⟩ => ⟨S16384x8x1, .f32⟩
  | .hbm, ⟨15, _⟩ => ⟨S16384x8x1, .f32⟩
  | .hbm, ⟨16, _⟩ => ⟨S16384x8x256, .f32⟩
  | .hbm, ⟨17, _⟩ => ⟨S16384x8x256, .f32⟩
  | .hbm, ⟨18, _⟩ => ⟨S16384x8x256, .f32⟩
  | .hbm, ⟨19, _⟩ => ⟨S_, .f32⟩
  | .hbm, ⟨20, _⟩ => ⟨S16384x8, .f32⟩
  | .hbm, ⟨21, _⟩ => ⟨S16384x8x1, .f32⟩
  | .hbm, ⟨22, _⟩ => ⟨S_, .f32⟩
  | .hbm, ⟨23, _⟩ => ⟨S16384x8x1, .f32⟩
  | .hbm, ⟨24, _⟩ => ⟨S16384x8x1, .f32⟩
  | .hbm, ⟨25, _⟩ => ⟨S16384x8x256, .f32⟩
  | .hbm, ⟨26, _⟩ => ⟨S16384x8x256, .f32⟩
  | .hbm, ⟨27, _⟩ => ⟨S_, .f32⟩
  | .hbm, ⟨28, _⟩ => ⟨S16384x8x1, .f32⟩
  | .hbm, ⟨29, _⟩ => ⟨S16384x8x1, .f32⟩
  | .hbm, ⟨30, _⟩ => ⟨S16384x8x1, .f32⟩
  | .hbm, ⟨31, _⟩ => ⟨S16384x8x256, .f32⟩
  | .hbm, ⟨32, _⟩ => ⟨S16384x8x256, .f32⟩
  | .hbm, ⟨33, _⟩ => ⟨S8x256, .f32⟩
  | .hbm, ⟨34, _⟩ => ⟨S1x8x256, .f32⟩
  | .hbm, ⟨35, _⟩ => ⟨S16384x8x256, .f32⟩
  | .hbm, ⟨36, _⟩ => ⟨S16384x8x256, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S2048x1024, .f32⟩
  | .hbm, ⟨41, _⟩ => ⟨S16384x1024, .f32⟩
  | .hbm, ⟨42, _⟩ => ⟨S16384x1024, .f32⟩
  | .hbm, ⟨43, _⟩ => ⟨S1x1024, .f32⟩
  | .hbm, ⟨44, _⟩ => ⟨S1024, .f32⟩
  | .hbm, ⟨45, _⟩ => ⟨S1x1024x4096, .f32⟩
  | .hbm, ⟨46, _⟩ => ⟨S1024x4096, .f32⟩
  | .hbm, ⟨47, _⟩ => ⟨S1x4096x1024, .f32⟩
  | .hbm, ⟨48, _⟩ => ⟨S4096x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S1x1024, .f32⟩
  | .hbm, ⟨63, _⟩ => ⟨S16384x1024, .f32⟩
  | .hbm, ⟨64, _⟩ => ⟨S16384x1024, .f32⟩
  | .hbm, ⟨65, _⟩ => ⟨S16384x4096, .f32⟩
  | .hbm, ⟨66, _⟩ => ⟨S_, .f32⟩
  | .hbm, ⟨67, _⟩ => ⟨S16384x4096, .f32⟩
  | .hbm, ⟨68, _⟩ => ⟨S16384x4096, .f32⟩
  | .hbm, ⟨69, _⟩ => ⟨S16384x4096, .f32⟩
  | .hbm, ⟨70, _⟩ => ⟨S16384x1024, .f32⟩
  | .hbm, ⟨71, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_call0_cst : Ref sig .tc := ⟨.hbm, 66, rfl⟩
abbrev main_call0_v0 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024 : Shape := ⟨2, ![1, 1024]⟩
abbrev S1024 : Shape := ⟨1, ![1024]⟩
abbrev S1024x1024 : Shape := ⟨2, ![1024, 1024]⟩
abbrev S1024x512 : Shape := ⟨2, ![1024, 512]⟩
abbrev S1x128x1024 : Shape := ⟨3, ![1, 128, 1024]⟩
abbrev S1x128x4096 : Shape := ⟨3, ![1, 128, 4096]⟩
abbrev S1x512x1024 : Shape := ⟨3, ![1, 512, 1024]⟩
abbrev S1024x4096 : Shape := ⟨2, ![1024, 4096]⟩
abbrev S4096x1024 : Shape := ⟨2, ![4096, 1024]⟩
abbrev S128x1024 : Shape := ⟨2, ![128, 1024]⟩
abbrev S128x4096 : Shape := ⟨2, ![128, 4096]⟩
abbrev S512x1024 : Shape := ⟨2, ![512, 1024]⟩
abbrev S1024x1 : Shape := ⟨2, ![1024, 1]⟩

abbrev nBuf : Space → Nat
  | .hbm => 11
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x128x1024, .f32⟩
  | .local _ .vmem, ⟨7, _⟩ => ⟨S1x128x1024, .f32⟩
  | .local _ .vmem, ⟨8, _⟩ => ⟨S1x1024, .f32⟩
  | .local _ .vmem, ⟨9, _⟩ => ⟨S1x128x4096, .f32⟩
  | .local _ .vmem, ⟨10, _⟩ => ⟨S1x128x4096, .f32⟩
  | .local _ .vmem, ⟨11, _⟩ => ⟨S1x512x1024, .f32⟩
  | .local _ .vmem, ⟨12, _⟩ => ⟨S1x512x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x4096, .bf16⟩
  | .local _ .vmem, ⟨17, _⟩ => ⟨S4096x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c128_i32 : BitVec 32 := 128#32
  let v9 : BitVec 32 := Scalar.muli arg0 c128_i32
  v9
def k0_off1 (i : grid0.Coords) : Fin 2 → Nat :=
  let arg0 : BitVec 32 := BitVec.ofNat 32 (i 0).val
  let c128_i32 : BitVec 32 := 128#32
  let v9 : BitVec 32 := Scalar.muli arg0 c128_i32
  let v10 : BitVec 32 := v9
  let v11 : Index := Scalar.indexCast v10
  let c0_4 : Index := 0#32
  ![v11.toNat, 0]
def k0_mult2 (i : grid0.Coords) : BitVec 32 :=
  let arg0 : BitVec 32 := BitVec.ofNat 32 (i 0).val
  let c128_i32_8 : BitVec 32 := 128#32
  let v18 : BitVec 32 := Scalar.muli arg0 c128_i32_8
  v18
def k0_off2 (i : grid0.Coords) : Fin 2 → Nat :=
  let arg0 : BitVec 32 := BitVec.ofNat 32 (i 0).val
  let c128_i32_8 : BitVec 32 := 128#32
  let v18 : BitVec 32 := Scalar.muli arg0 c128_i32_8
  let v19 : BitVec 32 := v18
  let v20 : Index := Scalar.indexCast v19
  let c0_9 : Index := 0#32
  ![v20.toNat, 0]
def k0_mult3 (i : grid0.Coords) : BitVec 32 :=
  let arg0 : BitVec 32 := BitVec.ofNat 32 (i 0).val
  let c512_i32 : BitVec 32 := 512#32
  let v27 : BitVec 32 := Scalar.muli arg0 c512_i32
  v27
def k0_off3 (i : grid0.Coords) : Fin 2 → Nat :=
  let arg0 : BitVec 32 := BitVec.ofNat 32 (i 0).val
  let c512_i32 : BitVec 32 := 512#32
  let v27 : BitVec 32 := Scalar.muli arg0 c512_i32
  let v28 : BitVec 32 := v27
  let v29 : Index := Scalar.indexCast v28
  let c0_13 : Index := 0#32
  ![v29.toNat, 0]
def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16384x1024 : Shape := ⟨2, ![16384, 1024]⟩
abbrev S16384x512 : Shape := ⟨2, ![16384, 512]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024x1024 : Shape := ⟨2, ![1024, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S16384x1024, .bf16⟩
  | .hbm, ⟨8, _⟩ => ⟨S16384x1024, .f32⟩
  | .hbm, ⟨9, _⟩ => ⟨S1024x1024, .f32⟩
  | .hbm, ⟨10, _⟩ => ⟨S16384x1024, .f32⟩
  | .hbm, ⟨11, _⟩ => ⟨S16384x1024, .f32⟩
  | .hbm, ⟨12, _⟩ => ⟨S1x1024, .f32⟩
  | .hbm, ⟨13, _⟩ => ⟨S1024, .f32⟩
  | .hbm, ⟨14, _⟩ => ⟨S1x1024x4096, .f32⟩
  | .hbm, ⟨15, _⟩ => ⟨S1024x4096, .f32⟩
  | .hbm, ⟨16, _⟩ => ⟨S1x4096x1024, .f32⟩
  | .hbm, ⟨17, _⟩ => ⟨S4096x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x4096, .f32⟩
  | .hbm, ⟨35, _⟩ => ⟨S_, .f32⟩
  | .hbm, ⟨36, _⟩ => ⟨S16384x4096, .f32⟩
  | .hbm, ⟨37, _⟩ => ⟨S16384x4096, .f32⟩
  | .hbm, ⟨38, _⟩ => ⟨S16384x4096, .f32⟩
  | .hbm, ⟨39, _⟩ => ⟨S16384x1024, .f32⟩
  | .hbm, ⟨40, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_cst : Ref sig .tc := ⟨.hbm, 35, rfl⟩
abbrev main_call0_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel4.lean ====
abbrev S1x8 : Shape := ⟨2, ![1, 8]⟩
abbrev S16384x1024 : Shape := ⟨2, ![16384, 1024]⟩
abbrev S1x1024 : Shape := ⟨2, ![1, 1024]⟩
abbrev S1x1024x6144 : Shape := ⟨3, ![1, 1024, 6144]⟩
abbrev S8 : Shape := ⟨1, ![8]⟩
abbrev S_ : Shape := ⟨0, ![]⟩
abbrev S1024 : Shape := ⟨1, ![1024]⟩
abbrev S1024x16384 : Shape := ⟨2, ![1024, 16384]⟩
abbrev S16384x2048 : Shape := ⟨2, ![16384, 2048]⟩
abbrev S64x8x128x256 : Shape := ⟨4, ![64, 8, 128, 256]⟩
abbrev S512x1024 : Shape := ⟨2, ![512, 1024]⟩
abbrev S1x128x6144 : Shape := ⟨3, ![1, 128, 6144]⟩
abbrev S1024x512 : Shape := ⟨2, ![1024, 512]⟩
abbrev S512x2048 : Shape := ⟨2, ![512, 2048]⟩
abbrev S2x8x128x256 : Shape := ⟨4, ![2, 8, 128, 256]⟩
abbrev S1024x6144 : Shape := ⟨2, ![1024, 6144]⟩
abbrev S1024x1024 : Shape := ⟨2, ![1024, 1024]⟩
abbrev S8x128x256 : Shape := ⟨3, ![8, 128, 256]⟩
abbrev S128x6144 : Shape := ⟨2, ![128, 6144]⟩
abbrev S1x128x1024 : Shape := ⟨3, ![1, 128, 1024]⟩
abbrev S128x1024 : Shape := ⟨2, ![128, 1024]⟩
abbrev S1024x128 : Shape := ⟨2, ![1024, 128]⟩
abbrev S512 : Shape := ⟨1, ![512]⟩
abbrev S512x1 : Shape := ⟨2, ![512, 1]⟩
abbrev S1x256 : Shape := ⟨2, ![1, 256]⟩
abbrev S1 : Shape := ⟨1, ![1]⟩
abbrev S1x1 : Shape := ⟨2, ![1, 1]⟩
abbrev S1x128x256 : Shape := ⟨3, ![1, 128, 256]⟩
abbrev S128x256 : Shape := ⟨2, ![128, 256]⟩
abbrev S256x256 : Shape := ⟨2, ![256, 256]⟩
abbrev S1x1x128x256 : Shape := ⟨4, ![1, 1, 128, 256]⟩

abbrev nBuf : Space → Nat
  | .hbm => 28
  | .vmem => 18
  | .smem => 1
  | _ => 0

abbrev bufTy : (tb : Table) → Fin (tcTables nBuf tb) → BufTy
  | .hbm, ⟨0, _⟩ => ⟨S1x8, .f32⟩
  | .hbm, ⟨1, _⟩ => ⟨S16384x1024, .f32⟩
  | .hbm, ⟨2, _⟩ => ⟨S1x1024, .f32⟩
  | .hbm, ⟨3, _⟩ => ⟨S1x1024x6144, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S8, .i1⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S1024, .f32⟩
  | .hbm, ⟨22, _⟩ => ⟨S1x1024, .f32⟩
  | .hbm, ⟨23, _⟩ => ⟨S16384x1024, .bf16⟩
  | .hbm, ⟨24, _⟩ => ⟨S1024x16384, .bf16⟩
  | .hbm, ⟨25, _⟩ => ⟨S16384x2048, .bf16⟩
  | .hbm, ⟨26, _⟩ => ⟨S16384x2048, .bf16⟩
  | .hbm, ⟨27, _⟩ => ⟨S64x8x128x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x128x6144, .f32⟩
  | .local _ .vmem, ⟨4, _⟩ => ⟨S1x128x6144, .f32⟩
  | .local _ .vmem, ⟨5, _⟩ => ⟨S512x1024, .bf16⟩
  | .local _ .vmem, ⟨6, _⟩ => ⟨S512x1024, .bf16⟩
  | .local _ .vmem, ⟨7, _⟩ => ⟨S1024x512, .bf16⟩
  | .local _ .vmem, ⟨8, _⟩ => ⟨S1024x512, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S2x8x128x256, .bf16⟩
  | .local _ .vmem, ⟨14, _⟩ => ⟨S2x8x128x256, .bf16⟩
  | .local _ .vmem, ⟨15, _⟩ => ⟨S1024x6144, .bf16⟩
  | .local _ .vmem, ⟨16, _⟩ => ⟨S1024x1024, .bf16⟩
  | .local _ .vmem, ⟨17, _⟩ => ⟨S8x128x256, .f32⟩
  | .local _ .smem, ⟨0, _⟩ => ⟨S8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4_0 : Ref sig .tc := ⟨.hbm, 23, rfl⟩
abbrev main_v4_1 : Ref sig .tc := ⟨.hbm, 24, rfl⟩
abbrev main_v4_2 : Ref sig .tc := ⟨.hbm, 25, rfl⟩
abbrev main_v4_3 : Ref sig .tc := ⟨.hbm, 26, rfl⟩
abbrev main_v4_4 : Ref sig .tc := ⟨.hbm, 27, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![40], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c128_i32 : BitVec 32 := 128#32
  let v12 : BitVec 32 := Scalar.muli arg0 c128_i32
  v12
def k0_off1 (i : grid0.Coords) : Fin 2 → Nat :=
  let arg0 : BitVec 32 := BitVec.ofNat 32 (i 0).val
  let c128_i32 : BitVec 32 := 128#32
  let v12 : BitVec 32 := Scalar.muli arg0 c128_i32
  let v13 : BitVec 32 := v12
  let v14 : Index := Scalar.indexCast v13
  let c0_6 : Index := 0#32
  ![v14.toNat, 0]
def k0_mult2 (i : grid0.Coords) : BitVec 32 :=
  let arg0 : BitVec 32 := BitVec.ofNat 32 (i 0).val
  let c128_i32_9 : BitVec 32 := 128#32
  let v22 : BitVec 32 := Scalar.muli arg0 c128_i32_9
  v22
def k0_off2 (i : grid0.Coords) : Fin 2 → Nat :=
  let c0_10 : Index := 0#32
  let arg0 : BitVec 32 := BitVec.ofNat 32 (i 0).val
  let c128_i32_9 : BitVec 32 := 128#32
  let v22 : BitVec 32 := Scalar.muli arg0 c128_i32_9
  let v23 : BitVec 32 := v22
  let v24 : Index := Scalar.indexCast v23
  ![0, v24.toNat]
def k0_cond3 (i : grid0.Coords) : BitVec 1 :=
  let arg0 : BitVec 32 := BitVec.ofNat 32 (i 0).val
  let c8_i32_2 : BitVec 32 := 8#32
  let v6 : BitVec 1 := Scalar.cmpi .sge arg0 c8_i32_2
  let v7 : BitVec 32 := Scalar.extui v6
  let c0_i32_3 : BitVec 32 := 0#32
  let v8 : BitVec 1 := Scalar.cmpi .ne v7 c0_i32_3
  v8

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 4 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x8x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S1x8 : Shape := ⟨2, ![1, 8]⟩
abbrev S16384x1024 : Shape := ⟨2, ![16384, 1024]⟩
abbrev S1x1024 : Shape := ⟨2, ![1, 1024]⟩
abbrev S1x1024x6144 : Shape := ⟨3, ![1, 1024, 6144]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x6144 : Shape := ⟨2, ![1024, 6144]⟩
abbrev S16384x6144 : Shape := ⟨2, ![16384, 6144]⟩
abbrev S16384x2048 : Shape := ⟨2, ![16384, 2048]⟩
abbrev S8 : Shape := ⟨1, ![8]⟩
abbrev S64 : Shape := ⟨1, ![64]⟩
abbrev S64x1 : Shape := ⟨2, ![64, 1]⟩
abbrev S1x16384 : Shape := ⟨2, ![1, 16384]⟩
abbrev S64x16384 : Shape := ⟨2, ![64, 16384]⟩
abbrev S8x1x1 : Shape := ⟨3, ![8, 1, 1]⟩
abbrev S1x64x16384 : Shape := ⟨3, ![1, 64, 16384]⟩
abbrev S8x64x16384 : Shape := ⟨3, ![8, 64, 16384]⟩
abbrev S16384x8x128 : Shape := ⟨3, ![16384, 8, 128]⟩
abbrev S8x16384x128 : Shape := ⟨3, ![8, 16384, 128]⟩
abbrev S16384x8x256 : Shape := ⟨3, ![16384, 8, 256]⟩
abbrev S8x16384x256 : Shape := ⟨3, ![8, 16384, 256]⟩
abbrev S8x64x16384x1 : Shape := ⟨4, ![8, 64, 16384, 1]⟩
abbrev S8x1x16384x128 : Shape := ⟨4, ![8, 1, 16384, 128]⟩
abbrev S8x64x16384x128 : Shape := ⟨4, ![8, 64, 16384, 128]⟩
abbrev S8x256x64x128 : Shape := ⟨4, ![8, 256, 64, 128]⟩
abbrev S64x8x128x256 : Shape := ⟨4, ![64, 8, 128, 256]⟩
abbrev S1024x16384 : Shape := ⟨2, ![1024, 16384]⟩

abbrev nBuf : Space → Nat
  | .hbm => 105
  | .vmem => 0
  | .smem => 0
  | _ => 0

abbrev bufTy : (tb : Table) → Fin (tcTables nBuf tb) → BufTy
  | .hbm, ⟨0, _⟩ => ⟨S1x8, .f32⟩
  | .hbm, ⟨1, _⟩ => ⟨S16384x1024, .f32⟩
  | .hbm, ⟨2, _⟩ => ⟨S1x1024, .f32⟩
  | .hbm, ⟨3, _⟩ => ⟨S1x1024x6144, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x6144, .f32⟩
  | .hbm, ⟨22, _⟩ => ⟨S16384x6144, .f32⟩
  | .hbm, ⟨23, _⟩ => ⟨S16384x1024, .f32⟩
  | .hbm, ⟨24, _⟩ => ⟨S16384x1024, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S8, .i1⟩
  | .hbm, ⟨38, _⟩ => ⟨S8, .f32⟩
  | .hbm, ⟨39, _⟩ => ⟨S8, .f32⟩
  | .hbm, ⟨40, _⟩ => ⟨S8, .f32⟩
  | .hbm, ⟨41, _⟩ => ⟨S8, .f32⟩
  | .hbm, ⟨42, _⟩ => ⟨S8, .f32⟩
  | .hbm, ⟨43, _⟩ => ⟨S8, .f32⟩
  | .hbm, ⟨44, _⟩ => ⟨S8, .f32⟩
  | .hbm, ⟨45, _⟩ => ⟨S8, .f32⟩
  | .hbm, ⟨46, _⟩ => ⟨S8, .f32⟩
  | .hbm, ⟨47, _⟩ => ⟨S64, .i32⟩
  | .hbm, ⟨48, _⟩ => ⟨S64x1, .i32⟩
  | .hbm, ⟨49, _⟩ => ⟨S_, .i32⟩
  | .hbm, ⟨50, _⟩ => ⟨S64x1, .i32⟩
  | .hbm, ⟨51, _⟩ => ⟨S64x1, .i32⟩
  | .hbm, ⟨52, _⟩ => ⟨S_, .i32⟩
  | .hbm, ⟨53, _⟩ => ⟨S64x1, .i32⟩
  | .hbm, ⟨54, _⟩ => ⟨S64x1, .i32⟩
  | .hbm, ⟨55, _⟩ => ⟨S16384, .i32⟩
  | .hbm, ⟨56, _⟩ => ⟨S1x16384, .i32⟩
  | .hbm, ⟨57, _⟩ => ⟨S64x16384, .i32⟩
  | .hbm, ⟨58, _⟩ => ⟨S64x16384, .i32⟩
  | .hbm, ⟨59, _⟩ => ⟨S64x16384, .i32⟩
  | .hbm, ⟨60, _⟩ => ⟨S8x1x1, .f32⟩
  | .hbm, ⟨61, _⟩ => ⟨S_, .i32⟩
  | .hbm, ⟨62, _⟩ => ⟨S64x16384, .i32⟩
  | .hbm, ⟨63, _⟩ => ⟨S64x16384, .i32⟩
  | .hbm, ⟨64, _⟩ => ⟨S64x16384, .f32⟩
  | .hbm, ⟨65, _⟩ => ⟨S1x64x16384, .f32⟩
  | .hbm, ⟨66, _⟩ => ⟨S8x64x16384, .f32⟩
  | .hbm, ⟨67, _⟩ => ⟨S8x64x16384, .f32⟩
  | .hbm, ⟨68, _⟩ => ⟨S8x64x16384, .f32⟩
  | .hbm, ⟨69, _⟩ => ⟨S8x64x16384, .f32⟩
  | .hbm, ⟨70, _⟩ => ⟨S_, .i32⟩
  | .hbm, ⟨71, _⟩ => ⟨S64x16384, .i32⟩
  | .hbm, ⟨72, _⟩ => ⟨S64x16384, .i1⟩
  | .hbm, ⟨73, _⟩ => ⟨S1x64x16384, .i1⟩
  | .hbm, ⟨74, _⟩ => ⟨S_, .f32⟩
  | .hbm, ⟨75, _⟩ => ⟨S_, .f32⟩
  | .hbm, ⟨76, _⟩ => ⟨S8x64x16384, .i1⟩
  | .hbm, ⟨77, _⟩ => ⟨S8x64x16384, .f32⟩
  | .hbm, ⟨78, _⟩ => ⟨S8x64x16384, .f32⟩
  | .hbm, ⟨79, _⟩ => ⟨S16384x8x128, .f32⟩
  | .hbm, ⟨80, _⟩ => ⟨S8x16384x128, .f32⟩
  | .hbm, ⟨81, _⟩ => ⟨S16384x8x256, .f32⟩
  | .hbm, ⟨82, _⟩ => ⟨S8x16384x256, .f32⟩
  | .hbm, ⟨83, _⟩ => ⟨S8x64x16384x1, .f32⟩
  | .hbm, ⟨84, _⟩ => ⟨S8x1x16384x128, .f32⟩
  | .hbm, ⟨85, _⟩ => ⟨S8x64x16384x128, .f32⟩
  | .hbm, ⟨86, _⟩ => ⟨S8x64x16384x128, .f32⟩
  | .hbm, ⟨87, _⟩ => ⟨S8x64x16384x128, .f32⟩
  | .hbm, ⟨88, _⟩ => ⟨S8x256x64x128, .f32⟩
  | .hbm, ⟨89, _⟩ => ⟨S64x8x128x256, .f32⟩
  | .hbm, ⟨90, _⟩ => ⟨S16384x1024, .bf16⟩
  | .hbm, ⟨91, _⟩ => ⟨S1024x16384, .f32⟩
  | .hbm, ⟨92, _⟩ => ⟨S1024x16384, .bf16⟩
  | .hbm, ⟨93, _⟩ => ⟨S16384x2048, .bf16⟩
  | .hbm, ⟨94, _⟩ => ⟨S16384x2048, .f32⟩
  | .hbm, ⟨95, _⟩ => ⟨S16384x2048, .f32⟩
  | .hbm, ⟨96, _⟩ => ⟨S_, .f32⟩
  | .hbm, ⟨97, _⟩ => ⟨S16384x2048, .f32⟩
  | .hbm, ⟨98, _⟩ => ⟨S16384x2048, .f32⟩
  | .hbm, ⟨99, _⟩ => ⟨S_, .f32⟩
  | .hbm, ⟨100, _⟩ => ⟨S16384x2048, .f32⟩
  | .hbm, ⟨101, _⟩ => ⟨S16384x2048, .f32⟩
  | .hbm, ⟨102, _⟩ => ⟨S16384x2048, .f32⟩
  | .hbm, ⟨103, _⟩ => ⟨S16384x2048, .bf16⟩
  | .hbm, ⟨104, _⟩ => ⟨S64x8x128x256, .bf16⟩
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_v2 : Ref sig .tc := ⟨.hbm, 35, rfl⟩
abbrev main_call0_call0_v3 : Ref sig .tc := ⟨.hbm, 36, rfl⟩
abbrev main_call0_call0_v4 : Ref sig .tc := ⟨.hbm, 37, rfl⟩
abbrev main_call0_call0_v5 : Ref sig .tc := ⟨.hbm, 38, rfl⟩
abbrev main_call0_call0_v6 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_v1 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c : Ref sig .tc := ⟨.hbm, 49, rfl⟩
abbrev main_v26 : Ref sig .tc := ⟨.hbm, 50, rfl⟩
abbrev main_v27 : Ref sig .tc := ⟨.hbm, 51, rfl⟩
abbrev main_c_3 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_4 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_5 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_6 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_call2_v0 : Ref sig .tc := ⟨.hbm, 94, rfl⟩
abbrev main_call2_v1 : Ref sig .tc := ⟨.hbm, 95, rfl⟩
abbrev main_call2_cst : Ref sig .tc := ⟨.hbm, 96, rfl⟩
abbrev main_call2_v2 : Ref sig .tc := ⟨.hbm, 97, rfl⟩
abbrev main_call2_v3 : Ref sig .tc := ⟨.hbm, 98, rfl⟩
abbrev main_call2_cst_0 : Ref sig .tc := ⟨.hbm, 99, rfl⟩
abbrev main_call2_v4 : Ref sig .tc := ⟨.hbm, 100, rfl⟩
abbrev main_call2_v5 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩

abbrev nD : Nat := 1
abbrev τ : Topo := Topo.v7x

variable {F : FTy → Type} [FloatOps F]
-- ==== Kernel5.lean ====
abbrev S16384x1024 : Shape := ⟨2, ![16384, 1024]⟩
abbrev S1x1024 : Shape := ⟨2, ![1, 1024]⟩
abbrev S1x1024x2304 : Shape := ⟨3, ![1, 1024, 2304]⟩
abbrev S1x64 : Shape := ⟨2, ![1, 64]⟩
abbrev S64 : Shape := ⟨1, ![64]⟩
abbrev S_ : Shape := ⟨0, ![]⟩
abbrev S8x64 : Shape := ⟨2, ![8, 64]⟩
abbrev S512 : Shape := ⟨1, ![512]⟩
abbrev S2x64 : Shape := ⟨2, ![2, 64]⟩
abbrev S128 : Shape := ⟨1, ![128]⟩
abbrev S2304 : Shape := ⟨1, ![2304]⟩
abbrev S1x2304 : Shape := ⟨2, ![1, 2304]⟩
abbrev S1024 : Shape := ⟨1, ![1024]⟩
abbrev S16384x512 : Shape := ⟨2, ![16384, 512]⟩
abbrev S16384x256 : Shape := ⟨2, ![16384, 256]⟩
abbrev S1024x1024 : Shape := ⟨2, ![1024, 1024]⟩
abbrev S1x128x2304 : Shape := ⟨3, ![1, 128, 2304]⟩
abbrev S1024x512 : Shape := ⟨2, ![1024, 512]⟩
abbrev S1024x256 : Shape := ⟨2, ![1024, 256]⟩
abbrev S1024x2304 : Shape := ⟨2, ![1024, 2304]⟩
abbrev S128x2304 : Shape := ⟨2, ![128, 2304]⟩
abbrev S1024x1 : Shape := ⟨2, ![1024, 1]⟩
abbrev S256x256 : Shape := ⟨2, ![256, 256]⟩
abbrev S1x256 : Shape := ⟨2, ![1, 256]⟩
abbrev S1x128 : Shape := ⟨2, ![1, 128]⟩
abbrev S1024x128 : Shape := ⟨2, ![1024, 128]⟩

abbrev nBuf : Space → Nat
  | .hbm => 47
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x2304, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x64, .f32⟩
  | .hbm, ⟨18, _⟩ => ⟨S8x64, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S1x64, .f32⟩
  | .hbm, ⟨23, _⟩ => ⟨S2x64, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S1x64, .f32⟩
  | .hbm, ⟨28, _⟩ => ⟨S8x64, .f32⟩
  | .hbm, ⟨29, _⟩ => ⟨S512, .f32⟩
  | .hbm, ⟨30, _⟩ => ⟨S512, .f32⟩
  | .hbm, ⟨31, _⟩ => ⟨S512, .f32⟩
  | .hbm, ⟨32, _⟩ => ⟨S1x64, .f32⟩
  | .hbm, ⟨33, _⟩ => ⟨S8x64, .f32⟩
  | .hbm, ⟨34, _⟩ => ⟨S512, .f32⟩
  | .hbm, ⟨35, _⟩ => ⟨S_, .f32⟩
  | .hbm, ⟨36, _⟩ => ⟨S512, .f32⟩
  | .hbm, ⟨37, _⟩ => ⟨S2304, .f32⟩
  | .hbm, ⟨38, _⟩ => ⟨S1x2304, .f32⟩
  | .hbm, ⟨39, _⟩ => ⟨S1024, .f32⟩
  | .hbm, ⟨40, _⟩ => ⟨S1x1024, .f32⟩
  | .hbm, ⟨41, _⟩ => ⟨S16384x512, .bf16⟩
  | .hbm, ⟨42, _⟩ => ⟨S16384x256, .bf16⟩
  | .hbm, ⟨43, _⟩ => ⟨S16384x256, .bf16⟩
  | .hbm, ⟨44, _⟩ => ⟨S16384x512, .bf16⟩
  | .hbm, ⟨45, _⟩ => ⟨S16384x512, .bf16⟩
  | .hbm, ⟨46, _⟩ => ⟨S16384x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x128x2304, .f32⟩
  | .local _ .vmem, ⟨4, _⟩ => ⟨S1x128x2304, .f32⟩
  | .local _ .vmem, ⟨5, _⟩ => ⟨S1x2304, .f32⟩
  | .local _ .vmem, ⟨6, _⟩ => ⟨S1024x512, .bf16⟩
  | .local _ .vmem, ⟨7, _⟩ => ⟨S1024x512, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x2304, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29_0 : Ref sig .tc := ⟨.hbm, 41, rfl⟩
abbrev main_v29_1 : Ref sig .tc := ⟨.hbm, 42, rfl⟩
abbrev main_v29_2 : Ref sig .tc := ⟨.hbm, 43, rfl⟩
abbrev main_v29_3 : Ref sig .tc := ⟨.hbm, 44, rfl⟩
abbrev main_v29_4 : Ref sig .tc := ⟨.hbm, 45, rfl⟩
abbrev main_v29_5 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c128_i32 : BitVec 32 := 128#32
  let v9 : BitVec 32 := Scalar.muli arg0 c128_i32
  v9
def k0_off1 (i : grid0.Coords) : Fin 2 → Nat :=
  let arg0 : BitVec 32 := BitVec.ofNat 32 (i 0).val
  let c128_i32 : BitVec 32 := 128#32
  let v9 : BitVec 32 := Scalar.muli arg0 c128_i32
  let v10 : BitVec 32 := v9
  let v11 : Index := Scalar.indexCast v10
  let c0_4 : Index := 0#32
  ![v11.toNat, 0]
def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S16384x1024 : Shape := ⟨2, ![16384, 1024]⟩
abbrev S1x1024 : Shape := ⟨2, ![1, 1024]⟩
abbrev S1x1024x2304 : Shape := ⟨3, ![1, 1024, 2304]⟩
abbrev S1x64 : Shape := ⟨2, ![1, 64]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x2304 : Shape := ⟨2, ![1024, 2304]⟩
abbrev S16384x2304 : Shape := ⟨2, ![16384, 2304]⟩
abbrev S16384x512 : Shape := ⟨2, ![16384, 512]⟩
abbrev S16384x128 : Shape := ⟨2, ![16384, 128]⟩
abbrev S64 : Shape := ⟨1, ![64]⟩
abbrev S16384x8x64 : Shape := ⟨3, ![16384, 8, 64]⟩
abbrev S16384x8 : Shape := ⟨2, ![16384, 8]⟩
abbrev S16384x8x1 : Shape := ⟨3, ![16384, 8, 1]⟩
abbrev S1x1x64 : Shape := ⟨3, ![1, 1, 64]⟩
abbrev S16384x2x64 : Shape := ⟨3, ![16384, 2, 64]⟩
abbrev S16384x2 : Shape := ⟨2, ![16384, 2]⟩
abbrev S16384x2x1 : Shape := ⟨3, ![16384, 2, 1]⟩
abbrev S16384x2x1x64 : Shape := ⟨4, ![16384, 2, 1, 64]⟩
abbrev S16384x2x2x64 : Shape := ⟨4, ![16384, 2, 2, 64]⟩
abbrev S16384x256 : Shape := ⟨2, ![16384, 256]⟩

abbrev nBuf : Space → Nat
  | .hbm => 130
  | .vmem => 0
  | .smem => 0
  | _ => 0

abbrev hbmTy0_0 (i : Nat) : BufTy := match i % 128 with
  | 0 => ⟨S16384x1024, .f32⟩
  | 1 => ⟨S1x1024, .f32⟩
  | 2 => ⟨S1x1024x2304, .f32⟩
  | 3 => ⟨S1x64, .f32⟩
  | 4 => ⟨S1x64, .f32⟩
  | 5 => ⟨S1x64, .f32⟩
  | 6 => ⟨S1x64, .f32⟩
  | 7 => ⟨S1024, .f32⟩
  | 8 => ⟨S16384x1024, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S16384x1, .f32⟩
  | 17 => ⟨S16384x1, .f32⟩
  | 18 => ⟨S16384x1, .f32⟩
  | 19 => ⟨S16384x1024, .f32⟩
  | 20 => ⟨S16384x1024, .f32⟩
  | 21 => ⟨S1x1024, .f32⟩
  | 22 => ⟨S16384x1024, .f32⟩
  | 23 => ⟨S16384x1024, .f32⟩
  | 24 => ⟨S1024x2304, .f32⟩
  | 25 => ⟨S16384x2304, .f32⟩
  | 26 => ⟨S16384x512, .f32⟩
  | 27 => ⟨S16384x128, .f32⟩
  | 28 => ⟨S16384x128, .f32⟩
  | 29 => ⟨S16384x512, .f32⟩
  | 30 => ⟨S16384x512, .f32⟩
  | 31 => ⟨S16384x512, .f32⟩
  | 32 => ⟨S_, .f32⟩
  | 33 => ⟨S_, .f32⟩
  | 34 => ⟨S_, .f32⟩
  | 35 => ⟨S_, .f32⟩
  | 36 => ⟨S64, .f32⟩
  | 37 => ⟨S16384x8x64, .f32⟩
  | 38 => ⟨S16384x8x64, .f32⟩
  | 39 => ⟨S_, .f32⟩
  | 40 => ⟨S16384x8, .f32⟩
  | 41 => ⟨S16384x8x1, .f32⟩
  | 42 => ⟨S_, .f32⟩
  | 43 => ⟨S16384x8x1, .f32⟩
  | 44 => ⟨S16384x8x1, .f32⟩
  | 45 => ⟨S_, .f32⟩
  | 46 => ⟨S16384x8x1, .f32⟩
  | 47 => ⟨S16384x8x1, .f32⟩
  | 48 => ⟨S16384x8x1, .f32⟩
  | 49 => ⟨S16384x8x64, .f32⟩
  | 50 => ⟨S16384x8x64, .f32⟩
  | 51 => ⟨S1x1x64, .f32⟩
  | 52 => ⟨S16384x8x64, .f32⟩
  | 53 => ⟨S16384x8x64, .f32⟩
  | 54 => ⟨S16384x512, .f32⟩
  | 55 => ⟨S_, .f32⟩
  | 56 => ⟨S16384x512, .f32⟩
  | 57 => ⟨S16384x512, .f32⟩
  | 58 => ⟨S64, .f32⟩
  | 59 => ⟨S16384x2x64, .f32⟩
  | 60 => ⟨S16384x2x64, .f32⟩
  | 61 => ⟨S_, .f32⟩
  | 62 => ⟨S16384x2, .f32⟩
  | 63 => ⟨S16384x2x1, .f32⟩
  | 64 => ⟨S_, .f32⟩
  | 65 => ⟨S16384x2x1, .f32⟩
  | 66 => ⟨S16384x2x1, .f32⟩
  | 67 => ⟨S_, .f32⟩
  | 68 => ⟨S16384x2x1, .f32⟩
  | 69 => ⟨S16384x2x1, .f32⟩
  | 70 => ⟨S16384x2x1, .f32⟩
  | 71 => ⟨S16384x2x64, .f32⟩
  | 72 => ⟨S16384x2x64, .f32⟩
  | 73 => ⟨S1x1x64, .f32⟩
  | 74 => ⟨S16384x2x64, .f32⟩
  | 75 => ⟨S16384x2x64, .f32⟩
  | 76 => ⟨S16384x128, .f32⟩
  | 77 => ⟨S64, .f32⟩
  | 78 => ⟨S16384x8x64, .f32⟩
  | 79 => ⟨S16384x8x64, .f32⟩
  | 80 => ⟨S_, .f32⟩
  | 81 => ⟨S16384x8, .f32⟩
  | 82 => ⟨S16384x8x1, .f32⟩
  | 83 => ⟨S_, .f32⟩
  | 84 => ⟨S16384x8x1, .f32⟩
  | 85 => ⟨S16384x8x1, .f32⟩
  | 86 => ⟨S_, .f32⟩
  | 87 => ⟨S16384x8x1, .f32⟩
  | 88 => ⟨S16384x8x1, .f32⟩
  | 89 => ⟨S16384x8x1, .f32⟩
  | 90 => ⟨S16384x8x64, .f32⟩
  | 91 => ⟨S16384x8x64, .f32⟩
  | 92 => ⟨S1x1x64, .f32⟩
  | 93 => ⟨S16384x8x64, .f32⟩
  | 94 => ⟨S16384x8x64, .f32⟩
  | 95 => ⟨S16384x512, .f32⟩
  | 96 => ⟨S_, .f32⟩
  | 97 => ⟨S16384x512, .f32⟩
  | 98 => ⟨S16384x512, .f32⟩
  | 99 => ⟨S64, .f32⟩
  | 100 => ⟨S16384x8x64, .f32⟩
  | 101 => ⟨S16384x8x64, .f32⟩
  | 102 => ⟨S_, .f32⟩
  | 103 => ⟨S16384x8, .f32⟩
  | 104 => ⟨S16384x8x1, .f32⟩
  | 105 => ⟨S_, .f32⟩
  | 106 => ⟨S16384x8x1, .f32⟩
  | 107 => ⟨S16384x8x1, .f32⟩
  | 108 => ⟨S_, .f32⟩
  | 109 => ⟨S16384x8x1, .f32⟩
  | 110 => ⟨S16384x8x1, .f32⟩
  | 111 => ⟨S16384x8x1, .f32⟩
  | 112 => ⟨S16384x8x64, .f32⟩
  | 113 => ⟨S16384x8x64, .f32⟩
  | 114 => ⟨S1x1x64, .f32⟩
  | 115 => ⟨S16384x8x64, .f32⟩
  | 116 => ⟨S16384x8x64, .f32⟩
  | 117 => ⟨S16384x512, .f32⟩
  | 118 => ⟨S16384x512, .bf16⟩
  | 119 => ⟨S16384x2x1x64, .f32⟩
  | 120 => ⟨S16384x2x2x64, .f32⟩
  | 121 => ⟨S16384x256, .f32⟩
  | 122 => ⟨S16384x256, .bf16⟩
  | 123 => ⟨S16384x2x1x64, .f32⟩
  | 124 => ⟨S16384x2x2x64, .f32⟩
  | 125 => ⟨S16384x256, .f32⟩
  | 126 => ⟨S16384x256, .bf16⟩
  | 127 => ⟨S16384x512, .bf16⟩
  | _ => ⟨S16384x1024, .f32⟩

abbrev hbmTy0_1 (i : Nat) : BufTy := match i % 128 with
  | 0 => ⟨S16384x512, .bf16⟩
  | 1 => ⟨S16384x512, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_10 : Ref sig .tc := ⟨.hbm, 80, rfl⟩
abbrev main_v62 : Ref sig .tc := ⟨.hbm, 81, rfl⟩
abbrev main_v63 : Ref sig .tc := ⟨.hbm, 82, rfl⟩
abbrev main_cst_11 : Ref sig .tc := ⟨.hbm, 83, rfl⟩
abbrev main_v64 : Ref sig .tc := ⟨.hbm, 84, rfl⟩
abbrev main_v65 : Ref sig .tc := ⟨.hbm, 85, rfl⟩
abbrev main_cst_12 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_13 : Ref sig .tc := ⟨.hbm, 102, rfl⟩
abbrev main_v81 : Ref sig .tc := ⟨.hbm, 103, rfl⟩
abbrev main_v82 : Ref sig .tc := ⟨.hbm, 104, rfl⟩
abbrev main_cst_14 : Ref sig .tc := ⟨.hbm, 105, rfl⟩
abbrev main_v83 : Ref sig .tc := ⟨.hbm, 106, rfl⟩
abbrev main_v84 : Ref sig .tc := ⟨.hbm, 107, rfl⟩
abbrev main_cst_15 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩

abbrev nD : Nat := 1
abbrev τ : Topo := Topo.v7x

variable {F : FTy → Type} [FloatOps F]
-- ==== Proof.WindowUnit.lean ====
module

public import proofs.«01_k».proof.Proof.Gen.KernelIdeal.Value
public import Idealize.ShloMosaic.Lib.Pipeline.Value
public import Idealize.ShloMosaic.Lib.Pointwise

@[expose] public section

set_option maxRecDepth 16384

noncomputable section

namespace Cert.WindowProof

open Cert.KernelIdeal Cert.KernelIdeal.Gen Idealize.ShloMosaic Idealize.ShloMosaic.TcCoe Idealize.SL.Sem Idealize.ShloMosaic.Tactic

/-- The lanes of the lower of the two heads that share a lane pair. -/
def low : IVec S1x128 1 := cmpi .slt (iota .tc S1x128 32 [1] iota_S1x128_d1_w32) (broadcast S1x128 64#32)

/-- A block of queries with the other head's lanes cleared. -/
def keepLanes (sel : IVec S1x128 1) (q : FVec Ideal S128x128 .bf16) : FVec Ideal S128x128 .bf16 :=
  select (broadcastTo S128x128 (shapeCast S1x128 sel shapeCasts_S1x128_S1x128) broadcasts_S1x128_S128x128)
    (shapeCast S128x128 q shapeCasts_S128x128_S128x128) (broadcast S128x128 (Scalar.ofBits .bf16 0x0000#16))

/-- The four heads of a group, one under the other. -/
def stackQ (q0 q1 : FVec Ideal S128x128 .bf16) : FVec Ideal S512x128 .bf16 :=
  concatenate S512x128 0 [⟨S128x128, keepLanes low q0⟩, ⟨S128x128, keepLanes (xori low (constantI S1x128 1 1#1)) q0⟩,
    ⟨S128x128, keepLanes low q1⟩, ⟨S128x128, keepLanes (xori low (constantI S1x128 1 1#1)) q1⟩]
    concatenates_S128x128_S128x128_S128x128_S128x128_S512x128_d0

/-- The last block of the rows before, the rows, and the first block of the rows after. -/
def cat3 (a : FVec Ideal S128x128 .bf16) (b : FVec Ideal S512x128 .bf16) (c : FVec Ideal S128x128 .bf16) : FVec Ideal S768x128 .bf16 :=
  concatenate S768x128 0 [⟨S128x128, shapeCast S128x128 a shapeCasts_S128x128_S128x128⟩,
    ⟨S512x128, shapeCast S512x128 b shapeCasts_S512x128_S512x128⟩, ⟨S128x128, shapeCast S128x128 c shapeCasts_S128x128_S128x128⟩]
    concatenates_S128x128_S512x128_S128x128_S768x128_d0

/-- The scores of the four heads against three blocks of keys. -/
def scores (q0 q1 : FVec Ideal S128x128 .bf16) (k : FVec Ideal S384x128 .bf16) : FVec Ideal S512x384 .f32 :=
  matmul dot_S512x128_S384x128_S512x384_1_1_0_0_n_n none (stackQ q0 q1) k (constant S512x384 .f32 0x00000000#32)

/-- The greater of a row's greatest score and the sink. -/
def rowMax (s : FVec Ideal S128x384 .f32) (sk : Ideal .f32) : FVec Ideal S128x1 .f32 :=
  maximumf (shapeCast S128x1 (multiReduction .maximumf [1] S128 s 0xFF800000#32 reduces_S128x384_S128 (.inl rfl) rfl) shapeCasts_S128_S128x1)
    (broadcast S128x1 sk)

/-- The powers of two of a row's scores less its greatest. -/
def rowExp (s : FVec Ideal S128x384 .f32) (sk : Ideal .f32) : FVec Ideal S128x384 .f32 :=
  exp2 (subf s (broadcastTo S128x384 (rowMax s sk) broadcasts_S128x1_S128x384))

/-- One over a row's sum of powers, the sink's included. -/
def rowInv (s : FVec Ideal S128x384 .f32) (sk : Ideal .f32) : FVec Ideal S128x1 .f32 :=
  divf (broadcast S128x1 (Scalar.ofBits .f32 0x3F800000#32))
    (addf (shapeCast S128x1 (multiReduction .add [1] S128 (rowExp s sk) 0x00000000#32 reduces_S128x384_S128 (.inl rfl) rfl) shapeCasts_S128_S128x1)
      (exp2 (subf (broadcast S128x1 sk) (rowMax s sk))))

/-- One head's rows of a group's scores with the penalty added. -/
def headS (S : FVec Ideal S512x384 .f32) (o : Fin 2 → Nat) (h : Shape.Slices S512x384 o S128x384) (pen : FVec Ideal S128x384 .f32) :
    FVec Ideal S128x384 .f32 := addf (extractStridedSlice S128x384 o S h) pen

/-- The attention of a group of four heads over three blocks of keys and values, the heads one under the other. -/
def group4 (s0 s1 s2 s3 : FVec Ideal S128x384 .f32) (k0 k1 k2 k3 : Ideal .f32) (v : FVec Ideal S384x128 .bf16) : FVec Ideal S512x128 .f32 :=
  mulf (matmul dot_S512x384_S384x128_S512x128_1_0_0_1_n_n none
    (concatenate S512x384 0 [⟨S128x384, truncf .bf16 (rowExp s0 k0) bitsLt_bf16_f32⟩, ⟨S128x384, truncf .bf16 (rowExp s1 k1) bitsLt_bf16_f32⟩,
      ⟨S128x384, truncf .bf16 (rowExp s2 k2) bitsLt_bf16_f32⟩, ⟨S128x384, truncf .bf16 (rowExp s3 k3) bitsLt_bf16_f32⟩]
      concatenates_S128x384_S128x384_S128x384_S128x384_S512x384_d0) v (constant S512x128 .f32 0x00000000#32))
    (broadcastTo S512x128 (concatenate S512x1 0 [⟨S128x1, rowInv s0 k0⟩, ⟨S128x1, rowInv s1 k1⟩, ⟨S128x1, rowInv s2 k2⟩, ⟨S128x1, rowInv s3 k3⟩]
      concatenates_S128x1_S128x1_S128x1_S128x1_S512x1_d0) broadcasts_S512x1_S512x128)

/-- Two heads of a group put back side by side. -/
def joinHeads (o : FVec Ideal S512x128 .f32) (a b : Fin 2 → Nat) (ha : Shape.Slices S512x128 a S128x128) (hb : Shape.Slices S512x128 b S128x128) :
    FVec Ideal S128x128 .bf16 :=
  truncf .bf16 (select (broadcastTo S128x128 (shapeCast S1x128 low shapeCasts_S1x128_S1x128) broadcasts_S1x128_S128x128)
    (extractStridedSlice S128x128 a o ha) (extractStridedSlice S128x128 b o hb)) bitsLt_bf16_f32

/-! ## Reading at an index -/

/-- One head's attention at one query and one lane: scores `s`, the sink `sk`, a column `v` of values. -/
def att (s : Fin 384 → EReal) (sk : EReal) (v : Fin 384 → EReal) : EReal :=
  (∑ c, Ideal.exp2 (s c - (max (Finset.univ.sup s) sk)) * v c)
    * Ideal.div 1 ((∑ c, Ideal.exp2 (s c - (max (Finset.univ.sup s) sk))) + Ideal.exp2 (sk - max (Finset.univ.sup s) sk))

theorem ofBits_neg_inf : (Ideal.ofBits FTy.f32 4286578688#32 : EReal) = ⊥ := by
  simp [Ideal.ofBits, Ideal.ieee]

theorem fold_max_bot {n : Nat} (f : Fin n → EReal) : Finset.fold max ⊥ f Finset.univ = Finset.univ.sup f := by
  rw [Finset.sup_def, Finset.fold]
  rfl

theorem rowMax_at (s : FVec Ideal S128x384 .f32) (sk : Ideal .f32) (r : Fin 128) :
    rowMax s sk (ix2 r 0) = max (Finset.univ.sup fun c => s (ix2 r c)) sk := by
  pointwise [rowMax]
  rw [ofBits_neg_inf, fold_max_bot]

theorem rowExp_at (s : FVec Ideal S128x384 .f32) (sk : Ideal .f32) (r : Fin 128) (c : Fin 384) :
    rowExp s sk (ix2 r c) = Ideal.exp2 (s (ix2 r c) - max (Finset.univ.sup fun c => s (ix2 r c)) sk) := by
  pointwise [rowExp]
  rw [rowMax_at]
  rfl

theorem rowInv_at (s : FVec Ideal S128x384 .f32) (sk : Ideal .f32) (r : Fin 128) :
    rowInv s sk (ix2 r 0) = Ideal.div 1 ((∑ c, Ideal.exp2 (s (ix2 r c) - max (Finset.univ.sup fun c => s (ix2 r c)) sk))
      + Ideal.exp2 (sk - max (Finset.univ.sup fun c => s (ix2 r c)) sk)) := by
  pointwise [rowInv]
  simp only [rowExp_at, rowMax_at]
  rfl

/-- The row of the stacked heads where head `e`'s row `r` lies. -/
abbrev hrow (e : Fin 4) (r : Fin 128) : Fin 512 := ⟨128 * e.val + r.val, by omega⟩

theorem stack4_at {w : Nat} (φ : FTy) (hc : Shape.Concatenates [⟨2, ![128, w]⟩, ⟨2, ![128, w]⟩, ⟨2, ![128, w]⟩, ⟨2, ![128, w]⟩] ⟨2, ![512, w]⟩ 0)
    (x0 x1 x2 x3 : FVec Ideal ⟨2, ![128, w]⟩ φ) (e : Fin 4) (r : Fin 128) (c : Fin w) :
    concatenate ⟨2, ![512, w]⟩ 0 [⟨⟨2, ![128, w]⟩, x0⟩, ⟨⟨2, ![128, w]⟩, x1⟩, ⟨⟨2, ![128, w]⟩, x2⟩, ⟨⟨2, ![128, w]⟩, x3⟩] hc (ix2 (hrow e r) c)
      = (![x0, x1, x2, x3] e) (ix2 r c) := by
  obtain ⟨r, hr⟩ := r
  pointwise
  obtain ⟨e, he⟩ := e
  interval_cases e
  · rw [dif_pos (by simp [hr])]
    refine congrArg x0 (funext fun b => Fin.ext ?_); fin_cases b <;> simp [Shape.Idx.norm_def, ix2, hrow]
  · rw [dif_neg (by simp), dif_pos (by simp [hr])]
    refine congrArg x1 (funext fun b => Fin.ext ?_); fin_cases b <;> simp [Shape.Idx.norm_def, ix2, hrow]
  · rw [dif_neg (by simp; omega), dif_neg (by simp; omega), dif_pos (by simp; omega)]
    refine congrArg x2 (funext fun b => Fin.ext ?_); fin_cases b <;> simp [Shape.Idx.norm_def, ix2, hrow]; omega
  · rw [dif_neg (by simp; omega), dif_neg (by simp; omega), dif_neg (by simp; omega)]
    refine congrArg x3 (funext fun b => Fin.ext ?_); fin_cases b <;> simp [Shape.Idx.norm_def, ix2, hrow]; omega

theorem selLow (x : Fin 128) (a b : EReal) : (Scalar.select (IntOp.cmpi CmpIPredicate.slt (BitVec.ofNat 32 ↑x) 64#32) a b : EReal) = if x.val < 64 then a else b := by
  have h : ∀ x : Fin 128, IntOp.cmpi CmpIPredicate.slt (BitVec.ofNat 32 ↑x) 64#32 = if x.val < 64 then 1#1 else 0#1 := by decide +kernel
  rw [h]; split <;> rfl

theorem selHigh (x : Fin 128) (a b : EReal) : (Scalar.select (IntOp.xori (IntOp.cmpi CmpIPredicate.slt (BitVec.ofNat 32 ↑x) 64#32) 1#1) a b : EReal) = if x.val < 64 then b else a := by
  have h : ∀ x : Fin 128, IntOp.xori (IntOp.cmpi CmpIPredicate.slt (BitVec.ofNat 32 ↑x) 64#32) 1#1 = if x.val < 64 then 0#1 else 1#1 := by decide +kernel
  rw [h]; split <;> rfl

theorem group4_at (s : Fin 4 → FVec Ideal S128x384 .f32) (k : Fin 4 → Ideal .f32) (v : FVec Ideal S384x128 .bf16) (e : Fin 4) (r : Fin 128) (l : Fin 128) :
    group4 (s 0) (s 1) (s 2) (s 3) (k 0) (k 1) (k 2) (k 3) v (ix2 (hrow e r) l)
      = att (fun c => s e (ix2 r c)) (k e) (fun c => v (ix2 c l)) := by
  unfold group4
  have h1 : ∀ c, (concatenate S512x384 0 [⟨S128x384, truncf .bf16 (rowExp (s 0) (k 0)) bitsLt_bf16_f32⟩, ⟨S128x384, truncf .bf16 (rowExp (s 1) (k 1)) bitsLt_bf16_f32⟩,
      ⟨S128x384, truncf .bf16 (rowExp (s 2) (k 2)) bitsLt_bf16_f32⟩, ⟨S128x384, truncf .bf16 (rowExp (s 3) (k 3)) bitsLt_bf16_f32⟩]
      concatenates_S128x384_S128x384_S128x384_S128x384_S512x384_d0) (ix2 (hrow e r) c) = (rowExp (s e) (k e) (ix2 r c) : EReal) := fun c =>
    (stack4_at _ _ _ _ _ _ e r c).trans (by fin_cases e <;> rfl)
  have h2 : (concatenate S512x1 0 [⟨S128x1, rowInv (s 0) (k 0)⟩, ⟨S128x1, rowInv (s 1) (k 1)⟩, ⟨S128x1, rowInv (s 2) (k 2)⟩, ⟨S128x1, rowInv (s 3) (k 3)⟩]
      concatenates_S128x1_S128x1_S128x1_S128x1_S512x1_d0) (ix2 (hrow e r) 0) = (rowInv (s e) (k e) (ix2 r 0) : EReal) :=
    (stack4_at _ _ _ _ _ _ e r 0).trans (by fin_cases e <;> rfl)
  generalize (concatenate S512x384 0 _ _) = P at h1 ⊢
  generalize (concatenate S512x1 0 _ _) = D at h2 ⊢
  pointwise
  simp only [h1, h2, rowExp_at, rowInv_at, att]

theorem joinHeads_at (o : FVec Ideal S512x128 .f32) (pr : Fin 2) (a b : Fin 2 → Nat) (ha : Shape.Slices S512x128 a S128x128) (hb : Shape.Slices S512x128 b S128x128)
    (ea : a = ![256 * pr.val, 0]) (eb : b = ![256 * pr.val + 128, 0]) (r : Fin 128) (l : Fin 128) :
    joinHeads o a b ha hb (ix2 r l) = o (ix2 (hrow ⟨2 * pr.val + l.val / 64, by omega⟩ r) l) := by
  subst ea eb
  obtain ⟨pr, hpr⟩ := pr
  interval_cases pr
  all_goals
    pointwise [joinHeads, low]
    rw [selLow]
    split
    · congr 2; ext; simp [hrow]; omega
    · congr 2; ext; simp [hrow]; omega

/-- A sum over the lanes that keeps one head's lanes only is a sum over that head's lanes. -/
theorem sum_lower (f : Fin 128 → EReal) : (∑ x : Fin 128, if x.val < 64 then f x else 0) = ∑ d : Fin 64, f ⟨d.val, by omega⟩ := by
  refine (Fin.sum_univ_add (a := 64) (b := 64) (fun x : Fin 128 => if x.val < 64 then f x else 0)).trans ?_
  simp
  rfl

theorem sum_upper (f : Fin 128 → EReal) : (∑ x : Fin 128, if x.val < 64 then 0 else f x) = ∑ d : Fin 64, f ⟨64 + d.val, by omega⟩ := by
  refine (Fin.sum_univ_add (a := 64) (b := 64) (fun x : Fin 128 => if x.val < 64 then 0 else f x)).trans ?_
  simp
  rfl

theorem scores_at (q : Fin 2 → FVec Ideal S128x128 .bf16) (k : FVec Ideal S384x128 .bf16) (e : Fin 4) (r : Fin 128) (c : Fin 384) :
    scores (q 0) (q 1) k (ix2 (hrow e r) c)
      = ∑ d : Fin 64, q ⟨e.val / 2, by omega⟩ (ix2 r ⟨64 * (e.val % 2) + d.val, by omega⟩) * k (ix2 c ⟨64 * (e.val % 2) + d.val, by omega⟩) := by
  have h1 : ∀ x, stackQ (q 0) (q 1) (ix2 (hrow e r) x) = _ := fun x => stack4_at _ _ _ _ _ _ e r x
  unfold scores
  generalize stackQ (q 0) (q 1) = P at h1 ⊢
  pointwise
  simp only [h1]
  fin_cases e
  all_goals
    simp only [Fin.zero_eta, Fin.mk_one, Fin.reduceFinMk, Matrix.cons_val]
    pointwise [keepLanes, low]
    simp only [selLow, selHigh]
    first | exact sum_lower _ | exact sum_upper _

theorem cat3_at (a : FVec Ideal S128x128 .bf16) (b : FVec Ideal S512x128 .bf16) (c : FVec Ideal S128x128 .bf16) (r : Fin 768) (l : Fin 128) :
   cat3 a b c (ix2 r l) = if h : r.val < 128 then a (ix2 ⟨r.val, h⟩ l) else if h' : r.val - 128 < 512 then b (ix2 ⟨r.val - 128, h'⟩ l) else c (ix2 ⟨r.val - 128 - 512, by omega⟩ l) := by
  pointwise [cat3]

end Cert.WindowProof
end
-- ==== Proof.WindowBlock.lean ====
module

public import proofs.«01_k».proof.Proof.WindowUnit

@[expose] public section

set_option maxRecDepth 16384

noncomputable section

namespace Cert.WindowProof

open Cert.KernelIdeal Cert.KernelIdeal.Gen Idealize.ShloMosaic Idealize.ShloMosaic.TcCoe Idealize.SL.Sem Idealize.ShloMosaic.Tactic

/-- The first grid point's mask: nothing lies before the first block. -/
def edgeFirst (i : grid0.Coords) : FVec Ideal S1x384 .f32 :=
  select (andi (broadcast S1x384 (Scalar.cmpi .eq (BitVec.ofNat 32 (i 0).val) 0#32))
      (cmpi .slt (iota .tc S1x384 32 [1] iota_S1x384_d1_w32) (broadcast S1x384 128#32)))
    (broadcast S1x384 (Named.named κ "mask" 0xF149F2CA#32)) (broadcast S1x384 (Scalar.ofBits .f32 0x00000000#32))

/-- The last grid point's mask: nothing lies after the last block. -/
def edgeLast (i : grid0.Coords) : FVec Ideal S1x384 .f32 :=
  select (andi (broadcast S1x384 (Scalar.cmpi .eq (BitVec.ofNat 32 (i 0).val) 31#32))
      (cmpi .sge (iota .tc S1x384 32 [1] iota_S1x384_d1_w32) (broadcast S1x384 256#32)))
    (broadcast S1x384 (Named.named κ "mask" 0xF149F2CA#32)) (broadcast S1x384 (Scalar.ofBits .f32 0x00000000#32))

/-- A group's query lanes of one pair of heads in one block of rows. -/
def ldQ (x : FVec Ideal S512x512 .bf16) (j : Fin 2) (b : Fin 4) (pr : Fin 2) : FVec Ideal S128x128 .bf16 :=
  View.ld (Val := Elt Ideal) (e' := .bf16) x (Rect.unit ![128 * b.val, 128 * (2 * j.val + pr.val)] ![128, 128]
    (fun a => by fin_cases a <;> simp <;> omega))

/-- A group's key (or value) rows around a block of 512. -/
def ldK (p c n : FVec Ideal S512x256 .bf16) (j : Fin 2) : FVec Ideal S768x128 .bf16 :=
  cat3 (View.ld (Val := Elt Ideal) (e' := .bf16) p (Rect.unit ![384, 128 * j.val] ![128, 128] (fun a => by fin_cases a <;> simp; omega)))
    (View.ld (Val := Elt Ideal) (e' := .bf16) c (Rect.unit ![0, 128 * j.val] ![512, 128] (fun a => by fin_cases a <;> simp; omega)))
    (View.ld (Val := Elt Ideal) (e' := .bf16) n (Rect.unit ![0, 128 * j.val] ![128, 128] (fun a => by fin_cases a <;> simp; omega)))

/-- One head's sink. -/
def ldSink (x : FVec Ideal S8 .f32) (h : Fin 8) : Ideal .f32 :=
  View.ld (Val := Elt Ideal) (e' := .f32) x (Rect.unit ![h.val] ![1] (fun a => by fin_cases a; simp)) (Shape.Idx.first (show 0 < (⟨1, ![1]⟩ : Shape).numel by decide))

/-- One head's penalty for one block of rows, with the mask of the array's ends. -/
def ldPen (i : grid0.Coords) (x : FVec Ideal S8x128x384 .f32) (h : Fin 8) (b : Fin 4) : FVec Ideal S128x384 .f32 :=
  let y : FVec Ideal S128x384 .f32 := shapeCast S128x384 (View.ld (Val := Elt Ideal) (e' := .f32) x (Rect.unit ![h.val, 0, 0] ![1, 128, 384] (fun a => by fin_cases a <;> simp)) :
    FVec Ideal S1x128x384 .f32) shapeCasts_S1x128x384_S128x384
  match b with
  | 0 => addf y (broadcastTo S128x384 (edgeFirst i) broadcasts_S1x384_S128x384)
  | 3 => addf y (broadcastTo S128x384 (edgeLast i) broadcasts_S1x384_S128x384)
  | _ => y

/-- The head a group's row of stacked heads belongs to. -/
abbrev hd (j : Fin 2) (e : Fin 4) : Fin 8 := ⟨4 * j.val + e.val, by omega⟩

/-- Three blocks of rows around block `b`. -/
def rows3 (x : FVec Ideal S768x128 .bf16) (b : Fin 4) : FVec Ideal S384x128 .bf16 :=
  extractStridedSlice S384x128 ![128 * b.val, 0] x (show S768x128.Slices ![128 * b.val, 0] S384x128 from ⟨rfl, fun a => by fin_cases a <;> simp; omega⟩)

section
variable (i : grid0.Coords) (x0 : FVec Ideal S8 .f32) (x1 : FVec Ideal S8x128x384 .f32) (x2 : FVec Ideal S512x512 .bf16)
  (x3 x4 x5 x6 x7 x8 : FVec Ideal S512x256 .bf16)

/-- One group's scores in one block of rows. -/
def blockS (j : Fin 2) (b : Fin 4) : FVec Ideal S512x384 .f32 :=
  scores (ldQ x2 j b 0) (ldQ x2 j b 1) (rows3 (ldK x3 x4 x5 j) b)

/-- One group's attention in one block of rows. -/
def blockO (j : Fin 2) (b : Fin 4) : FVec Ideal S512x128 .f32 :=
  group4 (headS (blockS x2 x3 x4 x5 j b) ![0, 0] slices_S512x384_o0_0_S128x384 (ldPen i x1 (hd j 0) b))
    (headS (blockS x2 x3 x4 x5 j b) ![128, 0] slices_S512x384_o128_0_S128x384 (ldPen i x1 (hd j 1) b))
    (headS (blockS x2 x3 x4 x5 j b) ![256, 0] slices_S512x384_o256_0_S128x384 (ldPen i x1 (hd j 2) b))
    (headS (blockS x2 x3 x4 x5 j b) ![384, 0] slices_S512x384_o384_0_S128x384 (ldPen i x1 (hd j 3) b))
    (ldSink x0 (hd j 0)) (ldSink x0 (hd j 1)) (ldSink x0 (hd j 2)) (ldSink x0 (hd j 3)) (rows3 (ldK x6 x7 x8 j) b)

/-- One stored piece: a pair of heads in one block of rows. -/
def piece (j : Fin 2) (b : Fin 4) (pr : Fin 2) : View.Piece (Elt Ideal) S512x512 .bf16 :=
  ⟨Rect.unit ![128 * b.val, 128 * (2 * j.val + pr.val)] ![128, 128] (fun a => by fin_cases a <;> simp <;> omega),
    joinHeads (blockO i x0 x1 x2 x3 x4 x5 x6 x7 x8 j b) ![256 * pr.val, 0] ![256 * pr.val + 128, 0]
      (show S512x128.Slices ![256 * pr.val, 0] S128x128 from ⟨rfl, fun a => by fin_cases a <;> simp; omega⟩)
      (show S512x128.Slices ![256 * pr.val + 128, 0] S128x128 from ⟨rfl, fun a => by fin_cases a <;> simp; omega⟩)⟩

/-- The body's sixteen stores, the last first. -/
def pieces : List (View.Piece (Elt Ideal) S512x512 .bf16) :=
  [piece i x0 x1 x2 x3 x4 x5 x6 x7 x8 1 3 1, piece i x0 x1 x2 x3 x4 x5 x6 x7 x8 1 3 0,
   piece i x0 x1 x2 x3 x4 x5 x6 x7 x8 1 2 1, piece i x0 x1 x2 x3 x4 x5 x6 x7 x8 1 2 0,
   piece i x0 x1 x2 x3 x4 x5 x6 x7 x8 1 1 1, piece i x0 x1 x2 x3 x4 x5 x6 x7 x8 1 1 0,
   piece i x0 x1 x2 x3 x4 x5 x6 x7 x8 1 0 1, piece i x0 x1 x2 x3 x4 x5 x6 x7 x8 1 0 0,
   piece i x0 x1 x2 x3 x4 x5 x6 x7 x8 0 3 1, piece i x0 x1 x2 x3 x4 x5 x6 x7 x8 0 3 0,
   piece i x0 x1 x2 x3 x4 x5 x6 x7 x8 0 2 1, piece i x0 x1 x2 x3 x4 x5 x6 x7 x8 0 2 0,
   piece i x0 x1 x2 x3 x4 x5 x6 x7 x8 0 1 1, piece i x0 x1 x2 x3 x4 x5 x6 x7 x8 0 1 0,
   piece i x0 x1 x2 x3 x4 x5 x6 x7 x8 0 0 1, piece i x0 x1 x2 x3 x4 x5 x6 x7 x8 0 0 0]

end

variable (m : (ℓ : Loc nD τ sig) → Buf (Elt Ideal) ℓ)

set_option maxHeartbeats 2000000 in
/-- What the body leaves at a point is its sixteen stores over the blocks. -/
theorem outsAt0_eq (c : Dev nD) (t : Fin cfg0.N) :
    outsAt0 m c t = View.canon (pieces (grid0.coords t) (iblk m c 0 t) (iblk m c 1 t) (iblk m c 2 t) (iblk m c 3 t) (iblk m c 4 t)
      (iblk m c 5 t) (iblk m c 6 t) (iblk m c 7 t) (iblk m c 8 t)) := by
  unfold outsAt0 out0_A_9
  rw [View.read_writes_junk_eq_canon]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread]
  generalize (iblk m c 0 t) = x0
  generalize (iblk m c 1 t) = x1
  generalize (iblk m c 2 t) = x2
  generalize (iblk m c 3 t) = x3
  generalize (iblk m c 4 t) = x4
  generalize (iblk m c 5 t) = x5
  generalize (iblk m c 6 t) = x6
  generalize (iblk m c 7 t) = x7
  generalize (iblk m c 8 t) = x8
  generalize (grid0.coords t) = i
  rfl

end Cert.WindowProof
end
-- ==== Proof.WindowRead.lean ====
module

public import proofs.«01_k».proof.Proof.WindowBlock

@[expose] public section

set_option maxRecDepth 16384

noncomputable section

namespace Cert.WindowProof

open Cert.KernelIdeal Cert.KernelIdeal.Gen Idealize.ShloMosaic Idealize.ShloMosaic.TcCoe Idealize.SL.Sem Idealize.ShloMosaic.Tactic

/-- A load at an index is the array at the moved index. -/
theorem ldQ_at (x : FVec Ideal S512x512 .bf16) (j : Fin 2) (b : Fin 4) (pr : Fin 2) (r l : Fin 128) :
    ldQ x j b pr (ix2 r l) = x (ix2 ⟨128 * b.val + r.val, by omega⟩ ⟨128 * (2 * j.val + pr.val) + l.val, by omega⟩) := by
  unfold ldQ
  show x _ = x _
  congr 1
  funext a
  apply Fin.ext
  fin_cases a <;> simp [Rect.emb, ix2]

theorem ldK_at (p c n : FVec Ideal S512x256 .bf16) (j : Fin 2) (g : Fin 768) (l : Fin 128) :
    ldK p c n j (ix2 g l) = if h : g.val < 128 then p (ix2 ⟨384 + g.val, by omega⟩ ⟨128 * j.val + l.val, by omega⟩)
      else if h' : g.val - 128 < 512 then c (ix2 ⟨g.val - 128, h'⟩ ⟨128 * j.val + l.val, by omega⟩)
      else n (ix2 ⟨g.val - 128 - 512, by omega⟩ ⟨128 * j.val + l.val, by omega⟩) := by
  unfold ldK
  rw [cat3_at]
  split_ifs
  · show p _ = p _
    congr 1
    funext a
    apply Fin.ext
    fin_cases a <;> simp [Rect.emb, ix2]
  · show c _ = c _
    congr 1
    funext a
    apply Fin.ext
    fin_cases a <;> simp [Rect.emb, ix2]
  · show n _ = n _
    congr 1
    funext a
    apply Fin.ext
    fin_cases a <;> simp [Rect.emb, ix2]

theorem ldSink_at (x : FVec Ideal S8 .f32) (h : Fin 8) : ldSink x h = x (ix1 h) := by
  unfold ldSink
  show x _ = x _
  congr 1
  funext a
  apply Fin.ext
  fin_cases a
  simp [Rect.emb, ix1, Shape.Idx.first]

theorem rows3_at (x : FVec Ideal S768x128 .bf16) (b : Fin 4) (c : Fin 384) (l : Fin 128) :
    rows3 x b (ix2 c l) = x (ix2 ⟨128 * b.val + c.val, by omega⟩ l) := by
  unfold rows3
  pointwise

/-- The named mask is minus infinity. -/
theorem mask_bot : (Named.named κ "mask" 0xF149F2CA#32 : Ideal .f32) = (⊥ : EReal) :=
  IdealRules.named_const.ideal_named_scalar κ "mask" _ _ rfl

theorem edgeFirst_at (i : grid0.Coords) (c : Fin 384) :
    edgeFirst i (ix2 0 c) = if (i 0).val = 0 ∧ c.val < 128 then (⊥ : EReal) else 0 := by
  pointwise [edgeFirst]
  rw [mask_bot]
  have h1 : ∀ c : Fin 384, IntOp.cmpi CmpIPredicate.slt (BitVec.ofNat 32 c.val) 128#32 = if c.val < 128 then 1#1 else 0#1 := by decide +kernel
  have h2 : ∀ t : Fin 32, IntOp.cmpi CmpIPredicate.eq (BitVec.ofNat 32 t.val) 0#32 = if t.val = 0 then 1#1 else 0#1 := by decide +kernel
  show Scalar.select (IntOp.andi (IntOp.cmpi CmpIPredicate.eq (BitVec.ofNat 32 ↑(i 0)) 0#32) _) _ _ = _
  rw [h1 c, h2 (i 0)]
  by_cases ha : (i 0).val = 0 <;> by_cases hb : c.val < 128 <;> simp [ha, hb, Scalar.select, IntOp.andi]

theorem edgeLast_at (i : grid0.Coords) (c : Fin 384) :
    edgeLast i (ix2 0 c) = if (i 0).val = 31 ∧ 256 ≤ c.val then (⊥ : EReal) else 0 := by
  pointwise [edgeLast]
  rw [mask_bot]
  have h1 : ∀ c : Fin 384, IntOp.cmpi CmpIPredicate.sge (BitVec.ofNat 32 c.val) 256#32 = if 256 ≤ c.val then 1#1 else 0#1 := by decide +kernel
  have h2 : ∀ t : Fin 32, IntOp.cmpi CmpIPredicate.eq (BitVec.ofNat 32 t.val) 31#32 = if t.val = 31 then 1#1 else 0#1 := by decide +kernel
  show Scalar.select (IntOp.andi (IntOp.cmpi CmpIPredicate.eq (BitVec.ofNat 32 ↑(i 0)) 31#32) _) _ _ = _
  rw [h1 c, h2 (i 0)]
  by_cases ha : (i 0).val = 31 <;> by_cases hb : 256 ≤ c.val <;> simp [ha, hb, Scalar.select, IntOp.andi]

/-- The mask of the array's ends in block `b` of point `t`. -/
def edge (t : Nat) (b : Nat) (c : Nat) : EReal :=
  if (b = 0 ∧ t = 0 ∧ c < 128) ∨ (b = 3 ∧ t = 31 ∧ 256 ≤ c) then ⊥ else 0

theorem penOf_at (y : FVec Ideal S1x128x384 .f32) (r : Fin 128) (c : Fin 384) :
    (shapeCast S128x384 y shapeCasts_S1x128x384_S128x384 : FVec Ideal S128x384 .f32) (ix2 r c) = y (ix3 0 r c) := by
  pointwise

theorem addEdge_at (y : FVec Ideal S128x384 .f32) (z : FVec Ideal S1x384 .f32) (r : Fin 128) (c : Fin 384) :
    addf y (broadcastTo S128x384 z broadcasts_S1x384_S128x384) (ix2 r c) = (y (ix2 r c) + z (ix2 0 c) : EReal) := by
  pointwise

theorem headS_at (S : FVec Ideal S512x384 .f32) (e : Fin 4) (h : Shape.Slices S512x384 ![128 * e.val, 0] S128x384) (y : FVec Ideal S128x384 .f32)
    (r : Fin 128) (c : Fin 384) : headS S ![128 * e.val, 0] h y (ix2 r c) = (S (ix2 (hrow e r) c) + y (ix2 r c) : EReal) := by
  pointwise [headS]

theorem ldPen_at (i : grid0.Coords) (x : FVec Ideal S8x128x384 .f32) (h : Fin 8) (b : Fin 4) (r : Fin 128) (c : Fin 384) :
    ldPen i x h b (ix2 r c) = x (ix3 h r c) + edge (i 0).val b.val c.val := by
  have hx : (View.ld (Val := Elt Ideal) (e' := .f32) x (Rect.unit ![h.val, 0, 0] ![1, 128, 384] (fun a => by fin_cases a <;> simp)) :
      FVec Ideal S1x128x384 .f32) (ix3 0 r c) = x (ix3 h r c) := by
    show x _ = x _
    congr 1
    funext a
    apply Fin.ext
    fin_cases a <;> simp [Rect.emb, ix3]
  unfold ldPen
  generalize (View.ld (Val := Elt Ideal) (e' := .f32) x (Rect.unit ![h.val, 0, 0] ![1, 128, 384] _) : FVec Ideal S1x128x384 .f32) = y at hx ⊢
  dsimp only
  obtain ⟨b, hb⟩ := b
  interval_cases b
  · refine (addEdge_at _ _ r c).trans ?_
    rw [penOf_at, hx, edgeFirst_at]
    simp [edge]
  · refine (penOf_at _ r c).trans ?_
    rw [hx]
    simp [edge]
  · refine (penOf_at _ r c).trans ?_
    rw [hx]
    simp [edge]
  · refine (addEdge_at _ _ r c).trans ?_
    rw [penOf_at, hx, edgeLast_at]
    simp [edge]

section
variable (i : grid0.Coords) (x0 : FVec Ideal S8 .f32) (x1 : FVec Ideal S8x128x384 .f32) (x2 : FVec Ideal S512x512 .bf16)
  (x3 x4 x5 x6 x7 x8 : FVec Ideal S512x256 .bf16)

theorem blockS_at (j : Fin 2) (b : Fin 4) (e : Fin 4) (r : Fin 128) (c : Fin 384) :
    blockS x2 x3 x4 x5 j b (ix2 (hrow e r) c)
      = ∑ d : Fin 64, x2 (ix2 ⟨128 * b.val + r.val, by omega⟩ ⟨64 * (4 * j.val + e.val) + d.val, by omega⟩)
        * ldK x3 x4 x5 j (ix2 ⟨128 * b.val + c.val, by omega⟩ ⟨64 * (e.val % 2) + d.val, by omega⟩) := by
  unfold blockS
  refine (scores_at (fun p => ldQ x2 j b p) _ e r c).trans (Finset.sum_congr rfl fun d _ => ?_)
  rw [rows3_at, ldQ_at]
  congr 3
  apply Fin.ext
  simp
  omega

theorem blockO_at (j : Fin 2) (b : Fin 4) (e : Fin 4) (r l : Fin 128) :
    blockO i x0 x1 x2 x3 x4 x5 x6 x7 x8 j b (ix2 (hrow e r) l)
      = att (fun c => blockS x2 x3 x4 x5 j b (ix2 (hrow e r) c) + (x1 (ix3 (hd j e) r c) + edge (i 0).val b.val c.val)) (x0 (ix1 (hd j e)))
        (fun c => ldK x6 x7 x8 j (ix2 ⟨128 * b.val + c.val, by omega⟩ l)) := by
  unfold blockO
  refine (group4_at (fun e => headS (blockS x2 x3 x4 x5 j b) ![128 * e.val, 0]
    (show S512x384.Slices ![128 * e.val, 0] S128x384 from ⟨rfl, fun a => by fin_cases a <;> simp; omega⟩) (ldPen i x1 (hd j e) b))
    (fun e => ldSink x0 (hd j e)) _ e r l).trans ?_
  simp only [ldSink_at, rows3_at]
  refine congrFun (congrFun (congrArg att (funext fun c => ?_)) _) _
  rw [← ldPen_at]
  exact headS_at _ e _ _ r c

/-- A stored piece at an index. -/
theorem piece_at (j : Fin 2) (b : Fin 4) (pr : Fin 2) (r l : Fin 128) (e : Fin 4) (he : e.val = 2 * pr.val + l.val / 64) :
    (piece i x0 x1 x2 x3 x4 x5 x6 x7 x8 j b pr).2 (ix2 r l)
      = att (fun c => blockS x2 x3 x4 x5 j b (ix2 (hrow e r) c) + (x1 (ix3 (hd j e) r c) + edge (i 0).val b.val c.val)) (x0 (ix1 (hd j e)))
        (fun c => ldK x6 x7 x8 j (ix2 ⟨128 * b.val + c.val, by omega⟩ l)) := by
  rw [← blockO_at, show e = ⟨2 * pr.val + l.val / 64, by omega⟩ from Fin.ext he]
  exact joinHeads_at _ pr _ _ _ _ rfl rfl r l

end

end Cert.WindowProof
end
-- ==== Proof.WindowHost.lean ====
module

public import proofs.«01_k».proof.Proof.WindowRead

@[expose] public section

set_option maxRecDepth 16384

noncomputable section

namespace Cert.WindowProof

open Cert.KernelIdeal Cert.KernelIdeal.Gen Idealize.ShloMosaic Idealize.ShloMosaic.TcCoe Idealize.SL.Sem Idealize.ShloMosaic.Tactic

variable (m : (ℓ : Loc nD τ sig) → Buf (Elt Ideal) ℓ) (c : Dev nD)

/-- One over the logarithm of two. -/
abbrev clog : ℝ := 1 / Real.log 2

/-- The arguments' entries. -/
def sinkA (h : Fin 8) : EReal := (m ((c : Thread nD τ).loc main_arg0) : FVec Ideal S8 .f32) (ix1 h)
def qA (n : Fin 16384) (l : Fin 512) : EReal := (m ((c : Thread nD τ).loc main_arg1) : FVec Ideal S16384x512 .f32) (ix2 n l)
def kA (n : Fin 16384) (l : Fin 128) : EReal := (m ((c : Thread nD τ).loc main_arg2) : FVec Ideal S16384x128 .f32) (ix2 n l)
def vA (n : Fin 16384) (l : Fin 128) : EReal := (m ((c : Thread nD τ).loc main_arg3) : FVec Ideal S16384x128 .f32) (ix2 n l)

/-- The distance between query `r` of a block and key `x` of the three blocks around it. -/
abbrev dist (r : Fin 128) (x : Fin 384) : Nat := ((x.val : Int) - 128 - r.val).natAbs

/-- A head's slope. -/
abbrev slope (h : Fin 8) : ℝ := (2 : ℝ)⁻¹ ^ (h.val + 1)

theorem toInt_small (n : Nat) (h : n < 512) : (BitVec.ofNat 32 n).toInt = n :=
  (by decide +kernel : ∀ n : Fin 512, (BitVec.ofNat 32 n.val).toInt = n.val) ⟨n, h⟩

theorem absRel (r : Fin 128) (x : Fin 384) :
    IntOp.absi (IntOp.subi (IntOp.subi (BitVec.ofNat 32 x.val) 128#32) (BitVec.ofNat 32 r.val)) = BitVec.ofNat 32 (dist r x) := by
  have h1 : IntOp.subi (IntOp.subi (BitVec.ofNat 32 x.val) 128#32) (BitVec.ofNat 32 r.val)
      = BitVec.ofInt 32 ((x.val : Int) - 128 - r.val) := by
    show BitVec.ofNat 32 x.val - 128#32 - BitVec.ofNat 32 r.val = _
    apply BitVec.eq_of_toInt_eq
    simp only [BitVec.toInt_sub, BitVec.toInt_ofInt, toInt_small x.val (by omega), toInt_small r.val (by omega),
      show (128#32).toInt = 128 from rfl]
    simp only [Int.bmod_def]
    omega
  have h2 : ∀ y : Fin 512, IntOp.absi (BitVec.ofInt 32 ((y.val : Int) - 256)) = BitVec.ofNat 32 ((y.val : Int) - 256).natAbs := by decide +kernel
  rw [h1]
  have h3 := h2 ⟨((x.val : Int) - 128 - r.val + 256).toNat, by omega⟩
  rw [show (((⟨((x.val : Int) - 128 - r.val + 256).toNat, by omega⟩ : Fin 512).val : Int) - 256) = (x.val : Int) - 128 - r.val by
    show ((((x.val : Int) - 128 - r.val + 256).toNat : Int) - 256) = _
    omega] at h3
  exact h3

theorem cmpDist (r : Fin 128) (x : Fin 384) : IntOp.cmpi CmpIPredicate.sle (BitVec.ofNat 32 (dist r x)) 128#32 = if dist r x ≤ 128 then 1#1 else 0#1 := by
  have h : ∀ y : Fin 512, IntOp.cmpi CmpIPredicate.sle (BitVec.ofNat 32 y.val) 128#32 = if y.val ≤ 128 then 1#1 else 0#1 := by decide +kernel
  exact h ⟨dist r x, by simp only [dist]; omega⟩

theorem floatDist (r : Fin 128) (x : Fin 384) : (FloatOps.sitofp FTy.f32 (BitVec.ofNat 32 (dist r x)) : Ideal .f32) = ((dist r x : ℝ) : EReal) := by
  have h : dist r x < 512 := by simp only [dist]; omega
  show (((BitVec.ofNat 32 (dist r x)).toInt : ℝ) : EReal) = _
  rw [toInt_small _ h]
  simp

theorem clog_eq : Ideal.div 1 (Ideal.log (Ideal.ofBits FTy.f32 1073741824#32)) = (clog : EReal) := by
  have h : (Ideal.ofBits FTy.f32 1073741824#32 : EReal) = ((2 : ℝ) : EReal) := by
    simp [Ideal.ofBits, Ideal.ieee]; rw [← EReal.coe_mul]; norm_num
  rw [h, Ideal.log_coe, if_neg (by norm_num), Ideal.div_coe (Real.log_pos one_lt_two).ne', one_mul]

theorem host_sink (h : Fin 8) : (V m c main_v9 : FVec Ideal S8 .f32) (ix1 h) = sinkA m c h * (clog : EReal) := by
  entry_read
  pointwise
  rw [clog_eq]
  rfl

theorem host_q (n : Fin 16384) (l : Fin 512) : (V m c main_v5 : FVec Ideal S16384x512 .bf16) (ix2 n l)
    = qA m c n l * ((1 / 8 * clog : ℝ) : EReal) := by
  entry_read
  pointwise
  rw [clog_eq, EReal.coe_mul]
  have h : (Ideal.ofBits FTy.f32 1040187392#32 : EReal) = ((1 / 8 : ℝ) : EReal) := by
    simp [Ideal.ofBits, Ideal.ieee]; rw [← EReal.coe_mul]; norm_num
  rw [h]
  rfl

theorem host_k (n : Fin 16384) (j : Fin 2) (d : Fin 2) (l : Fin 64) :
    (V m c main_v13 : FVec Ideal S16384x256 .bf16) (ix2 n ⟨128 * j.val + 64 * d.val + l.val, by omega⟩)
      = kA m c n ⟨64 * j.val + l.val, by omega⟩ := by
  entry_read
  pointwise
  unfold kA
  refine congrArg (m (c.tc.loc main_arg2)) (congrArg (ix2 n) (Fin.ext ?_))
  simp only
  omega

theorem host_v (n : Fin 16384) (j : Fin 2) (d : Fin 2) (l : Fin 64) :
    (V m c main_v17 : FVec Ideal S16384x256 .bf16) (ix2 n ⟨128 * j.val + 64 * d.val + l.val, by omega⟩)
      = vA m c n ⟨64 * j.val + l.val, by omega⟩ := by
  entry_read
  pointwise
  unfold vA
  refine congrArg (m (c.tc.loc main_arg3)) (congrArg (ix2 n) (Fin.ext ?_))
  simp only
  omega

theorem host_pen (h : Fin 8) (r : Fin 128) (x : Fin 384) : (V m c main_v40 : FVec Ideal S8x128x384 .f32) (ix3 h r x)
    = if dist r x ≤ 128 then ((-(clog * slope h) * (dist r x : ℝ) : ℝ) : EReal) else ⊥ := by
  entry_read
  pointwise
  have hl : (Ideal.ofBits FTy.f32 (lit0 (S8.rowMajor (ix1 h))) : EReal) = (slope h : EReal) := by
    have h8 : ∀ h : Fin 8, lit0 (S8.rowMajor (ix1 h)) = BitVec.ofNat 32 (1056964608 - 8388608 * h.val) := by decide +kernel
    rw [h8]
    fin_cases h <;> simp [Ideal.ofBits, Ideal.ieee, slope] <;> rw [← EReal.coe_mul] <;> norm_num
  rw [absRel, cmpDist, floatDist, clog_eq, ofBits_neg_inf, hl, ← EReal.coe_mul, ← EReal.coe_neg, ← EReal.coe_mul]
  split <;> rfl

end Cert.WindowProof
end
-- ==== Proof.Softmax.lean ====
module

public import proofs.«01_k».proof.Proof.WindowUnit

@[expose] public section

noncomputable section

namespace Cert.WindowProof

open Idealize.ShloMosaic

/-- The reference's attention at one query and one lane: scores `s`, the sink `sk`, a column `v` of values. -/
def refAtt (s : Fin 384 → EReal) (sk : EReal) (v : Fin 384 → EReal) : EReal :=
  ∑ c, v c * Ideal.div (Ideal.exp (s c - (max (Finset.univ.sup s) sk)))
    ((∑ c, Ideal.exp (s c - (max (Finset.univ.sup s) sk))) + Ideal.exp (sk - max (Finset.univ.sup s) sk))

/-- Two to the power `x / log 2` is the exponential. -/
theorem exp2_log (x : ℝ) : Ideal.exp2 (((1 / Real.log 2 * x : ℝ)) : EReal) = ((Real.exp x : ℝ) : EReal) := by
  rw [Ideal.exp2_coe, EReal.coe_eq_coe_iff]
  have h : Real.log 2 ≠ 0 := (Real.log_pos one_lt_two).ne'
  show Real.rpow 2 (1 / Real.log 2 * x) = _
  rw [show Real.rpow 2 (1 / Real.log 2 * x) = (2 : ℝ) ^ (1 / Real.log 2 * x) from rfl]
  rw [Real.rpow_def_of_pos two_pos]
  congr 1
  field_simp

/-- A nonnegative number comes out of a finite sum. -/
theorem sum_mul_coe {ι : Type} (S : Finset ι) (f : ι → EReal) (r : ℝ) (hr : 0 ≤ r) :
    (∑ c ∈ S, f c) * (r : EReal) = ∑ c ∈ S, f c * (r : EReal) := by
  classical
  induction S using Finset.induction_on with
  | empty => simp
  | insert a S ha ih =>
    rw [Finset.sum_insert ha, Finset.sum_insert ha, ← ih,
      EReal.right_distrib_of_nonneg_of_ne_top (by exact_mod_cast hr) (EReal.coe_ne_top r)]

/-- A finite sum of numbers. -/
theorem coe_sum' {ι : Type} (S : Finset ι) (f : ι → ℝ) : ((∑ c ∈ S, f c : ℝ) : EReal) = ∑ c ∈ S, (f c : EReal) := by
  classical
  induction S using Finset.induction_on with
  | empty => simp
  | insert a S ha ih => rw [Finset.sum_insert ha, Finset.sum_insert ha, EReal.coe_add, ih]

/-- The greatest of scores that are numbers or masked, and of a number, is a number. -/
theorem max_real (ok : Fin 384 → Bool) (x : Fin 384 → ℝ) (sk : ℝ) :
    ∃ M : ℝ, max (Finset.univ.sup fun c => if ok c then (x c : EReal) else ⊥) (sk : EReal) = (M : EReal) := by
  have h1 : max (Finset.univ.sup fun c => if ok c then (x c : EReal) else ⊥) (sk : EReal) ≠ ⊥ :=
    (lt_of_lt_of_le (EReal.bot_lt_coe sk) (le_max_right _ _)).ne'
  have h2 : max (Finset.univ.sup fun c => if ok c then (x c : EReal) else ⊥) (sk : EReal) ≠ ⊤ := by
    refine ne_of_lt (max_lt ?_ (EReal.coe_lt_top sk))
    rw [Finset.sup_lt_iff (by exact bot_lt_top)]
    intro c _
    split
    · exact EReal.coe_lt_top _
    · exact bot_lt_top
  exact ⟨_, (EReal.coe_toReal h2 h1).symm⟩

/-- Scaling every score and the sink by a positive number scales the greatest. -/
theorem max_scale (a : ℝ) (ha : 0 < a) (ok : Fin 384 → Bool) (x : Fin 384 → ℝ) (sk M : ℝ)
    (hM : max (Finset.univ.sup fun c => if ok c then (x c : EReal) else ⊥) (sk : EReal) = (M : EReal)) :
    max (Finset.univ.sup fun c => if ok c then ((a * x c : ℝ) : EReal) else ⊥) ((a * sk : ℝ) : EReal) = ((a * M : ℝ) : EReal) := by
  have hmono : Monotone fun y : EReal => (a : EReal) * y := fun y z h =>
    mul_le_mul_of_nonneg_left h (by exact_mod_cast ha.le)
  have hs : (Finset.univ.sup fun c => if ok c then ((a * x c : ℝ) : EReal) else ⊥)
      = (a : EReal) * (Finset.univ.sup fun c => if ok c then (x c : EReal) else ⊥) := by
    rw [Finset.comp_sup_eq_sup_comp_of_is_total (fun y : EReal => (a : EReal) * y) hmono (EReal.coe_mul_bot_of_pos ha)]
    congr 1
    funext c
    show _ = (a : EReal) * (if ok c then (x c : EReal) else ⊥)
    split
    · rw [EReal.coe_mul]
    · exact (EReal.coe_mul_bot_of_pos ha).symm
  rw [hs, EReal.coe_mul, EReal.coe_mul, ← hM]
  exact (hmono.map_max ..).symm

/-- With finite scores (or masked ones) and a finite sink, the base-two attention with the scores and the sink over `log 2` is
    the reference's, whatever the values: the values where the scores are masked do not count. -/
theorem att_eq (ok : Fin 384 → Bool) (x : Fin 384 → ℝ) (sk : ℝ) (v w : Fin 384 → EReal)
    (hvw : ∀ c, ok c → v c = w c) :
    att (fun c => if ok c then ((1 / Real.log 2 * x c : ℝ) : EReal) else ⊥) ((1 / Real.log 2 * sk : ℝ) : EReal) v
      = refAtt (fun c => if ok c then (x c : EReal) else ⊥) sk w := by
  have hl : 0 < 1 / Real.log 2 := one_div_pos.mpr (Real.log_pos one_lt_two)
  obtain ⟨M, hM⟩ := max_real ok x sk
  have hM' := max_scale _ hl ok x sk M hM
  unfold att refAtt
  simp only [hM, hM']
  set p : Fin 384 → ℝ := fun c => if ok c then Real.exp (x c - M) else 0 with hp
  have e1 : ∀ c, Ideal.exp2 ((if ok c then ((1 / Real.log 2 * x c : ℝ) : EReal) else ⊥) - ((1 / Real.log 2 * M : ℝ) : EReal)) = (p c : EReal) := by
    intro c
    by_cases h : ok c
    · rw [if_pos h, hp, ← EReal.coe_sub, ← mul_sub, exp2_log]
      simp [h]
    · rw [if_neg h, hp]
      simp [h]
  have e2 : ∀ c, Ideal.exp ((if ok c then (x c : EReal) else ⊥) - (M : EReal)) = (p c : EReal) := by
    intro c
    by_cases h : ok c
    · rw [if_pos h, hp, ← EReal.coe_sub, Ideal.exp_coe]
      simp [h]
    · rw [if_neg h, hp]
      simp [h]
  have e3 : Ideal.exp2 (((1 / Real.log 2 * sk : ℝ) : EReal) - ((1 / Real.log 2 * M : ℝ) : EReal)) = ((Real.exp (sk - M) : ℝ) : EReal) := by
    rw [← EReal.coe_sub, ← mul_sub, exp2_log]
  have e4 : Ideal.exp ((sk : EReal) - (M : EReal)) = ((Real.exp (sk - M) : ℝ) : EReal) := by
    rw [← EReal.coe_sub, Ideal.exp_coe]
  simp only [e1, e2, e3, e4, ← coe_sum', ← EReal.coe_add]
  have hp0 : ∀ c, 0 ≤ p c := by
    intro c
    simp only [hp]
    split
    · positivity
    · exact le_rfl
  have hD : 0 < ∑ c, p c + Real.exp (sk - M) :=
    add_pos_of_nonneg_of_pos (Finset.sum_nonneg fun c _ => hp0 c) (Real.exp_pos _)
  simp only [Ideal.div_coe hD.ne', one_mul]
  rw [sum_mul_coe _ _ _ (by positivity)]
  refine Finset.sum_congr rfl fun c _ => ?_
  by_cases h : ok c
  · rw [hvw c h, mul_comm (p c : EReal) (w c), mul_assoc]
  · have h0 : p c = 0 := by simp [hp, h]
    rw [h0]
    simp

end Cert.WindowProof
end
-- ==== Proof.WindowWhole.lean ====
module

public import proofs.«01_k».proof.Proof.WindowHost
public import proofs.«01_k».proof.Proof.Softmax
public import proofs.«01_k».proof.Proof.Gen.KernelIdeal.Value

@[expose] public section

set_option maxRecDepth 16384

noncomputable section

namespace Cert.WindowProof

open Cert.KernelIdeal Cert.KernelIdeal.Gen Idealize.ShloMosaic Idealize.ShloMosaic.TcCoe Idealize.SL.Sem Idealize.ShloMosaic.Tactic

variable (m : (ℓ : Loc nD τ sig) → Buf (Elt Ideal) ℓ) (c : Dev nD)

/-! ## The windows' blocks, read in the arrays -/

theorem coord_at : ∀ t : Fin cfg0.N, (grid0.coords t 0).val = t.val :=
  (by decide +kernel : ∀ t : Fin grid0.N, (grid0.coords t 0).val = t.val)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val - 1 ∧ win0_3.index t 1 = 0 :=
  (by decide +kernel : ∀ t : Fin grid0.N, win0_3.index t 0 = t.val - 1 ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = min (t.val + 1) 31 ∧ win0_5.index t 1 = 0 :=
  (by decide +kernel : ∀ t : Fin grid0.N, win0_5.index t 0 = min (t.val + 1) 31 ∧ win0_5.index t 1 = 0)
theorem index6 : ∀ t : Fin cfg0.N, win0_6.index t 0 = t.val - 1 ∧ win0_6.index t 1 = 0 :=
  (by decide +kernel : ∀ t : Fin grid0.N, win0_6.index t 0 = t.val - 1 ∧ win0_6.index t 1 = 0)
theorem index7 : ∀ t : Fin cfg0.N, win0_7.index t 0 = t.val ∧ win0_7.index t 1 = 0 :=
  (by decide +kernel : ∀ t : Fin grid0.N, win0_7.index t 0 = t.val ∧ win0_7.index t 1 = 0)
theorem index8 : ∀ t : Fin cfg0.N, win0_8.index t 0 = min (t.val + 1) 31 ∧ win0_8.index t 1 = 0 :=
  (by decide +kernel : ∀ t : Fin grid0.N, win0_8.index t 0 = min (t.val + 1) 31 ∧ win0_8.index t 1 = 0)
theorem index9 : ∀ t : Fin cfg0.N, win0_9.index t 0 = t.val ∧ win0_9.index t 1 = 0 :=
  (by decide +kernel : ∀ t : Fin grid0.N, win0_9.index t 0 = t.val ∧ win0_9.index t 1 = 0)
theorem tlt (t : Fin cfg0.N) : t.val < 32 := t.isLt

theorem blk0 (t : Fin cfg0.N) (h : Fin 8) : (iblk m c 0 t : FVec Ideal S8 .f32) (ix1 h) = (V m c main_v9 : FVec Ideal S8 .f32) (ix1 h) := by
  unfold iblk
  rw [View.read_apply]
  show V m c main_v9 _ = V m c main_v9 _
  congr 1
  funext a
  apply Fin.ext
  match a with
  | ⟨0, _⟩ => show win0_0.index t 0 * 8 + 1 * h.val = h.val; rw [show win0_0.index t 0 = 0 from rfl]; omega

theorem blk1 (t : Fin cfg0.N) (h : Fin 8) (r : Fin 128) (x : Fin 384) :
    (iblk m c 1 t : FVec Ideal S8x128x384 .f32) (ix3 h r x) = (V m c main_v40 : FVec Ideal S8x128x384 .f32) (ix3 h r x) := by
  unfold iblk
  rw [View.read_apply]
  show V m c main_v40 _ = V m c main_v40 _
  congr 1
  funext a
  apply Fin.ext
  match a with
  | ⟨0, _⟩ => show win0_1.index t 0 * 8 + 1 * h.val = h.val; rw [show win0_1.index t 0 = 0 from rfl]; omega
  | ⟨1, _⟩ => show win0_1.index t 1 * 128 + 1 * r.val = r.val; rw [show win0_1.index t 1 = 0 from rfl]; omega
  | ⟨2, _⟩ => show win0_1.index t 2 * 384 + 1 * x.val = x.val; rw [show win0_1.index t 2 = 0 from rfl]; omega

theorem blk2 (t : Fin cfg0.N) (g : Fin 512) (l : Fin 512) :
    (iblk m c 2 t : FVec Ideal S512x512 .bf16) (ix2 g l)
      = (V m c main_v5 : FVec Ideal S16384x512 .bf16) (ix2 ⟨512 * t.val + g.val, by have := tlt t; omega⟩ l) := by
  unfold iblk
  rw [View.read_apply]
  show V m c main_v5 _ = V m c main_v5 _
  congr 1
  funext a
  apply Fin.ext
  match a with
  | ⟨0, _⟩ => show win0_2.index t 0 * 512 + 1 * g.val = 512 * t.val + g.val; rw [(index2 t).1]; omega
  | ⟨1, _⟩ => show win0_2.index t 1 * 512 + 1 * l.val = l.val; rw [(index2 t).2]; omega

/-- A block of 512 rows of a 256-lane array. -/
def rowsAt (X : FVec Ideal S16384x256 .bf16) (t : Nat) (ht : t < 32) : FVec Ideal S512x256 .bf16 :=
  fun y => X (ix2 ⟨512 * t + (y 0).val, by have h : (y 0).val < 512 := (y 0).isLt; omega⟩ (y 1))

theorem blk3 (t : Fin cfg0.N) : (iblk m c 3 t : FVec Ideal S512x256 .bf16) = rowsAt (V m c main_v13) (t.val - 1) (by have := tlt t; omega) := by
  funext y
  unfold iblk rowsAt
  rw [View.read_apply]
  show V m c main_v13 _ = V m c main_v13 _
  congr 1
  funext a
  apply Fin.ext
  match a with
  | ⟨0, _⟩ => show win0_3.index t 0 * 512 + 1 * (y 0).val = 512 * (t.val - 1) + (y 0).val; rw [(index3 t).1]; omega
  | ⟨1, _⟩ => show win0_3.index t 1 * 256 + 1 * (y 1).val = (y 1).val; rw [(index3 t).2]; omega

theorem blk4 (t : Fin cfg0.N) : (iblk m c 4 t : FVec Ideal S512x256 .bf16) = rowsAt (V m c main_v13) t.val (tlt t) := by
  funext y
  unfold iblk rowsAt
  rw [View.read_apply]
  show V m c main_v13 _ = V m c main_v13 _
  congr 1
  funext a
  apply Fin.ext
  match a with
  | ⟨0, _⟩ => show win0_4.index t 0 * 512 + 1 * (y 0).val = 512 * t.val + (y 0).val; rw [(index4 t).1]; omega
  | ⟨1, _⟩ => show win0_4.index t 1 * 256 + 1 * (y 1).val = (y 1).val; rw [(index4 t).2]; omega

theorem blk5 (t : Fin cfg0.N) : (iblk m c 5 t : FVec Ideal S512x256 .bf16) = rowsAt (V m c main_v13) (min (t.val + 1) 31) (by omega) := by
  funext y
  unfold iblk rowsAt
  rw [View.read_apply]
  show V m c main_v13 _ = V m c main_v13 _
  congr 1
  funext a
  apply Fin.ext
  match a with
  | ⟨0, _⟩ => show win0_5.index t 0 * 512 + 1 * (y 0).val = 512 * (min (t.val + 1) 31) + (y 0).val; rw [(index5 t).1]; omega
  | ⟨1, _⟩ => show win0_5.index t 1 * 256 + 1 * (y 1).val = (y 1).val; rw [(index5 t).2]; omega

theorem blk6 (t : Fin cfg0.N) : (iblk m c 6 t : FVec Ideal S512x256 .bf16) = rowsAt (V m c main_v17) (t.val - 1) (by have := tlt t; omega) := by
  funext y
  unfold iblk rowsAt
  rw [View.read_apply]
  show V m c main_v17 _ = V m c main_v17 _
  congr 1
  funext a
  apply Fin.ext
  match a with
  | ⟨0, _⟩ => show win0_6.index t 0 * 512 + 1 * (y 0).val = 512 * (t.val - 1) + (y 0).val; rw [(index6 t).1]; omega
  | ⟨1, _⟩ => show win0_6.index t 1 * 256 + 1 * (y 1).val = (y 1).val; rw [(index6 t).2]; omega

theorem blk7 (t : Fin cfg0.N) : (iblk m c 7 t : FVec Ideal S512x256 .bf16) = rowsAt (V m c main_v17) t.val (tlt t) := by
  funext y
  unfold iblk rowsAt
  rw [View.read_apply]
  show V m c main_v17 _ = V m c main_v17 _
  congr 1
  funext a
  apply Fin.ext
  match a with
  | ⟨0, _⟩ => show win0_7.index t 0 * 512 + 1 * (y 0).val = 512 * t.val + (y 0).val; rw [(index7 t).1]; omega
  | ⟨1, _⟩ => show win0_7.index t 1 * 256 + 1 * (y 1).val = (y 1).val; rw [(index7 t).2]; omega

theorem blk8 (t : Fin cfg0.N) : (iblk m c 8 t : FVec Ideal S512x256 .bf16) = rowsAt (V m c main_v17) (min (t.val + 1) 31) (by omega) := by
  funext y
  unfold iblk rowsAt
  rw [View.read_apply]
  show V m c main_v17 _ = V m c main_v17 _
  congr 1
  funext a
  apply Fin.ext
  match a with
  | ⟨0, _⟩ => show win0_8.index t 0 * 512 + 1 * (y 0).val = 512 * (min (t.val + 1) 31) + (y 0).val; rw [(index8 t).1]; omega
  | ⟨1, _⟩ => show win0_8.index t 1 * 256 + 1 * (y 1).val = (y 1).val; rw [(index8 t).2]; omega

/-- The rows around a block of 512 are the array's, where the array has them. -/
theorem ldK_rows (X : FVec Ideal S16384x256 .bf16) (t : Nat) (ht : t < 32) (j : Fin 2) (g : Fin 768) (l : Fin 128)
    (h0 : 128 ≤ 512 * t + g.val) (h1 : 512 * t + g.val < 16512) :
    ldK (rowsAt X (t - 1) (by omega)) (rowsAt X t ht) (rowsAt X (min (t + 1) 31) (by omega)) j (ix2 g l)
      = X (ix2 ⟨512 * t + g.val - 128, by omega⟩ ⟨128 * j.val + l.val, by omega⟩) := by
  rw [ldK_at]
  unfold rowsAt
  split_ifs
  all_goals
    refine congrArg X (congrArg₂ ix2 (Fin.ext ?_) rfl)
    simp only [ix2_0]
    omega

/-! ## The attention's parts, over whole arrays -/

/-- The key that query block `bk` meets in place `x` lies in the array. -/
abbrev inArr (bk : Fin 128) (x : Fin 384) : Bool := decide (128 ≤ 128 * bk.val + x.val ∧ 128 * bk.val + x.val < 16512)

/-- The key in place `x` is one that query `r` of block `bk` sees. -/
abbrev ok (bk r : Fin 128) (x : Fin 384) : Bool := decide (dist r x ≤ 128) && inArr bk x

/-- An array's rows around block `bk`, zero outside the array. -/
def padRow (a : Fin 16384 → Fin 128 → EReal) (bk : Fin 128) (x : Fin 384) (l : Fin 128) : EReal :=
  if h : 128 ≤ 128 * bk.val + x.val ∧ 128 * bk.val + x.val < 16512 then a ⟨128 * bk.val + x.val - 128, by omega⟩ l else 0

/-- The reference's scores of a query. -/
def refS (bk r : Fin 128) (h : Fin 8) (x : Fin 384) : EReal :=
  if ok bk r x then (∑ d : Fin 64, padRow (kA m c) bk x ⟨64 * (h.val / 4) + d.val, by omega⟩
      * qA m c ⟨128 * bk.val + r.val, by omega⟩ ⟨64 * h.val + d.val, by omega⟩) * ((1 / 8 : ℝ) : EReal) - ((slope h * (dist r x : ℝ) : ℝ) : EReal)
  else ⊥

end Cert.WindowProof
end
-- ==== Proof.WindowValue.lean ====
module

public import proofs.«01_k».proof.Proof.WindowWhole

@[expose] public section

set_option maxRecDepth 16384

noncomputable section

namespace Cert.WindowProof

open Cert.KernelIdeal Cert.KernelIdeal.Gen Idealize.ShloMosaic Idealize.ShloMosaic.TcCoe Idealize.SL.Sem Idealize.ShloMosaic.Tactic

variable (m : (ℓ : Loc nD τ sig) → Buf (Elt Ideal) ℓ) (c : Dev nD)

/-- The block of 128 queries at point `t`, place `b`. -/
abbrev bkOf (t : Fin cfg0.N) (b : Fin 4) : Fin 128 := ⟨4 * t.val + b.val, by have := tlt t; omega⟩

/-- A query's products with the keys around it, as the kernel has them. -/
theorem score_at (t : Fin cfg0.N) (j : Fin 2) (b : Fin 4) (e : Fin 4) (r : Fin 128) (x : Fin 384) (hx : inArr (bkOf t b) x) :
    blockS (iblk m c 2 t) (iblk m c 3 t) (iblk m c 4 t) (iblk m c 5 t) j b (ix2 (hrow e r) x)
      = ∑ d : Fin 64, (qA m c ⟨128 * (bkOf t b).val + r.val, by omega⟩ ⟨64 * (hd j e).val + d.val, by omega⟩ * ((1 / 8 * clog : ℝ) : EReal))
        * padRow (kA m c) (bkOf t b) x ⟨64 * j.val + d.val, by omega⟩ := by
  have ht := tlt t
  rw [blockS_at, blk3, blk4, blk5]
  simp only [inArr, decide_eq_true_eq] at hx
  refine Finset.sum_congr rfl fun d _ => ?_
  rw [blk2, host_q, ldK_rows _ _ ht _ _ _ (by simp only; omega) (by simp only; omega), padRow, dif_pos hx]
  have hk := host_k m c ⟨512 * t.val + (128 * b.val + x.val) - 128, by omega⟩ j ⟨e.val % 2, by omega⟩ d
  refine congrArg₂ (· * ·) ?_ ?_
  · refine congrArg₂ (· * ·) (congrArg₂ (qA m c) (Fin.ext ?_) rfl) rfl
    simp only
    omega
  · refine Eq.trans ?_ (hk.trans (congrArg₂ (kA m c) (Fin.ext ?_) rfl))
    · refine congrArg (V m c main_v13) (congrArg₂ ix2 rfl (Fin.ext ?_))
      simp only
      omega
    · simp only
      omega

/-- The values around a query, as the kernel has them. -/
theorem value_at (t : Fin cfg0.N) (j : Fin 2) (b : Fin 4) (x : Fin 384) (u : Fin 2) (d : Fin 64) (hx : inArr (bkOf t b) x) :
    ldK (iblk m c 6 t) (iblk m c 7 t) (iblk m c 8 t) j (ix2 ⟨128 * b.val + x.val, by omega⟩ ⟨64 * u.val + d.val, by omega⟩)
      = padRow (vA m c) (bkOf t b) x ⟨64 * j.val + d.val, by omega⟩ := by
  have ht := tlt t
  rw [blk6, blk7, blk8]
  simp only [inArr, decide_eq_true_eq] at hx
  rw [ldK_rows _ _ ht _ _ _ (by simp only; omega) (by simp only; omega), padRow, dif_pos hx]
  have hk := host_v m c ⟨512 * t.val + (128 * b.val + x.val) - 128, by omega⟩ j u d
  refine Eq.trans ?_ (hk.trans (congrArg₂ (vA m c) (Fin.ext ?_) rfl))
  · refine congrArg (V m c main_v17) (congrArg₂ ix2 rfl (Fin.ext ?_))
    simp only
    omega
  · simp only
    omega

/-- The mask of the array's ends, exactly where the key lies outside the array. -/
theorem edge_eq (t : Fin cfg0.N) (b : Fin 4) (x : Fin 384) :
    edge (grid0.coords t 0).val b.val x.val = if inArr (bkOf t b) x then 0 else ⊥ := by
  have ht := tlt t
  rw [coord_at]
  unfold edge inArr
  by_cases h : (128 ≤ 128 * (bkOf t b).val + x.val ∧ 128 * (bkOf t b).val + x.val < 16512)
  · rw [if_neg (by simp only at h; omega), if_pos (by simpa using h)]
  · rw [if_pos (by simp only at h; omega), if_neg (by simpa using h)]

/-- What a point leaves at a row and a lane of its block, with finite sinks, queries and keys, is the reference's attention. -/
theorem point_at (hs : ∀ h, ∃ y : ℝ, sinkA m c h = y) (hq : ∀ n l, ∃ y : ℝ, qA m c n l = y) (hk : ∀ n l, ∃ y : ℝ, kA m c n l = y)
    (t : Fin cfg0.N) (j : Fin 2) (b : Fin 4) (pr : Fin 2) (u : Fin 2) (d : Fin 64) (r : Fin 128) (h : Fin 8) (hh : h.val = 4 * j.val + 2 * pr.val + u.val) :
    (piece (grid0.coords t) (iblk m c 0 t) (iblk m c 1 t) (iblk m c 2 t) (iblk m c 3 t) (iblk m c 4 t)
      (iblk m c 5 t) (iblk m c 6 t) (iblk m c 7 t) (iblk m c 8 t) j b pr).2 (ix2 r ⟨64 * u.val + d.val, by omega⟩)
      = refAtt (refS m c (bkOf t b) r h) (sinkA m c h) (fun x => padRow (vA m c) (bkOf t b) x ⟨64 * (h.val / 4) + d.val, by omega⟩) := by
  choose s hs using hs
  choose q hq using hq
  choose k hk using hk
  have he : h = hd j ⟨2 * pr.val + u.val, by omega⟩ := Fin.ext (by simp only; omega)
  have hj : h.val / 4 = j.val := by omega
  rw [piece_at (e := ⟨2 * pr.val + u.val, by omega⟩) (he := by simp only; omega), ← he]
  have hpk : ∀ (x : Fin 384) (l : Fin 128), ∃ y : ℝ, padRow (kA m c) (bkOf t b) x l = y := by
    intro x l
    unfold padRow
    split
    · exact ⟨_, hk _ _⟩
    · exact ⟨0, rfl⟩
  choose kp hkp using hpk
  set X : Fin 384 → ℝ := fun x => (∑ d : Fin 64, kp x ⟨64 * (h.val / 4) + d.val, by omega⟩
    * q ⟨128 * (bkOf t b).val + r.val, by omega⟩ ⟨64 * h.val + d.val, by omega⟩) * (1 / 8) - slope h * (dist r x : ℝ) with hX
  have e1 : refS m c (bkOf t b) r h = fun x => if ok (bkOf t b) r x then (X x : EReal) else ⊥ := by
    funext x
    unfold refS
    simp only [hkp, hq, ← EReal.coe_mul, ← coe_sum', ← EReal.coe_sub, hX]
  rw [e1, hs, ← att_eq (ok (bkOf t b) r) X (s h) (fun x => ldK (iblk m c 6 t) (iblk m c 7 t) (iblk m c 8 t) j (ix2 ⟨128 * b.val + x.val, by omega⟩ ⟨64 * u.val + d.val, by omega⟩))]
  · rw [blk0, host_sink, hs, ← EReal.coe_mul, mul_comm (s h)]
    refine congrFun (congrFun (congrArg att (funext fun x => ?_)) _) _
    rw [edge_eq, blk1, host_pen]
    by_cases hin : inArr (bkOf t b) x
    · rw [score_at m c t j b _ r x hin, if_pos hin, add_zero]
      by_cases hd' : dist r x ≤ 128
      · rw [if_pos hd', if_pos (by simp [ok, hd', hin])]
        simp only [← he, hkp, hq, ← EReal.coe_mul, ← coe_sum', ← EReal.coe_add, hX]
        rw [EReal.coe_eq_coe_iff, mul_sub, sub_eq_add_neg]
        refine congrArg₂ (· + ·) ?_ (by ring)
        rw [Finset.sum_mul, Finset.mul_sum]
        refine Finset.sum_congr rfl fun d _ => ?_
        simp only [hj]
        have H : ∀ y z : Fin 512, y = z → ∀ (n : Fin 16384) (w : ℝ),
            q n y * (1 / 8 * clog) * w = 1 / Real.log 2 * (w * q n z * (1 / 8)) := by
          intro y z hyz n w
          rw [hyz]
          ring
        exact H _ _ (Fin.ext (by simp only; omega)) _ _
      · rw [if_neg hd', if_neg (by simp [ok, hd']), EReal.add_bot]
    · rw [if_neg hin, EReal.add_bot, EReal.add_bot, if_neg (by simp [ok, hin])]
  · intro x hx
    have hin : inArr (bkOf t b) x := by
      simp only [ok, Bool.and_eq_true] at hx
      exact hx.2
    rw [value_at m c t j b x u d hin]
    simp only [hj]

end Cert.WindowProof
end
-- ==== Proof.WindowRun.lean ====
module

public import proofs.«01_k».proof.Proof.WindowValue

@[expose] public section

set_option maxRecDepth 16384

noncomputable section

namespace Cert.WindowProof

open Cert.KernelIdeal Cert.KernelIdeal.Gen Idealize.ShloMosaic Idealize.ShloMosaic.TcCoe Idealize.SL.Sem Idealize.ShloMosaic.Tactic

variable (m : (ℓ : Loc nD τ sig) → Buf (Elt Ideal) ℓ) (c : Dev nD)

/-- The reference's result at a row and a lane of head `h`. -/
def refOut (bk r : Fin 128) (h : Fin 8) (d : Fin 64) : EReal :=
  refAtt (refS m c bk r h) (sinkA m c h) (fun x => padRow (vA m c) bk x ⟨64 * (h.val / 4) + d.val, by omega⟩)

/-- The reference's result, as a whole array. -/
def target : FVec Ideal S16384x512 .bf16 := fun y =>
  refOut m c ⟨(y 0).val / 128, by have h : (y 0).val < 16384 := (y 0).isLt; omega⟩ ⟨(y 0).val % 128, by omega⟩
    ⟨(y 1).val / 64, by have h : (y 1).val < 512 := (y 1).isLt; omega⟩ ⟨(y 1).val % 64, by omega⟩

/-- Point `t`'s block of the reference's result. -/
def targetBlk (t : Fin cfg0.N) : FVec Ideal S512x512 .bf16 := fun y =>
  target m c (ix2 ⟨512 * t.val + (y 0).val, by have h : (y 0).val < 512 := (y 0).isLt; have := tlt t; omega⟩ (y 1))

theorem refOut_congr {bk bk' r r' : Fin 128} {h h' : Fin 8} {d d' : Fin 64} (e1 : bk.val = bk'.val) (e2 : r.val = r'.val) (e3 : h.val = h'.val) (e4 : d.val = d'.val) :
    refOut m c bk r h d = refOut m c bk' r' h' d' := by
  rw [Fin.ext e1, Fin.ext e2, Fin.ext e3, Fin.ext e4]

section
variable (hs : ∀ h, ∃ y : ℝ, sinkA m c h = y) (hq : ∀ n l, ∃ y : ℝ, qA m c n l = y) (hk : ∀ n l, ∃ y : ℝ, kA m c n l = y)
include hs hq hk

/-- Each stored piece is a piece of the reference's result. -/
theorem piece_target (t : Fin cfg0.N) (j : Fin 2) (b : Fin 4) (pr : Fin 2)
    (x : (piece (grid0.coords t) (iblk m c 0 t) (iblk m c 1 t) (iblk m c 2 t) (iblk m c 3 t) (iblk m c 4 t)
      (iblk m c 5 t) (iblk m c 6 t) (iblk m c 7 t) (iblk m c 8 t) j b pr).1.shape.Idx) :
    (piece (grid0.coords t) (iblk m c 0 t) (iblk m c 1 t) (iblk m c 2 t) (iblk m c 3 t) (iblk m c 4 t)
      (iblk m c 5 t) (iblk m c 6 t) (iblk m c 7 t) (iblk m c 8 t) j b pr).2 x
      = targetBlk m c t ((piece (grid0.coords t) (iblk m c 0 t) (iblk m c 1 t) (iblk m c 2 t) (iblk m c 3 t) (iblk m c 4 t)
      (iblk m c 5 t) (iblk m c 6 t) (iblk m c 7 t) (iblk m c 8 t) j b pr).1.emb x) := by
  have h0 : (x 0).val < 128 := (x 0).isLt
  have h1 : (x 1).val < 128 := (x 1).isLt
  have hx : x = ix2 (⟨(x 0).val, h0⟩ : Fin 128) (⟨64 * ((x 1).val / 64) + (x 1).val % 64, by omega⟩ : Fin 128) := by
    funext a
    apply Fin.ext
    match a with
    | ⟨0, _⟩ => rfl
    | ⟨1, _⟩ => show (x 1).val = 64 * ((x 1).val / 64) + (x 1).val % 64; omega
  have ht := tlt t
  have hp := point_at m c hs hq hk t j b pr ⟨(x 1).val / 64, by omega⟩ ⟨(x 1).val % 64, by omega⟩ ⟨(x 0).val, h0⟩
    ⟨4 * j.val + 2 * pr.val + (x 1).val / 64, by omega⟩ rfl
  refine (congrArg _ hx).trans (hp.trans ?_)
  unfold targetBlk target
  refine refOut_congr m c ?_ ?_ ?_ ?_
  · show 4 * t.val + b.val = (512 * t.val + (128 * b.val + 1 * (x 0).val)) / 128
    omega
  · show (x 0).val = (512 * t.val + (128 * b.val + 1 * (x 0).val)) % 128
    omega
  · show 4 * j.val + 2 * pr.val + (x 1).val / 64 = (128 * (2 * j.val + pr.val) + 1 * (x 1).val) / 64
    omega
  · show (x 1).val % 64 = (128 * (2 * j.val + pr.val) + 1 * (x 1).val) % 64
    omega

/-- What the body leaves at a point is that point's block of the reference's result. -/
theorem outsAt0_target (t : Fin cfg0.N) : outsAt0 m c t = targetBlk m c t := by
  rw [outsAt0_eq]
  funext y
  refine View.canon_apply_of_pieces (Val := Elt Ideal) (e := .bf16) (targetBlk m c t) _ ?_ y ?_
  · intro p hp x
    simp only [pieces, List.mem_cons, List.not_mem_nil, or_false] at hp
    rcases hp with rfl | rfl | rfl | rfl | rfl | rfl | rfl | rfl | rfl | rfl | rfl | rfl | rfl | rfl | rfl | rfl <;>
      exact piece_target m c hs hq hk t _ _ _ x
  · have h0 : (y 0).val < 512 := (y 0).isLt
    have h1 : (y 1).val < 512 := (y 1).isLt
    refine ⟨piece (grid0.coords t) (iblk m c 0 t) (iblk m c 1 t) (iblk m c 2 t) (iblk m c 3 t) (iblk m c 4 t)
      (iblk m c 5 t) (iblk m c 6 t) (iblk m c 7 t) (iblk m c 8 t) ⟨(y 1).val / 256, by omega⟩ ⟨(y 0).val / 128, by omega⟩ ⟨(y 1).val / 128 % 2, by omega⟩, ?_, ?_⟩
    · generalize hj : (⟨(y 1).val / 256, by omega⟩ : Fin 2) = j
      generalize hb : (⟨(y 0).val / 128, by omega⟩ : Fin 4) = b
      generalize hpr : (⟨(y 1).val / 128 % 2, by omega⟩ : Fin 2) = pr
      fin_cases j <;> fin_cases b <;> fin_cases pr <;> simp [pieces]
    · rw [piece, Rect.mem_set_unit]
      intro a
      match a with
      | ⟨0, _⟩ => show 128 * ((y 0).val / 128) ≤ (y 0).val ∧ (y 0).val < 128 * ((y 0).val / 128) + 128; omega
      | ⟨1, _⟩ => show 128 * (2 * ((y 1).val / 256) + (y 1).val / 128 % 2) ≤ (y 1).val ∧ (y 1).val < 128 * (2 * ((y 1).val / 256) + (y 1).val / 128 % 2) + 128; omega

/-- What a point writes back is its block of the reference's result. -/
theorem flushed_target (t : Fin cfg0.N) : (dats m 0 c).flushed 9 t = ((cfg0.win 9).blk t).view.read (Elt Ideal) (target m c) := by
  rw [Value.flushed9, outsAt0_target m c hs hq hk]
  funext y
  rw [View.read_apply]
  show target m c _ = target m c _
  congr 1
  funext a
  apply Fin.ext
  match a with
  | ⟨0, _⟩ => show 512 * t.val + (y 0).val = win0_9.index t 0 * 512 + 1 * (y 0).val; rw [(index9 t).1]; omega
  | ⟨1, _⟩ => show (y 1).val = win0_9.index t 1 * 512 + 1 * (y 1).val; rw [(index9 t).2]; omega

/-- The kernel's result is the reference's. -/
theorem final_target : (dats m 0 c).arrAt 9 cfg0.N = target m c := by
  refine (dats m 0 c).arrAt_eq_of_cover 9 (target m c) (fun t _ => flushed_target m c hs hq hk t) fun y => ?_
  have h0 : (y 0).val < 16384 := (y 0).isLt
  have h1 : (y 1).val < 512 := (y 1).isLt
  have hN : (y 0).val / 512 < cfg0.N := by
    show (y 0).val / 512 < 32
    omega
  refine ⟨⟨(y 0).val / 512, hN⟩, flush0_9 _, ?_⟩
  have h := ((cfg0.win 9).blk ⟨(y 0).val / 512, hN⟩).view.emb_mem_set (ix2 (⟨(y 0).val % 512, by omega⟩ : Fin 512) (⟨(y 1).val, h1⟩ : Fin 512))
  refine (congrArg (· ∈ ((cfg0.win 9).blk ⟨(y 0).val / 512, hN⟩).view.set) (funext fun a => Fin.ext ?_)).mp h
  match a with
  | ⟨0, _⟩ => show win0_9.index ⟨(y 0).val / 512, hN⟩ 0 * 512 + 1 * ((y 0).val % 512) = (y 0).val; rw [(index9 _).1]; simp only; omega
  | ⟨1, _⟩ => show win0_9.index ⟨(y 0).val / 512, hN⟩ 1 * 512 + 1 * (y 1).val = (y 1).val; rw [(index9 _).2]; omega

end

end Cert.WindowProof
end
-- ==== Proof.WindowRef.lean ====
module

public import proofs.«01_k».proof.Proof.WindowWhole
public import proofs.«01_k».proof.Proof.Gen.ReferenceIdeal.Read

@[expose] public section

set_option maxRecDepth 16384

noncomputable section

namespace Cert.WindowProof

open Cert.ReferenceIdeal Cert.ReferenceIdeal.Gen Cert.ReferenceIdeal.Read Idealize.ShloMosaic Idealize.ShloMosaic.TcCoe Idealize.SL.Sem Idealize.ShloMosaic.Tactic

variable (x0 : FVec Ideal S8 .f32) (x1 : FVec Ideal S16384x512 .f32) (x2 x3 : FVec Ideal S16384x128 .f32)

/-- The arguments' entries. -/
abbrev sinkR (h : Fin 8) : EReal := x0 (ix1 h)
abbrev qR (n : Fin 16384) (l : Fin 512) : EReal := x1 (ix2 n l)
abbrev kR (n : Fin 16384) (l : Fin 128) : EReal := x2 (ix2 n l)

/-- The scores of a query, of the reference's arguments. -/
def scoreR (bk r : Fin 128) (h : Fin 8) (x : Fin 384) : EReal :=
  if ok bk r x then (∑ d : Fin 64, padRow (kR x2) bk x ⟨64 * (h.val / 4) + d.val, by omega⟩
      * qR x1 ⟨128 * bk.val + r.val, by omega⟩ ⟨64 * h.val + d.val, by omega⟩) * ((1 / 8 : ℝ) : EReal) - ((slope h * (dist r x : ℝ) : ℝ) : EReal)
  else ⊥

theorem zeroConv : (FloatOps.sitofp FTy.f32 0#32 : Ideal .f32) = 0 := by
  show (((0#32).toInt : ℝ) : EReal) = 0
  simp

/-- The reference's padded keys. -/
theorem kpad_at (n : Fin 16640) (g : Fin 2) (d : Fin 64) :
    val_main_v2 (F := Ideal) x2 (ix3 n g d)
      = if h : 128 ≤ n.val ∧ n.val < 16512 then x2 (ix2 ⟨n.val - 128, by omega⟩ ⟨64 * g.val + d.val, by omega⟩) else 0 := by
  pointwise [val_main_v2, val_main_v1, val_main_call0_v0, val_main_c]
  rw [zeroConv]
  by_cases h : 128 ≤ n.val ∧ n.val < 16512
  · rw [dif_pos h, dif_pos (by omega)]
    refine congrArg x2 (congrArg (ix2 _) (Fin.ext ?_))
    simp only
    omega
  · rw [dif_neg h, dif_neg (by omega)]

theorem vpad_at (n : Fin 16640) (g : Fin 2) (d : Fin 64) : val_main_v5 (F := Ideal) x3 (ix3 n g d) = val_main_v2 (F := Ideal) x3 (ix3 n g d) := rfl

theorem kpadRow (bk : Fin 128) (x : Fin 384) (g : Fin 2) (d : Fin 64) (n : Fin 16640) (hn : n.val = 128 * bk.val + x.val) :
    val_main_v2 (F := Ideal) x2 (ix3 n g d) = padRow (kR x2) bk x ⟨64 * g.val + d.val, by omega⟩ := by
  rw [kpad_at]
  unfold padRow
  by_cases h : 128 ≤ n.val ∧ n.val < 16512
  · rw [dif_pos h, dif_pos (by omega)]
    refine congrArg (fun y => x2 (ix2 y _)) (Fin.ext ?_)
    simp only
    omega
  · rw [dif_neg h, dif_neg (by omega)]

theorem v10_at (bk : Fin 128) (x : Fin 384) (g : Fin 2) (d : Fin 64) :
    val_main_v10 (F := Ideal) x2 (ix4 bk x g d) = padRow (kR x2) bk x ⟨64 * g.val + d.val, by omega⟩ := by
  pointwise [val_main_v10, val_main_v7, val_main_v8, val_main_v9, val_main_v3]
  split
  · exact kpadRow x2 bk x g d _ (by simp only; omega)
  · split
    · exact kpadRow x2 bk x g d _ (by simp only; omega)
    · exact kpadRow x2 bk x g d _ (by simp only; omega)

theorem v14_at (bk : Fin 128) (x : Fin 384) (g : Fin 2) (d : Fin 64) :
    val_main_v14 (F := Ideal) x3 (ix4 bk x g d) = padRow (kR x3) bk x ⟨64 * g.val + d.val, by omega⟩ := by
  pointwise [val_main_v14, val_main_v11, val_main_v12, val_main_v13, val_main_v6]
  split
  · exact kpadRow x3 bk x g d _ (by simp only; omega)
  · split
    · exact kpadRow x3 bk x g d _ (by simp only; omega)
    · exact kpadRow x3 bk x g d _ (by simp only; omega)

theorem toInt_mid (n : Int) (h : -65536 ≤ n) (h' : n < 65536) : (BitVec.ofInt 32 n).toInt = n := by
  rw [BitVec.toInt_ofInt]
  simp only [Int.bmod_def]
  omega

/-- A key's position in the sequence, as a word. -/
theorem posWord (bk : Fin 128) (x : Fin 384) :
    IntOp.subi (IntOp.addi (IntOp.muli (BitVec.ofNat 32 bk.val) 128#32) (BitVec.ofNat 32 x.val)) 128#32
      = BitVec.ofInt 32 ((128 * bk.val + x.val : Int) - 128) := by
  show BitVec.ofNat 32 bk.val * 128#32 + BitVec.ofNat 32 x.val - 128#32 = _
  apply BitVec.eq_of_toInt_eq
  simp only [BitVec.toInt_sub, BitVec.toInt_add, BitVec.toInt_mul, BitVec.toInt_ofInt, toInt_small x.val (by omega), toInt_small bk.val (by omega),
    show (128#32).toInt = 128 from rfl]
  simp only [Int.bmod_def]
  omega

theorem v50_at (bk r : Fin 128) (x : Fin 384) :
    val_main_v50 (F := Ideal) (ix3 bk r x) = if ok bk r x then 1#1 else 0#1 := by
  pointwise [val_main_v50, val_main_v49, val_main_v48, val_main_v47, val_main_c_6, val_main_v46, val_main_v45, val_main_v44, val_main_v43, val_main_v42, val_main_c_5,
    val_main_v41, val_main_v40, val_main_v39, val_main_c_4, val_main_v38, val_main_v37, val_main_v36, val_main_c_3, val_main_v35, val_main_v34, val_main_v33, val_main_v32,
    val_main_v31, val_main_v30, val_main_c_2, val_main_v29, val_main_v28, val_main_v27, val_main_v26, val_main_v25, val_main_v24, val_main_v23, val_main_c_1, val_main_v22,
    val_main_v21, val_main_v20, val_main_v19]
  rw [absRel, cmpDist, posWord]
  have h1 : IntOp.cmpi CmpIPredicate.sge (BitVec.ofInt 32 ((128 * bk.val + x.val : Int) - 128)) 0#32 = if 128 ≤ 128 * bk.val + x.val then 1#1 else 0#1 := by
    simp only [IntOp.cmpi, BitVec.sle, toInt_mid ((128 * bk.val + x.val : Int) - 128) (by omega) (by omega), show (0#32).toInt = 0 from rfl]
    by_cases h : 128 ≤ 128 * bk.val + x.val
    · rw [if_pos h, decide_eq_true (by omega)]; rfl
    · rw [if_neg h, decide_eq_false (by omega)]; rfl
  have h2 : IntOp.cmpi CmpIPredicate.slt (BitVec.ofInt 32 ((128 * bk.val + x.val : Int) - 128)) 16384#32 = if 128 * bk.val + x.val < 16512 then 1#1 else 0#1 := by
    simp only [IntOp.cmpi, BitVec.slt, toInt_mid ((128 * bk.val + x.val : Int) - 128) (by omega) (by omega), show (16384#32).toInt = 16384 from rfl]
    by_cases h : 128 * bk.val + x.val < 16512
    · rw [if_pos h, decide_eq_true (by omega)]; rfl
    · rw [if_neg h, decide_eq_false (by omega)]; rfl
  rw [h1, h2]
  unfold ok inArr
  by_cases a1 : dist r x ≤ 128 <;> by_cases a2 : 128 ≤ 128 * bk.val + x.val <;> by_cases a3 : 128 * bk.val + x.val < 16512 <;>
    simp [a1, a2, a3, IntOp.andi]

theorem slope_eq (h : Fin 8) : Ideal.pow (Ideal.ofBits FTy.f32 1073741824#32)
    (Ideal.ofBits FTy.f32 3212836864#32 * ((FloatOps.sitofp FTy.f32 (BitVec.ofNat 32 h.val) : Ideal .f32) + 1 : EReal)) = ((slope h : ℝ) : EReal) := by
  have h2 : (Ideal.ofBits FTy.f32 1073741824#32 : EReal) = ((2 : ℝ) : EReal) := by
    simp [Ideal.ofBits, Ideal.ieee]; rw [← EReal.coe_mul]; norm_num
  have hm : (Ideal.ofBits FTy.f32 3212836864#32 : EReal) = ((-1 : ℝ) : EReal) := by
    simp [Ideal.ofBits, Ideal.ieee]; rw [← EReal.coe_mul]; norm_num
  have hf : (FloatOps.sitofp FTy.f32 (BitVec.ofNat 32 h.val) : Ideal .f32) = ((h.val : ℝ) : EReal) := by
    show (((BitVec.ofNat 32 h.val).toInt : ℝ) : EReal) = _
    rw [toInt_small _ (by omega)]
    simp
  have h1 : ((h.val : ℝ) : EReal) + 1 = ((h.val + 1 : ℝ) : EReal) := by rw [EReal.coe_add, EReal.coe_one]
  rw [h2, hm, hf, h1, ← EReal.coe_mul, Ideal.pow_coe_coe]
  · congr 1
    unfold slope
    rw [neg_one_mul]
    show (2 : ℝ) ^ (-((h.val : ℝ) + 1)) = _
    rw [Real.rpow_neg (by norm_num), ← Nat.cast_succ, Real.rpow_natCast, inv_pow]

theorem v66_at (bk : Fin 128) (g : Fin 2) (u : Fin 4) (r : Fin 128) (x : Fin 384) (h : Fin 8) (hh : h.val = g.val * 4 + u.val) :
    val_main_v66 (F := Ideal) (ix5 bk g u r x) = ((slope h * (dist r x : ℝ) : ℝ) : EReal) := by
  pointwise [val_main_v66, val_main_v65, val_main_v64, val_main_v63, val_main_v62, val_main_v61, val_main_v60, val_main_v59, val_main_v58, val_main_v57, val_main_v56, val_main_cst_9,
    val_main_v55, val_main_v54, val_main_cst_8, val_main_v53, val_main_v52, val_main_cst_7, val_main_v51, val_main_v27, val_main_v26, val_main_v25, val_main_v24, val_main_v23, val_main_c_1, val_main_v22,
    val_main_v21, val_main_v20, val_main_v19]
  rw [absRel, floatDist, ← hh, slope_eq, ← EReal.coe_mul]

theorem v69_at (bk : Fin 128) (g : Fin 2) (u : Fin 4) (r : Fin 128) (x : Fin 384) (h : Fin 8) (hh : h.val = g.val * 4 + u.val) :
    val_main_v69 (F := Ideal) x1 x2 (ix5 bk g u r x) = scoreR x1 x2 bk r h x := by
  have h18 : val_main_v18 (F := Ideal) x1 x2 (ix5 bk g u r x) = (∑ d : Fin 64, padRow (kR x2) bk x ⟨64 * (h.val / 4) + d.val, by omega⟩
      * qR x1 ⟨128 * bk.val + r.val, by omega⟩ ⟨64 * h.val + d.val, by omega⟩) * ((1 / 8 : ℝ) : EReal) := by
    pointwise [val_main_v18, val_main_v17, val_main_cst, val_main_v16, val_main_v15, val_main_v0]
    have he : (Ideal.ofBits FTy.f32 1040187392#32 : EReal) = ((1 / 8 : ℝ) : EReal) := by
      simp [Ideal.ofBits, Ideal.ieee]; rw [← EReal.coe_mul]; norm_num
    rw [he]
    refine congrArg (· * _) (Finset.sum_congr rfl fun d _ => ?_)
    rw [v10_at]
    refine congrArg₂ (· * ·) (congrArg (padRow (kR x2) bk x) (Fin.ext ?_)) (congrArg₂ (fun a b => x1 (ix2 a b)) (Fin.ext ?_) (Fin.ext ?_)) <;> simp only <;> omega
  pointwise [val_main_v69, val_main_call2_v1, val_main_call2_v2, val_main_v68, val_main_v67, val_main_call2_v0, val_main_cst_10]
  rw [v50_at, h18, v66_at bk g u r x h hh]
  unfold scoreR
  split
  · rfl
  · exact ofBits_neg_inf

/-- The reference's maximum of a query's scores and the sink. -/
def topR (bk r : Fin 128) (h : Fin 8) : EReal := max (Finset.univ.sup (scoreR x1 x2 bk r h)) (sinkR x0 h)

theorem v75_at (bk : Fin 128) (g : Fin 2) (u : Fin 4) (r : Fin 128) (z : Fin 1) (h : Fin 8) (hh : h.val = g.val * 4 + u.val) :
    val_main_v75 (F := Ideal) x0 x1 x2 (ix5 bk g u r z) = topR x0 x1 x2 bk r h := by
  have h72 : val_main_v72 (F := Ideal) x1 x2 (ix4 bk g u r) = Finset.univ.sup (scoreR x1 x2 bk r h) := by
    pointwise [val_main_v72, val_main_cst_11]
    rw [ofBits_neg_inf, fold_max_bot]
    exact congrArg _ (funext fun x => v69_at x1 x2 bk g u r x h hh)
  rw [val_main_v75_apply, val_main_v73_apply, val_main_v74_apply, val_main_v71_apply, val_main_v70_apply]
  have e1 : idx_main_v73 (ix5 bk g u r z) = ix4 bk g u r := funext fun a => match a with
    | ⟨0, _⟩ => rfl
    | ⟨1, _⟩ => rfl
    | ⟨2, _⟩ => rfl
    | ⟨3, _⟩ => rfl
  have e2 : idx_main_v70 (idx_main_v71 (idx_main_v74 (ix5 bk g u r z))) = ix1 h := funext fun a => match a with
    | ⟨0, _⟩ => Fin.ext hh.symm
  rw [e1, e2, h72]
  rfl

theorem v78_at (bk : Fin 128) (g : Fin 2) (u : Fin 4) (r : Fin 128) (x : Fin 384) (h : Fin 8) (hh : h.val = g.val * 4 + u.val) :
    val_main_v78 (F := Ideal) x0 x1 x2 (ix5 bk g u r x) = Ideal.exp (scoreR x1 x2 bk r h x - topR x0 x1 x2 bk r h) := by
  pointwise [val_main_v78, val_main_v77, val_main_v76]
  rw [v69_at x1 x2 bk g u r x h hh, v75_at x0 x1 x2 bk g u r _ h hh]

theorem v84_at (bk : Fin 128) (g : Fin 2) (u : Fin 4) (r : Fin 128) (z : Fin 1) (h : Fin 8) (hh : h.val = g.val * 4 + u.val) :
    val_main_v84 (F := Ideal) x0 x1 x2 (ix5 bk g u r z) = (∑ x, Ideal.exp (scoreR x1 x2 bk r h x - topR x0 x1 x2 bk r h))
      + Ideal.exp (sinkR x0 h - topR x0 x1 x2 bk r h) := by
  have h79 : val_main_v79 (F := Ideal) x0 x1 x2 (ix4 bk g u r) = ∑ x, Ideal.exp (scoreR x1 x2 bk r h x - topR x0 x1 x2 bk r h) := by
    pointwise [val_main_v79, val_main_cst_12]
    exact Finset.sum_congr rfl fun x _ => v78_at x0 x1 x2 bk g u r x h hh
  have h71 : val_main_v81 (F := Ideal) x0 (ix5 bk g u r z) = sinkR x0 h := by
    pointwise [val_main_v81, val_main_v71, val_main_v70]
    exact congrArg (fun y => x0 (ix1 y)) (Fin.ext hh.symm)
  pointwise [val_main_v84, val_main_v83, val_main_v82, val_main_v80]
  rw [h79, h71, v75_at x0 x1 x2 bk g u r _ h hh]

theorem v86_at (bk : Fin 128) (g : Fin 2) (u : Fin 4) (r : Fin 128) (x : Fin 384) (h : Fin 8) (hh : h.val = g.val * 4 + u.val) :
    val_main_v86 (F := Ideal) x0 x1 x2 (ix5 bk g u r x) = Ideal.div (Ideal.exp (scoreR x1 x2 bk r h x - topR x0 x1 x2 bk r h))
      ((∑ x, Ideal.exp (scoreR x1 x2 bk r h x - topR x0 x1 x2 bk r h)) + Ideal.exp (sinkR x0 h - topR x0 x1 x2 bk r h)) := by
  pointwise [val_main_v86, val_main_v85]
  rw [v78_at x0 x1 x2 bk g u r x h hh, v84_at x0 x1 x2 bk g u r _ h hh]

/-- The reference's result at a row and a lane. -/
theorem v90_at (n : Fin 16384) (l : Fin 512) :
    val_main_v90 (F := Ideal) x0 x1 x2 x3 (ix2 n l)
      = refAtt (scoreR x1 x2 ⟨n.val / 128, by omega⟩ ⟨n.val % 128, by omega⟩ ⟨l.val / 64, by omega⟩) (sinkR x0 ⟨l.val / 64, by omega⟩)
        (fun x => padRow (kR x3) ⟨n.val / 128, by omega⟩ x ⟨64 * (l.val / 64 / 4) + l.val % 64, by omega⟩) := by
  pointwise [val_main_v90, val_main_v89, val_main_v88, val_main_v87]
  unfold refAtt
  refine Finset.sum_congr rfl fun x _ => ?_
  rw [v14_at, v86_at x0 x1 x2 _ _ _ _ x ⟨l.val / 64, by omega⟩ (by simp only; omega)]
  refine congrArg₂ (· * ·) (congrArg (padRow (kR x3) _ x) (Fin.ext ?_)) rfl
  simp only
  omega

end Cert.WindowProof
end
-- ==== Proof.WindowClaim.lean ====
module

public import proofs.«01_k».proof.Defs
public import proofs.«01_k».proof.Proof.WindowRun
public import proofs.«01_k».proof.Proof.WindowRef
public import proofs.«01_k».proof.Proof.Gen.Kernel.Frame
public import proofs.«01_k».proof.Proof.Gen.Pre_finite
public import Idealize.ShloMosaic.Lib.ReduceAll

@[expose] public section

set_option maxRecDepth 16384

noncomputable section

namespace Cert.WindowProof

open Idealize.ShloMosaic Idealize.ShloMosaic.TcCoe Idealize.SL.Sem Idealize.ShloMosaic.Tactic

/-- A number whose absolute value lies below infinity is real. -/
theorem real_of_abs_lt (x : EReal) (h : Ideal.cmp .olt (max x (-x)) (Ideal.ofBits .f32 0x7F800000#32) = 1#1) : ∃ y : ℝ, x = y := by
  have ht : (Ideal.ofBits FTy.f32 0x7F800000#32 : EReal) = ⊤ := by simp [Ideal.ofBits, Ideal.ieee]
  rw [ht] at h
  have hl : max x (-x) < ⊤ := by
    by_contra hn
    simp only [Ideal.cmp, decide_eq_false hn] at h
    exact absurd h (by decide)
  induction x using EReal.rec with
  | bot => simp at hl
  | top => simp at hl
  | coe y => exact ⟨y, rfl⟩

theorem and_one {a b : BitVec 1} (h : IntOp.andi a b = 1#1) : a = 1#1 ∧ b = 1#1 := by
  revert a b
  decide

instance : Subsingleton Pre_finite.S_.Idx := ⟨fun a b => funext fun k => k.elim0⟩

/-- The precondition at an index: every sink, query and key is a real number. -/
theorem finite_entries (x0 : FVec Ideal Pre_finite.S8 .f32) (x1 : FVec Ideal Pre_finite.S16384x512 .f32) (x2 x3 : FVec Ideal Pre_finite.S16384x128 .f32)
    (h : Pre_finite.fn x0 x1 x2 x3 = fun _ => 1#1) :
    (∀ i, ∃ y : ℝ, (x0 i : EReal) = y) ∧ (∀ i, ∃ y : ℝ, (x1 i : EReal) = y) ∧ (∀ i, ∃ y : ℝ, (x2 i : EReal) = y) := by
  have h := congrFun h ix0
  dsimp only [Pre_finite.fn] at h
  obtain ⟨h01, h2⟩ := and_one h
  obtain ⟨h0, h1⟩ := and_one h01
  exact ⟨fun i => real_of_abs_lt _ (Host.reduce_andi_all _ _ _ _ _ h0 i), fun i => real_of_abs_lt _ (Host.reduce_andi_all _ _ _ _ _ h1 i),
    fun i => real_of_abs_lt _ (Host.reduce_andi_all _ _ _ _ _ h2 i)⟩

/-- The kernel terminates and leaves its arguments and counters as they were. -/
theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_ri_pre : Cert.quiescent_ReferenceIdeal_pre_finite := fun m ρ _ => frame_ri m ρ trivial

/-- The masked value stands for minus infinity. -/
theorem preserves : Cert.preserves_Kernel_KernelIdeal := IdealRules.named_const.statement Cert.KernelIdeal.κ "mask" .f32 0xF149F2CA#32 ⊥ rfl

/-- At finite sinks, queries and keys the window attention's result is the reference's. -/
theorem algebraic : Cert.algebraic_KernelIdeal_ReferenceIdeal_pre_finite := by
  intro m ρ m' ρ' hpre hagree
  refine ⟨fun c => target m c, ?_, ?_⟩
  · refine (θ_run Cert.KernelIdeal.defs _ _).mono (fun _ h c => ⟨(h c).1.trans ?_, (h c).2⟩) (Cert.KernelIdeal.Value.run_blocks (F := Ideal) m ρ)
    obtain ⟨f0, f1, f2⟩ := finite_entries _ _ _ _ (hpre c)
    exact final_target m c (fun _ => f0 _) (fun _ _ => f1 _) (fun _ _ => f2 _)
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v90_eq, (hagree c).1, (hagree c).2.1, (hagree c).2.2.1, (hagree c).2.2.2]
    funext y
    have hy : y = ix2 (y 0) (y 1) := by
      funext a
      match a with
      | ⟨0, _⟩ => rfl
      | ⟨1, _⟩ => rfl
    exact (congrArg _ hy).trans ((v90_at _ _ _ _ (y 0) (y 1)).trans rfl)

end Cert.WindowProof
end
-- ==== Proof.OutRunA.lean ====
module

public import proofs.«01_k».proof.Proof.Gen.Kernel2Ideal.Frame
public import proofs.«01_k».proof.Proof.Gen.Kernel2Ideal.Skeleton

@[expose] public section

set_option maxRecDepth 16384

noncomputable section

namespace Cert.OutProof

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- A casting point: from the three slabs and the three scratches, to the scratches with the cast slabs written. -/
def castRun (c : Dev nD) (i : grid0.Coords) (h1 : k0_cond1 i = 1#1) (h2 : ¬ k0_cond2 i = 1#1) (arg1 : Memref sig .tc .vmem S512x1024 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S1x256x1024 .f32) (harg5 : arg5.IsWhole) (arg6 : Memref sig .tc .vmem S1x1024 .f32) (harg6 : arg6.IsWhole) (arg7 : Memref sig .tc .vmem S1x128x4096 .f32) (harg7 : arg7.IsWhole) (arg8 : Memref sig .tc .vmem S1x512x1024 .f32) (harg8 : arg8.IsWhole) (arg9 : Memref sig .tc .vmem S512x1024 .f32) (harg9 : arg9.IsWhole) (arg10 : Memref sig .tc .vmem S2048x1024 .bf16) (harg10 : arg10.IsWhole) (arg11 : Memref sig .tc .vmem S1024x4096 .bf16) (harg11 : arg11.IsWhole) (arg12 : Memref sig .tc .vmem S4096x1024 .bf16) (harg12 : arg12.IsWhole)
    (x4 : Vec F S1x256x1024 .f32) (x6 : Vec F S1x128x4096 .f32) (x7 : Vec F S1x512x1024 .f32)
    (w0 : Vec F S2048x1024 .bf16) (w1 : Vec F S1024x4096 .bf16) (w2 : Vec F S4096x1024 .bf16) :
    { L : List (View.Piece (Elt F) S2048x1024 .bf16) × List (View.Piece (Elt F) S1024x4096 .bf16) × List (View.Piece (Elt F) S4096x1024 .bf16) //
      ∀ (E : Set ℕ) (K : PUnit → sProp 𝕄),
        iprop(owns (c : Thread nD τ) arg5 fullShare x4 ∗ owns (c : Thread nD τ) arg7 fullShare x6 ∗ owns (c : Thread nD τ) arg8 fullShare x7
            ∗ owns (c : Thread nD τ) arg10 fullShare w0 ∗ owns (c : Thread nD τ) arg11 fullShare w1 ∗ owns (c : Thread nD τ) arg12 fullShare w2
            ∗ (iprop(owns (c : Thread nD τ) arg5 fullShare x4 ∗ owns (c : Thread nD τ) arg7 fullShare x6 ∗ owns (c : Thread nD τ) arg8 fullShare x7
              ∗ (arg10.view.loc (c : Thread nD τ) ↦[arg10.view.set]{fullShare} arg10.view.writes (Elt F) (harg10.unread w0) L.1)
              ∗ (arg11.view.loc (c : Thread nD τ) ↦[arg11.view.set]{fullShare} arg11.view.writes (Elt F) (harg11.unread w1) L.2.1)
              ∗ (arg12.view.loc (c : Thread nD τ) ↦[arg12.view.set]{fullShare} arg12.view.writes (Elt F) (harg12.unread w2) L.2.2)) -∗ K ⟨⟩))
          ⊢ wp frame (wpE (defs₀ (F := F)) Variants.none c none) E (cc0_outproj_mlp_odd i arg1 harg1 arg2 harg2 arg3 harg3 arg4 harg4 arg5 harg5 arg6 harg6 arg7 harg7 arg8 harg8 arg9 harg9 arg10 harg10 arg11 harg11 arg12 harg12) K } := by
  refine ⟨⟨?_, ?_, ?_⟩, fun E K => ?run⟩
  case run =>
    simp only [cc0_outproj_mlp_odd_eq_skeleton]; unfold cc0_outproj_mlp_odd_skel
    unfold owns
    iintro ⟨⟨%f4, %hf4, H4⟩, ⟨%f6, %hf6, H6⟩, ⟨%f7, %hf7, H7⟩, ⟨%g0, %hg0, G0⟩, ⟨%g1, %hg1, G1⟩, ⟨%g2, %hg2, G2⟩, Hk⟩
    obtain rfl := harg5.eq_unread hf4; obtain rfl := harg7.eq_unread hf6; obtain rfl := harg8.eq_unread hf7
    obtain rfl := harg10.eq_unread hg0; obtain rfl := harg11.eq_unread hg1; obtain rfl := harg12.eq_unread hg2
    sl_exec (disch := first | sl_exact h1 | sl_exact h2)
    sl_step
    iapply Hk
    isplitl [H4]
    · iexists _; isplitr; · ipureintro; exact harg5.read_unread _
      iexact H4
    isplitl [H6]
    · iexists _; isplitr; · ipureintro; exact harg7.read_unread _
      iexact H6
    isplitl [H7]
    · iexists _; isplitr; · ipureintro; exact harg8.read_unread _
      iexact H7
    isplitl [G0]; · iexact G0
    isplitl [G1]; · iexact G1
    iexact G2

end Cert.OutProof
end
-- ==== Proof.OutRunB.lean ====
module

public import proofs.«01_k».proof.Proof.OutRunA

@[expose] public section

set_option maxRecDepth 16384

noncomputable section

namespace Cert.OutProof

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in
/-- A computing point: from the row blocks, the gains and the cast weights, to the result's block stored whole. -/
def tileRun (c : Dev nD) (i : grid0.Coords) (h1 : ¬ k0_cond1 i = 1#1) (h2 : k0_cond2 i = 1#1) (arg1 : Memref sig .tc .vmem S512x1024 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S1x256x1024 .f32) (harg5 : arg5.IsWhole) (arg6 : Memref sig .tc .vmem S1x1024 .f32) (harg6 : arg6.IsWhole) (arg7 : Memref sig .tc .vmem S1x128x4096 .f32) (harg7 : arg7.IsWhole) (arg8 : Memref sig .tc .vmem S1x512x1024 .f32) (harg8 : arg8.IsWhole) (arg9 : Memref sig .tc .vmem S512x1024 .f32) (harg9 : arg9.IsWhole) (arg10 : Memref sig .tc .vmem S2048x1024 .bf16) (harg10 : arg10.IsWhole) (arg11 : Memref sig .tc .vmem S1024x4096 .bf16) (harg11 : arg11.IsWhole) (arg12 : Memref sig .tc .vmem S4096x1024 .bf16) (harg12 : arg12.IsWhole)
    (x0 : Vec F S512x1024 .f32) (x1 x2 : Vec F S512x2048 .bf16) (x3 : Vec F S1x2048 .f32) (x5 : Vec F S1x1024 .f32)
    (w0 : Vec F S2048x1024 .bf16) (w1 : Vec F S1024x4096 .bf16) (w2 : Vec F S4096x1024 .bf16) :
    { L : List (View.Piece (Elt F) S512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg6 fullShare x5
            ∗ owns (c : Thread nD τ) arg10 fullShare w0 ∗ owns (c : Thread nD τ) arg11 fullShare w1 ∗ owns (c : Thread nD τ) arg12 fullShare w2
            ∗ (∃ d, owns (c : Thread nD τ) arg9 fullShare d)
            ∗ (iprop(owns (c : Thread nD τ) arg1 fullShare x0 ∗ owns (c : Thread nD τ) arg2 fullShare x1 ∗ owns (c : Thread nD τ) arg3 fullShare x2
              ∗ owns (c : Thread nD τ) arg4 fullShare x3 ∗ owns (c : Thread nD τ) arg6 fullShare x5
              ∗ owns (c : Thread nD τ) arg10 fullShare w0 ∗ owns (c : Thread nD τ) arg11 fullShare w1 ∗ owns (c : Thread nD τ) arg12 fullShare w2
              ∗ (∃ f, arg9.view.loc (c : Thread nD τ) ↦[arg9.view.set]{fullShare} arg9.view.writes (Elt F) f L)) -∗ K ⟨⟩))
          ⊢ wp frame (wpE (defs₀ (F := F)) Variants.none c none) E (cc0_outproj_mlp_odd i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_outproj_mlp_odd_eq_skeleton]; unfold cc0_outproj_mlp_odd_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f5, %hf5, H5⟩, ⟨%g0, %hg0, G0⟩, ⟨%g1, %hg1, G1⟩, ⟨%g2, %hg2, G2⟩, ⟨%d9, %f9, -, H9⟩, Hk⟩
    obtain rfl := harg1.eq_unread hf0; obtain rfl := harg2.eq_unread hf1; obtain rfl := harg3.eq_unread hf2
    obtain rfl := harg4.eq_unread hf3; obtain rfl := harg6.eq_unread hf5
    obtain rfl := harg10.eq_unread hg0; obtain rfl := harg11.eq_unread hg1; obtain rfl := harg12.eq_unread hg2
    sl_exec (disch := first | sl_exact h1 | sl_exact h2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H5]
    · iexists _; isplitr; · ipureintro; exact harg6.read_unread _
      iexact H5
    isplitl [G0]
    · iexists _; isplitr; · ipureintro; exact harg10.read_unread _
      iexact G0
    isplitl [G1]
    · iexists _; isplitr; · ipureintro; exact harg11.read_unread _
      iexact G1
    isplitl [G2]
    · iexists _; isplitr; · ipureintro; exact harg12.read_unread _
      iexact G2
    iexists _; iexact H9

end Cert.OutProof
end
-- ==== Proof.LayerStep.lean ====
module

public import proofs.«01_k».proof.Proof.Gen.Kernel2Ideal.Frame
public import Idealize.ShloMosaic.Lib.Pointwise

@[expose] public section

set_option maxRecDepth 16384

noncomputable section

namespace Cert.Layer

open Idealize.ShloMosaic Idealize.ShloMosaic.TcCoe Idealize.ShloMosaic.Tactic
open Idealize.SL.Sem

variable {F : FTy → Type} [FloatOps F]

/-! ## What the two output projections with their feed-forward layers share -/

/-- A quarter of the hidden units, into them. -/
def upCols (x : Vec F ⟨2, ![1024, 4096]⟩ .bf16) (j : Fin 4) : Vec F ⟨2, ![1024, 1024]⟩ .bf16 :=
  View.ld (Val := Elt F) (e' := .bf16) x (Rect.unit ![0, 1024 * j.val] ![1024, 1024] (fun a => by fin_cases a <;> simp <;> omega))

/-- A quarter of the hidden units, out of them. -/
def downRows (x : Vec F ⟨2, ![4096, 1024]⟩ .bf16) (j : Fin 4) : Vec F ⟨2, ![1024, 1024]⟩ .bf16 :=
  View.ld (Val := Elt F) (e' := .bf16) x (Rect.unit ![1024 * j.val, 0] ![1024, 1024] (fun a => by fin_cases a <;> simp <;> omega))

section
variable {sg : RefSig} {R C n : ℕ}

/-- A slab stored over rows already in place: the rows before it stay, its own become it. -/
theorem slab_step (a : Memref sg .tc .vmem ⟨2, ![R, C]⟩ .bf16) (ha : a.IsWhole) (w G : Vec F ⟨2, ![R, C]⟩ .bf16) (s : Vec F ⟨2, ![n, C]⟩ .bf16)
    (off : Fin 2 → ℕ) (inb : ∀ i, off i + (⟨2, ![n, C]⟩ : Shape).size i ≤ (⟨2, ![R, C]⟩ : Shape).size i) (k : ℕ) (hoff : off = ![n * k, 0])
    (hw : ∀ y, (y 0).val < n * k → w y = G y)
    (hs : ∀ y : (⟨2, ![R, C]⟩ : Shape).Idx, ∀ x : Fin n, (y 0).val = n * k + x.val → s (ix2 x (y 1)) = G y)
    (y : (⟨2, ![R, C]⟩ : Shape).Idx) (hy : (y 0).val < n * (k + 1)) :
    a.view.read (Elt F) (a.view.writes (Elt F) (ha.unread w) [⟨Rect.unit (s := ⟨2, ![R, C]⟩) off (⟨2, ![n, C]⟩ : Shape).size inb, s⟩]) y = G y := by
  subst hoff
  have hk : n * (k + 1) = n * k + n := Nat.mul_succ n k
  by_cases h : (y 0).val < n * k
  · rw [View.read_writes_cons_miss_of_axis _ _ _ _ _ (0 : Fin 2) (n * k) n rfl rfl rfl (Or.inl h)]
    rw [View.writes_nil, ha.read_unread]
    exact hw y h
  · have hx : (y 0).val - n * k < n := by omega
    have hit := View.read_writes_cons_hit_of_coords (Val := Elt F) (e := .bf16) a.view (ha.unread w)
      (Rect.unit (s := ⟨2, ![R, C]⟩) ![n * k, 0] (⟨2, ![n, C]⟩ : Shape).size inb) s [] (ix2 ⟨(y 0).val - n * k, hx⟩ (y 1)) y fun b => by
        fin_cases b
        · change (y 0).val = n * k + 1 * ((y 0).val - n * k); omega
        · change (y 1).val = 0 + 1 * (y 1).val; omega
    refine hit.trans (hs y ⟨(y 0).val - n * k, hx⟩ ?_)
    change (y 0).val = n * k + ((y 0).val - n * k); omega

/-- A block loaded whole is itself. -/
theorem ld_whole {e : EltTy} (x : Vec F ⟨2, ![R, C]⟩ e)
    (inb : ∀ i, (![0, 0] : Fin 2 → ℕ) i + (![R, C] : Fin 2 → ℕ) i ≤ (⟨2, ![R, C]⟩ : Shape).size i) :
    View.ld (Val := Elt F) (e' := e) x (Rect.unit (s := ⟨2, ![R, C]⟩) ![0, 0] ![R, C] inb) = x := by
  funext y
  refine congrArg x (funext fun a => Fin.ext ?_)
  fin_cases a <;> simp [Rect.emb]

/-- A block stored whole reads back as itself. -/
theorem read_whole_store (a : Memref sg .tc .vmem ⟨2, ![R, C]⟩ .f32) (f : a.view.ty.Contents (Elt F)) (v : Vec F ⟨2, ![R, C]⟩ .f32)
    (inb : ∀ i, (![0, 0] : Fin 2 → ℕ) i + (![R, C] : Fin 2 → ℕ) i ≤ (⟨2, ![R, C]⟩ : Shape).size i) :
    a.view.read (Elt F) (a.view.writes (Elt F) f [⟨Rect.unit (s := ⟨2, ![R, C]⟩) ![0, 0] ![R, C] inb, v⟩]) = v := by
  funext y
  refine (View.read_writes_cons_hit (Val := Elt F) (e := .f32) a.view f (Rect.unit (s := ⟨2, ![R, C]⟩) ![0, 0] ![R, C] inb) v [] y y ?_)
  funext b
  fin_cases b
  · exact Fin.ext (show 0 + 1 * (y 0).val = (y 0).val by omega)
  · exact Fin.ext (show 0 + 1 * (y 1).val = (y 1).val by omega)
end

end Cert.Layer
end
-- ==== Proof.OutStep.lean ====
module

public import proofs.«01_k».proof.Proof.OutRunB
public import proofs.«01_k».proof.Proof.LayerStep

@[expose] public section

set_option maxRecDepth 16384

noncomputable section

namespace Cert.OutProof

open Cert.Kernel2Ideal Cert.Kernel2Ideal.Gen Cert.Layer Idealize.ShloMosaic Idealize.ShloMosaic.TcCoe Idealize.ShloMosaic.Tactic
open Idealize.SL.Sem

variable {F : FTy → Type} [FloatOps F]

/-- One head's lanes of a block of rows. -/
def headCols (x : Vec F S512x2048 .bf16) (k : Fin 8) : Vec F S512x256 .bf16 :=
  View.ld (Val := Elt F) (e' := .bf16) x (Rect.unit ![0, 256 * k.val] ![512, 256] (fun a => by fin_cases a <;> simp <;> omega))

/-- One head's gains. -/
def headGain (x : Vec F S1x2048 .f32) (k : Fin 8) : Vec F S1x256 .f32 :=
  View.ld (Val := Elt F) (e' := .f32) x (Rect.unit ![0, 256 * k.val] ![1, 256] (fun a => by fin_cases a <;> simp <;> omega))

/-- One head's rows of the output weights. -/
def headRows (x : Vec F S2048x1024 .bf16) (k : Fin 8) : Vec F S256x1024 .bf16 :=
  View.ld (Val := Elt F) (e' := .bf16) x (Rect.unit ![256 * k.val, 0] ![256, 1024] (fun a => by fin_cases a <;> simp <;> omega))

/-- A slab of the output weights, cast. -/
def cast0 (x4 : Vec F S1x256x1024 .f32) : Vec F S256x1024 .bf16 :=
  k0_pay1 (View.ld (Val := Elt F) (e' := .f32) x4 (Rect.unit ![0, 0, 0] ![1, 256, 1024] (fun a => by fin_cases a <;> simp)))

/-- A slab of the weights into the hidden units, cast. -/
def cast1 (x6 : Vec F S1x128x4096 .f32) : Vec F S128x4096 .bf16 :=
  k0_pay2 (View.ld (Val := Elt F) (e' := .f32) x6 (Rect.unit ![0, 0, 0] ![1, 128, 4096] (fun a => by fin_cases a <;> simp)))

/-- A slab of the weights out of the hidden units, cast. -/
def cast2 (x7 : Vec F S1x512x1024 .f32) : Vec F S512x1024 .bf16 :=
  k0_pay3 (View.ld (Val := Elt F) (e' := .f32) x7 (Rect.unit ![0, 0, 0] ![1, 512, 1024] (fun a => by fin_cases a <;> simp)))

section
variable (x0 : Vec F S512x1024 .f32) (x1 x2 : Vec F S512x2048 .bf16) (x3 : Vec F S1x2048 .f32) (x5 : Vec F S1x1024 .f32)
  (w0 : Vec F S2048x1024 .bf16) (w1 : Vec F S1024x4096 .bf16) (w2 : Vec F S4096x1024 .bf16)

/-- One head, normalised, scaled and gated, through its rows of the output weights. -/
def headProj (k : Fin 8) : FVec F S512x1024 .f32 :=
  matmul dot_S512x256_S256x1024_S512x1024_1_0_0_1_n_n none (k0_pay9 (headCols x1 k) (headGain x3 k) (headCols x2 k)) (headRows w0 k)
    (constant S512x1024 .f32 0x00000000#32)

/-- The residual rows after the mixing layer. -/
def resid : FVec F S512x1024 .f32 :=
  let p := headProj x1 x2 x3 w0
  addf (View.ld (Val := Elt F) (e' := .f32) x0 (Rect.unit ![0, 0] ![512, 1024] (fun a => by fin_cases a <;> simp)))
    (addf (addf (addf (addf (addf (addf (addf (p 0) (p 1)) (p 2)) (p 3)) (p 4)) (p 5)) (p 6)) (p 7))

/-- Rows normalised by their mean square. -/
def normed (v : FVec F S512x1024 .f32) : FVec F S512x1024 .bf16 :=
  let ms : FVec F S512x1 .f32 := divf (shapeCast S512x1 (multiReduction .add [1] S512 (mulf v v) 0x00000000#32 reduces_S512x1024_S512 (.inl rfl) rfl) shapeCasts_S512_S512x1)
    (broadcast S512x1 (Scalar.ofBits .f32 0x44800000#32))
  let r : FVec F S512x1 .f32 := rsqrt (addf ms (broadcast S512x1 (Scalar.ofBits .f32 0x358637BD#32)))
  truncf .bf16 (mulf (mulf v (broadcastTo S512x1024 r broadcasts_S512x1_S512x1024))
    (broadcastTo S512x1024 (shapeCast S1x1024 (View.ld (Val := Elt F) (e' := .f32) x5 (Rect.unit ![0, 0] ![1, 1024] (fun a => by fin_cases a <;> simp))) shapeCasts_S1x1024_S1x1024) broadcasts_S1x1024_S512x1024)) bitsLt_bf16_f32

/-- A quarter of the hidden units' part of the feed-forward layer. -/
def feed (h : FVec F S512x1024 .bf16) (a b : Vec F S1024x1024 .bf16) : FVec F S512x1024 .f32 :=
  let u : FVec F S512x1024 .f32 := maximumf (matmul dot_S512x1024_S1024x1024_S512x1024_1_0_0_1_n_n none h a (constant S512x1024 .f32 0x00000000#32))
    (broadcast S512x1024 (Scalar.ofBits .f32 0x00000000#32))
  matmul dot_S512x1024_S1024x1024_S512x1024_1_0_0_1_n_n none (truncf .bf16 (mulf u u) bitsLt_bf16_f32) b (constant S512x1024 .f32 0x00000000#32)

/-- A block of the result, from its rows and the cast weights. -/
def tileOut : FVec F S512x1024 .f32 :=
  let v := resid x0 x1 x2 x3 w0
  let h := normed x5 v
  let q := fun j => feed h (upCols w1 j) (downRows w2 j)
  addf (addf (addf (addf v (q 0)) (q 1)) (q 2)) (q 3)

variable (c : Dev nD) (i : grid0.Coords) (arg1 : Memref sig .tc .vmem S512x1024 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S1x256x1024 .f32) (harg5 : arg5.IsWhole) (arg6 : Memref sig .tc .vmem S1x1024 .f32) (harg6 : arg6.IsWhole) (arg7 : Memref sig .tc .vmem S1x128x4096 .f32) (harg7 : arg7.IsWhole) (arg8 : Memref sig .tc .vmem S1x512x1024 .f32) (harg8 : arg8.IsWhole) (arg9 : Memref sig .tc .vmem S512x1024 .f32) (harg9 : arg9.IsWhole) (arg10 : Memref sig .tc .vmem S2048x1024 .bf16) (harg10 : arg10.IsWhole) (arg11 : Memref sig .tc .vmem S1024x4096 .bf16) (harg11 : arg11.IsWhole) (arg12 : Memref sig .tc .vmem S4096x1024 .bf16) (harg12 : arg12.IsWhole)

set_option maxHeartbeats 4000000 in
/-- What a computing point stores: the block, whole. -/
theorem tile_pieces (h1 : ¬ k0_cond1 i = 1#1) (h2 : k0_cond2 i = 1#1) :
    (tileRun c i h1 h2 arg1 harg1 arg2 harg2 arg3 harg3 arg4 harg4 arg5 harg5 arg6 harg6 arg7 harg7 arg8 harg8 arg9 harg9 arg10 harg10 arg11 harg11 arg12 harg12
      x0 x1 x2 x3 x5 w0 w1 w2).1 =
      [⟨Rect.unit (s := S512x1024) ![0, 0] ![512, 1024] (fun a => by fin_cases a <;> simp), tileOut x0 x1 x2 x3 x5 w0 w1 w2⟩] := by
  unfold tileRun
  dsimp only
  sl_unfold_words
  simp only [View.readAt_eq_ld, harg1.read_unread, harg2.read_unread, harg3.read_unread, harg4.read_unread, harg6.read_unread,
    harg10.read_unread, harg11.read_unread, harg12.read_unread]
  rfl

variable (x4 : Vec F S1x256x1024 .f32) (x6 : Vec F S1x128x4096 .f32) (x7 : Vec F S1x512x1024 .f32)

set_option maxHeartbeats 4000000 in
/-- What a casting point stores into the three kept weights. -/
theorem cast_pieces (h1 : k0_cond1 i = 1#1) (h2 : ¬ k0_cond2 i = 1#1) :
    (castRun c i h1 h2 arg1 harg1 arg2 harg2 arg3 harg3 arg4 harg4 arg5 harg5 arg6 harg6 arg7 harg7 arg8 harg8 arg9 harg9 arg10 harg10 arg11 harg11 arg12 harg12
      x4 x6 x7 w0 w1 w2).1 =
      ([⟨Rect.unit (s := S2048x1024) (k0_off1 i) S256x1024.size (k0_off1_inb i h1), cast0 x4⟩],
       [⟨Rect.unit (s := S1024x4096) (k0_off2 i) S128x4096.size (k0_off2_inb i h1), cast1 x6⟩],
       [⟨Rect.unit (s := S4096x1024) (k0_off3 i) S512x1024.size (k0_off3_inb i h1), cast2 x7⟩]) := by
  unfold castRun
  dsimp only
  sl_unfold_words
  simp only [View.readAt_eq_ld, harg5.read_unread, harg7.read_unread, harg8.read_unread]
  rfl
end

end Cert.OutProof
end
-- ==== Proof.OutFill.lean ====
module

public import proofs.«01_k».proof.Proof.OutStep
public import Idealize.ShloMosaic.Lib.Pointwise

@[expose] public section

set_option maxRecDepth 16384

noncomputable section

namespace Cert.OutProof

open Cert.Kernel2Ideal Cert.Kernel2Ideal.Gen Cert.Layer Idealize.ShloMosaic Idealize.ShloMosaic.TcCoe Idealize.ShloMosaic.Tactic
open Idealize.SL Idealize.SL.RA Idealize.SL.BI Idealize.ShloMosaic.Pipeline
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The casting points are the first eight, -/
theorem cond1_iff : ∀ t : Fin cfg0.N, k0_cond1 (grid0.coords t) = 1#1 ↔ t.val < 8 := by
  have h : ∀ t : Fin grid0.N, k0_cond1 (grid0.coords t) = 1#1 ↔ t.val < 8 := by decide +kernel
  exact h

/-- the computing points the others. -/
theorem cond2_iff : ∀ t : Fin cfg0.N, k0_cond2 (grid0.coords t) = 1#1 ↔ ¬ t.val < 8 := by
  have h : ∀ t : Fin grid0.N, k0_cond2 (grid0.coords t) = 1#1 ↔ ¬ t.val < 8 := by decide +kernel
  exact h

theorem coord_val : ∀ t : Fin cfg0.N, (grid0.coords t 0).val = t.val := by
  have h : ∀ t : Fin grid0.N, (grid0.coords t 0).val = t.val := by decide +kernel
  exact h

/-- The result's block is written back at the computing points only. -/
theorem flush_out : ∀ t : Fin cfg0.N, (cfg0.win 8).flush t = true ↔ ¬ t.val < 8 := by
  have h : ∀ t : Fin grid0.N, win0_8.flush t = true ↔ ¬ t.val < 8 := by decide +kernel
  exact h

/-- A casting point, by the number of its slabs. -/
abbrev pt (k : Fin 8) : Fin cfg0.N := ⟨k.val, lt_of_lt_of_eq (lt_trans k.isLt (by decide : 8 < 40)) N_0.symm⟩

/-- The cast slabs of one point. -/
def slab0 (c : Dev nD) (t : Fin cfg0.N) : Vec F S256x1024 .bf16 :=
  cast0 (iblk m c 4 t)
def slab1 (c : Dev nD) (t : Fin cfg0.N) : Vec F S128x4096 .bf16 :=
  cast1 (iblk m c 6 t)
def slab2 (c : Dev nD) (t : Fin cfg0.N) : Vec F S512x1024 .bf16 :=
  cast2 (iblk m c 7 t)

/-- The kept weights once every slab is cast. -/
def kept0 (c : Dev nD) : Vec F S2048x1024 .bf16 := fun y =>
  slab0 m c (pt ⟨(y 0).val / 256, Nat.div_lt_of_lt_mul (y 0).isLt⟩) (ix2 ⟨(y 0).val % 256, Nat.mod_lt _ (by decide)⟩ (y 1))
def kept1 (c : Dev nD) : Vec F S1024x4096 .bf16 := fun y =>
  slab1 m c (pt ⟨(y 0).val / 128, Nat.div_lt_of_lt_mul (y 0).isLt⟩) (ix2 ⟨(y 0).val % 128, Nat.mod_lt _ (by decide)⟩ (y 1))
def kept2 (c : Dev nD) : Vec F S4096x1024 .bf16 := fun y =>
  slab2 m c (pt ⟨(y 0).val / 512, Nat.div_lt_of_lt_mul (y 0).isLt⟩) (ix2 ⟨(y 0).val % 512, Nat.mod_lt _ (by decide)⟩ (y 1))

/-- The kept weights agree with the cast ones in the slabs of the first `n` points. -/
def Filled (c : Dev nD) (n : ℕ) (w0 : Vec F S2048x1024 .bf16) (w1 : Vec F S1024x4096 .bf16) (w2 : Vec F S4096x1024 .bf16) : Prop :=
  (∀ y : S2048x1024.Idx, (y 0).val < 256 * n → w0 y = kept0 m c y)
  ∧ (∀ y : S1024x4096.Idx, (y 0).val < 128 * n → w1 y = kept1 m c y)
  ∧ (∀ y : S4096x1024.Idx, (y 0).val < 512 * n → w2 y = kept2 m c y)

theorem Filled.zero (c : Dev nD) (w0 : Vec F S2048x1024 .bf16) (w1 : Vec F S1024x4096 .bf16) (w2 : Vec F S4096x1024 .bf16) : Filled m c 0 w0 w1 w2 :=
  ⟨fun _ h => absurd h (by omega), fun _ h => absurd h (by omega), fun _ h => absurd h (by omega)⟩

/-- Once all are cast they are the whole of them. -/
theorem Filled.eq {c : Dev nD} {n : ℕ} {w0 : Vec F S2048x1024 .bf16} {w1 : Vec F S1024x4096 .bf16} {w2 : Vec F S4096x1024 .bf16}
    (h : Filled m c n w0 w1 w2) (hn : ¬ n < 8) : w0 = kept0 m c ∧ w1 = kept1 m c ∧ w2 = kept2 m c :=
  ⟨funext fun y => h.1 y (by have h0 := (y 0).isLt; change (y 0).val < 2048 at h0; omega),
   funext fun y => h.2.1 y (by have h0 := (y 0).isLt; change (y 0).val < 1024 at h0; omega),
   funext fun y => h.2.2 y (by have h0 := (y 0).isLt; change (y 0).val < 4096 at h0; omega)⟩

theorem Filled.mono {c : Dev nD} {n k : ℕ} {w0 : Vec F S2048x1024 .bf16} {w1 : Vec F S1024x4096 .bf16} {w2 : Vec F S4096x1024 .bf16}
    (h : Filled m c n w0 w1 w2) (hn : ¬ n < 8) : Filled m c k w0 w1 w2 := by
  obtain ⟨h0, h1, h2⟩ := h.eq m hn
  subst h0; subst h1; subst h2
  exact ⟨fun _ _ => rfl, fun _ _ => rfl, fun _ _ => rfl⟩

end Cert.OutProof
end
-- ==== Proof.OutFrame.lean ====
module

public import proofs.«01_k».proof.Proof.OutFill
public import Idealize.ShloMosaic.Lib.Claim

@[expose] public section

set_option maxRecDepth 16384

noncomputable section

namespace Cert.OutProof

open Cert.Kernel2Ideal Cert.Kernel2Ideal.Gen Cert.Layer Idealize.ShloMosaic Idealize.ShloMosaic.TcCoe Idealize.ShloMosaic.Tactic
open Idealize.SL Idealize.SL.RA Idealize.SL.BI Idealize.ShloMosaic.Pipeline
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A casting point's three stores carry the agreement one slab further. -/
theorem Filled.succ {c : Dev nD} {t : Fin cfg0.N} (ht : t.val < 8) {w0 : Vec F S2048x1024 .bf16} {w1 : Vec F S1024x4096 .bf16} {w2 : Vec F S4096x1024 .bf16}
    (h : Filled m c t.val w0 w1 w2) (h1 : k0_cond1 (grid0.coords t) = 1#1)
    (a0 : Memref sig .tc .vmem S2048x1024 .bf16) (ha0 : a0.IsWhole) (a1 : Memref sig .tc .vmem S1024x4096 .bf16) (ha1 : a1.IsWhole)
    (a2 : Memref sig .tc .vmem S4096x1024 .bf16) (ha2 : a2.IsWhole) :
    Filled m c (t.val + 1)
      (a0.view.read (Elt F) (a0.view.writes (Elt F) (ha0.unread w0) [⟨Rect.unit (s := S2048x1024) (k0_off1 (grid0.coords t)) S256x1024.size (k0_off1_inb _ h1), slab0 m c t⟩]))
      (a1.view.read (Elt F) (a1.view.writes (Elt F) (ha1.unread w1) [⟨Rect.unit (s := S1024x4096) (k0_off2 (grid0.coords t)) S128x4096.size (k0_off2_inb _ h1), slab1 m c t⟩]))
      (a2.view.read (Elt F) (a2.view.writes (Elt F) (ha2.unread w2) [⟨Rect.unit (s := S4096x1024) (k0_off3 (grid0.coords t)) S512x1024.size (k0_off3_inb _ h1), slab2 m c t⟩])) := by
  obtain ⟨g0, g1, g2⟩ := h
  refine ⟨slab_step a0 ha0 w0 (kept0 m c) (slab0 m c t) _ _ t.val (by rw [k0_off1_eq, coord_val]) g0 fun y x hx => ?_,
    slab_step a1 ha1 w1 (kept1 m c) (slab1 m c t) _ _ t.val (by rw [k0_off2_eq, coord_val]) g1 fun y x hx => ?_,
    slab_step a2 ha2 w2 (kept2 m c) (slab2 m c t) _ _ t.val (by rw [k0_off3_eq, coord_val]) g2 fun y x hx => ?_⟩
  · have hq : (y 0).val / 256 = t.val := by have := x.isLt; omega
    have hr : (y 0).val % 256 = x.val := by have := x.isLt; omega
    exact congrArg₂ (fun s i => slab0 m c s (ix2 i (y 1))) (Fin.ext hq.symm) (Fin.ext hr.symm)
  · have hq : (y 0).val / 128 = t.val := by have := x.isLt; omega
    have hr : (y 0).val % 128 = x.val := by have := x.isLt; omega
    exact congrArg₂ (fun s i => slab1 m c s (ix2 i (y 1))) (Fin.ext hq.symm) (Fin.ext hr.symm)
  · have hq : (y 0).val / 512 = t.val := by have := x.isLt; omega
    have hr : (y 0).val % 512 = x.val := by have := x.isLt; omega
    exact congrArg₂ (fun s i => slab2 m c s (ix2 i (y 1))) (Fin.ext hq.symm) (Fin.ext hr.symm)

/-- The block of the result a computing point leaves. -/
def outBlk (c : Dev nD) (t : Fin cfg0.N) : Vec F S512x1024 .f32 :=
  tileOut (iblk m c 0 t) (iblk m c 1 t) (iblk m c 2 t) (iblk m c 3 t) (iblk m c 5 t) (kept0 m c) (kept1 m c) (kept2 m c)

/-- What holds before the point numbered `n`: the kept weights agree with the cast ones in the slabs of the points before it. -/
def Carry (c : Dev nD) (n : ℕ) : sProp 𝕄 :=
  iprop(∃ w0 : Vec F S2048x1024 .bf16, ∃ w1 : Vec F S1024x4096 .bf16, ∃ w2 : Vec F S4096x1024 .bf16, ⌜Filled m c n w0 w1 w2⌝
    ∗ owns (c : Thread nD τ) (Memref.whole cc0_scratch0) fullShare w0 ∗ owns (c : Thread nD τ) (Memref.whole cc0_scratch1) fullShare w1
    ∗ owns (c : Thread nD τ) (Memref.whole cc0_scratch2) fullShare w2 ∗ ∃ r, prngReg c r)

/-- The proof data: the arrays as the call finds them, each input's block left in place, the result's block at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlk m c t
  Φ t := Carry m c t.val
  q _ := fullShare
  owed _ := 0

theorem dats_A (c : Dev nD) (w : Fin cfg0.W) : (dats m 0 c).A w = V m c (Pipeline.arrRef spec0 w) := by dsimp only [dats]

theorem dats_after0 (c : Dev nD) (t : Fin cfg0.N) : (dats m 0 c).after 0 t = iblk m c 0 t := by dsimp only [dats]
theorem dats_after1 (c : Dev nD) (t : Fin cfg0.N) : (dats m 0 c).after 1 t = iblk m c 1 t := by dsimp only [dats]
theorem dats_after2 (c : Dev nD) (t : Fin cfg0.N) : (dats m 0 c).after 2 t = iblk m c 2 t := by dsimp only [dats]
theorem dats_after3 (c : Dev nD) (t : Fin cfg0.N) : (dats m 0 c).after 3 t = iblk m c 3 t := by dsimp only [dats]
theorem dats_after4 (c : Dev nD) (t : Fin cfg0.N) : (dats m 0 c).after 4 t = iblk m c 4 t := by dsimp only [dats]
theorem dats_after5 (c : Dev nD) (t : Fin cfg0.N) : (dats m 0 c).after 5 t = iblk m c 5 t := by dsimp only [dats]
theorem dats_after6 (c : Dev nD) (t : Fin cfg0.N) : (dats m 0 c).after 6 t = iblk m c 6 t := by dsimp only [dats]
theorem dats_after7 (c : Dev nD) (t : Fin cfg0.N) : (dats m 0 c).after 7 t = iblk m c 7 t := by dsimp only [dats]
theorem dats_after8 (c : Dev nD) (t : Fin cfg0.N) : (dats m 0 c).after 8 t = outBlk m c t := by dsimp only [dats]
theorem dats_before0 (c : Dev nD) (t : Fin cfg0.N) (d) : (dats m 0 c).before 0 t d = iblk m c 0 t :=
  before0_0_of m (dats m 0 c) (dats_A m c 0) (dats_after0 m c) t d
theorem dats_before1 (c : Dev nD) (t : Fin cfg0.N) (d) : (dats m 0 c).before 1 t d = iblk m c 1 t :=
  before0_1_of m (dats m 0 c) (dats_A m c 1) (dats_after1 m c) t d
theorem dats_before2 (c : Dev nD) (t : Fin cfg0.N) (d) : (dats m 0 c).before 2 t d = iblk m c 2 t :=
  before0_2_of m (dats m 0 c) (dats_A m c 2) (dats_after2 m c) t d
theorem dats_before3 (c : Dev nD) (t : Fin cfg0.N) (d) : (dats m 0 c).before 3 t d = iblk m c 3 t :=
  before0_3_of m (dats m 0 c) (dats_A m c 3) (dats_after3 m c) t d
theorem dats_before4 (c : Dev nD) (t : Fin cfg0.N) (d) : (dats m 0 c).before 4 t d = iblk m c 4 t :=
  before0_4_of m (dats m 0 c) (dats_A m c 4) (dats_after4 m c) t d
theorem dats_before5 (c : Dev nD) (t : Fin cfg0.N) (d) : (dats m 0 c).before 5 t d = iblk m c 5 t :=
  before0_5_of m (dats m 0 c) (dats_A m c 5) (dats_after5 m c) t d
theorem dats_before6 (c : Dev nD) (t : Fin cfg0.N) (d) : (dats m 0 c).before 6 t d = iblk m c 6 t :=
  before0_6_of m (dats m 0 c) (dats_A m c 6) (dats_after6 m c) t d
theorem dats_before7 (c : Dev nD) (t : Fin cfg0.N) (d) : (dats m 0 c).before 7 t d = iblk m c 7 t :=
  before0_7_of m (dats m 0 c) (dats_A m c 7) (dats_after7 m c) t d

/-- What the body is called with at point `t`, -/
def bodyPre (c : Dev nD) (t : Fin cfg0.N) : sProp 𝕄 :=
  iprop(Carry m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns, the result's buffer as `R` says. -/
def bodyPost (c : Dev nD) (t : Fin cfg0.N) (R : sProp 𝕄) : sProp 𝕄 :=
  iprop(Carry m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ R)

set_option maxHeartbeats 4000000 in
/-- The body at a casting point: the result's buffer passes through. -/
theorem sound_cast (c : Dev nD) (t : Fin cfg0.N) (ht : t.val < 8) :
    bodyPre m c t ⊢ wp frame (wpE (defs₀ (F := F)) Variants.none c none) Set.univ (bodyAt0 t)
      (fun _ => bodyPost m c t iprop(∃ d, owns (c : Thread nD τ) (st0_8 t) fullShare ((dats m 0 c).before 8 t d))) := by
  unfold bodyPre bodyPost bodyAt0 Carry
  simp only [dats_before0, dats_before1, dats_before2, dats_before3, dats_before4, dats_before5, dats_before6, dats_before7]
  rw [show (dats m 0 c).owesAt () t.succ = (dats m 0 c).owesAt () t.castSucc from rfl, dats_after0, dats_after1, dats_after2, dats_after3, dats_after4, dats_after5, dats_after6, dats_after7]
  iintro ⟨⟨%w0, %w1, %w2, %hw, G0, G1, G2, Hp⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
  have h1 := (cond1_iff t).mpr ht
  have h2 : ¬ k0_cond2 (grid0.coords t) = 1#1 := fun h => (cond2_iff t).mp h ht
  iapply ((castRun c (grid0.coords t) h1 h2 _ _ _ _ _ _ _ _ _ _ _ _ _ _ _ _ _ _ _ _ _ _ _ _ (iblk m c 4 t) (iblk m c 6 t) (iblk m c 7 t) w0 w1 w2).2 Set.univ _)
  isplitl [H4]; · iexact H4
  isplitl [H6]; · iexact H6
  isplitl [H7]; · iexact H7
  isplitl [G0]; · iexact G0
  isplitl [G1]; · iexact G1
  isplitl [G2]; · iexact G2
  rw [cast_pieces]
  dsimp only
  iintro ⟨H4, H6, H7, G0, G1, G2⟩
  isplitl [G0 G1 G2 Hp]
  · iexists _; iexists _; iexists _
    isplitr
    · ipureintro; exact Filled.succ m ht hw h1 (Memref.whole cc0_scratch0) (Memref.isWhole_whole _) (Memref.whole cc0_scratch1) (Memref.isWhole_whole _) (Memref.whole cc0_scratch2) (Memref.isWhole_whole _)
    isplitl [G0]
    · unfold owns; iexists _; isplitr
      swap; · iexact G0
      ipureintro; rfl
    isplitl [G1]
    · unfold owns; iexists _; isplitr
      swap; · iexact G1
      ipureintro; rfl
    isplitl [G2]
    · unfold owns; iexists _; isplitr
      swap; · iexact G2
      ipureintro; rfl
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 4000000 in
/-- The body at a computing point: the result's buffer is left at its block. -/
theorem sound_tile (c : Dev nD) (t : Fin cfg0.N) (ht : ¬ t.val < 8) :
    bodyPre m c t ⊢ wp frame (wpE (defs₀ (F := F)) Variants.none c none) Set.univ (bodyAt0 t)
      (fun _ => bodyPost m c t (owns (c : Thread nD τ) (st0_8 t) fullShare (outBlk m c t))) := by
  unfold bodyPre bodyPost bodyAt0 Carry
  simp only [dats_before0, dats_before1, dats_before2, dats_before3, dats_before4, dats_before5, dats_before6, dats_before7]
  rw [show (dats m 0 c).owesAt () t.succ = (dats m 0 c).owesAt () t.castSucc from rfl, dats_after0, dats_after1, dats_after2, dats_after3, dats_after4, dats_after5, dats_after6, dats_after7]
  iintro ⟨⟨%w0, %w1, %w2, %hw, G0, G1, G2, Hp⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
  have h1 : ¬ k0_cond1 (grid0.coords t) = 1#1 := fun h => ht ((cond1_iff t).mp h)
  have h2 := (cond2_iff t).mpr ht
  obtain ⟨e0, e1, e2⟩ := hw.eq m ht
  subst e0; subst e1; subst e2
  iapply ((tileRun c (grid0.coords t) h1 h2 _ _ _ _ _ _ _ _ _ _ _ _ _ _ _ _ _ _ _ _ _ _ _ _ (iblk m c 0 t) (iblk m c 1 t) (iblk m c 2 t) (iblk m c 3 t) (iblk m c 5 t) (kept0 m c) (kept1 m c) (kept2 m c)).2 Set.univ _)
  isplitl [H0]; · iexact H0
  isplitl [H1]; · iexact H1
  isplitl [H2]; · iexact H2
  isplitl [H3]; · iexact H3
  isplitl [H5]; · iexact H5
  isplitl [G0]; · iexact G0
  isplitl [G1]; · iexact G1
  isplitl [G2]; · iexact G2
  isplitl [H8]
  · icases H8 with ⟨%d8, H8⟩
    iexists _; iexact H8
  rw [tile_pieces]
  iintro ⟨H0, H1, H2, H3, H5, G0, G1, G2, ⟨%f8, H8⟩⟩
  isplitl [G0 G1 G2 Hp]
  · iexists _; iexists _; iexists _
    isplitr
    · ipureintro; exact hw.mono m ht
    isplitl [G0]; · iexact G0
    isplitl [G1]; · iexact G1
    isplitl [G2]; · iexact G2
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro
  exact read_whole_store _ _ _ _

/-- The body table's row at point `t`'s slots. -/
theorem row_eq (t : Fin cfg0.N) : defs₀ (F := F) .tc cfg0.body (cfg0.bodyArgs t (cfg0.slots t)) = bodyAt0 t := by
  unfold defs₀; rw [Defs.onTc_tc]

theorem idle_out (t : Fin cfg0.N) : idle0 8 (grid0.coords t) = decide (t.val < 8) := by
  by_cases h : t.val < 8
  · have h2 : ¬ k0_cond2 (grid0.coords t) = 1#1 := fun h' => (cond2_iff t).mp h' h
    rw [decide_eq_true h]
    change (!(k0_cond2 (grid0.coords t) == 1#1)) = true
    rw [beq_eq_false_iff_ne.mpr h2]; rfl
  · rw [decide_eq_false h]
    change (!(k0_cond2 (grid0.coords t) == 1#1)) = false
    rw [(cond2_iff t).mpr h]; rfl

theorem flush_early (t : Fin cfg0.N) (h : t.val < 8) : (win0 8).flush t = false :=
  Bool.eq_false_iff.mpr fun h' => (flush_out t).mp h' h

/-- The library's body obligation, at every point. -/
theorem body_obligation (c : Dev nD) : BodyObligation (dats (F := F) m 0 c) (defs₀ (F := F)) Variants.none () Set.univ := fun t => by
  rw [bigSep_W0, bigSep_W0, row_eq]
  dsimp only
  rw [idle_out]
  by_cases h : t.val < 8
  · rw [decide_eq_true h, flush_early t h]
    exact triple_restated (sound_cast m c t h) rfl .rfl fun _ => .rfl
  · rw [decide_eq_false h]
    exact triple_restated (sound_tile m c t h) rfl .rfl fun _ => .rfl

theorem carry_in (c : Dev nD) : Pipeline.ΦA spec0 c ⊢ (dats (F := F) m 0 c).Φ 0 := by
  change Pipeline.ΦA spec0 c ⊢ Carry m c 0
  unfold Pipeline.ΦA Carry
  rw [scopedRest0_eq]
  simp only [owns_whole]
  iintro ⟨⟨⟨%f0, G0⟩, ⟨%f1, G1⟩, ⟨%f2, G2⟩⟩, Hp⟩
  iexists f0; iexists f1; iexists f2
  isplitr; · ipureintro; exact Filled.zero m c f0 f1 f2
  isplitl [G0]; · iexact G0
  isplitl [G1]; · iexact G1
  isplitl [G2]; · iexact G2
  iexact Hp

theorem carry_out (c : Dev nD) : (dats (F := F) m 0 c).Φ (Fin.last cfg0.N) ⊢ Pipeline.ΦA spec0 c := by
  change Carry m c cfg0.N ⊢ Pipeline.ΦA spec0 c
  unfold Pipeline.ΦA Carry
  rw [scopedRest0_eq]
  simp only [owns_whole]
  iintro ⟨%w0, %w1, %w2, %hw, G0, G1, G2, Hp⟩
  isplitr [Hp]
  · isplitl [G0]; · iexists _; iexact G0
    isplitl [G1]; · iexists _; iexact G1
    iexists _; iexact G2
  iexact Hp

set_option backward.isDefEq.respectTransparency.types false in
/-- Every run of the program ends, the pipeline's arrays at what the proof data say and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun _ _ => by unfold Dat.share; exact ite_self _)
    (howed := fun _ _ => rfl) (V := V m) (hmain := hmain m Variants.none) (hA := dats_A m) (hin := carry_in m) (hout := carry_out m)

/-- The frame, whatever the values are. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (dats_A m) ((θ_run defs _ _).mono (fun _ h => h.1) (run_quiescent m ρ)))
    ((θ_run defs _ _).mono (fun _ h => h.2) (run_quiescent m ρ))

end Cert.OutProof
end
-- ==== Proof.OutSame.lean ====
module

public import proofs.«01_k».proof.Proof.OutFrame
public import proofs.«01_k».proof.Proof.Gen.Kernel2

@[expose] public section

set_option maxRecDepth 65536

noncomputable section

namespace Cert.OutProof

open Idealize.ShloMosaic Idealize.ShloMosaic.TcCoe Idealize.SL.Sem

variable {F : FTy → Type} [FloatOps F]

/-- The two printed programs are one text: the host part, -/
theorem main_same : Cert.Kernel2.main (F := F) = Cert.Kernel2Ideal.main := rfl

/-- the table of bodies, -/
theorem table_same : Cert.Kernel2.defs₀ (F := F) = Cert.Kernel2Ideal.defs₀ := by
  unfold Cert.Kernel2.defs₀ Cert.Kernel2Ideal.defs₀
  refine congrArg (Defs.onTc (τ := Cert.Kernel2.τ)) ?_
  funext l x
  match l with
  | ⟨0, _⟩ => rfl

/-- and the pipeline's. -/
theorem defs_same : Cert.Kernel2.defs (F := F) = Cert.Kernel2Ideal.defs :=
  congrArg (Pipeline.defs (Cert.Kernel2Ideal.pcfgs (F := F))) table_same

end Cert.OutProof
end
-- ==== Proof.LayerRow.lean ====
module

public import proofs.«01_k».proof.Proof.LayerStep

@[expose] public section

set_option maxRecDepth 16384

noncomputable section

namespace Cert.Layer

open Idealize.ShloMosaic Idealize.ShloMosaic.TcCoe Idealize.ShloMosaic.Tactic
open Idealize.SL.Sem

/-! ## The feed-forward layer over one row of numbers -/

/-- A row over the root of its mean square, scaled. -/
def normOf (g v : Fin 1024 → EReal) (d : Fin 1024) : EReal :=
  v d * Ideal.rsqrt (Ideal.div (∑ x, v x * v x) (Ideal.ofBits .f32 0x44800000#32) + Ideal.ofBits .f32 0x358637BD#32) * g d

/-- A hidden unit's value: the positive part, squared. -/
def hiddenOf (h : Fin 1024 → EReal) (w1 : Fin 1024 → Fin 4096 → EReal) (f : Fin 4096) : EReal :=
  max (∑ e, h e * w1 e f) 0 * max (∑ e, h e * w1 e f) 0

/-- A row and what the feed-forward layer adds to it. -/
def layerOf (g : Fin 1024 → EReal) (w1 : Fin 1024 → Fin 4096 → EReal) (w2 : Fin 4096 → Fin 1024 → EReal) (v : Fin 1024 → EReal) (d : Fin 1024) : EReal :=
  v d + ∑ f, hiddenOf (normOf g v) w1 f * w2 f d

/-- A sum by blocks. -/
theorem sum_blocks {a b n : ℕ} (h : a * b = n) (f : Fin n → EReal) :
    ∑ k, f k = ∑ j : Fin a, ∑ l : Fin b, f ⟨b * j.val + l.val, by
      have := j.isLt; have := l.isLt; have : b * j.val + b ≤ b * a := by rw [← Nat.mul_succ]; exact Nat.mul_le_mul_left b j.isLt
      rw [Nat.mul_comm b a] at this; omega⟩ := by
  subst h
  rw [← Fintype.sum_prod_type', ← finProdFinEquiv.sum_comp]
  exact Finset.sum_congr rfl fun p _ => congrArg f (Fin.ext (Nat.add_comm _ _))

theorem upCols_at (x : FVec Ideal ⟨2, ![1024, 4096]⟩ .bf16) (j : Fin 4) (e f : Fin 1024) :
    upCols (F := Ideal) x j (ix2 e f) = x (ix2 e ⟨1024 * j.val + f.val, by omega⟩) := by
  refine congrArg x ?_
  funext a
  refine Fin.ext ?_
  fin_cases a <;> simp [Rect.emb, ix2]

theorem downRows_at (x : FVec Ideal ⟨2, ![4096, 1024]⟩ .bf16) (j : Fin 4) (f d : Fin 1024) :
    downRows (F := Ideal) x j (ix2 f d) = x (ix2 ⟨1024 * j.val + f.val, by omega⟩ d) := by
  refine congrArg x ?_
  funext a
  refine Fin.ext ?_
  fin_cases a <;> simp [Rect.emb, ix2]

end Cert.Layer
end
-- ==== Proof.OutValue.lean ====
module

public import proofs.«01_k».proof.Proof.OutStep
public import proofs.«01_k».proof.Proof.LayerRow
public import Idealize.ShloMosaic.Lib.Pointwise

@[expose] public section

set_option maxRecDepth 16384

noncomputable section

namespace Cert.OutProof

open Cert.Layer Idealize.ShloMosaic Idealize.ShloMosaic.TcCoe Idealize.ShloMosaic.Tactic
open Idealize.SL.Sem

/-! ## The layer over one row of numbers -/

/-- A head's lane less the head's mean, over the root of its variance. -/
def headOf (y : Fin 256 → EReal) (l : Fin 256) : EReal :=
  let μ := Ideal.div (∑ x, y x) (Ideal.ofBits .f32 0x43800000#32)
  (y l - μ) * Ideal.rsqrt (Ideal.div (∑ x, (y x - μ) * (y x - μ)) (Ideal.ofBits .f32 0x43800000#32) + Ideal.ofBits .f32 0x3727C5AC#32)

/-- A lane's head, and a lane of a head. -/
abbrev lane (j : Fin 8) (l : Fin 256) : Fin 2048 := ⟨256 * j.val + l.val, by omega⟩
abbrev laneHead (k : Fin 2048) : Fin 8 := ⟨k.val / 256, by omega⟩
abbrev laneIn (k : Fin 2048) : Fin 256 := ⟨k.val % 256, Nat.mod_lt _ (by decide)⟩

/-- A lane normalised in its head, scaled and gated. -/
def mixOf (y gate gn : Fin 2048 → EReal) (k : Fin 2048) : EReal :=
  headOf (fun l => y (lane (laneHead k) l)) (laneIn k) * gn k * gate k

/-- The residual row after the mixing layer. -/
def residOf (x : Fin 1024 → EReal) (y gate gn : Fin 2048 → EReal) (wo : Fin 2048 → Fin 1024 → EReal) (d : Fin 1024) : EReal :=
  x d + ∑ k, mixOf y gate gn k * wo k d

/-- A row of the result. -/
def rowOf (x : Fin 1024 → EReal) (y gate gn : Fin 2048 → EReal) (wo : Fin 2048 → Fin 1024 → EReal) (g : Fin 1024 → EReal)
    (w1 : Fin 1024 → Fin 4096 → EReal) (w2 : Fin 4096 → Fin 1024 → EReal) (d : Fin 1024) : EReal :=
  layerOf g w1 w2 (residOf x y gate gn wo) d

/-! ## The kernel's block read so -/

section
open Cert.Kernel2Ideal Cert.Kernel2Ideal.Gen

theorem head_at (y : FVec Ideal S512x256 .bf16) (g : FVec Ideal S1x256 .f32) (n : FVec Ideal S512x256 .bf16) (r : Fin 512) (l : Fin 256) :
    (k0_pay9 y g n : FVec Ideal S512x256 .bf16) (ix2 r l) = (headOf (fun x => y (ix2 r x)) l * g (ix2 0 l) * n (ix2 r l) : EReal) := by
  pointwise [k0_pay9]
  rfl

theorem mm256_at (h : FVec Ideal S512x256 .bf16) (w : FVec Ideal S256x1024 .bf16) (r : Fin 512) (d : Fin 1024) :
    (matmul dot_S512x256_S256x1024_S512x1024_1_0_0_1_n_n none h w (constant S512x1024 .f32 0x00000000#32) : FVec Ideal S512x1024 .f32) (ix2 r d)
      = ∑ k : Fin 256, (h (ix2 r k) * w (ix2 k d) : EReal) := by
  pointwise

theorem headCols_at (x : FVec Ideal S512x2048 .bf16) (k : Fin 8) (r : Fin 512) (l : Fin 256) :
    headCols (F := Ideal) x k (ix2 r l) = x (ix2 r (lane k l)) := by
  refine congrArg x ?_
  funext a
  refine Fin.ext ?_
  fin_cases a <;> simp [Rect.emb, ix2]

theorem headGain_at (x : FVec Ideal S1x2048 .f32) (k : Fin 8) (l : Fin 256) :
    headGain (F := Ideal) x k (ix2 0 l) = x (ix2 0 (lane k l)) := by
  refine congrArg x ?_
  funext a
  refine Fin.ext ?_
  fin_cases a <;> simp [Rect.emb, ix2]

theorem headRows_at (x : FVec Ideal S2048x1024 .bf16) (k : Fin 8) (l : Fin 256) (d : Fin 1024) :
    headRows (F := Ideal) x k (ix2 l d) = x (ix2 (lane k l) d) := by
  refine congrArg x ?_
  funext a
  refine Fin.ext ?_
  fin_cases a <;> simp [Rect.emb, ix2]

theorem headProj_at (y gate : FVec Ideal S512x2048 .bf16) (gn : FVec Ideal S1x2048 .f32) (w : FVec Ideal S2048x1024 .bf16) (k : Fin 8)
    (r : Fin 512) (d : Fin 1024) :
    (headProj y gate gn w k : FVec Ideal S512x1024 .f32) (ix2 r d)
      = ∑ l : Fin 256, (mixOf (fun k => y (ix2 r k)) (fun k => gate (ix2 r k)) (fun k => gn (ix2 0 k)) (lane k l) * w (ix2 (lane k l) d) : EReal) := by
  unfold headProj
  rw [mm256_at]
  refine Finset.sum_congr rfl fun l _ => ?_
  rw [head_at, headRows_at, headCols_at, headGain_at]
  simp only [headCols_at]
  unfold mixOf
  have hh : laneHead (lane k l) = k := Fin.ext (show (256 * k.val + l.val) / 256 = k.val by omega)
  have hl : laneIn (lane k l) = l := Fin.ext (show (256 * k.val + l.val) % 256 = l.val by omega)
  rw [hh, hl]

theorem resid_at (x : FVec Ideal S512x1024 .f32) (y gate : FVec Ideal S512x2048 .bf16) (gn : FVec Ideal S1x2048 .f32) (w : FVec Ideal S2048x1024 .bf16)
    (r : Fin 512) (d : Fin 1024) :
    (resid x y gate gn w : FVec Ideal S512x1024 .f32) (ix2 r d)
      = residOf (fun d => x (ix2 r d)) (fun k => y (ix2 r k)) (fun k => gate (ix2 r k)) (fun k => gn (ix2 0 k)) (fun k d => w (ix2 k d)) d := by
  unfold residOf
  rw [sum_blocks (a := 8) (b := 256) rfl, Fin.sum_univ_eight]
  refine congrArg₂ (fun a b : EReal => a + b) (congrFun (ld_whole (F := Ideal) (R := 512) (C := 1024) (e := .f32) x _) (ix2 r d)) ?_
  rw [← headProj_at y gate gn w 0 r d, ← headProj_at y gate gn w 1 r d, ← headProj_at y gate gn w 2 r d, ← headProj_at y gate gn w 3 r d,
    ← headProj_at y gate gn w 4 r d, ← headProj_at y gate gn w 5 r d, ← headProj_at y gate gn w 6 r d, ← headProj_at y gate gn w 7 r d]
  rfl

theorem normed_at (g : FVec Ideal S1x1024 .f32) (v : FVec Ideal S512x1024 .f32) (r : Fin 512) (d : Fin 1024) :
    (normed g v : FVec Ideal S512x1024 .bf16) (ix2 r d) = normOf (fun d => g (ix2 0 d)) (fun d => v (ix2 r d)) d := by
  have hg : View.ld (Val := Elt Ideal) (e' := .f32) g (Rect.unit ![0, 0] ![1, 1024] (fun a => by fin_cases a <;> simp)) = g := ld_whole (F := Ideal) (R := 1) (C := 1024) (e := .f32) g _
  unfold normed
  rw [hg]
  pointwise
  rfl

theorem feed_at (h : FVec Ideal S512x1024 .bf16) (a b : FVec Ideal S1024x1024 .bf16) (r : Fin 512) (d : Fin 1024) :
    (feed h a b : FVec Ideal S512x1024 .f32) (ix2 r d)
      = ∑ f : Fin 1024, (max (∑ e : Fin 1024, (h (ix2 r e) * a (ix2 e f) : EReal)) 0 * max (∑ e : Fin 1024, (h (ix2 r e) * a (ix2 e f) : EReal)) 0 * b (ix2 f d) : EReal) := by
  pointwise [feed]

/-- A row of the kernel's block. -/
theorem tile_at (x : FVec Ideal S512x1024 .f32) (y gate : FVec Ideal S512x2048 .bf16) (gn : FVec Ideal S1x2048 .f32) (g : FVec Ideal S1x1024 .f32)
    (w0 : FVec Ideal S2048x1024 .bf16) (w1 : FVec Ideal S1024x4096 .bf16) (w2 : FVec Ideal S4096x1024 .bf16) (r : Fin 512) (d : Fin 1024) :
    (tileOut x y gate gn g w0 w1 w2 : FVec Ideal S512x1024 .f32) (ix2 r d)
      = rowOf (fun d => x (ix2 r d)) (fun k => y (ix2 r k)) (fun k => gate (ix2 r k)) (fun k => gn (ix2 0 k)) (fun k d => w0 (ix2 k d))
          (fun d => g (ix2 0 d)) (fun e f => w1 (ix2 e f)) (fun f d => w2 (ix2 f d)) d := by
  have hq : ∀ j : Fin 4, (feed (normed g (resid x y gate gn w0)) (upCols w1 j) (downRows w2 j) : FVec Ideal S512x1024 .f32) (ix2 r d)
      = ∑ f : Fin 1024, (hiddenOf (normOf (fun d => g (ix2 0 d)) (residOf (fun d => x (ix2 r d)) (fun k => y (ix2 r k)) (fun k => gate (ix2 r k)) (fun k => gn (ix2 0 k)) (fun k d => w0 (ix2 k d))))
          (fun e f => w1 (ix2 e f)) ⟨1024 * j.val + f.val, by omega⟩ * w2 (ix2 ⟨1024 * j.val + f.val, by omega⟩ d) : EReal) := by
    intro j
    rw [feed_at]
    refine Finset.sum_congr rfl fun f _ => ?_
    simp only [normed_at, upCols_at, downRows_at, resid_at]
    rfl
  unfold rowOf layerOf
  rw [sum_blocks (a := 4) (b := 1024) rfl, Fin.sum_univ_four, ← add_assoc, ← add_assoc, ← add_assoc]
  rw [← hq 0, ← hq 1, ← hq 2, ← hq 3, ← resid_at]
  rfl
end

end Cert.OutProof
end
-- ==== Proof.OutFinal.lean ====
module

public import proofs.«01_k».proof.Proof.OutFrame
public import proofs.«01_k».proof.Proof.OutValue

@[expose] public section

set_option maxRecDepth 16384

noncomputable section

namespace Cert.OutProof

open Cert.Kernel2Ideal Cert.Kernel2Ideal.Gen Idealize.ShloMosaic Idealize.ShloMosaic.TcCoe Idealize.SL.Sem Idealize.ShloMosaic.Tactic

variable (m : (ℓ : Loc nD τ sig) → Buf (Elt Ideal) ℓ) (c : Dev nD)

/-! ## The arguments' entries -/

def xA (n : Fin 16384) (d : Fin 1024) : EReal := (m ((c : Thread nD τ).loc main_arg0) : FVec Ideal S16384x1024 .f32) (ix2 n d)
def yA (n : Fin 16384) (k : Fin 2048) : EReal := (m ((c : Thread nD τ).loc main_arg1) : FVec Ideal S16384x2048 .bf16) (ix2 n k)
def gateA (n : Fin 16384) (k : Fin 2048) : EReal := (m ((c : Thread nD τ).loc main_arg2) : FVec Ideal S16384x2048 .bf16) (ix2 n k)
def gnA (k : Fin 2048) : EReal := (m ((c : Thread nD τ).loc main_arg3) : FVec Ideal S1x2048 .f32) (ix2 0 k)
def woA (k : Fin 2048) (d : Fin 1024) : EReal := (m ((c : Thread nD τ).loc main_arg4) : FVec Ideal S1x2048x1024 .f32) (ix3 0 k d)
def gA (d : Fin 1024) : EReal := (m ((c : Thread nD τ).loc main_arg5) : FVec Ideal S2x1024 .f32) (ix2 1 d)
def w1A (e : Fin 1024) (f : Fin 4096) : EReal := (m ((c : Thread nD τ).loc main_arg6) : FVec Ideal S2x1024x4096 .f32) (ix3 1 e f)
def w2A (f : Fin 4096) (d : Fin 1024) : EReal := (m ((c : Thread nD τ).loc main_arg7) : FVec Ideal S2x4096x1024 .f32) (ix3 1 f d)

/-- The result: each row from its own row of the stream, of the retention output and of the gate. -/
def goal : FVec Ideal S16384x1024 .f32 := fun i =>
  rowOf (xA m c (i 0)) (yA m c (i 0)) (gateA m c (i 0)) (gnA m c) (woA m c) (gA m c) (w1A m c) (w2A m c) (i 1)

/-! ## The windows' blocks, read in the arguments -/

theorem at0 : ∀ t : Fin cfg0.N, win0_0.index t 0 = t.val - 8 ∧ win0_0.index t 1 = 0 :=
  (by decide +kernel : ∀ t : Fin grid0.N, win0_0.index t 0 = t.val - 8 ∧ win0_0.index t 1 = 0)
theorem at1 : ∀ t : Fin cfg0.N, win0_1.index t 0 = t.val - 8 ∧ win0_1.index t 1 = 0 :=
  (by decide +kernel : ∀ t : Fin grid0.N, win0_1.index t 0 = t.val - 8 ∧ win0_1.index t 1 = 0)
theorem at2 : ∀ t : Fin cfg0.N, win0_2.index t 0 = t.val - 8 ∧ win0_2.index t 1 = 0 :=
  (by decide +kernel : ∀ t : Fin grid0.N, win0_2.index t 0 = t.val - 8 ∧ win0_2.index t 1 = 0)
theorem at4 : ∀ t : Fin cfg0.N, win0_4.index t 0 = 0 ∧ win0_4.index t 1 = min t.val 7 ∧ win0_4.index t 2 = 0 :=
  (by decide +kernel : ∀ t : Fin grid0.N, win0_4.index t 0 = 0 ∧ win0_4.index t 1 = min t.val 7 ∧ win0_4.index t 2 = 0)
theorem at6 : ∀ t : Fin cfg0.N, win0_6.index t 0 = 1 ∧ win0_6.index t 1 = min t.val 7 ∧ win0_6.index t 2 = 0 :=
  (by decide +kernel : ∀ t : Fin grid0.N, win0_6.index t 0 = 1 ∧ win0_6.index t 1 = min t.val 7 ∧ win0_6.index t 2 = 0)
theorem at7 : ∀ t : Fin cfg0.N, win0_7.index t 0 = 1 ∧ win0_7.index t 1 = min t.val 7 ∧ win0_7.index t 2 = 0 :=
  (by decide +kernel : ∀ t : Fin grid0.N, win0_7.index t 0 = 1 ∧ win0_7.index t 1 = min t.val 7 ∧ win0_7.index t 2 = 0)
theorem at8 : ∀ t : Fin cfg0.N, win0_8.index t 0 = t.val - 8 ∧ win0_8.index t 1 = 0 :=
  (by decide +kernel : ∀ t : Fin grid0.N, win0_8.index t 0 = t.val - 8 ∧ win0_8.index t 1 = 0)
theorem lt40 (t : Fin cfg0.N) : t.val < 40 := lt_of_lt_of_eq t.isLt N_0

/-- The row of the arrays a row of point `t`'s blocks is. -/
def rowAt (t : Fin cfg0.N) (r : Fin 512) : Fin 16384 := ⟨512 * (t.val - 8) + r.val, by have := lt40 t; omega⟩

theorem blk_x (t : Fin cfg0.N) (r : Fin 512) (d : Fin 1024) : (iblk m c 0 t : FVec Ideal S512x1024 .f32) (ix2 r d) = xA m c (rowAt t r) d := by
  unfold iblk xA
  rw [View.read_apply, ← V_main_arg0 m c]
  show V m c main_arg0 _ = V m c main_arg0 _
  congr 1
  funext a
  apply Fin.ext
  match a with
  | ⟨0, _⟩ => show win0_0.index t 0 * 512 + 1 * r.val = 512 * (t.val - 8) + r.val; rw [(at0 t).1]; omega
  | ⟨1, _⟩ => show win0_0.index t 1 * 1024 + 1 * d.val = d.val; rw [(at0 t).2]; omega

theorem blk_y (t : Fin cfg0.N) (r : Fin 512) (k : Fin 2048) : (iblk m c 1 t : FVec Ideal S512x2048 .bf16) (ix2 r k) = yA m c (rowAt t r) k := by
  unfold iblk yA
  rw [View.read_apply, ← V_main_arg1 m c]
  show V m c main_arg1 _ = V m c main_arg1 _
  congr 1
  funext a
  apply Fin.ext
  match a with
  | ⟨0, _⟩ => show win0_1.index t 0 * 512 + 1 * r.val = 512 * (t.val - 8) + r.val; rw [(at1 t).1]; omega
  | ⟨1, _⟩ => show win0_1.index t 1 * 2048 + 1 * k.val = k.val; rw [(at1 t).2]; omega

theorem blk_gate (t : Fin cfg0.N) (r : Fin 512) (k : Fin 2048) : (iblk m c 2 t : FVec Ideal S512x2048 .bf16) (ix2 r k) = gateA m c (rowAt t r) k := by
  unfold iblk gateA
  rw [View.read_apply, ← V_main_arg2 m c]
  show V m c main_arg2 _ = V m c main_arg2 _
  congr 1
  funext a
  apply Fin.ext
  match a with
  | ⟨0, _⟩ => show win0_2.index t 0 * 512 + 1 * r.val = 512 * (t.val - 8) + r.val; rw [(at2 t).1]; omega
  | ⟨1, _⟩ => show win0_2.index t 1 * 2048 + 1 * k.val = k.val; rw [(at2 t).2]; omega

theorem blk_gn (t : Fin cfg0.N) (k : Fin 2048) : (iblk m c 3 t : FVec Ideal S1x2048 .f32) (ix2 0 k) = gnA m c k := by
  unfold iblk gnA
  rw [View.read_apply, ← V_main_arg3 m c]
  show V m c main_arg3 _ = V m c main_arg3 _
  congr 1
  funext a
  apply Fin.ext
  match a with
  | ⟨0, _⟩ => show win0_3.index t 0 * 1 + 1 * 0 = 0; rw [show win0_3.index t 0 = 0 from rfl]
  | ⟨1, _⟩ => show win0_3.index t 1 * 2048 + 1 * k.val = k.val; rw [show win0_3.index t 1 = 0 from rfl]; omega

theorem blk_g (t : Fin cfg0.N) (d : Fin 1024) : (iblk m c 5 t : FVec Ideal S1x1024 .f32) (ix2 0 d) = gA m c d := by
  have h : (V m c main_v2 : FVec Ideal S1x1024 .f32) (ix2 0 d) = gA m c d := by
    entry_read
    pointwise
    rfl
  rw [← h]
  unfold iblk
  rw [View.read_apply]
  show V m c main_v2 _ = V m c main_v2 _
  congr 1
  funext a
  apply Fin.ext
  match a with
  | ⟨0, _⟩ => show win0_5.index t 0 * 1 + 1 * 0 = 0; rw [show win0_5.index t 0 = 0 from rfl]
  | ⟨1, _⟩ => show win0_5.index t 1 * 1024 + 1 * d.val = d.val; rw [show win0_5.index t 1 = 0 from rfl]; omega

/-- The slabs at a casting point. -/
theorem slab0_at (k : Fin 8) (x : Fin 256) (d : Fin 1024) : (slab0 m c (pt k) (ix2 x d) : EReal) = woA m c ⟨256 * k.val + x.val, by omega⟩ d := by
  have h : (slab0 m c (pt k) (ix2 x d) : EReal) = (iblk m c 4 (pt k) : FVec Ideal S1x256x1024 .f32) (ix3 0 x d) := by
    unfold slab0 cast0
    generalize (iblk m c 4 (pt k) : Vec Ideal S1x256x1024 .f32) = b
    pointwise [k0_pay1]
  rw [h]
  unfold iblk woA
  rw [View.read_apply, ← V_main_arg4 m c]
  show V m c main_arg4 _ = V m c main_arg4 _
  congr 1
  funext a
  apply Fin.ext
  have hk := k.isLt
  match a with
  | ⟨0, _⟩ => show win0_4.index (pt k) 0 * 1 + 1 * 0 = 0; rw [(at4 _).1]
  | ⟨1, _⟩ => show win0_4.index (pt k) 1 * 256 + 1 * x.val = 256 * k.val + x.val; rw [(at4 _).2.1]; show min k.val 7 * 256 + 1 * x.val = _; omega
  | ⟨2, _⟩ => show win0_4.index (pt k) 2 * 1024 + 1 * d.val = d.val; rw [(at4 _).2.2]; omega

theorem slab1_at (k : Fin 8) (x : Fin 128) (f : Fin 4096) : (slab1 m c (pt k) (ix2 x f) : EReal) = w1A m c ⟨128 * k.val + x.val, by omega⟩ f := by
  have h : (slab1 m c (pt k) (ix2 x f) : EReal) = (iblk m c 6 (pt k) : FVec Ideal S1x128x4096 .f32) (ix3 0 x f) := by
    unfold slab1 cast1
    generalize (iblk m c 6 (pt k) : Vec Ideal S1x128x4096 .f32) = b
    pointwise [k0_pay2]
  rw [h]
  unfold iblk w1A
  rw [View.read_apply, ← V_main_arg6 m c]
  show V m c main_arg6 _ = V m c main_arg6 _
  congr 1
  funext a
  apply Fin.ext
  have hk := k.isLt
  match a with
  | ⟨0, _⟩ => show win0_6.index (pt k) 0 * 1 + 1 * 0 = 1; rw [(at6 _).1]
  | ⟨1, _⟩ => show win0_6.index (pt k) 1 * 128 + 1 * x.val = 128 * k.val + x.val; rw [(at6 _).2.1]; show min k.val 7 * 128 + 1 * x.val = _; omega
  | ⟨2, _⟩ => show win0_6.index (pt k) 2 * 4096 + 1 * f.val = f.val; rw [(at6 _).2.2]; omega

theorem slab2_at (k : Fin 8) (x : Fin 512) (d : Fin 1024) : (slab2 m c (pt k) (ix2 x d) : EReal) = w2A m c ⟨512 * k.val + x.val, by omega⟩ d := by
  have h : (slab2 m c (pt k) (ix2 x d) : EReal) = (iblk m c 7 (pt k) : FVec Ideal S1x512x1024 .f32) (ix3 0 x d) := by
    unfold slab2 cast2
    generalize (iblk m c 7 (pt k) : Vec Ideal S1x512x1024 .f32) = b
    pointwise [k0_pay3]
  rw [h]
  unfold iblk w2A
  rw [View.read_apply, ← V_main_arg7 m c]
  show V m c main_arg7 _ = V m c main_arg7 _
  congr 1
  funext a
  apply Fin.ext
  have hk := k.isLt
  match a with
  | ⟨0, _⟩ => show win0_7.index (pt k) 0 * 1 + 1 * 0 = 1; rw [(at7 _).1]
  | ⟨1, _⟩ => show win0_7.index (pt k) 1 * 512 + 1 * x.val = 512 * k.val + x.val; rw [(at7 _).2.1]; show min k.val 7 * 512 + 1 * x.val = _; omega
  | ⟨2, _⟩ => show win0_7.index (pt k) 2 * 1024 + 1 * d.val = d.val; rw [(at7 _).2.2]; omega

/-- The kept weights are the arguments'. -/
theorem kept0_at (k : Fin 2048) (d : Fin 1024) : (kept0 m c (ix2 k d) : EReal) = woA m c k d :=
  (slab0_at m c ⟨k.val / 256, by omega⟩ ⟨k.val % 256, by omega⟩ d).trans
    (congrArg (fun k => woA m c k d) (Fin.ext (show 256 * (k.val / 256) + k.val % 256 = k.val by omega)))

theorem kept1_at (e : Fin 1024) (f : Fin 4096) : (kept1 m c (ix2 e f) : EReal) = w1A m c e f :=
  (slab1_at m c ⟨e.val / 128, by omega⟩ ⟨e.val % 128, by omega⟩ f).trans
    (congrArg (fun k => w1A m c k f) (Fin.ext (show 128 * (e.val / 128) + e.val % 128 = e.val by omega)))

theorem kept2_at (f : Fin 4096) (d : Fin 1024) : (kept2 m c (ix2 f d) : EReal) = w2A m c f d :=
  (slab2_at m c ⟨f.val / 512, by omega⟩ ⟨f.val % 512, by omega⟩ d).trans
    (congrArg (fun k => w2A m c k d) (Fin.ext (show 512 * (f.val / 512) + f.val % 512 = f.val by omega)))

/-- A computing point's block of the result. -/
theorem outBlk_at (t : Fin cfg0.N) (r : Fin 512) (d : Fin 1024) : (outBlk m c t (ix2 r d) : EReal) = goal m c (ix2 (rowAt t r) d) := by
  unfold outBlk
  refine (tile_at _ _ _ _ _ _ _ _ r d).trans ?_
  simp only [blk_x, blk_y, blk_gate, blk_gn, blk_g, kept0_at, kept1_at, kept2_at]
  rfl

theorem flushed_goal (t : Fin cfg0.N) : (dats m 0 c).flushed 8 t = ((cfg0.win 8).blk t).view.read (Elt Ideal) (goal m c) := by
  refine (dats_after8 m c t).trans ?_
  funext y
  have hy : y = ix2 (y 0) (y 1) := by
    funext a
    match a with
    | ⟨0, _⟩ => rfl
    | ⟨1, _⟩ => rfl
  rw [View.read_apply]
  refine (congrArg _ hy).trans ((outBlk_at m c t (y 0) (y 1)).trans ?_)
  show goal m c _ = goal m c _
  congr 1
  funext a
  apply Fin.ext
  match a with
  | ⟨0, _⟩ => show 512 * (t.val - 8) + (y 0).val = win0_8.index t 0 * 512 + 1 * (y 0).val; rw [(at8 t).1]; omega
  | ⟨1, _⟩ => show (y 1).val = win0_8.index t 1 * 1024 + 1 * (y 1).val; rw [(at8 t).2]; omega

/-- The kernel's result, as a whole array. -/
theorem final_goal : (dats m 0 c).arrAt 8 cfg0.N = goal m c := by
  refine (dats m 0 c).arrAt_eq_of_cover 8 (goal m c) (fun t _ => flushed_goal m c t) fun y => ?_
  have h0 : (y 0).val < 16384 := (y 0).isLt
  have h1 : (y 1).val < 1024 := (y 1).isLt
  have hN : (y 0).val / 512 + 8 < cfg0.N := by
    rw [show cfg0.N = 40 from N_0]
    omega
  refine ⟨⟨(y 0).val / 512 + 8, hN⟩, (flush_out _).mpr (by simp only; omega), ?_⟩
  have h := ((cfg0.win 8).blk ⟨(y 0).val / 512 + 8, hN⟩).view.emb_mem_set (ix2 (⟨(y 0).val % 512, by omega⟩ : Fin 512) (⟨(y 1).val, h1⟩ : Fin 1024))
  refine (congrArg (· ∈ ((cfg0.win 8).blk ⟨(y 0).val / 512 + 8, hN⟩).view.set) (funext fun a => Fin.ext ?_)).mp h
  match a with
  | ⟨0, _⟩ => show win0_8.index ⟨(y 0).val / 512 + 8, hN⟩ 0 * 512 + 1 * ((y 0).val % 512) = (y 0).val; rw [(at8 _).1]; simp only; omega
  | ⟨1, _⟩ => show win0_8.index ⟨(y 0).val / 512 + 8, hN⟩ 1 * 1024 + 1 * (y 1).val = (y 1).val; rw [(at8 _).2]; omega

end Cert.OutProof
end
-- ==== Proof.OutRef.lean ====
module

public import proofs.«01_k».proof.Proof.OutValue
public import proofs.«01_k».proof.Proof.Gen.Reference2Ideal.Read

@[expose] public section

set_option maxRecDepth 16384

noncomputable section

namespace Cert.OutProof

open Cert.Reference2Ideal Cert.Reference2Ideal.Gen Cert.Reference2Ideal.Read Cert.Layer Idealize.ShloMosaic Idealize.ShloMosaic.TcCoe Idealize.SL.Sem Idealize.ShloMosaic.Tactic

variable (x0 : FVec Ideal S16384x1024 .f32) (x1 x2 : FVec Ideal S16384x2048 .bf16) (x3 : FVec Ideal S1x2048 .f32) (x4 : FVec Ideal S1x2048x1024 .f32)
  (x5 : FVec Ideal S2x1024 .f32) (x6 : FVec Ideal S2x1024x4096 .f32) (x7 : FVec Ideal S2x4096x1024 .f32)

theorem ref_y (n : Fin 16384) (j : Fin 8) (l : Fin 256) : (val_main_v1 (F := Ideal) x1 (ix3 n j l) : EReal) = x1 (ix2 n (lane j l)) := by
  pointwise [val_main_v1, val_main_v0]
  refine congrArg x1 (congrArg (ix2 n) (Fin.ext ?_))
  simp only [lane]
  omega

theorem ref_mean (n : Fin 16384) (j : Fin 8) :
    (val_main_v5 (F := Ideal) x1 (ix3 n j 0) : EReal) = Ideal.div (∑ l : Fin 256, (x1 (ix2 n (lane j l)) : EReal)) (Ideal.ofBits .f32 0x43800000#32) := by
  have h : (val_main_v2 (F := Ideal) x1 (ix2 n j) : EReal) = ∑ l : Fin 256, (x1 (ix2 n (lane j l)) : EReal) := by
    rw [val_main_v2_apply]
    pointwise [val_main_cst]
    refine Finset.sum_congr rfl fun l _ => ?_
    rw [show idx_main_v2 (ix2 n j) l = ix3 n j l from funext fun a => match a with | ⟨0, _⟩ => rfl | ⟨1, _⟩ => rfl | ⟨2, _⟩ => rfl]
    exact ref_y x1 n j l
  rw [← h]
  pointwise [val_main_v5, val_main_v3, val_main_v4, val_main_cst_0]

theorem ref_dev (n : Fin 16384) (j : Fin 8) (l : Fin 256) :
    (val_main_v7 (F := Ideal) x1 (ix3 n j l) : EReal) = x1 (ix2 n (lane j l)) - Ideal.div (∑ l : Fin 256, (x1 (ix2 n (lane j l)) : EReal)) (Ideal.ofBits .f32 0x43800000#32) := by
  rw [← ref_mean, ← ref_y x1 n j l]
  pointwise [val_main_v7, val_main_v6]

theorem ref_head (n : Fin 16384) (j : Fin 8) (l : Fin 256) :
    (val_main_v19 (F := Ideal) x1 (ix3 n j l) : EReal) = headOf (fun l => x1 (ix2 n (lane j l))) l := by
  have h : (val_main_v9 (F := Ideal) x1 (ix2 n j) : EReal) = ∑ l : Fin 256, (val_main_v7 (F := Ideal) x1 (ix3 n j l) * val_main_v7 (F := Ideal) x1 (ix3 n j l) : EReal) := by
    rw [val_main_v9_apply]
    pointwise [val_main_cst_1]
    refine Finset.sum_congr rfl fun l _ => ?_
    rw [show idx_main_v9 (ix2 n j) l = ix3 n j l from funext fun a => match a with | ⟨0, _⟩ => rfl | ⟨1, _⟩ => rfl | ⟨2, _⟩ => rfl]
    rfl
  have h14 : (val_main_v14 (F := Ideal) x1 (ix3 n j l) : EReal) = val_main_v7 (F := Ideal) x1 (ix3 n j l) := by
    pointwise [val_main_v14, val_main_v13, val_main_v7, val_main_v6]
  have h17 : (val_main_v17 (F := Ideal) x1 (ix3 n j 0) : EReal) = Ideal.rsqrt (Ideal.div (val_main_v9 (F := Ideal) x1 (ix2 n j)) (Ideal.ofBits .f32 0x43800000#32) + Ideal.ofBits .f32 0x3727C5AC#32) := by
    pointwise [val_main_v17, val_main_v16, val_main_v15, val_main_v12, val_main_v10, val_main_v11, val_main_cst_2, val_main_cst_3]
  have h18 : (val_main_v18 (F := Ideal) x1 (ix3 n j l) : EReal) = val_main_v17 (F := Ideal) x1 (ix3 n j 0) := by
    pointwise [val_main_v18]
  unfold headOf
  dsimp only
  simp only [← ref_dev]
  rw [← h, ← h17, ← h18, ← h14]
  rfl

theorem ref_mix (n : Fin 16384) (k : Fin 2048) :
    (val_main_v26 (F := Ideal) x1 x2 x3 (ix2 n k) : EReal) = mixOf (fun k => x1 (ix2 n k)) (fun k => x2 (ix2 n k)) (fun k => x3 (ix2 0 k)) k := by
  have h25 : (val_main_v25 (F := Ideal) x1 x3 (ix2 n k) : EReal) = val_main_v23 (F := Ideal) x1 x3 (ix3 n (laneHead k) (laneIn k)) := by
    rw [val_main_v25_apply]
    refine congrArg _ (funext fun a => Fin.ext ?_)
    match a with
    | ⟨0, _⟩ =>
      change (n.val * 2048 + k.val) / 2048 = n.val
      omega
    | ⟨1, _⟩ =>
      change (n.val * 2048 + k.val) / 256 % 8 = k.val / 256
      omega
    | ⟨2, _⟩ =>
      change (n.val * 2048 + k.val) % 256 = k.val % 256
      omega
  have h22 : (val_main_v22 (F := Ideal) x3 (ix3 n (laneHead k) (laneIn k)) : EReal) = x3 (ix2 0 k) := by
    pointwise [val_main_v22, val_main_v21, val_main_v20]
  unfold mixOf
  dsimp only
  rw [← ref_head, ← h22, mul_comm]
  change (x2 (ix2 n k) * val_main_v25 (F := Ideal) x1 x3 (ix2 n k) : EReal) = _
  rw [h25]
  rfl

theorem ref_resid (n : Fin 16384) (d : Fin 1024) :
    (val_main_v29 (F := Ideal) x0 x1 x2 x3 x4 (ix2 n d) : EReal)
      = residOf (fun d => x0 (ix2 n d)) (fun k => x1 (ix2 n k)) (fun k => x2 (ix2 n k)) (fun k => x3 (ix2 0 k)) (fun k d => x4 (ix3 0 k d)) d := by
  have h27 : ∀ k : Fin 2048, (val_main_v27 (F := Ideal) x4 (ix2 k d) : EReal) = x4 (ix3 0 k d) := by
    intro k
    pointwise [val_main_v27]
  unfold residOf
  rw [val_main_v29_apply, val_main_v28_apply]
  refine congrArg (fun s : EReal => x0 (ix2 n d) + s) (Finset.sum_congr rfl fun k _ => ?_)
  rw [show lidx_main_v28 (ix2 n d) k = ix2 n k from funext fun a => match a with | ⟨0, _⟩ => rfl | ⟨1, _⟩ => rfl,
    show ridx_main_v28 (ix2 n d) k = ix2 k d from funext fun a => match a with | ⟨0, _⟩ => rfl | ⟨1, _⟩ => rfl, ref_mix, h27]

theorem ref_norm (n : Fin 16384) (d : Fin 1024) :
    (val_main_v48 (F := Ideal) x0 x1 x2 x3 x4 x5 (ix2 n d) : EReal)
      = normOf (fun d => x5 (ix2 1 d)) (fun d => val_main_v29 (F := Ideal) x0 x1 x2 x3 x4 (ix2 n d)) d := by
  have h37 : (val_main_v37 (F := Ideal) x0 x1 x2 x3 x4 (ix1 n) : EReal)
      = ∑ d : Fin 1024, (val_main_v29 (F := Ideal) x0 x1 x2 x3 x4 (ix2 n d) * val_main_v29 (F := Ideal) x0 x1 x2 x3 x4 (ix2 n d) : EReal) := by
    rw [val_main_v37_apply]
    pointwise [val_main_cst_4]
    refine Finset.sum_congr rfl fun d _ => ?_
    rw [show idx_main_v37 (ix1 n) d = ix2 n d from funext fun a => match a with | ⟨0, _⟩ => rfl | ⟨1, _⟩ => rfl]
    rfl
  have h43 : (val_main_v43 (F := Ideal) x0 x1 x2 x3 x4 (ix2 n 0) : EReal)
      = Ideal.rsqrt (Ideal.div (val_main_v37 (F := Ideal) x0 x1 x2 x3 x4 (ix1 n)) (Ideal.ofBits .f32 0x44800000#32) + Ideal.ofBits .f32 0x358637BD#32) := by
    pointwise [val_main_v43, val_main_v42, val_main_v41, val_main_v40, val_main_v39, val_main_v38, val_main_cst_5, val_main_cst_6]
  have h44 : (val_main_v44 (F := Ideal) x0 x1 x2 x3 x4 (ix2 n d) : EReal) = val_main_v43 (F := Ideal) x0 x1 x2 x3 x4 (ix2 n 0) := by
    pointwise [val_main_v44]
  have h47 : (val_main_v47 (F := Ideal) x5 (ix2 n d) : EReal) = x5 (ix2 1 d) := by
    pointwise [val_main_v47, val_main_v46, val_main_v31, val_main_v30]
  unfold normOf
  dsimp only
  rw [← h37, ← h43, ← h44, ← h47]
  rfl

theorem ref_hidden (n : Fin 16384) (f : Fin 4096) :
    (val_main_v51 (F := Ideal) x0 x1 x2 x3 x4 x5 x6 (ix2 n f) : EReal)
      = hiddenOf (fun d => val_main_v48 (F := Ideal) x0 x1 x2 x3 x4 x5 (ix2 n d)) (fun e f => x6 (ix3 1 e f)) f := by
  have h33 : ∀ e : Fin 1024, (val_main_v33 (F := Ideal) x6 (ix2 e f) : EReal) = x6 (ix3 1 e f) := by
    intro e
    pointwise [val_main_v33, val_main_v32]
  have h49 : (val_main_v49 (F := Ideal) x0 x1 x2 x3 x4 x5 x6 (ix2 n f) : EReal)
      = ∑ e : Fin 1024, (val_main_v48 (F := Ideal) x0 x1 x2 x3 x4 x5 (ix2 n e) * x6 (ix3 1 e f) : EReal) := by
    rw [val_main_v49_apply]
    refine Finset.sum_congr rfl fun e _ => ?_
    rw [show lidx_main_v49 (ix2 n f) e = ix2 n e from funext fun a => match a with | ⟨0, _⟩ => rfl | ⟨1, _⟩ => rfl,
      show ridx_main_v49 (ix2 n f) e = ix2 e f from funext fun a => match a with | ⟨0, _⟩ => rfl | ⟨1, _⟩ => rfl, h33]
  have h50 : (val_main_v50 (F := Ideal) x0 x1 x2 x3 x4 x5 x6 (ix2 n f) : EReal) = max (val_main_v49 (F := Ideal) x0 x1 x2 x3 x4 x5 x6 (ix2 n f)) 0 := by
    pointwise [val_main_v50, val_main_call0_v0, val_main_call0_cst]
  unfold hiddenOf
  rw [← h49, ← h50]
  rfl

/-- A row of the reference's result. -/
theorem ref_at (n : Fin 16384) (d : Fin 1024) :
    (val_main_v53 (F := Ideal) x0 x1 x2 x3 x4 x5 x6 x7 (ix2 n d) : EReal)
      = rowOf (fun d => x0 (ix2 n d)) (fun k => x1 (ix2 n k)) (fun k => x2 (ix2 n k)) (fun k => x3 (ix2 0 k)) (fun k d => x4 (ix3 0 k d))
          (fun d => x5 (ix2 1 d)) (fun e f => x6 (ix3 1 e f)) (fun f d => x7 (ix3 1 f d)) d := by
  have h35 : ∀ f : Fin 4096, (val_main_v35 (F := Ideal) x7 (ix2 f d) : EReal) = x7 (ix3 1 f d) := by
    intro f
    pointwise [val_main_v35, val_main_v34]
  unfold rowOf layerOf
  rw [val_main_v53_apply, val_main_v52_apply, ref_resid]
  refine congrArg (fun s : EReal => residOf (fun d => x0 (ix2 n d)) (fun k => x1 (ix2 n k)) (fun k => x2 (ix2 n k)) (fun k => x3 (ix2 0 k)) (fun k d => x4 (ix3 0 k d)) d + s)
    (Finset.sum_congr rfl fun f _ => ?_)
  rw [show lidx_main_v52 (ix2 n d) f = ix2 n f from funext fun a => match a with | ⟨0, _⟩ => rfl | ⟨1, _⟩ => rfl,
    show ridx_main_v52 (ix2 n d) f = ix2 f d from funext fun a => match a with | ⟨0, _⟩ => rfl | ⟨1, _⟩ => rfl, ref_hidden, h35]
  simp only [ref_norm, ref_resid]

end Cert.OutProof
end
-- ==== Proof.OutClaim.lean ====
module

public import proofs.«01_k».proof.Defs
public import proofs.«01_k».proof.Proof.OutSame
public import proofs.«01_k».proof.Proof.OutFinal
public import proofs.«01_k».proof.Proof.OutRef
public import proofs.«01_k».proof.Proof.Gen.Reference2Ideal.Run
public import Idealize.ShloMosaic.Lib.ReduceAll

@[expose] public section

set_option maxRecDepth 65536

noncomputable section

namespace Cert.OutProof

open Idealize.ShloMosaic Idealize.ShloMosaic.TcCoe Idealize.SL.Sem Idealize.ShloMosaic.Tactic

/-- The kernel terminates and leaves its arguments and counters as they were, at exact values, -/
theorem frame_pi2 : Cert.quiescent_Kernel2Ideal := fun m ρ _ => frame_any m ρ

/-- and at machine words, the text being the same. -/
theorem frame_p2 : Cert.quiescent_Kernel2 := fun m ρ _ => by
  have h := frame_any (F := Bits) m ρ
  rw [← main_same, ← defs_same] at h
  exact h

theorem frame_ri2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Nothing is replaced. -/
theorem preserves2 : Cert.preserves_Kernel2_Kernel2Ideal := trivial

/-- The result is the reference's, whatever the arguments. -/
theorem algebraic2 : Cert.algebraic_Kernel2Ideal_Reference2Ideal := by
  intro m ρ m' ρ' hpre hagree
  refine ⟨fun c => goal m c, ?_, ?_⟩
  · exact (θ_run Cert.Kernel2Ideal.defs _ _).mono (fun _ h c => ⟨(h.1 c).trans (final_goal m c), h.2.1 c⟩)
      (θ_run_and ((θ_run Cert.Kernel2Ideal.defs _ _).mono (fun _ h c => (h.1 c).1 8) (run_quiescent (F := Ideal) m ρ)) (frame_any (F := Ideal) m ρ))
  · refine (θ_run Cert.Reference2Ideal.defs _ _).mono (fun _ h c => ⟨(h c).1.trans ?_, (h c).2⟩) (Cert.Reference2Ideal.Value.run (F := Ideal) m' ρ')
    obtain ⟨e0, e1, e2, e3, e4, e5, e6, e7⟩ := hagree c
    rw [Cert.Reference2Ideal.Read.val_main_v53_eq, e0, e1, e2, e3, e4, e5, e6, e7]
    funext y
    have hy : y = ix2 (y 0) (y 1) := by
      funext a
      match a with
      | ⟨0, _⟩ => rfl
      | ⟨1, _⟩ => rfl
    exact (congrArg _ hy).trans ((ref_at _ _ _ _ _ _ _ _ (y 0) (y 1)).trans rfl)

end Cert.OutProof
end
-- ==== Proof.MixRunA.lean ====
module

public import proofs.«01_k».proof.Proof.Gen.Kernel3Ideal.Frame
public import proofs.«01_k».proof.Proof.Gen.Kernel3Ideal.Skeleton

@[expose] public section

set_option maxRecDepth 16384

noncomputable section

namespace Cert.MixProof

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- A casting point: from the three slabs and the three scratches, to the scratches with the cast slabs written. -/
def castRun (c : Dev nD) (i : grid0.Coords) (h1 : k0_cond1 i = 1#1) (h2 : ¬ k0_cond2 i = 1#1) (arg1 : Memref sig .tc .vmem S1024x1024 .f32) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1x128x1024 .f32) (harg4 : arg4.IsWhole) (arg5 : Memref sig .tc .vmem S1x1024 .f32) (harg5 : arg5.IsWhole) (arg6 : Memref sig .tc .vmem S1x128x4096 .f32) (harg6 : arg6.IsWhole) (arg7 : Memref sig .tc .vmem S1x512x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x4096 .bf16) (harg10 : arg10.IsWhole) (arg11 : Memref sig .tc .vmem S4096x1024 .bf16) (harg11 : arg11.IsWhole)
    (x3 : Vec F S1x128x1024 .f32) (x5 : Vec F S1x128x4096 .f32) (x6 : Vec F S1x512x1024 .f32)
    (w0 : Vec F S1024x1024 .bf16) (w1 : Vec F S1024x4096 .bf16) (w2 : Vec F S4096x1024 .bf16) :
    { L : List (View.Piece (Elt F) S1024x1024 .bf16) × List (View.Piece (Elt F) S1024x4096 .bf16) × List (View.Piece (Elt F) S4096x1024 .bf16) //
      ∀ (E : Set ℕ) (K : PUnit → sProp 𝕄),
        iprop(owns (c : Thread nD τ) arg4 fullShare x3 ∗ owns (c : Thread nD τ) arg6 fullShare x5 ∗ owns (c : Thread nD τ) arg7 fullShare x6
            ∗ owns (c : Thread nD τ) arg9 fullShare w0 ∗ owns (c : Thread nD τ) arg10 fullShare w1 ∗ owns (c : Thread nD τ) arg11 fullShare w2
            ∗ (iprop(owns (c : Thread nD τ) arg4 fullShare x3 ∗ owns (c : Thread nD τ) arg6 fullShare x5 ∗ owns (c : Thread nD τ) arg7 fullShare x6
              ∗ (arg9.view.loc (c : Thread nD τ) ↦[arg9.view.set]{fullShare} arg9.view.writes (Elt F) (harg9.unread w0) L.1)
              ∗ (arg10.view.loc (c : Thread nD τ) ↦[arg10.view.set]{fullShare} arg10.view.writes (Elt F) (harg10.unread w1) L.2.1)
              ∗ (arg11.view.loc (c : Thread nD τ) ↦[arg11.view.set]{fullShare} arg11.view.writes (Elt F) (harg11.unread w2) L.2.2)) -∗ K ⟨⟩))
          ⊢ wp frame (wpE (defs₀ (F := F)) Variants.none c none) E (cc0_outproj_mlp_even i arg1 harg1 arg2 harg2 arg3 harg3 arg4 harg4 arg5 harg5 arg6 harg6 arg7 harg7 arg8 harg8 arg9 harg9 arg10 harg10 arg11 harg11) K } := by
  refine ⟨⟨?_, ?_, ?_⟩, fun E K => ?run⟩
  case run =>
    simp only [cc0_outproj_mlp_even_eq_skeleton]; unfold cc0_outproj_mlp_even_skel
    unfold owns
    iintro ⟨⟨%f3, %hf3, H3⟩, ⟨%f5, %hf5, H5⟩, ⟨%f6, %hf6, H6⟩, ⟨%g0, %hg0, G0⟩, ⟨%g1, %hg1, G1⟩, ⟨%g2, %hg2, G2⟩, Hk⟩
    obtain rfl := harg4.eq_unread hf3; obtain rfl := harg6.eq_unread hf5; obtain rfl := harg7.eq_unread hf6
    obtain rfl := harg9.eq_unread hg0; obtain rfl := harg10.eq_unread hg1; obtain rfl := harg11.eq_unread hg2
    sl_exec (disch := first | sl_exact h1 | sl_exact h2)
    sl_step
    iapply Hk
    isplitl [H3]
    · iexists _; isplitr; · ipureintro; exact harg4.read_unread _
      iexact H3
    isplitl [H5]
    · iexists _; isplitr; · ipureintro; exact harg6.read_unread _
      iexact H5
    isplitl [H6]
    · iexists _; isplitr; · ipureintro; exact harg7.read_unread _
      iexact H6
    isplitl [G0]; · iexact G0
    isplitl [G1]; · iexact G1
    iexact G2

end Cert.MixProof
end
-- ==== Proof.MixRunB.lean ====
module

public import proofs.«01_k».proof.Proof.MixRunA

@[expose] public section

set_option maxRecDepth 16384

noncomputable section

namespace Cert.MixProof

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in
/-- A computing point: from the row blocks, the gains and the cast weights, to the result's block stored whole. -/
def tileRun (c : Dev nD) (i : grid0.Coords) (h1 : ¬ k0_cond1 i = 1#1) (h2 : k0_cond2 i = 1#1) (arg1 : Memref sig .tc .vmem S1024x1024 .f32) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1x128x1024 .f32) (harg4 : arg4.IsWhole) (arg5 : Memref sig .tc .vmem S1x1024 .f32) (harg5 : arg5.IsWhole) (arg6 : Memref sig .tc .vmem S1x128x4096 .f32) (harg6 : arg6.IsWhole) (arg7 : Memref sig .tc .vmem S1x512x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x4096 .bf16) (harg10 : arg10.IsWhole) (arg11 : Memref sig .tc .vmem S4096x1024 .bf16) (harg11 : arg11.IsWhole)
    (x0 : Vec F S1024x1024 .f32) (x1 x2 : Vec F S1024x512 .bf16) (x4 : Vec F S1x1024 .f32)
    (w0 : Vec F S1024x1024 .bf16) (w1 : Vec F S1024x4096 .bf16) (w2 : Vec F S4096x1024 .bf16) :
    { L : List (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg5 fullShare x4
            ∗ owns (c : Thread nD τ) arg9 fullShare w0 ∗ owns (c : Thread nD τ) arg10 fullShare w1 ∗ owns (c : Thread nD τ) arg11 fullShare w2
            ∗ (∃ d, owns (c : Thread nD τ) arg8 fullShare d)
            ∗ (iprop(owns (c : Thread nD τ) arg1 fullShare x0 ∗ owns (c : Thread nD τ) arg2 fullShare x1 ∗ owns (c : Thread nD τ) arg3 fullShare x2
              ∗ owns (c : Thread nD τ) arg5 fullShare x4
              ∗ owns (c : Thread nD τ) arg9 fullShare w0 ∗ owns (c : Thread nD τ) arg10 fullShare w1 ∗ owns (c : Thread nD τ) arg11 fullShare w2
              ∗ (∃ f, arg8.view.loc (c : Thread nD τ) ↦[arg8.view.set]{fullShare} arg8.view.writes (Elt F) f L)) -∗ K ⟨⟩))
          ⊢ wp frame (wpE (defs₀ (F := F)) Variants.none c none) E (cc0_outproj_mlp_even i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0_outproj_mlp_even_eq_skeleton]; unfold cc0_outproj_mlp_even_skel
    simp only [k0_part1_eq_skeleton]
    unfold owns
    iintro ⟨⟨%f0, %hf0, H0⟩, ⟨%f1, %hf1, H1⟩, ⟨%f2, %hf2, H2⟩, ⟨%f4, %hf4, H4⟩, ⟨%g0, %hg0, G0⟩, ⟨%g1, %hg1, G1⟩, ⟨%g2, %hg2, G2⟩, ⟨%d7, %f7, -, H7⟩, Hk⟩
    obtain rfl := harg1.eq_unread hf0; obtain rfl := harg2.eq_unread hf1; obtain rfl := harg3.eq_unread hf2
    obtain rfl := harg5.eq_unread hf4
    obtain rfl := harg9.eq_unread hg0; obtain rfl := harg10.eq_unread hg1; obtain rfl := harg11.eq_unread hg2
    sl_exec (disch := first | sl_exact h1 | sl_exact h2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]
    · iexists _; isplitr; · ipureintro; exact harg5.read_unread _
      iexact H4
    isplitl [G0]
    · iexists _; isplitr; · ipureintro; exact harg9.read_unread _
      iexact G0
    isplitl [G1]
    · iexists _; isplitr; · ipureintro; exact harg10.read_unread _
      iexact G1
    isplitl [G2]
    · iexists _; isplitr; · ipureintro; exact harg11.read_unread _
      iexact G2
    iexists _; iexact H7

end Cert.MixProof
end
-- ==== Proof.MixStep.lean ====
module

public import proofs.«01_k».proof.Proof.MixRunB
public import proofs.«01_k».proof.Proof.LayerStep

@[expose] public section

set_option maxRecDepth 16384

noncomputable section

namespace Cert.MixProof

open Cert.Kernel3Ideal Cert.Kernel3Ideal.Gen Cert.Layer Idealize.ShloMosaic Idealize.ShloMosaic.TcCoe Idealize.ShloMosaic.Tactic
open Idealize.SL.Sem

variable {F : FTy → Type} [FloatOps F]

/-- A slab of the output weights, cast. -/
def cast0 (x3 : Vec F S1x128x1024 .f32) : Vec F S128x1024 .bf16 :=
  k0_pay1 (View.ld (Val := Elt F) (e' := .f32) x3 (Rect.unit ![0, 0, 0] ![1, 128, 1024] (fun a => by fin_cases a <;> simp)))

/-- A slab of the weights into the hidden units, cast. -/
def cast1 (x5 : Vec F S1x128x4096 .f32) : Vec F S128x4096 .bf16 :=
  k0_pay2 (View.ld (Val := Elt F) (e' := .f32) x5 (Rect.unit ![0, 0, 0] ![1, 128, 4096] (fun a => by fin_cases a <;> simp)))

/-- A slab of the weights out of the hidden units, cast. -/
def cast2 (x6 : Vec F S1x512x1024 .f32) : Vec F S512x1024 .bf16 :=
  k0_pay3 (View.ld (Val := Elt F) (e' := .f32) x6 (Rect.unit ![0, 0, 0] ![1, 512, 1024] (fun a => by fin_cases a <;> simp)))

section
variable (x0 : Vec F S1024x1024 .f32) (x1 x2 : Vec F S1024x512 .bf16) (x4 : Vec F S1x1024 .f32)
  (w0 : Vec F S1024x1024 .bf16) (w1 : Vec F S1024x4096 .bf16) (w2 : Vec F S4096x1024 .bf16)

/-- The residual rows after the mixing layer. -/
def resid : FVec F S1024x1024 .f32 :=
  let cat : FVec F S1024x1024 .bf16 := concatenate S1024x1024 1
    [⟨S1024x512, View.ld (Val := Elt F) (e' := .bf16) x1 (Rect.unit ![0, 0] ![1024, 512] (fun a => by fin_cases a <;> simp))⟩,
     ⟨S1024x512, View.ld (Val := Elt F) (e' := .bf16) x2 (Rect.unit ![0, 0] ![1024, 512] (fun a => by fin_cases a <;> simp))⟩]
    concatenates_S1024x512_S1024x512_S1024x1024_d1
  addf (View.ld (Val := Elt F) (e' := .f32) x0 (Rect.unit ![0, 0] ![1024, 1024] (fun a => by fin_cases a <;> simp)))
    (matmul dot_S1024x1024_S1024x1024_S1024x1024_1_0_0_1_n_n none cat
      (View.ld (Val := Elt F) (e' := .bf16) w0 (Rect.unit ![0, 0] ![1024, 1024] (fun a => by fin_cases a <;> simp))) (constant S1024x1024 .f32 0x00000000#32))

/-- Rows normalised by their mean square. -/
def normed (v : FVec F S1024x1024 .f32) : FVec F S1024x1024 .bf16 :=
  let ms : FVec F S1024x1 .f32 := divf (shapeCast S1024x1 (multiReduction .add [1] S1024 (mulf v v) 0x00000000#32 reduces_S1024x1024_S1024 (.inl rfl) rfl) shapeCasts_S1024_S1024x1)
    (broadcast S1024x1 (Scalar.ofBits .f32 0x44800000#32))
  let r : FVec F S1024x1 .f32 := rsqrt (addf ms (broadcast S1024x1 (Scalar.ofBits .f32 0x358637BD#32)))
  truncf .bf16 (mulf (mulf v (broadcastTo S1024x1024 r broadcasts_S1024x1_S1024x1024))
    (broadcastTo S1024x1024 (shapeCast S1x1024 (View.ld (Val := Elt F) (e' := .f32) x4 (Rect.unit ![0, 0] ![1, 1024] (fun a => by fin_cases a <;> simp))) shapeCasts_S1x1024_S1x1024) broadcasts_S1x1024_S1024x1024)) bitsLt_bf16_f32

/-- A quarter of the hidden units' part of the feed-forward layer. -/
def feed (h : FVec F S1024x1024 .bf16) (a b : Vec F S1024x1024 .bf16) : FVec F S1024x1024 .f32 :=
  let u : FVec F S1024x1024 .f32 := maximumf (matmul dot_S1024x1024_S1024x1024_S1024x1024_1_0_0_1_n_n none h a (constant S1024x1024 .f32 0x00000000#32))
    (broadcast S1024x1024 (Scalar.ofBits .f32 0x00000000#32))
  matmul dot_S1024x1024_S1024x1024_S1024x1024_1_0_0_1_n_n none (truncf .bf16 (mulf u u) bitsLt_bf16_f32) b (constant S1024x1024 .f32 0x00000000#32)

/-- A block of the result, from its rows and the cast weights. -/
def tileOut : FVec F S1024x1024 .f32 :=
  let v := resid x0 x1 x2 w0
  let h := normed x4 v
  let q := fun j => feed h (upCols w1 j) (downRows w2 j)
  addf (addf (addf (addf v (q 0)) (q 1)) (q 2)) (q 3)

variable (c : Dev nD) (i : grid0.Coords) (arg1 : Memref sig .tc .vmem S1024x1024 .f32) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1x128x1024 .f32) (harg4 : arg4.IsWhole) (arg5 : Memref sig .tc .vmem S1x1024 .f32) (harg5 : arg5.IsWhole) (arg6 : Memref sig .tc .vmem S1x128x4096 .f32) (harg6 : arg6.IsWhole) (arg7 : Memref sig .tc .vmem S1x512x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x4096 .bf16) (harg10 : arg10.IsWhole) (arg11 : Memref sig .tc .vmem S4096x1024 .bf16) (harg11 : arg11.IsWhole)

set_option maxHeartbeats 4000000 in
/-- What a computing point stores: the block, whole. -/
theorem tile_pieces (h1 : ¬ k0_cond1 i = 1#1) (h2 : k0_cond2 i = 1#1) :
    (tileRun c i h1 h2 arg1 harg1 arg2 harg2 arg3 harg3 arg4 harg4 arg5 harg5 arg6 harg6 arg7 harg7 arg8 harg8 arg9 harg9 arg10 harg10 arg11 harg11
      x0 x1 x2 x4 w0 w1 w2).1 =
      [⟨Rect.unit (s := S1024x1024) ![0, 0] ![1024, 1024] (fun a => by fin_cases a <;> simp), tileOut x0 x1 x2 x4 w0 w1 w2⟩] := by
  unfold tileRun
  dsimp only
  sl_unfold_words
  simp only [View.readAt_eq_ld, harg1.read_unread, harg2.read_unread, harg3.read_unread, harg5.read_unread,
    harg9.read_unread, harg10.read_unread, harg11.read_unread]
  rfl

variable (x3 : Vec F S1x128x1024 .f32) (x5 : Vec F S1x128x4096 .f32) (x6 : Vec F S1x512x1024 .f32)

set_option maxHeartbeats 4000000 in
/-- What a casting point stores into the three kept weights. -/
theorem cast_pieces (h1 : k0_cond1 i = 1#1) (h2 : ¬ k0_cond2 i = 1#1) :
    (castRun c i h1 h2 arg1 harg1 arg2 harg2 arg3 harg3 arg4 harg4 arg5 harg5 arg6 harg6 arg7 harg7 arg8 harg8 arg9 harg9 arg10 harg10 arg11 harg11
      x3 x5 x6 w0 w1 w2).1 =
      ([⟨Rect.unit (s := S1024x1024) (k0_off1 i) S128x1024.size (k0_off1_inb i h1), cast0 x3⟩],
       [⟨Rect.unit (s := S1024x4096) (k0_off2 i) S128x4096.size (k0_off2_inb i h1), cast1 x5⟩],
       [⟨Rect.unit (s := S4096x1024) (k0_off3 i) S512x1024.size (k0_off3_inb i h1), cast2 x6⟩]) := by
  unfold castRun
  dsimp only
  sl_unfold_words
  simp only [View.readAt_eq_ld, harg4.read_unread, harg6.read_unread, harg7.read_unread]
  rfl
end

end Cert.MixProof
end
-- ==== Proof.MixFill.lean ====
module

public import proofs.«01_k».proof.Proof.MixStep
public import Idealize.ShloMosaic.Lib.Pointwise

@[expose] public section

set_option maxRecDepth 16384

noncomputable section

namespace Cert.MixProof

open Cert.Kernel3Ideal Cert.Kernel3Ideal.Gen Cert.Layer Idealize.ShloMosaic Idealize.ShloMosaic.TcCoe Idealize.ShloMosaic.Tactic
open Idealize.SL Idealize.SL.RA Idealize.SL.BI Idealize.ShloMosaic.Pipeline
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The casting points are the first eight, -/
theorem cond1_iff : ∀ t : Fin cfg0.N, k0_cond1 (grid0.coords t) = 1#1 ↔ t.val < 8 := by
  have h : ∀ t : Fin grid0.N, k0_cond1 (grid0.coords t) = 1#1 ↔ t.val < 8 := by decide +kernel
  exact h

/-- the computing points the others. -/
theorem cond2_iff : ∀ t : Fin cfg0.N, k0_cond2 (grid0.coords t) = 1#1 ↔ ¬ t.val < 8 := by
  have h : ∀ t : Fin grid0.N, k0_cond2 (grid0.coords t) = 1#1 ↔ ¬ t.val < 8 := by decide +kernel
  exact h

theorem coord_val : ∀ t : Fin cfg0.N, (grid0.coords t 0).val = t.val := by
  have h : ∀ t : Fin grid0.N, (grid0.coords t 0).val = t.val := by decide +kernel
  exact h

/-- The result's block is written back at the computing points only. -/
theorem flush_out : ∀ t : Fin cfg0.N, (cfg0.win 7).flush t = true ↔ ¬ t.val < 8 := by
  have h : ∀ t : Fin grid0.N, win0_7.flush t = true ↔ ¬ t.val < 8 := by decide +kernel
  exact h

/-- A casting point, by the number of its slabs. -/
abbrev pt (k : Fin 8) : Fin cfg0.N := ⟨k.val, lt_of_lt_of_eq (lt_trans k.isLt (by decide : 8 < 24)) N_0.symm⟩

/-- The cast slabs of one point. -/
def slab0 (c : Dev nD) (t : Fin cfg0.N) : Vec F S128x1024 .bf16 :=
  cast0 (iblk m c 3 t)
def slab1 (c : Dev nD) (t : Fin cfg0.N) : Vec F S128x4096 .bf16 :=
  cast1 (iblk m c 5 t)
def slab2 (c : Dev nD) (t : Fin cfg0.N) : Vec F S512x1024 .bf16 :=
  cast2 (iblk m c 6 t)

/-- The kept weights once every slab is cast. -/
def kept0 (c : Dev nD) : Vec F S1024x1024 .bf16 := fun y =>
  slab0 m c (pt ⟨(y 0).val / 128, Nat.div_lt_of_lt_mul (y 0).isLt⟩) (ix2 ⟨(y 0).val % 128, Nat.mod_lt _ (by decide)⟩ (y 1))
def kept1 (c : Dev nD) : Vec F S1024x4096 .bf16 := fun y =>
  slab1 m c (pt ⟨(y 0).val / 128, Nat.div_lt_of_lt_mul (y 0).isLt⟩) (ix2 ⟨(y 0).val % 128, Nat.mod_lt _ (by decide)⟩ (y 1))
def kept2 (c : Dev nD) : Vec F S4096x1024 .bf16 := fun y =>
  slab2 m c (pt ⟨(y 0).val / 512, Nat.div_lt_of_lt_mul (y 0).isLt⟩) (ix2 ⟨(y 0).val % 512, Nat.mod_lt _ (by decide)⟩ (y 1))

/-- The kept weights agree with the cast ones in the slabs of the first `n` points. -/
def Filled (c : Dev nD) (n : ℕ) (w0 : Vec F S1024x1024 .bf16) (w1 : Vec F S1024x4096 .bf16) (w2 : Vec F S4096x1024 .bf16) : Prop :=
  (∀ y : S1024x1024.Idx, (y 0).val < 128 * n → w0 y = kept0 m c y)
  ∧ (∀ y : S1024x4096.Idx, (y 0).val < 128 * n → w1 y = kept1 m c y)
  ∧ (∀ y : S4096x1024.Idx, (y 0).val < 512 * n → w2 y = kept2 m c y)

theorem Filled.zero (c : Dev nD) (w0 : Vec F S1024x1024 .bf16) (w1 : Vec F S1024x4096 .bf16) (w2 : Vec F S4096x1024 .bf16) : Filled m c 0 w0 w1 w2 :=
  ⟨fun _ h => absurd h (by omega), fun _ h => absurd h (by omega), fun _ h => absurd h (by omega)⟩

/-- Once all are cast they are the whole of them. -/
theorem Filled.eq {c : Dev nD} {n : ℕ} {w0 : Vec F S1024x1024 .bf16} {w1 : Vec F S1024x4096 .bf16} {w2 : Vec F S4096x1024 .bf16}
    (h : Filled m c n w0 w1 w2) (hn : ¬ n < 8) : w0 = kept0 m c ∧ w1 = kept1 m c ∧ w2 = kept2 m c :=
  ⟨funext fun y => h.1 y (by have h0 := (y 0).isLt; change (y 0).val < 1024 at h0; omega),
   funext fun y => h.2.1 y (by have h0 := (y 0).isLt; change (y 0).val < 1024 at h0; omega),
   funext fun y => h.2.2 y (by have h0 := (y 0).isLt; change (y 0).val < 4096 at h0; omega)⟩

theorem Filled.mono {c : Dev nD} {n k : ℕ} {w0 : Vec F S1024x1024 .bf16} {w1 : Vec F S1024x4096 .bf16} {w2 : Vec F S4096x1024 .bf16}
    (h : Filled m c n w0 w1 w2) (hn : ¬ n < 8) : Filled m c k w0 w1 w2 := by
  obtain ⟨h0, h1, h2⟩ := h.eq m hn
  subst h0; subst h1; subst h2
  exact ⟨fun _ _ => rfl, fun _ _ => rfl, fun _ _ => rfl⟩

end Cert.MixProof
end
-- ==== Proof.MixFrame.lean ====
module

public import proofs.«01_k».proof.Proof.MixFill
public import Idealize.ShloMosaic.Lib.Claim

@[expose] public section

set_option maxRecDepth 16384

noncomputable section

namespace Cert.MixProof

open Cert.Kernel3Ideal Cert.Kernel3Ideal.Gen Cert.Layer Idealize.ShloMosaic Idealize.ShloMosaic.TcCoe Idealize.ShloMosaic.Tactic
open Idealize.SL Idealize.SL.RA Idealize.SL.BI Idealize.ShloMosaic.Pipeline
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A casting point's three stores carry the agreement one slab further. -/
theorem Filled.succ {c : Dev nD} {t : Fin cfg0.N} (ht : t.val < 8) {w0 : Vec F S1024x1024 .bf16} {w1 : Vec F S1024x4096 .bf16} {w2 : Vec F S4096x1024 .bf16}
    (h : Filled m c t.val w0 w1 w2) (h1 : k0_cond1 (grid0.coords t) = 1#1)
    (a0 : Memref sig .tc .vmem S1024x1024 .bf16) (ha0 : a0.IsWhole) (a1 : Memref sig .tc .vmem S1024x4096 .bf16) (ha1 : a1.IsWhole)
    (a2 : Memref sig .tc .vmem S4096x1024 .bf16) (ha2 : a2.IsWhole) :
    Filled m c (t.val + 1)
      (a0.view.read (Elt F) (a0.view.writes (Elt F) (ha0.unread w0) [⟨Rect.unit (s := S1024x1024) (k0_off1 (grid0.coords t)) S128x1024.size (k0_off1_inb _ h1), slab0 m c t⟩]))
      (a1.view.read (Elt F) (a1.view.writes (Elt F) (ha1.unread w1) [⟨Rect.unit (s := S1024x4096) (k0_off2 (grid0.coords t)) S128x4096.size (k0_off2_inb _ h1), slab1 m c t⟩]))
      (a2.view.read (Elt F) (a2.view.writes (Elt F) (ha2.unread w2) [⟨Rect.unit (s := S4096x1024) (k0_off3 (grid0.coords t)) S512x1024.size (k0_off3_inb _ h1), slab2 m c t⟩])) := by
  obtain ⟨g0, g1, g2⟩ := h
  refine ⟨slab_step a0 ha0 w0 (kept0 m c) (slab0 m c t) _ _ t.val (by rw [k0_off1_eq, coord_val]) g0 fun y x hx => ?_,
    slab_step a1 ha1 w1 (kept1 m c) (slab1 m c t) _ _ t.val (by rw [k0_off2_eq, coord_val]) g1 fun y x hx => ?_,
    slab_step a2 ha2 w2 (kept2 m c) (slab2 m c t) _ _ t.val (by rw [k0_off3_eq, coord_val]) g2 fun y x hx => ?_⟩
  · have hq : (y 0).val / 128 = t.val := by have := x.isLt; omega
    have hr : (y 0).val % 128 = x.val := by have := x.isLt; omega
    exact congrArg₂ (fun s i => slab0 m c s (ix2 i (y 1))) (Fin.ext hq.symm) (Fin.ext hr.symm)
  · have hq : (y 0).val / 128 = t.val := by have := x.isLt; omega
    have hr : (y 0).val % 128 = x.val := by have := x.isLt; omega
    exact congrArg₂ (fun s i => slab1 m c s (ix2 i (y 1))) (Fin.ext hq.symm) (Fin.ext hr.symm)
  · have hq : (y 0).val / 512 = t.val := by have := x.isLt; omega
    have hr : (y 0).val % 512 = x.val := by have := x.isLt; omega
    exact congrArg₂ (fun s i => slab2 m c s (ix2 i (y 1))) (Fin.ext hq.symm) (Fin.ext hr.symm)

/-- The block of the result a computing point leaves. -/
def outBlk (c : Dev nD) (t : Fin cfg0.N) : Vec F S1024x1024 .f32 :=
  tileOut (iblk m c 0 t) (iblk m c 1 t) (iblk m c 2 t) (iblk m c 4 t) (kept0 m c) (kept1 m c) (kept2 m c)

/-- What holds before the point numbered `n`: the kept weights agree with the cast ones in the slabs of the points before it. -/
def Carry (c : Dev nD) (n : ℕ) : sProp 𝕄 :=
  iprop(∃ w0 : Vec F S1024x1024 .bf16, ∃ w1 : Vec F S1024x4096 .bf16, ∃ w2 : Vec F S4096x1024 .bf16, ⌜Filled m c n w0 w1 w2⌝
    ∗ owns (c : Thread nD τ) (Memref.whole cc0_scratch0) fullShare w0 ∗ owns (c : Thread nD τ) (Memref.whole cc0_scratch1) fullShare w1
    ∗ owns (c : Thread nD τ) (Memref.whole cc0_scratch2) fullShare w2 ∗ ∃ r, prngReg c r)

/-- The proof data: the arrays as the call finds them, each input's block left in place, the result's block at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk m c t
  Φ t := Carry m c t.val
  q _ := fullShare
  owed _ := 0

theorem dats_A (c : Dev nD) (w : Fin cfg0.W) : (dats m 0 c).A w = V m c (Pipeline.arrRef spec0 w) := by dsimp only [dats]

theorem dats_after0 (c : Dev nD) (t : Fin cfg0.N) : (dats m 0 c).after 0 t = iblk m c 0 t := by dsimp only [dats]
theorem dats_after1 (c : Dev nD) (t : Fin cfg0.N) : (dats m 0 c).after 1 t = iblk m c 1 t := by dsimp only [dats]
theorem dats_after2 (c : Dev nD) (t : Fin cfg0.N) : (dats m 0 c).after 2 t = iblk m c 2 t := by dsimp only [dats]
theorem dats_after3 (c : Dev nD) (t : Fin cfg0.N) : (dats m 0 c).after 3 t = iblk m c 3 t := by dsimp only [dats]
theorem dats_after4 (c : Dev nD) (t : Fin cfg0.N) : (dats m 0 c).after 4 t = iblk m c 4 t := by dsimp only [dats]
theorem dats_after5 (c : Dev nD) (t : Fin cfg0.N) : (dats m 0 c).after 5 t = iblk m c 5 t := by dsimp only [dats]
theorem dats_after6 (c : Dev nD) (t : Fin cfg0.N) : (dats m 0 c).after 6 t = iblk m c 6 t := by dsimp only [dats]
theorem dats_after7 (c : Dev nD) (t : Fin cfg0.N) : (dats m 0 c).after 7 t = outBlk m c t := by dsimp only [dats]
theorem dats_before0 (c : Dev nD) (t : Fin cfg0.N) (d) : (dats m 0 c).before 0 t d = iblk m c 0 t :=
  before0_0_of m (dats m 0 c) (dats_A m c 0) (dats_after0 m c) t d
theorem dats_before1 (c : Dev nD) (t : Fin cfg0.N) (d) : (dats m 0 c).before 1 t d = iblk m c 1 t :=
  before0_1_of m (dats m 0 c) (dats_A m c 1) (dats_after1 m c) t d
theorem dats_before2 (c : Dev nD) (t : Fin cfg0.N) (d) : (dats m 0 c).before 2 t d = iblk m c 2 t :=
  before0_2_of m (dats m 0 c) (dats_A m c 2) (dats_after2 m c) t d
theorem dats_before3 (c : Dev nD) (t : Fin cfg0.N) (d) : (dats m 0 c).before 3 t d = iblk m c 3 t :=
  before0_3_of m (dats m 0 c) (dats_A m c 3) (dats_after3 m c) t d
theorem dats_before4 (c : Dev nD) (t : Fin cfg0.N) (d) : (dats m 0 c).before 4 t d = iblk m c 4 t :=
  before0_4_of m (dats m 0 c) (dats_A m c 4) (dats_after4 m c) t d
theorem dats_before5 (c : Dev nD) (t : Fin cfg0.N) (d) : (dats m 0 c).before 5 t d = iblk m c 5 t :=
  before0_5_of m (dats m 0 c) (dats_A m c 5) (dats_after5 m c) t d
theorem dats_before6 (c : Dev nD) (t : Fin cfg0.N) (d) : (dats m 0 c).before 6 t d = iblk m c 6 t :=
  before0_6_of m (dats m 0 c) (dats_A m c 6) (dats_after6 m c) t d

/-- What the body is called with at point `t`, -/
def bodyPre (c : Dev nD) (t : Fin cfg0.N) : sProp 𝕄 :=
  iprop(Carry m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns, the result's buffer as `R` says. -/
def bodyPost (c : Dev nD) (t : Fin cfg0.N) (R : sProp 𝕄) : sProp 𝕄 :=
  iprop(Carry m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ R)

set_option maxHeartbeats 4000000 in
/-- The body at a casting point: the result's buffer passes through. -/
theorem sound_cast (c : Dev nD) (t : Fin cfg0.N) (ht : t.val < 8) :
    bodyPre m c t ⊢ wp frame (wpE (defs₀ (F := F)) Variants.none c none) Set.univ (bodyAt0 t)
      (fun _ => bodyPost m c t iprop(∃ d, owns (c : Thread nD τ) (st0_7 t) fullShare ((dats m 0 c).before 7 t d))) := by
  unfold bodyPre bodyPost bodyAt0 Carry
  simp only [dats_before0, dats_before1, dats_before2, dats_before3, dats_before4, dats_before5, dats_before6]
  rw [show (dats m 0 c).owesAt () t.succ = (dats m 0 c).owesAt () t.castSucc from rfl, dats_after0, dats_after1, dats_after2, dats_after3, dats_after4, dats_after5, dats_after6]
  iintro ⟨⟨%w0, %w1, %w2, %hw, G0, G1, G2, Hp⟩, Ho, ⟨%d0, H0⟩, ⟨%d1, H1⟩, ⟨%d2, H2⟩, ⟨%d3, H3⟩, ⟨%d4, H4⟩, ⟨%d5, H5⟩, ⟨%d6, H6⟩, H7⟩
  have h1 := (cond1_iff t).mpr ht
  have h2 : ¬ k0_cond2 (grid0.coords t) = 1#1 := fun h => (cond2_iff t).mp h ht
  iapply ((castRun c (grid0.coords t) h1 h2 _ _ _ _ _ _ _ _ _ _ _ _ _ _ _ _ _ _ _ _ _ _ (iblk m c 3 t) (iblk m c 5 t) (iblk m c 6 t) w0 w1 w2).2 Set.univ _)
  isplitl [H3]; · iexact H3
  isplitl [H5]; · iexact H5
  isplitl [H6]; · iexact H6
  isplitl [G0]; · iexact G0
  isplitl [G1]; · iexact G1
  isplitl [G2]; · iexact G2
  rw [cast_pieces]
  dsimp only
  iintro ⟨H3, H5, H6, G0, G1, G2⟩
  isplitl [G0 G1 G2 Hp]
  · iexists _; iexists _; iexists _
    isplitr
    · ipureintro; exact Filled.succ m ht hw h1 (Memref.whole cc0_scratch0) (Memref.isWhole_whole _) (Memref.whole cc0_scratch1) (Memref.isWhole_whole _) (Memref.whole cc0_scratch2) (Memref.isWhole_whole _)
    isplitl [G0]
    · unfold owns; iexists _; isplitr
      swap; · iexact G0
      ipureintro; rfl
    isplitl [G1]
    · unfold owns; iexists _; isplitr
      swap; · iexact G1
      ipureintro; rfl
    isplitl [G2]
    · unfold owns; iexists _; isplitr
      swap; · iexact G2
      ipureintro; rfl
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4000000 in
/-- The body at a computing point: the result's buffer is left at its block. -/
theorem sound_tile (c : Dev nD) (t : Fin cfg0.N) (ht : ¬ t.val < 8) :
    bodyPre m c t ⊢ wp frame (wpE (defs₀ (F := F)) Variants.none c none) Set.univ (bodyAt0 t)
      (fun _ => bodyPost m c t (owns (c : Thread nD τ) (st0_7 t) fullShare (outBlk m c t))) := by
  unfold bodyPre bodyPost bodyAt0 Carry
  simp only [dats_before0, dats_before1, dats_before2, dats_before3, dats_before4, dats_before5, dats_before6]
  rw [show (dats m 0 c).owesAt () t.succ = (dats m 0 c).owesAt () t.castSucc from rfl, dats_after0, dats_after1, dats_after2, dats_after3, dats_after4, dats_after5, dats_after6]
  iintro ⟨⟨%w0, %w1, %w2, %hw, G0, G1, G2, Hp⟩, Ho, ⟨%d0, H0⟩, ⟨%d1, H1⟩, ⟨%d2, H2⟩, ⟨%d3, H3⟩, ⟨%d4, H4⟩, ⟨%d5, H5⟩, ⟨%d6, H6⟩, H7⟩
  have h1 : ¬ k0_cond1 (grid0.coords t) = 1#1 := fun h => ht ((cond1_iff t).mp h)
  have h2 := (cond2_iff t).mpr ht
  obtain ⟨e0, e1, e2⟩ := hw.eq m ht
  subst e0; subst e1; subst e2
  iapply ((tileRun c (grid0.coords t) h1 h2 _ _ _ _ _ _ _ _ _ _ _ _ _ _ _ _ _ _ _ _ _ _ (iblk m c 0 t) (iblk m c 1 t) (iblk m c 2 t) (iblk m c 4 t) (kept0 m c) (kept1 m c) (kept2 m c)).2 Set.univ _)
  isplitl [H0]; · iexact H0
  isplitl [H1]; · iexact H1
  isplitl [H2]; · iexact H2
  isplitl [H4]; · iexact H4
  isplitl [G0]; · iexact G0
  isplitl [G1]; · iexact G1
  isplitl [G2]; · iexact G2
  isplitl [H7]
  · icases H7 with ⟨%d7, H7⟩
    iexists _; iexact H7
  rw [tile_pieces]
  iintro ⟨H0, H1, H2, H4, G0, G1, G2, ⟨%f7, H7⟩⟩
  isplitl [G0 G1 G2 Hp]
  · iexists _; iexists _; iexists _
    isplitr
    · ipureintro; exact hw.mono m ht
    isplitl [G0]; · iexact G0
    isplitl [G1]; · iexact G1
    isplitl [G2]; · iexact G2
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro
  exact read_whole_store _ _ _ _

/-- The body table's row at point `t`'s slots. -/
theorem row_eq (t : Fin cfg0.N) : defs₀ (F := F) .tc cfg0.body (cfg0.bodyArgs t (cfg0.slots t)) = bodyAt0 t := by
  unfold defs₀; rw [Defs.onTc_tc]

theorem idle_out (t : Fin cfg0.N) : idle0 7 (grid0.coords t) = decide (t.val < 8) := by
  by_cases h : t.val < 8
  · have h2 : ¬ k0_cond2 (grid0.coords t) = 1#1 := fun h' => (cond2_iff t).mp h' h
    rw [decide_eq_true h]
    change (!(k0_cond2 (grid0.coords t) == 1#1)) = true
    rw [beq_eq_false_iff_ne.mpr h2]; rfl
  · rw [decide_eq_false h]
    change (!(k0_cond2 (grid0.coords t) == 1#1)) = false
    rw [(cond2_iff t).mpr h]; rfl

theorem flush_early (t : Fin cfg0.N) (h : t.val < 8) : (win0 7).flush t = false :=
  Bool.eq_false_iff.mpr fun h' => (flush_out t).mp h' h

/-- The library's body obligation, at every point. -/
theorem body_obligation (c : Dev nD) : BodyObligation (dats (F := F) m 0 c) (defs₀ (F := F)) Variants.none () Set.univ := fun t => by
  rw [bigSep_W0, bigSep_W0, row_eq]
  dsimp only
  rw [idle_out]
  by_cases h : t.val < 8
  · rw [decide_eq_true h, flush_early t h]
    exact triple_restated (sound_cast m c t h) rfl .rfl fun _ => .rfl
  · rw [decide_eq_false h]
    exact triple_restated (sound_tile m c t h) rfl .rfl fun _ => .rfl

theorem carry_in (c : Dev nD) : Pipeline.ΦA spec0 c ⊢ (dats (F := F) m 0 c).Φ 0 := by
  change Pipeline.ΦA spec0 c ⊢ Carry m c 0
  unfold Pipeline.ΦA Carry
  rw [scopedRest0_eq]
  simp only [owns_whole]
  iintro ⟨⟨⟨%f0, G0⟩, ⟨%f1, G1⟩, ⟨%f2, G2⟩⟩, Hp⟩
  iexists f0; iexists f1; iexists f2
  isplitr; · ipureintro; exact Filled.zero m c f0 f1 f2
  isplitl [G0]; · iexact G0
  isplitl [G1]; · iexact G1
  isplitl [G2]; · iexact G2
  iexact Hp

theorem carry_out (c : Dev nD) : (dats (F := F) m 0 c).Φ (Fin.last cfg0.N) ⊢ Pipeline.ΦA spec0 c := by
  change Carry m c cfg0.N ⊢ Pipeline.ΦA spec0 c
  unfold Pipeline.ΦA Carry
  rw [scopedRest0_eq]
  simp only [owns_whole]
  iintro ⟨%w0, %w1, %w2, %hw, G0, G1, G2, Hp⟩
  isplitr [Hp]
  · isplitl [G0]; · iexists _; iexact G0
    isplitl [G1]; · iexists _; iexact G1
    iexists _; iexact G2
  iexact Hp

set_option backward.isDefEq.respectTransparency.types false in
/-- Every run of the program ends, the pipeline's arrays at what the proof data say and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun _ _ => by unfold Dat.share; exact ite_self _)
    (howed := fun _ _ => rfl) (V := V m) (hmain := hmain m Variants.none) (hA := dats_A m) (hin := carry_in m) (hout := carry_out m)

/-- The frame, whatever the values are. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (dats_A m) ((θ_run defs _ _).mono (fun _ h => h.1) (run_quiescent m ρ)))
    ((θ_run defs _ _).mono (fun _ h => h.2) (run_quiescent m ρ))

end Cert.MixProof
end
-- ==== Proof.MixSame.lean ====
module

public import proofs.«01_k».proof.Proof.MixFrame
public import proofs.«01_k».proof.Proof.Gen.Kernel3

@[expose] public section

set_option maxRecDepth 65536

noncomputable section

namespace Cert.MixProof

open Idealize.ShloMosaic Idealize.ShloMosaic.TcCoe Idealize.SL.Sem

variable {F : FTy → Type} [FloatOps F]

/-- The two printed programs are one text: the host part, -/
theorem main_same : Cert.Kernel3.main (F := F) = Cert.Kernel3Ideal.main := rfl

/-- the table of bodies, -/
theorem table_same : Cert.Kernel3.defs₀ (F := F) = Cert.Kernel3Ideal.defs₀ := by
  unfold Cert.Kernel3.defs₀ Cert.Kernel3Ideal.defs₀
  refine congrArg (Defs.onTc (τ := Cert.Kernel3.τ)) ?_
  funext l x
  match l with
  | ⟨0, _⟩ => rfl

/-- and the pipeline's. -/
theorem defs_same : Cert.Kernel3.defs (F := F) = Cert.Kernel3Ideal.defs :=
  congrArg (Pipeline.defs (Cert.Kernel3Ideal.pcfgs (F := F))) table_same

end Cert.MixProof
end
-- ==== Proof.MixValue.lean ====
module

public import proofs.«01_k».proof.Proof.MixStep
public import proofs.«01_k».proof.Proof.LayerRow
public import Idealize.ShloMosaic.Lib.Pointwise

@[expose] public section

set_option maxRecDepth 16384

noncomputable section

namespace Cert.MixProof

open Cert.Layer Idealize.ShloMosaic Idealize.ShloMosaic.TcCoe Idealize.ShloMosaic.Tactic
open Idealize.SL.Sem

/-! ## The layer over one row of numbers -/

/-- The residual row after the mixing layer: the two halves of the heads through the two halves of the output weights. -/
def residOf (x : Fin 1024 → EReal) (a b : Fin 512 → EReal) (wo : Fin 1024 → Fin 1024 → EReal) (d : Fin 1024) : EReal :=
  x d + ((∑ k : Fin 512, a k * wo ⟨k.val, by omega⟩ d) + ∑ k : Fin 512, b k * wo ⟨512 + k.val, by omega⟩ d)

/-- A row of the result. -/
def rowOf (x : Fin 1024 → EReal) (a b : Fin 512 → EReal) (wo : Fin 1024 → Fin 1024 → EReal) (g : Fin 1024 → EReal)
    (w1 : Fin 1024 → Fin 4096 → EReal) (w2 : Fin 4096 → Fin 1024 → EReal) (d : Fin 1024) : EReal :=
  layerOf g w1 w2 (residOf x a b wo) d

/-! ## The kernel's block read so -/

section
open Cert.Kernel3Ideal Cert.Kernel3Ideal.Gen

theorem resid_at (x : FVec Ideal S1024x1024 .f32) (a b : FVec Ideal S1024x512 .bf16) (w : FVec Ideal S1024x1024 .bf16) (r d : Fin 1024) :
    (resid x a b w : FVec Ideal S1024x1024 .f32) (ix2 r d)
      = residOf (fun d => x (ix2 r d)) (fun k => a (ix2 r k)) (fun k => b (ix2 r k)) (fun k d => w (ix2 k d)) d := by
  unfold resid residOf
  rw [ld_whole (F := Ideal) (R := 1024) (C := 512) (e := .bf16) a, ld_whole (F := Ideal) (R := 1024) (C := 512) (e := .bf16) b,
    ld_whole (F := Ideal) (R := 1024) (C := 1024) (e := .f32) x, ld_whole (F := Ideal) (R := 1024) (C := 1024) (e := .bf16) w]
  pointwise

theorem normed_at (g : FVec Ideal S1x1024 .f32) (v : FVec Ideal S1024x1024 .f32) (r : Fin 1024) (d : Fin 1024) :
    (normed g v : FVec Ideal S1024x1024 .bf16) (ix2 r d) = normOf (fun d => g (ix2 0 d)) (fun d => v (ix2 r d)) d := by
  have hg : View.ld (Val := Elt Ideal) (e' := .f32) g (Rect.unit ![0, 0] ![1, 1024] (fun a => by fin_cases a <;> simp)) = g := ld_whole (F := Ideal) (R := 1) (C := 1024) (e := .f32) g _
  unfold normed
  rw [hg]
  pointwise
  rfl

theorem feed_at (h : FVec Ideal S1024x1024 .bf16) (a b : FVec Ideal S1024x1024 .bf16) (r : Fin 1024) (d : Fin 1024) :
    (feed h a b : FVec Ideal S1024x1024 .f32) (ix2 r d)
      = ∑ f : Fin 1024, (max (∑ e : Fin 1024, (h (ix2 r e) * a (ix2 e f) : EReal)) 0 * max (∑ e : Fin 1024, (h (ix2 r e) * a (ix2 e f) : EReal)) 0 * b (ix2 f d) : EReal) := by
  pointwise [feed]

/-- A row of the kernel's block. -/
theorem tile_at (x : FVec Ideal S1024x1024 .f32) (a b : FVec Ideal S1024x512 .bf16) (g : FVec Ideal S1x1024 .f32)
    (w0 : FVec Ideal S1024x1024 .bf16) (w1 : FVec Ideal S1024x4096 .bf16) (w2 : FVec Ideal S4096x1024 .bf16) (r : Fin 1024) (d : Fin 1024) :
    (tileOut x a b g w0 w1 w2 : FVec Ideal S1024x1024 .f32) (ix2 r d)
      = rowOf (fun d => x (ix2 r d)) (fun k => a (ix2 r k)) (fun k => b (ix2 r k)) (fun k d => w0 (ix2 k d))
          (fun d => g (ix2 0 d)) (fun e f => w1 (ix2 e f)) (fun f d => w2 (ix2 f d)) d := by
  have hq : ∀ j : Fin 4, (feed (normed g (resid x a b w0)) (upCols w1 j) (downRows w2 j) : FVec Ideal S1024x1024 .f32) (ix2 r d)
      = ∑ f : Fin 1024, (hiddenOf (normOf (fun d => g (ix2 0 d)) (residOf (fun d => x (ix2 r d)) (fun k => a (ix2 r k)) (fun k => b (ix2 r k)) (fun k d => w0 (ix2 k d))))
          (fun e f => w1 (ix2 e f)) ⟨1024 * j.val + f.val, by omega⟩ * w2 (ix2 ⟨1024 * j.val + f.val, by omega⟩ d) : EReal) := by
    intro j
    rw [feed_at]
    refine Finset.sum_congr rfl fun f _ => ?_
    simp only [normed_at, upCols_at, downRows_at, resid_at]
    rfl
  unfold rowOf layerOf
  rw [sum_blocks (a := 4) (b := 1024) rfl, Fin.sum_univ_four, ← add_assoc, ← add_assoc, ← add_assoc]
  rw [← hq 0, ← hq 1, ← hq 2, ← hq 3, ← resid_at]
  rfl
end

end Cert.MixProof
end
-- ==== Proof.MixFinal.lean ====
module

public import proofs.«01_k».proof.Proof.MixFrame
public import proofs.«01_k».proof.Proof.MixValue

@[expose] public section

set_option maxRecDepth 16384

noncomputable section

namespace Cert.MixProof

open Cert.Kernel3Ideal Cert.Kernel3Ideal.Gen Idealize.ShloMosaic Idealize.ShloMosaic.TcCoe Idealize.SL.Sem Idealize.ShloMosaic.Tactic

variable (m : (ℓ : Loc nD τ sig) → Buf (Elt Ideal) ℓ) (c : Dev nD)

/-! ## The arguments' entries -/

def xA (n : Fin 16384) (d : Fin 1024) : EReal := (m ((c : Thread nD τ).loc main_arg0) : FVec Ideal S16384x1024 .f32) (ix2 n d)
def aA (n : Fin 16384) (k : Fin 512) : EReal := (m ((c : Thread nD τ).loc main_arg1) : FVec Ideal S16384x512 .bf16) (ix2 n k)
def bA (n : Fin 16384) (k : Fin 512) : EReal := (m ((c : Thread nD τ).loc main_arg2) : FVec Ideal S16384x512 .bf16) (ix2 n k)
def woA (k : Fin 1024) (d : Fin 1024) : EReal := (m ((c : Thread nD τ).loc main_arg3) : FVec Ideal S1x1024x1024 .f32) (ix3 0 k d)
def gA (d : Fin 1024) : EReal := (m ((c : Thread nD τ).loc main_arg4) : FVec Ideal S2x1024 .f32) (ix2 0 d)
def w1A (e : Fin 1024) (f : Fin 4096) : EReal := (m ((c : Thread nD τ).loc main_arg5) : FVec Ideal S2x1024x4096 .f32) (ix3 0 e f)
def w2A (f : Fin 4096) (d : Fin 1024) : EReal := (m ((c : Thread nD τ).loc main_arg6) : FVec Ideal S2x4096x1024 .f32) (ix3 0 f d)

/-- The result: each row from its own row of the stream, of the two attentions. -/
def goal : FVec Ideal S16384x1024 .f32 := fun i =>
  rowOf (xA m c (i 0)) (aA m c (i 0)) (bA m c (i 0)) (woA m c) (gA m c) (w1A m c) (w2A m c) (i 1)

/-! ## The windows' blocks, read in the arguments -/

theorem at0 : ∀ t : Fin cfg0.N, win0_0.index t 0 = t.val - 8 ∧ win0_0.index t 1 = 0 :=
  (by decide +kernel : ∀ t : Fin grid0.N, win0_0.index t 0 = t.val - 8 ∧ win0_0.index t 1 = 0)
theorem at1 : ∀ t : Fin cfg0.N, win0_1.index t 0 = t.val - 8 ∧ win0_1.index t 1 = 0 :=
  (by decide +kernel : ∀ t : Fin grid0.N, win0_1.index t 0 = t.val - 8 ∧ win0_1.index t 1 = 0)
theorem at2 : ∀ t : Fin cfg0.N, win0_2.index t 0 = t.val - 8 ∧ win0_2.index t 1 = 0 :=
  (by decide +kernel : ∀ t : Fin grid0.N, win0_2.index t 0 = t.val - 8 ∧ win0_2.index t 1 = 0)
theorem at3 : ∀ t : Fin cfg0.N, win0_3.index t 0 = 0 ∧ win0_3.index t 1 = min t.val 7 ∧ win0_3.index t 2 = 0 :=
  (by decide +kernel : ∀ t : Fin grid0.N, win0_3.index t 0 = 0 ∧ win0_3.index t 1 = min t.val 7 ∧ win0_3.index t 2 = 0)
theorem at5 : ∀ t : Fin cfg0.N, win0_5.index t 0 = 0 ∧ win0_5.index t 1 = min t.val 7 ∧ win0_5.index t 2 = 0 :=
  (by decide +kernel : ∀ t : Fin grid0.N, win0_5.index t 0 = 0 ∧ win0_5.index t 1 = min t.val 7 ∧ win0_5.index t 2 = 0)
theorem at6 : ∀ t : Fin cfg0.N, win0_6.index t 0 = 0 ∧ win0_6.index t 1 = min t.val 7 ∧ win0_6.index t 2 = 0 :=
  (by decide +kernel : ∀ t : Fin grid0.N, win0_6.index t 0 = 0 ∧ win0_6.index t 1 = min t.val 7 ∧ win0_6.index t 2 = 0)
theorem at7 : ∀ t : Fin cfg0.N, win0_7.index t 0 = t.val - 8 ∧ win0_7.index t 1 = 0 :=
  (by decide +kernel : ∀ t : Fin grid0.N, win0_7.index t 0 = t.val - 8 ∧ win0_7.index t 1 = 0)
theorem lt24 (t : Fin cfg0.N) : t.val < 24 := lt_of_lt_of_eq t.isLt N_0

/-- The row of the arrays a row of point `t`'s blocks is. -/
def rowAt (t : Fin cfg0.N) (r : Fin 1024) : Fin 16384 := ⟨1024 * (t.val - 8) + r.val, by have := lt24 t; omega⟩

theorem blk_x (t : Fin cfg0.N) (r : Fin 1024) (d : Fin 1024) : (iblk m c 0 t : FVec Ideal S1024x1024 .f32) (ix2 r d) = xA m c (rowAt t r) d := by
  unfold iblk xA
  rw [View.read_apply, ← V_main_arg0 m c]
  show V m c main_arg0 _ = V m c main_arg0 _
  congr 1
  funext a
  apply Fin.ext
  match a with
  | ⟨0, _⟩ => show win0_0.index t 0 * 1024 + 1 * r.val = 1024 * (t.val - 8) + r.val; rw [(at0 t).1]; omega
  | ⟨1, _⟩ => show win0_0.index t 1 * 1024 + 1 * d.val = d.val; rw [(at0 t).2]; omega

theorem blk_a (t : Fin cfg0.N) (r : Fin 1024) (k : Fin 512) : (iblk m c 1 t : FVec Ideal S1024x512 .bf16) (ix2 r k) = aA m c (rowAt t r) k := by
  unfold iblk aA
  rw [View.read_apply, ← V_main_arg1 m c]
  show V m c main_arg1 _ = V m c main_arg1 _
  congr 1
  funext a
  apply Fin.ext
  match a with
  | ⟨0, _⟩ => show win0_1.index t 0 * 1024 + 1 * r.val = 1024 * (t.val - 8) + r.val; rw [(at1 t).1]; omega
  | ⟨1, _⟩ => show win0_1.index t 1 * 512 + 1 * k.val = k.val; rw [(at1 t).2]; omega

theorem blk_b (t : Fin cfg0.N) (r : Fin 1024) (k : Fin 512) : (iblk m c 2 t : FVec Ideal S1024x512 .bf16) (ix2 r k) = bA m c (rowAt t r) k := by
  unfold iblk bA
  rw [View.read_apply, ← V_main_arg2 m c]
  show V m c main_arg2 _ = V m c main_arg2 _
  congr 1
  funext a
  apply Fin.ext
  match a with
  | ⟨0, _⟩ => show win0_2.index t 0 * 1024 + 1 * r.val = 1024 * (t.val - 8) + r.val; rw [(at2 t).1]; omega
  | ⟨1, _⟩ => show win0_2.index t 1 * 512 + 1 * k.val = k.val; rw [(at2 t).2]; omega

theorem blk_g (t : Fin cfg0.N) (d : Fin 1024) : (iblk m c 4 t : FVec Ideal S1x1024 .f32) (ix2 0 d) = gA m c d := by
  have h : (V m c main_v2 : FVec Ideal S1x1024 .f32) (ix2 0 d) = gA m c d := by
    entry_read
    pointwise
    rfl
  rw [← h]
  unfold iblk
  rw [View.read_apply]
  show V m c main_v2 _ = V m c main_v2 _
  congr 1
  funext a
  apply Fin.ext
  match a with
  | ⟨0, _⟩ => show win0_4.index t 0 * 1 + 1 * 0 = 0; rw [show win0_4.index t 0 = 0 from rfl]
  | ⟨1, _⟩ => show win0_4.index t 1 * 1024 + 1 * d.val = d.val; rw [show win0_4.index t 1 = 0 from rfl]; omega

/-- The slabs at a casting point. -/
theorem slab0_at (k : Fin 8) (x : Fin 128) (d : Fin 1024) : (slab0 m c (pt k) (ix2 x d) : EReal) = woA m c ⟨128 * k.val + x.val, by omega⟩ d := by
  have h : (slab0 m c (pt k) (ix2 x d) : EReal) = (iblk m c 3 (pt k) : FVec Ideal S1x128x1024 .f32) (ix3 0 x d) := by
    unfold slab0 cast0
    generalize (iblk m c 3 (pt k) : Vec Ideal S1x128x1024 .f32) = b
    pointwise [k0_pay1]
  rw [h]
  unfold iblk woA
  rw [View.read_apply, ← V_main_arg3 m c]
  show V m c main_arg3 _ = V m c main_arg3 _
  congr 1
  funext a
  apply Fin.ext
  have hk := k.isLt
  match a with
  | ⟨0, _⟩ => show win0_3.index (pt k) 0 * 1 + 1 * 0 = 0; rw [(at3 _).1]
  | ⟨1, _⟩ => show win0_3.index (pt k) 1 * 128 + 1 * x.val = 128 * k.val + x.val; rw [(at3 _).2.1]; show min k.val 7 * 128 + 1 * x.val = _; omega
  | ⟨2, _⟩ => show win0_3.index (pt k) 2 * 1024 + 1 * d.val = d.val; rw [(at3 _).2.2]; omega

theorem slab1_at (k : Fin 8) (x : Fin 128) (f : Fin 4096) : (slab1 m c (pt k) (ix2 x f) : EReal) = w1A m c ⟨128 * k.val + x.val, by omega⟩ f := by
  have h : (slab1 m c (pt k) (ix2 x f) : EReal) = (iblk m c 5 (pt k) : FVec Ideal S1x128x4096 .f32) (ix3 0 x f) := by
    unfold slab1 cast1
    generalize (iblk m c 5 (pt k) : Vec Ideal S1x128x4096 .f32) = b
    pointwise [k0_pay2]
  rw [h]
  unfold iblk w1A
  rw [View.read_apply, ← V_main_arg5 m c]
  show V m c main_arg5 _ = V m c main_arg5 _
  congr 1
  funext a
  apply Fin.ext
  have hk := k.isLt
  match a with
  | ⟨0, _⟩ => show win0_5.index (pt k) 0 * 1 + 1 * 0 = 0; rw [(at5 _).1]
  | ⟨1, _⟩ => show win0_5.index (pt k) 1 * 128 + 1 * x.val = 128 * k.val + x.val; rw [(at5 _).2.1]; show min k.val 7 * 128 + 1 * x.val = _; omega
  | ⟨2, _⟩ => show win0_5.index (pt k) 2 * 4096 + 1 * f.val = f.val; rw [(at5 _).2.2]; omega

theorem slab2_at (k : Fin 8) (x : Fin 512) (d : Fin 1024) : (slab2 m c (pt k) (ix2 x d) : EReal) = w2A m c ⟨512 * k.val + x.val, by omega⟩ d := by
  have h : (slab2 m c (pt k) (ix2 x d) : EReal) = (iblk m c 6 (pt k) : FVec Ideal S1x512x1024 .f32) (ix3 0 x d) := by
    unfold slab2 cast2
    generalize (iblk m c 6 (pt k) : Vec Ideal S1x512x1024 .f32) = b
    pointwise [k0_pay3]
  rw [h]
  unfold iblk w2A
  rw [View.read_apply, ← V_main_arg6 m c]
  show V m c main_arg6 _ = V m c main_arg6 _
  congr 1
  funext a
  apply Fin.ext
  have hk := k.isLt
  match a with
  | ⟨0, _⟩ => show win0_6.index (pt k) 0 * 1 + 1 * 0 = 0; rw [(at6 _).1]
  | ⟨1, _⟩ => show win0_6.index (pt k) 1 * 512 + 1 * x.val = 512 * k.val + x.val; rw [(at6 _).2.1]; show min k.val 7 * 512 + 1 * x.val = _; omega
  | ⟨2, _⟩ => show win0_6.index (pt k) 2 * 1024 + 1 * d.val = d.val; rw [(at6 _).2.2]; omega

/-- The kept weights are the arguments'. -/
theorem kept0_at (k : Fin 1024) (d : Fin 1024) : (kept0 m c (ix2 k d) : EReal) = woA m c k d :=
  (slab0_at m c ⟨k.val / 128, by omega⟩ ⟨k.val % 128, by omega⟩ d).trans
    (congrArg (fun k => woA m c k d) (Fin.ext (show 128 * (k.val / 128) + k.val % 128 = k.val by omega)))

theorem kept1_at (e : Fin 1024) (f : Fin 4096) : (kept1 m c (ix2 e f) : EReal) = w1A m c e f :=
  (slab1_at m c ⟨e.val / 128, by omega⟩ ⟨e.val % 128, by omega⟩ f).trans
    (congrArg (fun k => w1A m c k f) (Fin.ext (show 128 * (e.val / 128) + e.val % 128 = e.val by omega)))

theorem kept2_at (f : Fin 4096) (d : Fin 1024) : (kept2 m c (ix2 f d) : EReal) = w2A m c f d :=
  (slab2_at m c ⟨f.val / 512, by omega⟩ ⟨f.val % 512, by omega⟩ d).trans
    (congrArg (fun k => w2A m c k d) (Fin.ext (show 512 * (f.val / 512) + f.val % 512 = f.val by omega)))

/-- A computing point's block of the result. -/
theorem outBlk_at (t : Fin cfg0.N) (r : Fin 1024) (d : Fin 1024) : (outBlk m c t (ix2 r d) : EReal) = goal m c (ix2 (rowAt t r) d) := by
  unfold outBlk
  refine (tile_at _ _ _ _ _ _ _ r d).trans ?_
  simp only [blk_x, blk_a, blk_b, blk_g, kept0_at, kept1_at, kept2_at]
  rfl

theorem flushed_goal (t : Fin cfg0.N) : (dats m 0 c).flushed 7 t = ((cfg0.win 7).blk t).view.read (Elt Ideal) (goal m c) := by
  refine (dats_after7 m c t).trans ?_
  funext y
  have hy : y = ix2 (y 0) (y 1) := by
    funext a
    match a with
    | ⟨0, _⟩ => rfl
    | ⟨1, _⟩ => rfl
  rw [View.read_apply]
  refine (congrArg _ hy).trans ((outBlk_at m c t (y 0) (y 1)).trans ?_)
  show goal m c _ = goal m c _
  congr 1
  funext a
  apply Fin.ext
  match a with
  | ⟨0, _⟩ => show 1024 * (t.val - 8) + (y 0).val = win0_7.index t 0 * 1024 + 1 * (y 0).val; rw [(at7 t).1]; omega
  | ⟨1, _⟩ => show (y 1).val = win0_7.index t 1 * 1024 + 1 * (y 1).val; rw [(at7 t).2]; omega

/-- The kernel's result, as a whole array. -/
theorem final_goal : (dats m 0 c).arrAt 7 cfg0.N = goal m c := by
  refine (dats m 0 c).arrAt_eq_of_cover 7 (goal m c) (fun t _ => flushed_goal m c t) fun y => ?_
  have h0 : (y 0).val < 16384 := (y 0).isLt
  have h1 : (y 1).val < 1024 := (y 1).isLt
  have hN : (y 0).val / 1024 + 8 < cfg0.N := by
    rw [show cfg0.N = 24 from N_0]
    omega
  refine ⟨⟨(y 0).val / 1024 + 8, hN⟩, (flush_out _).mpr (by simp only; omega), ?_⟩
  have h := ((cfg0.win 7).blk ⟨(y 0).val / 1024 + 8, hN⟩).view.emb_mem_set (ix2 (⟨(y 0).val % 1024, by omega⟩ : Fin 1024) (⟨(y 1).val, h1⟩ : Fin 1024))
  refine (congrArg (· ∈ ((cfg0.win 7).blk ⟨(y 0).val / 1024 + 8, hN⟩).view.set) (funext fun a => Fin.ext ?_)).mp h
  match a with
  | ⟨0, _⟩ => show win0_7.index ⟨(y 0).val / 1024 + 8, hN⟩ 0 * 1024 + 1 * ((y 0).val % 1024) = (y 0).val; rw [(at7 _).1]; simp only; omega
  | ⟨1, _⟩ => show win0_7.index ⟨(y 0).val / 1024 + 8, hN⟩ 1 * 1024 + 1 * (y 1).val = (y 1).val; rw [(at7 _).2]; omega

end Cert.MixProof
end
-- ==== Proof.MixRef.lean ====
module

public import proofs.«01_k».proof.Proof.MixValue
public import proofs.«01_k».proof.Proof.Gen.Reference3Ideal.Read

@[expose] public section

set_option maxRecDepth 16384

noncomputable section

namespace Cert.MixProof

open Cert.Reference3Ideal Cert.Reference3Ideal.Gen Cert.Reference3Ideal.Read Cert.Layer Idealize.ShloMosaic Idealize.ShloMosaic.TcCoe Idealize.SL.Sem Idealize.ShloMosaic.Tactic

variable (x0 : FVec Ideal S16384x1024 .f32) (x1 x2 : FVec Ideal S16384x512 .bf16) (x3 : FVec Ideal S1x1024x1024 .f32)
  (x4 : FVec Ideal S2x1024 .f32) (x5 : FVec Ideal S2x1024x4096 .f32) (x6 : FVec Ideal S2x4096x1024 .f32)

theorem ref_resid (n : Fin 16384) (d : Fin 1024) :
    (val_main_v4 (F := Ideal) x0 x1 x2 x3 (ix2 n d) : EReal)
      = residOf (fun d => x0 (ix2 n d)) (fun k => x1 (ix2 n k)) (fun k => x2 (ix2 n k)) (fun k d => x3 (ix3 0 k d)) d := by
  unfold residOf
  pointwise [val_main_v4, val_main_v3, val_main_v2, val_main_v1, val_main_v0]

theorem ref_norm (n : Fin 16384) (d : Fin 1024) :
    (val_main_v23 (F := Ideal) x0 x1 x2 x3 x4 (ix2 n d) : EReal)
      = normOf (fun d => x4 (ix2 0 d)) (fun d => val_main_v4 (F := Ideal) x0 x1 x2 x3 (ix2 n d)) d := by
  have h12 : (val_main_v12 (F := Ideal) x0 x1 x2 x3 (ix1 n) : EReal)
      = ∑ d : Fin 1024, (val_main_v4 (F := Ideal) x0 x1 x2 x3 (ix2 n d) * val_main_v4 (F := Ideal) x0 x1 x2 x3 (ix2 n d) : EReal) := by
    rw [val_main_v12_apply]
    pointwise [val_main_cst]
    refine Finset.sum_congr rfl fun d _ => ?_
    rw [show idx_main_v12 (ix1 n) d = ix2 n d from funext fun a => match a with | ⟨0, _⟩ => rfl | ⟨1, _⟩ => rfl]
    rfl
  have h18 : (val_main_v18 (F := Ideal) x0 x1 x2 x3 (ix2 n 0) : EReal)
      = Ideal.rsqrt (Ideal.div (val_main_v12 (F := Ideal) x0 x1 x2 x3 (ix1 n)) (Ideal.ofBits .f32 0x44800000#32) + Ideal.ofBits .f32 0x358637BD#32) := by
    pointwise [val_main_v18, val_main_v17, val_main_v16, val_main_v15, val_main_v14, val_main_v13, val_main_cst_0, val_main_cst_1]
  have h19 : (val_main_v19 (F := Ideal) x0 x1 x2 x3 (ix2 n d) : EReal) = val_main_v18 (F := Ideal) x0 x1 x2 x3 (ix2 n 0) := by
    pointwise [val_main_v19]
  have h22 : (val_main_v22 (F := Ideal) x4 (ix2 n d) : EReal) = x4 (ix2 0 d) := by
    pointwise [val_main_v22, val_main_v21, val_main_v6, val_main_v5]
  unfold normOf
  dsimp only
  rw [← h12, ← h18, ← h19, ← h22]
  rfl

theorem ref_hidden (n : Fin 16384) (f : Fin 4096) :
    (val_main_v26 (F := Ideal) x0 x1 x2 x3 x4 x5 (ix2 n f) : EReal)
      = hiddenOf (fun d => val_main_v23 (F := Ideal) x0 x1 x2 x3 x4 (ix2 n d)) (fun e f => x5 (ix3 0 e f)) f := by
  have h8 : ∀ e : Fin 1024, (val_main_v8 (F := Ideal) x5 (ix2 e f) : EReal) = x5 (ix3 0 e f) := by
    intro e
    pointwise [val_main_v8, val_main_v7]
  have h24 : (val_main_v24 (F := Ideal) x0 x1 x2 x3 x4 x5 (ix2 n f) : EReal)
      = ∑ e : Fin 1024, (val_main_v23 (F := Ideal) x0 x1 x2 x3 x4 (ix2 n e) * x5 (ix3 0 e f) : EReal) := by
    rw [val_main_v24_apply]
    refine Finset.sum_congr rfl fun e _ => ?_
    rw [show lidx_main_v24 (ix2 n f) e = ix2 n e from funext fun a => match a with | ⟨0, _⟩ => rfl | ⟨1, _⟩ => rfl,
      show ridx_main_v24 (ix2 n f) e = ix2 e f from funext fun a => match a with | ⟨0, _⟩ => rfl | ⟨1, _⟩ => rfl, h8]
  have h25 : (val_main_v25 (F := Ideal) x0 x1 x2 x3 x4 x5 (ix2 n f) : EReal) = max (val_main_v24 (F := Ideal) x0 x1 x2 x3 x4 x5 (ix2 n f)) 0 := by
    pointwise [val_main_v25, val_main_call0_v0, val_main_call0_cst]
  unfold hiddenOf
  rw [← h24, ← h25]
  rfl

/-- A row of the reference's result. -/
theorem ref_at (n : Fin 16384) (d : Fin 1024) :
    (val_main_v28 (F := Ideal) x0 x1 x2 x3 x4 x5 x6 (ix2 n d) : EReal)
      = rowOf (fun d => x0 (ix2 n d)) (fun k => x1 (ix2 n k)) (fun k => x2 (ix2 n k)) (fun k d => x3 (ix3 0 k d))
          (fun d => x4 (ix2 0 d)) (fun e f => x5 (ix3 0 e f)) (fun f d => x6 (ix3 0 f d)) d := by
  have h10 : ∀ f : Fin 4096, (val_main_v10 (F := Ideal) x6 (ix2 f d) : EReal) = x6 (ix3 0 f d) := by
    intro f
    pointwise [val_main_v10, val_main_v9]
  unfold rowOf layerOf
  rw [val_main_v28_apply, val_main_v27_apply, ref_resid]
  refine congrArg (fun s : EReal => residOf (fun d => x0 (ix2 n d)) (fun k => x1 (ix2 n k)) (fun k => x2 (ix2 n k)) (fun k d => x3 (ix3 0 k d)) d + s)
    (Finset.sum_congr rfl fun f _ => ?_)
  rw [show lidx_main_v27 (ix2 n d) f = ix2 n f from funext fun a => match a with | ⟨0, _⟩ => rfl | ⟨1, _⟩ => rfl,
    show ridx_main_v27 (ix2 n d) f = ix2 f d from funext fun a => match a with | ⟨0, _⟩ => rfl | ⟨1, _⟩ => rfl, ref_hidden, h10]
  simp only [ref_norm, ref_resid]

end Cert.MixProof
end
-- ==== Proof.MixClaim.lean ====
module

public import proofs.«01_k».proof.Defs
public import proofs.«01_k».proof.Proof.MixSame
public import proofs.«01_k».proof.Proof.MixFinal
public import proofs.«01_k».proof.Proof.MixRef
public import proofs.«01_k».proof.Proof.Gen.Reference3Ideal.Run
public import Idealize.ShloMosaic.Lib.ReduceAll

@[expose] public section

set_option maxRecDepth 65536

noncomputable section

namespace Cert.MixProof

open Idealize.ShloMosaic Idealize.ShloMosaic.TcCoe Idealize.SL.Sem Idealize.ShloMosaic.Tactic

/-- The kernel terminates and leaves its arguments and counters as they were, at exact values, -/
theorem frame_pi3 : Cert.quiescent_Kernel3Ideal := fun m ρ _ => frame_any m ρ

/-- and at machine words, the text being the same. -/
theorem frame_p3 : Cert.quiescent_Kernel3 := fun m ρ _ => by
  have h := frame_any (F := Bits) m ρ
  rw [← main_same, ← defs_same] at h
  exact h

theorem frame_ri3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Nothing is replaced. -/
theorem preserves3 : Cert.preserves_Kernel3_Kernel3Ideal := trivial

/-- The result is the reference's, whatever the arguments. -/
theorem algebraic3 : Cert.algebraic_Kernel3Ideal_Reference3Ideal := by
  intro m ρ m' ρ' hpre hagree
  refine ⟨fun c => goal m c, ?_, ?_⟩
  · exact (θ_run Cert.Kernel3Ideal.defs _ _).mono (fun _ h c => ⟨(h.1 c).trans (final_goal m c), h.2.1 c⟩)
      (θ_run_and ((θ_run Cert.Kernel3Ideal.defs _ _).mono (fun _ h c => (h.1 c).1 7) (run_quiescent (F := Ideal) m ρ)) (frame_any (F := Ideal) m ρ))
  · refine (θ_run Cert.Reference3Ideal.defs _ _).mono (fun _ h c => ⟨(h c).1.trans ?_, (h c).2⟩) (Cert.Reference3Ideal.Value.run (F := Ideal) m' ρ')
    obtain ⟨e0, e1, e2, e3, e4, e5, e6⟩ := hagree c
    rw [Cert.Reference3Ideal.Read.val_main_v28_eq, e0, e1, e2, e3, e4, e5, e6]
    funext y
    have hy : y = ix2 (y 0) (y 1) := by
      funext a
      match a with
      | ⟨0, _⟩ => rfl
      | ⟨1, _⟩ => rfl
    exact (congrArg _ hy).trans ((ref_at _ _ _ _ _ _ _ (y 0) (y 1)).trans rfl)

end Cert.MixProof
end
-- ==== Proof.ProjRunA.lean ====
module

public import proofs.«01_k».proof.Proof.Gen.Kernel4Ideal.Frame
public import proofs.«01_k».proof.Proof.Gen.Kernel4Ideal.Skeleton

@[expose] public section

set_option maxRecDepth 16384

noncomputable section

namespace Cert.ProjProof

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The condition of the statement that zeroes the state. -/
abbrev cond2 (i : grid0.Coords) : BitVec 1 :=
  Scalar.cmpi .ne (Scalar.extui (Scalar.cmpi .eq (BitVec.ofNat 32 (i 0).val) 8#32)) 0#32

set_option maxHeartbeats 4000000 in
/-- A casting point: from the slab and the two kept weights, to the kept weights with the cast slabs written. -/
def castRun (c : Dev nD) (i : grid0.Coords) (h1 : k0_cond1 i = 1#1) (h2 : ¬ cond2 i = 1#1) (h3 : ¬ k0_cond3 i = 1#1) (arg1 : Memref sig .tc .smem S8 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x128x6144 .f32) (harg4 : arg4.IsWhole) (arg5 : Memref sig .tc .vmem S512x1024 .bf16) (harg5 : arg5.IsWhole) (arg6 : Memref sig .tc .vmem S1024x512 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S2x8x128x256 .bf16) (harg9 : arg9.IsWhole) (arg10 : Memref sig .tc .vmem S1024x6144 .bf16) (harg10 : arg10.IsWhole) (arg11 : Memref sig .tc .vmem S1024x1024 .bf16) (harg11 : arg11.IsWhole) (arg12 : Memref sig .tc .vmem S8x128x256 .f32) (harg12 : arg12.IsWhole)
    (x3 : Vec F S1x128x6144 .f32) (w0 : Vec F S1024x6144 .bf16) (w1 : Vec F S1024x1024 .bf16) :
    { L : List (View.Piece (Elt F) S1024x6144 .bf16) × List (View.Piece (Elt F) S1024x1024 .bf16) //
      ∀ (E : Set ℕ) (K : PUnit → sProp 𝕄),
        iprop(owns (c : Thread nD τ) arg4 fullShare x3 ∗ owns (c : Thread nD τ) arg10 fullShare w0 ∗ owns (c : Thread nD τ) arg11 fullShare w1
            ∗ (iprop(owns (c : Thread nD τ) arg4 fullShare x3
              ∗ (arg10.view.loc (c : Thread nD τ) ↦[arg10.view.set]{fullShare} arg10.view.writes (Elt F) (harg10.unread w0) L.1)
              ∗ (arg11.view.loc (c : Thread nD τ) ↦[arg11.view.set]{fullShare} arg11.view.writes (Elt F) (harg11.unread w1) L.2)) -∗ K ⟨⟩))
          ⊢ wp frame (wpE (defs₀ (F := F)) Variants.none c none) E (cc0_inproj_odd i arg1 harg1 arg2 harg2 arg3 harg3 arg4 harg4 arg5 harg5 arg6 harg6 arg7 harg7 arg8 harg8 arg9 harg9 arg10 harg10 arg11 harg11 arg12 harg12) K } := by
  refine ⟨⟨?_, ?_⟩, fun E K => ?run⟩
  case run =>
    simp only [cc0_inproj_odd_eq_skeleton]; unfold cc0_inproj_odd_skel
    unfold owns
    iintro ⟨⟨%f4, %hf4, H4⟩, ⟨%f10, %hf10, H10⟩, ⟨%f11, %hf11, H11⟩, Hk⟩
    obtain rfl := harg4.eq_unread hf4; obtain rfl := harg10.eq_unread hf10; obtain rfl := harg11.eq_unread hf11
    sl_exec (disch := first | sl_exact h1 | sl_exact h2 | sl_exact h3)
    sl_step
    iapply Hk
    isplitl [H4]
    · iexists _; isplitr; · ipureintro; exact harg4.read_unread _
      iexact H4
    isplitl [H10]; · iexact H10
    iexact H11

end Cert.ProjProof
end
-- ==== Proof.ProjRunB.lean ====
module

public import proofs.«01_k».proof.Proof.ProjRunA

@[expose] public section

set_option maxRecDepth 16384

noncomputable section

namespace Cert.ProjProof

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 40000000 in
/-- A computing point but the first: from the rows, the gain, the kept weights and the state, to the five results' blocks and the state after them. -/
def tileRun (c : Dev nD) (i : grid0.Coords) (h1 : ¬ k0_cond1 i = 1#1) (h2 : ¬ cond2 i = 1#1) (h3 : k0_cond3 i = 1#1) (arg1 : Memref sig .tc .smem S8 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x128x6144 .f32) (harg4 : arg4.IsWhole) (arg5 : Memref sig .tc .vmem S512x1024 .bf16) (harg5 : arg5.IsWhole) (arg6 : Memref sig .tc .vmem S1024x512 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S2x8x128x256 .bf16) (harg9 : arg9.IsWhole) (arg10 : Memref sig .tc .vmem S1024x6144 .bf16) (harg10 : arg10.IsWhole) (arg11 : Memref sig .tc .vmem S1024x1024 .bf16) (harg11 : arg11.IsWhole) (arg12 : Memref sig .tc .vmem S8x128x256 .f32) (harg12 : arg12.IsWhole)
    (lg : Vec F S8 .f32) (x1 : Vec F S512x1024 .f32) (x2 : Vec F S1x1024 .f32) (w0 : Vec F S1024x6144 .bf16) (w1 : Vec F S1024x1024 .bf16) (s : Vec F S8x128x256 .f32) :
    { L : List (View.Piece (Elt F) S512x1024 .bf16) × List (View.Piece (Elt F) S1024x512 .bf16) × List (View.Piece (Elt F) S512x2048 .bf16) × List (View.Piece (Elt F) S512x2048 .bf16) × List (View.Piece (Elt F) S2x8x128x256 .bf16) × List (View.Piece (Elt F) S8x128x256 .f32) //
      ∀ (E : Set ℕ) (K : PUnit → sProp 𝕄),
        iprop(owns (c : Thread nD τ) arg1 fullShare lg ∗ owns (c : Thread nD τ) arg2 fullShare x1 ∗ owns (c : Thread nD τ) arg3 fullShare x2 ∗ owns (c : Thread nD τ) arg10 fullShare w0 ∗ owns (c : Thread nD τ) arg11 fullShare w1 ∗ owns (c : Thread nD τ) arg12 fullShare s ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare lg ∗ owns (c : Thread nD τ) arg2 fullShare x1 ∗ owns (c : Thread nD τ) arg3 fullShare x2 ∗ owns (c : Thread nD τ) arg10 fullShare w0 ∗ owns (c : Thread nD τ) arg11 fullShare w1
              ∗ (∃ f, arg5.view.loc (c : Thread nD τ) ↦[arg5.view.set]{fullShare} arg5.view.writes (Elt F) f L.1)
              ∗ (∃ f, arg6.view.loc (c : Thread nD τ) ↦[arg6.view.set]{fullShare} arg6.view.writes (Elt F) f L.2.1)
              ∗ (∃ f, arg7.view.loc (c : Thread nD τ) ↦[arg7.view.set]{fullShare} arg7.view.writes (Elt F) f L.2.2.1)
              ∗ (∃ f, arg8.view.loc (c : Thread nD τ) ↦[arg8.view.set]{fullShare} arg8.view.writes (Elt F) f L.2.2.2.1)
              ∗ (∃ f, arg9.view.loc (c : Thread nD τ) ↦[arg9.view.set]{fullShare} arg9.view.writes (Elt F) f L.2.2.2.2.1)
              ∗ (arg12.view.loc (c : Thread nD τ) ↦[arg12.view.set]{fullShare} arg12.view.writes (Elt F) (harg12.unread s) L.2.2.2.2.2)) -∗ K ⟨⟩))
          ⊢ wp frame (wpE (defs₀ (F := F)) Variants.none c none) E (cc0_inproj_odd i arg1 harg1 arg2 harg2 arg3 harg3 arg4 harg4 arg5 harg5 arg6 harg6 arg7 harg7 arg8 harg8 arg9 harg9 arg10 harg10 arg11 harg11 arg12 harg12) K } := by
  refine ⟨⟨?_, ?_, ?_, ?_, ?_, ?_⟩, fun E K => ?run⟩
  case run =>
    simp only [cc0_inproj_odd_eq_skeleton]; unfold cc0_inproj_odd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f1, %hf1, H1⟩, ⟨%f2, %hf2, H2⟩, ⟨%f3, %hf3, H3⟩, ⟨%f10, %hf10, H10⟩, ⟨%f11, %hf11, H11⟩, ⟨%f12, %hf12, H12⟩, ⟨%d5, %f5, -, H5⟩, ⟨%d6, %f6, -, H6⟩, ⟨%d7, %f7, -, H7⟩, ⟨%d8, %f8, -, H8⟩, ⟨%d9, %f9, -, H9⟩, Hk⟩
    obtain rfl := harg1.eq_unread hf1; obtain rfl := harg2.eq_unread hf2; obtain rfl := harg3.eq_unread hf3; obtain rfl := harg10.eq_unread hf10; obtain rfl := harg11.eq_unread hf11; obtain rfl := harg12.eq_unread hf12
    sl_exec (disch := first | sl_exact h1 | sl_exact h2 | sl_exact h3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H10]
    · iexists _; isplitr; · ipureintro; exact harg10.read_unread _
      iexact H10
    isplitl [H11]
    · iexists _; isplitr; · ipureintro; exact harg11.read_unread _
      iexact H11
    isplitl [H5]; · iexists _; iexact H5
    isplitl [H6]; · iexists _; iexact H6
    isplitl [H7]; · iexists _; iexact H7
    isplitl [H8]; · iexists _; iexact H8
    isplitl [H9]; · iexists _; iexact H9
    iexact H12

end Cert.ProjProof
end
-- ==== Proof.ProjRunC.lean ====
module

public import proofs.«01_k».proof.Proof.ProjRunA

@[expose] public section

set_option maxRecDepth 16384

noncomputable section

namespace Cert.ProjProof

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 40000000 in
/-- The first computing point: the state is zeroed before it is used. -/
def firstRun (c : Dev nD) (i : grid0.Coords) (h1 : ¬ k0_cond1 i = 1#1) (h2 : cond2 i = 1#1) (h3 : k0_cond3 i = 1#1) (arg1 : Memref sig .tc .smem S8 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x128x6144 .f32) (harg4 : arg4.IsWhole) (arg5 : Memref sig .tc .vmem S512x1024 .bf16) (harg5 : arg5.IsWhole) (arg6 : Memref sig .tc .vmem S1024x512 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S2x8x128x256 .bf16) (harg9 : arg9.IsWhole) (arg10 : Memref sig .tc .vmem S1024x6144 .bf16) (harg10 : arg10.IsWhole) (arg11 : Memref sig .tc .vmem S1024x1024 .bf16) (harg11 : arg11.IsWhole) (arg12 : Memref sig .tc .vmem S8x128x256 .f32) (harg12 : arg12.IsWhole)
    (lg : Vec F S8 .f32) (x1 : Vec F S512x1024 .f32) (x2 : Vec F S1x1024 .f32) (w0 : Vec F S1024x6144 .bf16) (w1 : Vec F S1024x1024 .bf16) :
    { L : List (View.Piece (Elt F) S512x1024 .bf16) × List (View.Piece (Elt F) S1024x512 .bf16) × List (View.Piece (Elt F) S512x2048 .bf16) × List (View.Piece (Elt F) S512x2048 .bf16) × List (View.Piece (Elt F) S2x8x128x256 .bf16) × List (View.Piece (Elt F) S8x128x256 .f32) //
      ∀ (E : Set ℕ) (K : PUnit → sProp 𝕄),
        iprop(owns (c : Thread nD τ) arg1 fullShare lg ∗ owns (c : Thread nD τ) arg2 fullShare x1 ∗ owns (c : Thread nD τ) arg3 fullShare x2 ∗ owns (c : Thread nD τ) arg10 fullShare w0 ∗ owns (c : Thread nD τ) arg11 fullShare w1 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg12 fullShare d)
            ∗ (iprop(owns (c : Thread nD τ) arg1 fullShare lg ∗ owns (c : Thread nD τ) arg2 fullShare x1 ∗ owns (c : Thread nD τ) arg3 fullShare x2 ∗ owns (c : Thread nD τ) arg10 fullShare w0 ∗ owns (c : Thread nD τ) arg11 fullShare w1
              ∗ (∃ f, arg5.view.loc (c : Thread nD τ) ↦[arg5.view.set]{fullShare} arg5.view.writes (Elt F) f L.1)
              ∗ (∃ f, arg6.view.loc (c : Thread nD τ) ↦[arg6.view.set]{fullShare} arg6.view.writes (Elt F) f L.2.1)
              ∗ (∃ f, arg7.view.loc (c : Thread nD τ) ↦[arg7.view.set]{fullShare} arg7.view.writes (Elt F) f L.2.2.1)
              ∗ (∃ f, arg8.view.loc (c : Thread nD τ) ↦[arg8.view.set]{fullShare} arg8.view.writes (Elt F) f L.2.2.2.1)
              ∗ (∃ f, arg9.view.loc (c : Thread nD τ) ↦[arg9.view.set]{fullShare} arg9.view.writes (Elt F) f L.2.2.2.2.1)
              ∗ (∃ f, arg12.view.loc (c : Thread nD τ) ↦[arg12.view.set]{fullShare} arg12.view.writes (Elt F) f L.2.2.2.2.2)) -∗ K ⟨⟩))
          ⊢ wp frame (wpE (defs₀ (F := F)) Variants.none c none) E (cc0_inproj_odd i arg1 harg1 arg2 harg2 arg3 harg3 arg4 harg4 arg5 harg5 arg6 harg6 arg7 harg7 arg8 harg8 arg9 harg9 arg10 harg10 arg11 harg11 arg12 harg12) K } := by
  refine ⟨⟨?_, ?_, ?_, ?_, ?_, ?_⟩, fun E K => ?run⟩
  case run =>
    simp only [cc0_inproj_odd_eq_skeleton]; unfold cc0_inproj_odd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f1, %hf1, H1⟩, ⟨%f2, %hf2, H2⟩, ⟨%f3, %hf3, H3⟩, ⟨%f10, %hf10, H10⟩, ⟨%f11, %hf11, H11⟩, ⟨%d5, %f5, -, H5⟩, ⟨%d6, %f6, -, H6⟩, ⟨%d7, %f7, -, H7⟩, ⟨%d8, %f8, -, H8⟩, ⟨%d9, %f9, -, H9⟩, ⟨%d12, %f12, -, H12⟩, Hk⟩
    obtain rfl := harg1.eq_unread hf1; obtain rfl := harg2.eq_unread hf2; obtain rfl := harg3.eq_unread hf3; obtain rfl := harg10.eq_unread hf10; obtain rfl := harg11.eq_unread hf11
    sl_exec (disch := first | sl_exact h1 | sl_exact h2 | sl_exact h3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H10]
    · iexists _; isplitr; · ipureintro; exact harg10.read_unread _
      iexact H10
    isplitl [H11]
    · iexists _; isplitr; · ipureintro; exact harg11.read_unread _
      iexact H11
    isplitl [H5]; · iexists _; iexact H5
    isplitl [H6]; · iexists _; iexact H6
    isplitl [H7]; · iexists _; iexact H7
    isplitl [H8]; · iexists _; iexact H8
    isplitl [H9]; · iexists _; iexact H9
    iexists _; iexact H12

end Cert.ProjProof
end
-- ==== Proof.ProjStep.lean ====
module

public import proofs.«01_k».proof.Proof.ProjRunB
public import proofs.«01_k».proof.Proof.ProjRunC
public import proofs.«01_k».proof.Proof.LayerStep
public import Idealize.ShloMosaic.Lib.Pipeline.ReadBack

@[expose] public section

set_option maxRecDepth 16384

noncomputable section

namespace Cert.ProjProof

open Cert.Kernel4Ideal Cert.Kernel4Ideal.Gen Cert.Layer Idealize.ShloMosaic Idealize.ShloMosaic.TcCoe Idealize.ShloMosaic.Tactic
open Idealize.SL.Sem

variable {F : FTy → Type} [FloatOps F]

/-- A slab of the weights, cast. -/
def cast0 (x3 : Vec F S1x128x6144 .f32) : Vec F S128x6144 .bf16 :=
  k0_pay1 (View.ld (Val := Elt F) (e' := .f32) x3 (Rect.unit ![0, 0, 0] ![1, 128, 6144] (fun a => by fin_cases a <;> simp)))

/-- The keys' columns of it, cast and turned over. -/
def cast1 (x3 : Vec F S1x128x6144 .f32) : Vec F S1024x128 .bf16 :=
  k0_pay2 (View.ld (Val := Elt F) (e' := .f32) x3 (Rect.unit ![0, 0, 1024] ![1, 128, 1024] (fun a => by fin_cases a <;> simp)))

/-- One chunk of tokens into a head's state: what was there decayed over the chunk, each token's key and value decayed to its end. -/
def chunkStep (l : Elt F .f32) (s k : FVec F S128x256 .f32) (v : FVec F S256x256 .bf16) : FVec F S128x256 .f32 :=
  addf (mulf s (broadcastTo S128x256 (k0_pay16 l) broadcasts_S1x1_S128x256))
    (matmul dot_S128x256_S256x256_S128x256_1_0_0_1_n_n none
      (truncf .bf16 (mulf k (broadcastTo S128x256 (k0_pay15 l) broadcasts_S1x256_S128x256)) bitsLt_bf16_f32) v (constant S128x256 .f32 0x00000000#32))

theorem slices_keys (h : Fin 8) (j : Fin 2) : S1024x512.Slices ![128 * h.val, 256 * j.val] S128x256 := by
  fin_cases h <;> fin_cases j <;> decide
theorem slices_vals (h : Fin 8) (j : Fin 2) : S512x1024.Slices ![256 * j.val, 256 * (h.val % 4)] S256x256 := by
  fin_cases h <;> fin_cases j <;> decide

section
variable (lg : Vec F S8 .f32) (x1 : Vec F S512x1024 .f32) (x2 : Vec F S1x1024 .f32) (w0 : Vec F S1024x6144 .bf16) (w1 : Vec F S1024x1024 .bf16)
  (s : Vec F S8x128x256 .f32)

/-- The rows, normalised by their mean square. -/
def rows : FVec F S512x1024 .bf16 :=
  k0_pay6 (View.ld (Val := Elt F) (e' := .f32) x1 (Rect.unit ![0, 0] ![512, 1024] (fun a => by fin_cases a <;> simp)))
    (View.ld (Val := Elt F) (e' := .f32) x2 (Rect.unit ![0, 0] ![1, 1024] (fun a => by fin_cases a <;> simp)))

/-- A sixth of the weights' columns. -/
def cols (j : Fin 6) : Vec F S1024x1024 .bf16 :=
  View.ld (Val := Elt F) (e' := .bf16) w0 (Rect.unit ![0, 1024 * j.val] ![1024, 1024] (fun a => by fin_cases a <;> simp <;> omega))

def keyRows : Vec F S1024x1024 .bf16 :=
  View.ld (Val := Elt F) (e' := .bf16) w1 (Rect.unit ![0, 0] ![1024, 1024] (fun a => by fin_cases a <;> simp))

def qOut : FVec F S512x1024 .bf16 := k0_pay5 (rows x1 x2) (cols w0 0)
def ktF : FVec F S1024x512 .f32 := k0_pay12 (rows x1 x2) (keyRows w1)
def ktOut : FVec F S1024x512 .bf16 := truncf .bf16 (ktF x1 x2 w1) bitsLt_bf16_f32
def vHalf (j : Fin 2) : FVec F S512x1024 .bf16 := k0_pay10 (rows x1 x2) (cols w0 ⟨2 + j.val, by omega⟩)
def gateHalf (j : Fin 2) : FVec F S512x1024 .bf16 :=
  k0_pay9 (k0_pay8 (View.ld (Val := Elt F) (e' := .f32) x1 (Rect.unit ![0, 0] ![512, 1024] (fun a => by fin_cases a <;> simp)))
    (View.ld (Val := Elt F) (e' := .f32) x2 (Rect.unit ![0, 0] ![1, 1024] (fun a => by fin_cases a <;> simp))) (cols w0 ⟨4 + j.val, by omega⟩))

def lgAt (h : Fin 8) : Elt F .f32 :=
  View.ld (Val := Elt F) (e' := .f32) lg (Rect.unit (s := S8) ![h.val] ![1] (fun a => by fin_cases a <;> simp <;> omega)) (Shape.Idx.first (show 0 < S1.numel by decide))

/-- A head's state before the point, -/
def st0 (h : Fin 8) : FVec F S128x256 .f32 :=
  shapeCast S128x256 (View.ld (Val := Elt F) (e' := .f32) s (Rect.unit (s := S8x128x256) ![h.val, 0, 0] ![1, 128, 256] (fun a => by fin_cases a <;> simp <;> omega)))
    shapeCasts_S1x128x256_S128x256

def keysAt (h : Fin 8) (j : Fin 2) : FVec F S128x256 .f32 := extractStridedSlice S128x256 ![128 * h.val, 256 * j.val] (ktF x1 x2 w1) (slices_keys h j)
def valsAt (h : Fin 8) (j : Fin 2) : FVec F S256x256 .bf16 :=
  extractStridedSlice S256x256 ![256 * j.val, 256 * (h.val % 4)] (if h.val < 4 then vHalf x1 x2 w0 0 else vHalf x1 x2 w0 1) (slices_vals h j)

/-- after its first chunk, -/
def st1 (h : Fin 8) : FVec F S128x256 .f32 := chunkStep (lgAt lg h) (st0 s h) (keysAt x1 x2 w1 h 0) (valsAt x1 x2 w0 h 0)
/-- and after its second. -/
def st2 (h : Fin 8) : FVec F S128x256 .f32 := chunkStep (lgAt lg h) (st1 lg x1 x2 w0 w1 s h) (keysAt x1 x2 w1 h 1) (valsAt x1 x2 w0 h 1)

/-- A head's state as it is kept, -/
def lift3 (v : FVec F S128x256 .f32) : FVec F S1x128x256 .f32 := shapeCast S1x128x256 v shapeCasts_S128x256_S1x128x256
/-- and as it is written out. -/
def lift4 (v : FVec F S128x256 .f32) : FVec F S1x1x128x256 .bf16 := shapeCast S1x1x128x256 (truncf .bf16 v bitsLt_bf16_f32) shapeCasts_S128x256_S1x1x128x256

def stPieces : List (View.Piece (Elt F) S8x128x256 .f32) :=
  ([7, 6, 5, 4, 3, 2, 1, 0] : List (Fin 8)).map fun h =>
    ⟨Rect.unit (s := S8x128x256) ![h.val, 0, 0] ![1, 128, 256] (fun a => by fin_cases a <;> simp <;> omega), lift3 (st2 lg x1 x2 w0 w1 s h)⟩

def rfPieces : List (View.Piece (Elt F) S2x8x128x256 .bf16) :=
  ([7, 6, 5, 4, 3, 2, 1, 0] : List (Fin 8)).flatMap fun h =>
    [⟨Rect.unit (s := S2x8x128x256) ![1, h.val, 0, 0] ![1, 1, 128, 256] (fun a => by fin_cases a <;> simp <;> omega), lift4 (st1 lg x1 x2 w0 w1 s h)⟩,
     ⟨Rect.unit (s := S2x8x128x256) ![0, h.val, 0, 0] ![1, 1, 128, 256] (fun a => by fin_cases a <;> simp <;> omega), lift4 (st0 s h)⟩]

/-- Two halves of a block's columns. -/
def halves (b : Fin 2 → FVec F S512x1024 .bf16) : List (View.Piece (Elt F) S512x2048 .bf16) :=
  [⟨Rect.unit (s := S512x2048) ![0, 1024] ![512, 1024] (fun a => by fin_cases a <;> simp), b 1⟩,
   ⟨Rect.unit (s := S512x2048) ![0, 0] ![512, 1024] (fun a => by fin_cases a <;> simp), b 0⟩]

variable (c : Dev nD) (i : grid0.Coords) (arg1 : Memref sig .tc .smem S8 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x128x6144 .f32) (harg4 : arg4.IsWhole) (arg5 : Memref sig .tc .vmem S512x1024 .bf16) (harg5 : arg5.IsWhole) (arg6 : Memref sig .tc .vmem S1024x512 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S2x8x128x256 .bf16) (harg9 : arg9.IsWhole) (arg10 : Memref sig .tc .vmem S1024x6144 .bf16) (harg10 : arg10.IsWhole) (arg11 : Memref sig .tc .vmem S1024x1024 .bf16) (harg11 : arg11.IsWhole) (arg12 : Memref sig .tc .vmem S8x128x256 .f32) (harg12 : arg12.IsWhole)

set_option maxHeartbeats 40000000 in
/-- What a computing point stores. -/
theorem tile_pieces (h1 : ¬ k0_cond1 i = 1#1) (h2 : ¬ cond2 i = 1#1) (h3 : k0_cond3 i = 1#1) :
    (tileRun c i h1 h2 h3 arg1 harg1 arg2 harg2 arg3 harg3 arg4 harg4 arg5 harg5 arg6 harg6 arg7 harg7 arg8 harg8 arg9 harg9 arg10 harg10 arg11 harg11 arg12 harg12 lg x1 x2 w0 w1 s).1 =
      ([⟨Rect.unit (s := S512x1024) ![0, 0] ![512, 1024] (fun a => by fin_cases a <;> simp), qOut x1 x2 w0⟩],
       [⟨Rect.unit (s := S1024x512) ![0, 0] ![1024, 512] (fun a => by fin_cases a <;> simp), ktOut x1 x2 w1⟩],
       halves (vHalf x1 x2 w0), halves (gateHalf x1 x2 w0), rfPieces lg x1 x2 w0 w1 s, stPieces lg x1 x2 w0 w1 s) := by
  unfold tileRun
  dsimp only
  sl_unfold_words
  simp only [View.readAt_eq_ld, harg1.read_unread, harg2.read_unread, harg3.read_unread, harg10.read_unread, harg11.read_unread, harg12.read_unread]
  rfl

/-- A head's state is not touched by another head's store, -/
theorem state_skip (v : View sig .tc .vmem S8x128x256 .f32) (h h' : ℕ)
    (inb : ∀ a, (![h, 0, 0] : Fin 3 → ℕ) a + (![1, 128, 256] : Fin 3 → ℕ) a ≤ S8x128x256.size a)
    (inb' : ∀ a, (![h', 0, 0] : Fin 3 → ℕ) a + (![1, 128, 256] : Fin 3 → ℕ) a ≤ S8x128x256.size a)
    (w : (Rect.unit (s := S8x128x256) ![h', 0, 0] ![1, 128, 256] inb').shape.Idx → Elt F .f32) (L : List (View.Piece (Elt F) S8x128x256 .f32)) (hne : h ≠ h') :
    v.readCov (⟨Rect.unit (s := S8x128x256) ![h', 0, 0] ![1, 128, 256] inb', w⟩ :: L) (Rect.unit (s := S8x128x256) ![h, 0, 0] ![1, 128, 256] inb).toLoadRect
      = v.readCov L (Rect.unit (s := S8x128x256) ![h, 0, 0] ![1, 128, 256] inb).toLoadRect :=
  View.readCov_skip v _ w L _ (decide_eq_true ⟨(0 : Fin 3), by
    rcases Nat.lt_or_gt_of_ne hne with g | g
    · exact Or.inr (Or.inr (Or.inr g))
    · exact Or.inr (Or.inr (Or.inl g))⟩)

/-- and before any it is the zero state's. -/
theorem state_fill (v : View sig .tc .vmem S8x128x256 .f32) (inb : ∀ a, (![0, 0, 0] : Fin 3 → ℕ) a + (![8, 128, 256] : Fin 3 → ℕ) a ≤ S8x128x256.size a)
    (Z : Vec F S8x128x256 .f32) (r : Rect S8x128x256) :
    v.readCov [⟨Rect.unit (s := S8x128x256) ![0, 0, 0] ![8, 128, 256] inb, Z⟩] r.toLoadRect = View.ld (Val := Elt F) (e' := .f32) Z r :=
  View.readCov_fill v inb Z [] r (by decide)

set_option maxHeartbeats 40000000 in
/-- What the first computing point stores: the same, from the zero state. -/
theorem first_pieces (h1 : ¬ k0_cond1 i = 1#1) (h2 : cond2 i = 1#1) (h3 : k0_cond3 i = 1#1) :
    (firstRun c i h1 h2 h3 arg1 harg1 arg2 harg2 arg3 harg3 arg4 harg4 arg5 harg5 arg6 harg6 arg7 harg7 arg8 harg8 arg9 harg9 arg10 harg10 arg11 harg11 arg12 harg12 lg x1 x2 w0 w1).1 =
      ([⟨Rect.unit (s := S512x1024) ![0, 0] ![512, 1024] (fun a => by fin_cases a <;> simp), qOut x1 x2 w0⟩],
       [⟨Rect.unit (s := S1024x512) ![0, 0] ![1024, 512] (fun a => by fin_cases a <;> simp), ktOut x1 x2 w1⟩],
       halves (vHalf x1 x2 w0), halves (gateHalf x1 x2 w0), rfPieces lg x1 x2 w0 w1 k0_pay3,
       stPieces lg x1 x2 w0 w1 k0_pay3 ++ [⟨Rect.unit (s := S8x128x256) ![0, 0, 0] ![8, 128, 256] (fun a => by fin_cases a <;> simp), k0_pay3⟩]) := by
  unfold firstRun
  dsimp only
  sl_unfold_words
  simp (disch := decide) only [View.readAt_eq_ld, harg1.read_unread, harg2.read_unread, harg3.read_unread, harg10.read_unread, harg11.read_unread,
    ↓state_skip, ↓state_fill]
  rfl

variable (x3 : Vec F S1x128x6144 .f32)

set_option maxHeartbeats 4000000 in
/-- What a casting point stores into the two kept weights. -/
theorem cast_pieces (h1 : k0_cond1 i = 1#1) (h2 : ¬ cond2 i = 1#1) (h3 : ¬ k0_cond3 i = 1#1) :
    (castRun c i h1 h2 h3 arg1 harg1 arg2 harg2 arg3 harg3 arg4 harg4 arg5 harg5 arg6 harg6 arg7 harg7 arg8 harg8 arg9 harg9 arg10 harg10 arg11 harg11 arg12 harg12 x3 w0 w1).1 =
      ([⟨Rect.unit (s := S1024x6144) (k0_off1 i) S128x6144.size (k0_off1_inb i h1), cast0 x3⟩],
       [⟨Rect.unit (s := S1024x1024) (k0_off2 i) S1024x128.size (k0_off2_inb i h1), cast1 x3⟩]) := by
  unfold castRun
  dsimp only
  sl_unfold_words
  simp only [View.readAt_eq_ld, harg4.read_unread]
  rfl
end

end Cert.ProjProof
end
-- ==== Proof.ProjFill.lean ====
module

public import proofs.«01_k».proof.Proof.ProjStep

@[expose] public section

set_option maxRecDepth 16384

noncomputable section

namespace Cert.ProjProof

open Cert.Kernel4Ideal Cert.Kernel4Ideal.Gen Cert.Layer Idealize.ShloMosaic Idealize.ShloMosaic.TcCoe Idealize.ShloMosaic.Tactic
open Idealize.SL.Sem

variable {F : FTy → Type} [FloatOps F]

/-! ## Stores read back -/

/-- Stores that are the blocks of one array and cover it leave it. -/
theorem read_of_pieces {sg : RefSig} {s : Shape} {e : EltTy} (a : Memref sg .tc .vmem s e) (f : a.view.ty.Contents (Elt F)) (L : List (View.Piece (Elt F) s e))
    (G : Vec F s e) (hG : ∀ p ∈ L, ∀ x : p.1.shape.Idx, p.2 x = G (p.1.emb x)) (hc : ∀ y, ∃ p ∈ L, y ∈ p.1.set) :
    a.view.read (Elt F) (a.view.writes (Elt F) f L) = G :=
  funext fun y => View.read_writes_apply_of_pieces (Val := Elt F) a.view f G L hG y (hc y)

section
variable {sg : RefSig} {R C n : ℕ}

theorem store_whole {e : EltTy} (a : Memref sg .tc .vmem ⟨2, ![R, C]⟩ e) (f : a.view.ty.Contents (Elt F)) (v : Vec F ⟨2, ![R, C]⟩ e)
    (inb : ∀ i, (![0, 0] : Fin 2 → ℕ) i + (![R, C] : Fin 2 → ℕ) i ≤ (⟨2, ![R, C]⟩ : Shape).size i) :
    a.view.read (Elt F) (a.view.writes (Elt F) f [⟨Rect.unit (s := ⟨2, ![R, C]⟩) ![0, 0] ![R, C] inb, v⟩]) = v := by
  refine read_of_pieces a f _ v (fun p hp x => ?_) fun y => ⟨_, List.mem_singleton_self _, (LoadRect.mem_set _).mpr fun i => ⟨(y i).val, ?_, ?_⟩⟩
  · obtain rfl := List.mem_singleton.mp hp
    refine congrArg v (funext fun i => Fin.ext ?_)
    fin_cases i
    · show (x 0).val = 0 + 1 * (x 0).val; omega
    · show (x 1).val = 0 + 1 * (x 1).val; omega
  · have := (y i).isLt
    fin_cases i <;> exact this
  · fin_cases i
    · show (y 0).val = 0 + 1 * (y 0).val; omega
    · show (y 1).val = 0 + 1 * (y 1).val; omega

/-- A slab of columns stored beside columns already in place: those before it stay, its own become it. -/
theorem col_step (a : Memref sg .tc .vmem ⟨2, ![R, C]⟩ .bf16) (ha : a.IsWhole) (w G : Vec F ⟨2, ![R, C]⟩ .bf16) (s : Vec F ⟨2, ![R, n]⟩ .bf16)
    (off : Fin 2 → ℕ) (inb : ∀ i, off i + (⟨2, ![R, n]⟩ : Shape).size i ≤ (⟨2, ![R, C]⟩ : Shape).size i) (k : ℕ) (hoff : off = ![0, n * k])
    (hw : ∀ y, (y 1).val < n * k → w y = G y)
    (hs : ∀ y : (⟨2, ![R, C]⟩ : Shape).Idx, ∀ x : Fin n, (y 1).val = n * k + x.val → s (ix2 (y 0) x) = G y)
    (y : (⟨2, ![R, C]⟩ : Shape).Idx) (hy : (y 1).val < n * (k + 1)) :
    a.view.read (Elt F) (a.view.writes (Elt F) (ha.unread w) [⟨Rect.unit (s := ⟨2, ![R, C]⟩) off (⟨2, ![R, n]⟩ : Shape).size inb, s⟩]) y = G y := by
  subst hoff
  have hk : n * (k + 1) = n * k + n := Nat.mul_succ n k
  by_cases h : (y 1).val < n * k
  · rw [View.read_writes_cons_miss_of_axis _ _ _ _ _ (1 : Fin 2) (n * k) n rfl rfl rfl (Or.inl h)]
    rw [View.writes_nil, ha.read_unread]
    exact hw y h
  · have hx : (y 1).val - n * k < n := by omega
    have hit := View.read_writes_cons_hit_of_coords (Val := Elt F) (e := .bf16) a.view (ha.unread w)
      (Rect.unit (s := ⟨2, ![R, C]⟩) ![0, n * k] (⟨2, ![R, n]⟩ : Shape).size inb) s [] (ix2 (y 0) ⟨(y 1).val - n * k, hx⟩) y fun b => by
        fin_cases b
        · change (y 0).val = 0 + 1 * (y 0).val; omega
        · change (y 1).val = n * k + 1 * ((y 1).val - n * k); omega
    refine hit.trans (hs y ⟨(y 1).val - n * k, hx⟩ ?_)
    change (y 1).val = n * k + ((y 1).val - n * k); omega
end

/-- Two halves of a block's columns, as one block. -/
def both (b : Fin 2 → FVec F S512x1024 .bf16) : FVec F S512x2048 .bf16 := fun y =>
  b ⟨(y 1).val / 1024, Nat.div_lt_of_lt_mul (y 1).isLt⟩ (ix2 (y 0) ⟨(y 1).val % 1024, Nat.mod_lt _ (by decide)⟩)

theorem store_halves {sg : RefSig} (a : Memref sg .tc .vmem S512x2048 .bf16) (f : a.view.ty.Contents (Elt F)) (b : Fin 2 → FVec F S512x1024 .bf16) :
    a.view.read (Elt F) (a.view.writes (Elt F) f (halves b)) = both b := by
  have key : ∀ (j j' : Fin 2) (z z' : S512x1024.Idx), j = j' → z = z' → b j z = b j' z' := by rintro _ _ _ _ rfl rfl; rfl
  refine read_of_pieces a f _ (both b) (fun p hp x => ?_) fun y => ?_
  · simp only [halves, List.mem_cons, List.mem_nil_iff, or_false] at hp
    rcases hp with rfl | rfl
    · have h1 : (x 1).val < 1024 := (x 1).isLt
      refine key _ _ _ _ (Fin.ext (show 1 = (1024 + 1 * (x 1).val) / 1024 by omega)) (funext fun i => Fin.ext ?_)
      fin_cases i
      · show (x 0).val = 0 + 1 * (x 0).val; omega
      · show (x 1).val = (1024 + 1 * (x 1).val) % 1024; omega
    · have h1 : (x 1).val < 1024 := (x 1).isLt
      refine key _ _ _ _ (Fin.ext (show 0 = (0 + 1 * (x 1).val) / 1024 by omega)) (funext fun i => Fin.ext ?_)
      fin_cases i
      · show (x 0).val = 0 + 1 * (x 0).val; omega
      · show (x 1).val = (0 + 1 * (x 1).val) % 1024; omega
  · have h0 : (y 0).val < 512 := (y 0).isLt
    have h1 : (y 1).val < 2048 := (y 1).isLt
    by_cases h : (y 1).val < 1024
    · refine ⟨_, List.mem_cons_of_mem _ (List.mem_singleton_self _), (LoadRect.mem_set _).mpr fun i => ?_⟩
      fin_cases i
      · exact ⟨(y 0).val, h0, by show (y 0).val = 0 + 1 * (y 0).val; omega⟩
      · exact ⟨(y 1).val, h, by show (y 1).val = 0 + 1 * (y 1).val; omega⟩
    · refine ⟨_, List.mem_cons_self, (LoadRect.mem_set _).mpr fun i => ?_⟩
      fin_cases i
      · exact ⟨(y 0).val, h0, by show (y 0).val = 0 + 1 * (y 0).val; omega⟩
      · exact ⟨(y 1).val - 1024, by show (y 1).val - 1024 < 1024; omega, by show (y 1).val = 1024 + 1 * ((y 1).val - 1024); omega⟩

section
variable (lg : Vec F S8 .f32) (x1 : Vec F S512x1024 .f32) (x2 : Vec F S1x1024 .f32) (w0 : Vec F S1024x6144 .bf16) (w1 : Vec F S1024x1024 .bf16)
  (s : Vec F S8x128x256 .f32)

/-- The state after a computing point, -/
def stNext : FVec F S8x128x256 .f32 := fun y => lift3 (st2 lg x1 x2 w0 w1 s (y 0)) (ix3 0 (y 1) (y 2))

/-- and the two states it writes out. -/
def rfOut : FVec F S2x8x128x256 .bf16 := fun y =>
  if (y 0).val = 0 then lift4 (st0 s (y 1)) (ix4 0 0 (y 2) (y 3)) else lift4 (st1 lg x1 x2 w0 w1 s (y 1)) (ix4 0 0 (y 2) (y 3))

theorem mem_heads (h : Fin 8) : h ∈ ([7, 6, 5, 4, 3, 2, 1, 0] : List (Fin 8)) := by fin_cases h <;> decide

theorem st_agree (p : View.Piece (Elt F) S8x128x256 .f32) (hp : p ∈ stPieces lg x1 x2 w0 w1 s) (x : p.1.shape.Idx) :
    p.2 x = stNext lg x1 x2 w0 w1 s (p.1.emb x) := by
  have key : ∀ (j j' : Fin 8) (z z' : S1x128x256.Idx), j = j' → z = z' →
      lift3 (st2 lg x1 x2 w0 w1 s j) z = lift3 (st2 lg x1 x2 w0 w1 s j') z' := by rintro _ _ _ _ rfl rfl; rfl
  obtain ⟨h, -, rfl⟩ := List.mem_map.mp hp
  have h0 : (x 0).val < 1 := (x 0).isLt
  refine key _ _ _ _ (Fin.ext (show h.val = h.val + 1 * (x 0).val by omega)) (funext fun i => Fin.ext ?_)
  fin_cases i
  · show (x 0).val = 0; omega
  · show (x 1).val = 0 + 1 * (x 1).val; omega
  · show (x 2).val = 0 + 1 * (x 2).val; omega

theorem st_cover (y : S8x128x256.Idx) : ∃ p ∈ stPieces lg x1 x2 w0 w1 s, y ∈ p.1.set := by
  refine ⟨_, List.mem_map.mpr ⟨y 0, mem_heads _, rfl⟩, (LoadRect.mem_set _).mpr fun i => ?_⟩
  fin_cases i
  · exact ⟨0, by show 0 < 1; omega, by show (y 0).val = (y 0).val + 1 * 0; omega⟩
  · exact ⟨(y 1).val, (y 1).isLt, by show (y 1).val = 0 + 1 * (y 1).val; omega⟩
  · exact ⟨(y 2).val, (y 2).isLt, by show (y 2).val = 0 + 1 * (y 2).val; omega⟩

theorem store_state {sg : RefSig} (a : Memref sg .tc .vmem S8x128x256 .f32) (f : a.view.ty.Contents (Elt F)) :
    a.view.read (Elt F) (a.view.writes (Elt F) f (stPieces lg x1 x2 w0 w1 s)) = stNext lg x1 x2 w0 w1 s :=
  read_of_pieces a f _ _ (fun p hp x => st_agree lg x1 x2 w0 w1 s p hp x) (st_cover lg x1 x2 w0 w1 s)

/-- The heads' stores hide an earlier one of the whole. -/
theorem store_state_after {sg : RefSig} (a : Memref sg .tc .vmem S8x128x256 .f32) (f : a.view.ty.Contents (Elt F)) (L : List (View.Piece (Elt F) S8x128x256 .f32)) :
    a.view.read (Elt F) (a.view.writes (Elt F) f (stPieces lg x1 x2 w0 w1 s ++ L)) = stNext lg x1 x2 w0 w1 s := by
  rw [View.writes_append]
  exact store_state lg x1 x2 w0 w1 s a _

theorem store_rf {sg : RefSig} (a : Memref sg .tc .vmem S2x8x128x256 .bf16) (f : a.view.ty.Contents (Elt F)) :
    a.view.read (Elt F) (a.view.writes (Elt F) f (rfPieces lg x1 x2 w0 w1 s)) = rfOut lg x1 x2 w0 w1 s := by
  have key0 : ∀ (j j' : Fin 8) (z z' : S1x1x128x256.Idx), j = j' → z = z' → lift4 (st0 s j) z = lift4 (st0 s j') z' := by rintro _ _ _ _ rfl rfl; rfl
  have key1 : ∀ (j j' : Fin 8) (z z' : S1x1x128x256.Idx), j = j' → z = z' →
      lift4 (st1 lg x1 x2 w0 w1 s j) z = lift4 (st1 lg x1 x2 w0 w1 s j') z' := by rintro _ _ _ _ rfl rfl; rfl
  refine read_of_pieces a f _ _ (fun p hp x => ?_) fun y => ?_
  · obtain ⟨h, -, hp⟩ := List.mem_flatMap.mp hp
    simp only [List.mem_cons, List.mem_nil_iff, or_false] at hp
    rcases hp with rfl | rfl
    · have h0 : (x 0).val < 1 := (x 0).isLt
      have h1 : (x 1).val < 1 := (x 1).isLt
      refine (key1 _ _ _ _ (Fin.ext (show h.val = h.val + 1 * (x 1).val by omega)) (funext fun i => Fin.ext ?_)).trans
        (if_neg (show ¬ 1 + 1 * (x 0).val = 0 by omega)).symm
      fin_cases i
      · show (x 0).val = 0; omega
      · show (x 1).val = 0; omega
      · show (x 2).val = 0 + 1 * (x 2).val; omega
      · show (x 3).val = 0 + 1 * (x 3).val; omega
    · have h0 : (x 0).val < 1 := (x 0).isLt
      have h1 : (x 1).val < 1 := (x 1).isLt
      refine (key0 _ _ _ _ (Fin.ext (show h.val = h.val + 1 * (x 1).val by omega)) (funext fun i => Fin.ext ?_)).trans
        (if_pos (show 0 + 1 * (x 0).val = 0 by omega)).symm
      fin_cases i
      · show (x 0).val = 0; omega
      · show (x 1).val = 0; omega
      · show (x 2).val = 0 + 1 * (x 2).val; omega
      · show (x 3).val = 0 + 1 * (x 3).val; omega
  · have h0 : (y 0).val < 2 := (y 0).isLt
    by_cases h : (y 0).val = 0
    · refine ⟨_, List.mem_flatMap.mpr ⟨y 1, mem_heads _, List.mem_cons_of_mem _ (List.mem_singleton_self _)⟩, (LoadRect.mem_set _).mpr fun i => ?_⟩
      fin_cases i
      · exact ⟨0, by show 0 < 1; omega, by show (y 0).val = 0 + 1 * 0; omega⟩
      · exact ⟨0, by show 0 < 1; omega, by show (y 1).val = (y 1).val + 1 * 0; omega⟩
      · exact ⟨(y 2).val, (y 2).isLt, by show (y 2).val = 0 + 1 * (y 2).val; omega⟩
      · exact ⟨(y 3).val, (y 3).isLt, by show (y 3).val = 0 + 1 * (y 3).val; omega⟩
    · refine ⟨_, List.mem_flatMap.mpr ⟨y 1, mem_heads _, List.mem_cons_self⟩, (LoadRect.mem_set _).mpr fun i => ?_⟩
      fin_cases i
      · exact ⟨0, by show 0 < 1; omega, by show (y 0).val = 1 + 1 * 0; omega⟩
      · exact ⟨0, by show 0 < 1; omega, by show (y 1).val = (y 1).val + 1 * 0; omega⟩
      · exact ⟨(y 2).val, (y 2).isLt, by show (y 2).val = 0 + 1 * (y 2).val; omega⟩
      · exact ⟨(y 3).val, (y 3).isLt, by show (y 3).val = 0 + 1 * (y 3).val; omega⟩
end

end Cert.ProjProof
end
-- ==== Proof.ProjFrame.lean ====
module

public import proofs.«01_k».proof.Proof.ProjFill
public import Idealize.ShloMosaic.Lib.Claim
public import Idealize.ShloMosaic.Lib.Pointwise

@[expose] public section

set_option maxRecDepth 16384

noncomputable section

namespace Cert.ProjProof

open Cert.Kernel4Ideal Cert.Kernel4Ideal.Gen Cert.Layer Idealize.ShloMosaic Idealize.ShloMosaic.TcCoe Idealize.ShloMosaic.Tactic
open Idealize.SL Idealize.SL.RA Idealize.SL.BI Idealize.ShloMosaic.Pipeline
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The casting points are the first eight, -/
theorem cond1_iff : ∀ t : Fin cfg0.N, k0_cond1 (grid0.coords t) = 1#1 ↔ t.val < 8 := by
  have h : ∀ t : Fin grid0.N, k0_cond1 (grid0.coords t) = 1#1 ↔ t.val < 8 := by decide +kernel
  exact h

/-- the state is cleared at the next, -/
theorem cond2_iff : ∀ t : Fin cfg0.N, cond2 (grid0.coords t) = 1#1 ↔ t.val = 8 := by
  have h : ∀ t : Fin grid0.N, cond2 (grid0.coords t) = 1#1 ↔ t.val = 8 := by decide +kernel
  exact h

/-- and the computing points are all the others. -/
theorem cond3_iff : ∀ t : Fin cfg0.N, k0_cond3 (grid0.coords t) = 1#1 ↔ ¬ t.val < 8 := by
  have h : ∀ t : Fin grid0.N, k0_cond3 (grid0.coords t) = 1#1 ↔ ¬ t.val < 8 := by decide +kernel
  exact h

theorem coord_val : ∀ t : Fin cfg0.N, (grid0.coords t 0).val = t.val := by
  have h : ∀ t : Fin grid0.N, (grid0.coords t 0).val = t.val := by decide +kernel
  exact h

theorem flush_out4 : ∀ t : Fin cfg0.N, (cfg0.win 4).flush t = true ↔ ¬ t.val < 8 := by
  have h : ∀ t : Fin grid0.N, win0_4.flush t = true ↔ ¬ t.val < 8 := by decide +kernel
  exact h

theorem flush_out5 : ∀ t : Fin cfg0.N, (cfg0.win 5).flush t = true ↔ ¬ t.val < 8 := by
  have h : ∀ t : Fin grid0.N, win0_5.flush t = true ↔ ¬ t.val < 8 := by decide +kernel
  exact h

theorem flush_out6 : ∀ t : Fin cfg0.N, (cfg0.win 6).flush t = true ↔ ¬ t.val < 8 := by
  have h : ∀ t : Fin grid0.N, win0_6.flush t = true ↔ ¬ t.val < 8 := by decide +kernel
  exact h

theorem flush_out7 : ∀ t : Fin cfg0.N, (cfg0.win 7).flush t = true ↔ ¬ t.val < 8 := by
  have h : ∀ t : Fin grid0.N, win0_7.flush t = true ↔ ¬ t.val < 8 := by decide +kernel
  exact h

theorem flush_out8 : ∀ t : Fin cfg0.N, (cfg0.win 8).flush t = true ↔ ¬ t.val < 8 := by
  have h : ∀ t : Fin grid0.N, win0_8.flush t = true ↔ ¬ t.val < 8 := by decide +kernel
  exact h

/-- A casting point, by the number of its slabs, -/
abbrev pt (k : Fin 8) : Fin cfg0.N := ⟨k.val, lt_of_lt_of_eq (lt_trans k.isLt (by decide : 8 < 40)) N_0.symm⟩

/-- and a computing point, by the number of its tile. -/
def tp (k : ℕ) : Fin cfg0.N := ⟨min (8 + k) 39, lt_of_le_of_lt (Nat.min_le_right _ _) (lt_of_lt_of_eq (by decide : 39 < 40) N_0.symm)⟩

theorem tp_of (t : Fin cfg0.N) (h : ¬ t.val < 8) : tp (t.val - 8) = t :=
  Fin.ext (by have h' := lt_of_lt_of_eq t.isLt N_0; show min (8 + (t.val - 8)) 39 = t.val; omega)

/-- The cast slabs of one point. -/
def slab0 (c : Dev nD) (t : Fin cfg0.N) : Vec F S128x6144 .bf16 := cast0 (iblk m c 3 t)
def slab1 (c : Dev nD) (t : Fin cfg0.N) : Vec F S1024x128 .bf16 := cast1 (iblk m c 3 t)

/-- The kept weights once every slab is cast. -/
def kept0 (c : Dev nD) : Vec F S1024x6144 .bf16 := fun y =>
  slab0 m c (pt ⟨(y 0).val / 128, Nat.div_lt_of_lt_mul (y 0).isLt⟩) (ix2 ⟨(y 0).val % 128, Nat.mod_lt _ (by decide)⟩ (y 1))
def kept1 (c : Dev nD) : Vec F S1024x1024 .bf16 := fun y =>
  slab1 m c (pt ⟨(y 1).val / 128, Nat.div_lt_of_lt_mul (y 1).isLt⟩) (ix2 (y 0) ⟨(y 1).val % 128, Nat.mod_lt _ (by decide)⟩)

/-- The kept weights agree with the cast ones in the slabs of the first `n` points. -/
def Filled (c : Dev nD) (n : ℕ) (w0 : Vec F S1024x6144 .bf16) (w1 : Vec F S1024x1024 .bf16) : Prop :=
  (∀ y : S1024x6144.Idx, (y 0).val < 128 * n → w0 y = kept0 m c y) ∧ (∀ y : S1024x1024.Idx, (y 1).val < 128 * n → w1 y = kept1 m c y)

theorem Filled.zero (c : Dev nD) (w0 : Vec F S1024x6144 .bf16) (w1 : Vec F S1024x1024 .bf16) : Filled m c 0 w0 w1 :=
  ⟨fun _ h => absurd h (by omega), fun _ h => absurd h (by omega)⟩

/-- Once all are cast they are the whole of them. -/
theorem Filled.eq {c : Dev nD} {n : ℕ} {w0 : Vec F S1024x6144 .bf16} {w1 : Vec F S1024x1024 .bf16}
    (h : Filled m c n w0 w1) (hn : ¬ n < 8) : w0 = kept0 m c ∧ w1 = kept1 m c :=
  ⟨funext fun y => h.1 y (by have h0 := (y 0).isLt; change (y 0).val < 1024 at h0; omega),
   funext fun y => h.2 y (by have h0 := (y 1).isLt; change (y 1).val < 1024 at h0; omega)⟩

theorem Filled.kept (c : Dev nD) (k : ℕ) : Filled m c k (kept0 m c) (kept1 m c) := ⟨fun _ _ => rfl, fun _ _ => rfl⟩

/-- A casting point's two stores carry the agreement one slab further. -/
theorem Filled.succ {c : Dev nD} {t : Fin cfg0.N} (ht : t.val < 8) {w0 : Vec F S1024x6144 .bf16} {w1 : Vec F S1024x1024 .bf16}
    (h : Filled m c t.val w0 w1) (h1 : k0_cond1 (grid0.coords t) = 1#1)
    (a0 : Memref sig .tc .vmem S1024x6144 .bf16) (ha0 : a0.IsWhole) (a1 : Memref sig .tc .vmem S1024x1024 .bf16) (ha1 : a1.IsWhole) :
    Filled m c (t.val + 1)
      (a0.view.read (Elt F) (a0.view.writes (Elt F) (ha0.unread w0) [⟨Rect.unit (s := S1024x6144) (k0_off1 (grid0.coords t)) S128x6144.size (k0_off1_inb _ h1), slab0 m c t⟩]))
      (a1.view.read (Elt F) (a1.view.writes (Elt F) (ha1.unread w1) [⟨Rect.unit (s := S1024x1024) (k0_off2 (grid0.coords t)) S1024x128.size (k0_off2_inb _ h1), slab1 m c t⟩])) := by
  obtain ⟨g0, g1⟩ := h
  refine ⟨slab_step a0 ha0 w0 (kept0 m c) (slab0 m c t) _ _ t.val (by rw [k0_off1_eq, coord_val]) g0 fun y x hx => ?_,
    col_step a1 ha1 w1 (kept1 m c) (slab1 m c t) _ _ t.val (by rw [k0_off2_eq, coord_val]) g1 fun y x hx => ?_⟩
  · have hq : (y 0).val / 128 = t.val := by have := x.isLt; omega
    have hr : (y 0).val % 128 = x.val := by have := x.isLt; omega
    exact congrArg₂ (fun s i => slab0 m c s (ix2 i (y 1))) (Fin.ext hq.symm) (Fin.ext hr.symm)
  · have hq : (y 1).val / 128 = t.val := by have := x.isLt; omega
    have hr : (y 1).val % 128 = x.val := by have := x.isLt; omega
    exact congrArg₂ (fun s i => slab1 m c s (ix2 (y 0) i)) (Fin.ext hq.symm) (Fin.ext hr.symm)

/-- The state before a tile. -/
def stAt (c : Dev nD) : ℕ → Vec F S8x128x256 .f32
  | 0 => k0_pay3
  | k + 1 => stNext (iblk m c 0 (tp k)) (iblk m c 1 (tp k)) (iblk m c 2 (tp k)) (kept0 m c) (kept1 m c) (stAt c k)

/-- The blocks of the results a computing point leaves. -/
def oq (c : Dev nD) (t : Fin cfg0.N) : Vec F S512x1024 .bf16 := qOut (iblk m c 1 t) (iblk m c 2 t) (kept0 m c)
def okt (c : Dev nD) (t : Fin cfg0.N) : Vec F S1024x512 .bf16 := ktOut (iblk m c 1 t) (iblk m c 2 t) (kept1 m c)
def ov (c : Dev nD) (t : Fin cfg0.N) : Vec F S512x2048 .bf16 := both (vHalf (iblk m c 1 t) (iblk m c 2 t) (kept0 m c))
def og (c : Dev nD) (t : Fin cfg0.N) : Vec F S512x2048 .bf16 := both (gateHalf (iblk m c 1 t) (iblk m c 2 t) (kept0 m c))
def orf (c : Dev nD) (t : Fin cfg0.N) : Vec F S2x8x128x256 .bf16 :=
  rfOut (iblk m c 0 t) (iblk m c 1 t) (iblk m c 2 t) (kept0 m c) (kept1 m c) (stAt m c (t.val - 8))

theorem stAt_next (c : Dev nD) (t : Fin cfg0.N) (h : ¬ t.val < 8) :
    stAt m c (t.val + 1 - 8) = stNext (iblk m c 0 t) (iblk m c 1 t) (iblk m c 2 t) (kept0 m c) (kept1 m c) (stAt m c (t.val - 8)) := by
  have e : t.val + 1 - 8 = (t.val - 8) + 1 := by omega
  rw [e]
  show stNext (iblk m c 0 (tp (t.val - 8))) (iblk m c 1 (tp (t.val - 8))) (iblk m c 2 (tp (t.val - 8))) _ _ _ = _
  rw [tp_of t h]

/-- What holds before the point numbered `n`: the kept weights agree with the cast ones in the slabs of the points before it, and the
state is the tiles' before it. -/
def Carry (c : Dev nD) (n : ℕ) : sProp 𝕄 :=
  iprop(∃ w0 : Vec F S1024x6144 .bf16, ∃ w1 : Vec F S1024x1024 .bf16, ∃ s : Vec F S8x128x256 .f32,
    ⌜Filled m c n w0 w1 ∧ (8 < n → s = stAt m c (n - 8))⌝
    ∗ owns (c : Thread nD τ) (Memref.whole cc0_scratch0) fullShare w0 ∗ owns (c : Thread nD τ) (Memref.whole cc0_scratch1) fullShare w1
    ∗ owns (c : Thread nD τ) (Memref.whole cc0_scratch2) fullShare s ∗ ∃ r, prngReg c r)

/-- The proof data: the arrays as the call finds them, each input's block left in place, each result's block at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oq m c t
    | ⟨5, _⟩ => okt m c t
    | ⟨6, _⟩ => ov m c t
    | ⟨7, _⟩ => og m c t
    | ⟨8, _⟩ => orf m c t
  Φ t := Carry m c t.val
  q _ := fullShare
  owed _ := 0

theorem dats_A (c : Dev nD) (w : Fin cfg0.W) : (dats m 0 c).A w = V m c (Pipeline.arrRef spec0 w) := by dsimp only [dats]

theorem dats_after0 (c : Dev nD) (t : Fin cfg0.N) : (dats m 0 c).after 0 t = iblk m c 0 t := by dsimp only [dats]
theorem dats_after1 (c : Dev nD) (t : Fin cfg0.N) : (dats m 0 c).after 1 t = iblk m c 1 t := by dsimp only [dats]
theorem dats_after2 (c : Dev nD) (t : Fin cfg0.N) : (dats m 0 c).after 2 t = iblk m c 2 t := by dsimp only [dats]
theorem dats_after3 (c : Dev nD) (t : Fin cfg0.N) : (dats m 0 c).after 3 t = iblk m c 3 t := by dsimp only [dats]
theorem dats_after4 (c : Dev nD) (t : Fin cfg0.N) : (dats m 0 c).after 4 t = oq m c t := by dsimp only [dats]
theorem dats_after5 (c : Dev nD) (t : Fin cfg0.N) : (dats m 0 c).after 5 t = okt m c t := by dsimp only [dats]
theorem dats_after6 (c : Dev nD) (t : Fin cfg0.N) : (dats m 0 c).after 6 t = ov m c t := by dsimp only [dats]
theorem dats_after7 (c : Dev nD) (t : Fin cfg0.N) : (dats m 0 c).after 7 t = og m c t := by dsimp only [dats]
theorem dats_after8 (c : Dev nD) (t : Fin cfg0.N) : (dats m 0 c).after 8 t = orf m c t := by dsimp only [dats]
theorem dats_before0 (c : Dev nD) (t : Fin cfg0.N) (d) : (dats m 0 c).before 0 t d = iblk m c 0 t :=
  before0_0_of m (dats m 0 c) (dats_A m c 0) (dats_after0 m c) t d
theorem dats_before1 (c : Dev nD) (t : Fin cfg0.N) (d) : (dats m 0 c).before 1 t d = iblk m c 1 t :=
  before0_1_of m (dats m 0 c) (dats_A m c 1) (dats_after1 m c) t d
theorem dats_before2 (c : Dev nD) (t : Fin cfg0.N) (d) : (dats m 0 c).before 2 t d = iblk m c 2 t :=
  before0_2_of m (dats m 0 c) (dats_A m c 2) (dats_after2 m c) t d
theorem dats_before3 (c : Dev nD) (t : Fin cfg0.N) (d) : (dats m 0 c).before 3 t d = iblk m c 3 t :=
  before0_3_of m (dats m 0 c) (dats_A m c 3) (dats_after3 m c) t d

/-- What the body is called with at point `t`, -/
def bodyPre (c : Dev nD) (t : Fin cfg0.N) : sProp 𝕄 :=
  iprop(Carry m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns, the results' buffers as `R` says. -/
def bodyPost (c : Dev nD) (t : Fin cfg0.N) (R : sProp 𝕄) : sProp 𝕄 :=
  iprop(Carry m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ R)

/-- The results' buffers passed through, -/
def keepR (c : Dev nD) (t : Fin cfg0.N) : sProp 𝕄 :=
  iprop((∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- or left at their blocks. -/
def outR (c : Dev nD) (t : Fin cfg0.N) : sProp 𝕄 :=
  iprop(owns (c : Thread nD τ) (st0_4 t) fullShare (oq m c t)
    ∗ owns (c : Thread nD τ) (st0_5 t) fullShare (okt m c t)
    ∗ owns (c : Thread nD τ) (st0_6 t) fullShare (ov m c t)
    ∗ owns (c : Thread nD τ) (st0_7 t) fullShare (og m c t)
    ∗ owns (c : Thread nD τ) (st0_8 t) fullShare (orf m c t))

set_option maxHeartbeats 4000000 in
/-- The body at a casting point: the results' buffers pass through. -/
theorem sound_cast (c : Dev nD) (t : Fin cfg0.N) (ht : t.val < 8) :
    bodyPre m c t ⊢ wp frame (wpE (defs₀ (F := F)) Variants.none c none) Set.univ (bodyAt0 t) (fun _ => bodyPost m c t (keepR m c t)) := by
  unfold bodyPre bodyPost keepR bodyAt0 Carry
  simp only [dats_before0, dats_before1, dats_before2, dats_before3]
  rw [show (dats m 0 c).owesAt () t.succ = (dats m 0 c).owesAt () t.castSucc from rfl, dats_after0, dats_after1, dats_after2, dats_after3]
  iintro ⟨⟨%w0, %w1, %s, %hw, G0, G1, G2, Hp⟩, Ho, ⟨%d0, H0⟩, ⟨%d1, H1⟩, ⟨%d2, H2⟩, ⟨%d3, H3⟩, H4, H5, H6, H7, H8⟩
  have h1 := (cond1_iff t).mpr ht
  have h2 : ¬ cond2 (grid0.coords t) = 1#1 := fun h => by have := (cond2_iff t).mp h; omega
  have h3 : ¬ k0_cond3 (grid0.coords t) = 1#1 := fun h => (cond3_iff t).mp h ht
  iapply ((castRun c (grid0.coords t) h1 h2 h3 _ _ _ _ _ _ _ _ _ _ _ _ _ _ _ _ _ _ _ _ _ _ _ _ (iblk m c 3 t) w0 w1).2 Set.univ _)
  isplitl [H3]; · iexact H3
  isplitl [G0]; · iexact G0
  isplitl [G1]; · iexact G1
  rw [cast_pieces]
  dsimp only
  iintro ⟨H3, G0, G1⟩
  isplitl [G0 G1 G2 Hp]
  · iexists _; iexists _; iexists s
    isplitr
    · ipureintro; exact ⟨Filled.succ m ht hw.1 h1 (Memref.whole cc0_scratch0) (Memref.isWhole_whole _) (Memref.whole cc0_scratch1) (Memref.isWhole_whole _), fun h => absurd h (by omega)⟩
    isplitl [G0]
    · unfold owns; iexists _; isplitr
      swap; · iexact G0
      ipureintro; rfl
    isplitl [G1]
    · unfold owns; iexists _; isplitr
      swap; · iexact G1
      ipureintro; rfl
    isplitl [G2]; · iexact G2
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 8000000 in
/-- The body at the first computing point: the results' buffers are left at their blocks, from the zero state. -/
theorem sound_first (c : Dev nD) (t : Fin cfg0.N) (ht : t.val = 8) :
    bodyPre m c t ⊢ wp frame (wpE (defs₀ (F := F)) Variants.none c none) Set.univ (bodyAt0 t) (fun _ => bodyPost m c t (outR m c t)) := by
  unfold bodyPre bodyPost outR bodyAt0 Carry
  simp only [dats_before0, dats_before1, dats_before2, dats_before3]
  rw [show (dats m 0 c).owesAt () t.succ = (dats m 0 c).owesAt () t.castSucc from rfl, dats_after0, dats_after1, dats_after2, dats_after3]
  iintro ⟨⟨%w0, %w1, %s, %hw, G0, G1, G2, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have ht8 : ¬ t.val < 8 := by omega
  have h1 : ¬ k0_cond1 (grid0.coords t) = 1#1 := fun h => ht8 ((cond1_iff t).mp h)
  have h2 := (cond2_iff t).mpr ht
  have h3 := (cond3_iff t).mpr ht8
  obtain ⟨hw, hs⟩ := hw
  obtain ⟨e0, e1⟩ := hw.eq m ht8
  subst e0; subst e1
  have z8 : stAt m c (t.val - 8) = k0_pay3 := by rw [ht]; rfl
  iapply ((firstRun c (grid0.coords t) h1 h2 h3 _ _ _ _ _ _ _ _ _ _ _ _ _ _ _ _ _ _ _ _ _ _ _ _ (iblk m c 0 t) (iblk m c 1 t) (iblk m c 2 t) (kept0 m c) (kept1 m c)).2 Set.univ _)
  isplitl [H0]; · iexact H0
  isplitl [H1]; · iexact H1
  isplitl [H2]; · iexact H2
  isplitl [G0]; · iexact G0
  isplitl [G1]; · iexact G1
  isplitl [H4]; · iexists _; iexact H4
  isplitl [H5]; · iexists _; iexact H5
  isplitl [H6]; · iexists _; iexact H6
  isplitl [H7]; · iexists _; iexact H7
  isplitl [H8]; · iexists _; iexact H8
  isplitl [G2]; · iexists _; iexact G2
  rw [first_pieces]
  dsimp only
  iintro ⟨H0, H1, H2, G0, G1, ⟨%f4, H4⟩, ⟨%f5, H5⟩, ⟨%f6, H6⟩, ⟨%f7, H7⟩, ⟨%f8, H8⟩, ⟨%f12, G2⟩⟩
  isplitl [G0 G1 G2 Hp]
  · iexists _; iexists _; iexists (stAt m c (t.val + 1 - 8))
    isplitr
    · ipureintro; exact ⟨Filled.kept m c (t.val + 1), fun _ => rfl⟩
    isplitl [G0]; · iexact G0
    isplitl [G1]; · iexact G1
    isplitl [G2]
    · unfold owns; iexists _; isplitr
      swap; · iexact G2
      ipureintro
      rw [stAt_next m c t ht8]
      rw [z8]
      exact store_state_after _ _ _ _ _ _ _ _ _
    iexact Hp
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact store_whole _ _ _ _
  isplitl [H5]
  · unfold owns; iexists _; isplitr
    swap; · iexact H5
    ipureintro; exact store_whole _ _ _ _
  isplitl [H6]
  · unfold owns; iexists _; isplitr
    swap; · iexact H6
    ipureintro; exact store_halves _ _ _
  isplitl [H7]
  · unfold owns; iexists _; isplitr
    swap; · iexact H7
    ipureintro; exact store_halves _ _ _
  unfold owns; iexists _; isplitr
  swap; · iexact H8
  ipureintro
  unfold orf
  rw [z8]
  exact store_rf _ _ _ _ _ _ _ _

set_option maxHeartbeats 8000000 in
/-- The body at a later computing point: the same, from the state kept. -/
theorem sound_tile (c : Dev nD) (t : Fin cfg0.N) (ht : 8 < t.val) :
    bodyPre m c t ⊢ wp frame (wpE (defs₀ (F := F)) Variants.none c none) Set.univ (bodyAt0 t) (fun _ => bodyPost m c t (outR m c t)) := by
  unfold bodyPre bodyPost outR bodyAt0 Carry
  simp only [dats_before0, dats_before1, dats_before2, dats_before3]
  rw [show (dats m 0 c).owesAt () t.succ = (dats m 0 c).owesAt () t.castSucc from rfl, dats_after0, dats_after1, dats_after2, dats_after3]
  iintro ⟨⟨%w0, %w1, %s, %hw, G0, G1, G2, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have ht8 : ¬ t.val < 8 := by omega
  have h1 : ¬ k0_cond1 (grid0.coords t) = 1#1 := fun h => ht8 ((cond1_iff t).mp h)
  have h2 : ¬ cond2 (grid0.coords t) = 1#1 := fun h => by have := (cond2_iff t).mp h; omega
  have h3 := (cond3_iff t).mpr ht8
  obtain ⟨hw, hs⟩ := hw
  obtain ⟨e0, e1⟩ := hw.eq m ht8
  subst e0; subst e1
  obtain rfl := hs ht
  iapply ((tileRun c (grid0.coords t) h1 h2 h3 _ _ _ _ _ _ _ _ _ _ _ _ _ _ _ _ _ _ _ _ _ _ _ _ (iblk m c 0 t) (iblk m c 1 t) (iblk m c 2 t) (kept0 m c) (kept1 m c) (stAt m c (t.val - 8))).2 Set.univ _)
  isplitl [H0]; · iexact H0
  isplitl [H1]; · iexact H1
  isplitl [H2]; · iexact H2
  isplitl [G0]; · iexact G0
  isplitl [G1]; · iexact G1
  isplitl [G2]; · iexact G2
  isplitl [H4]; · iexists _; iexact H4
  isplitl [H5]; · iexists _; iexact H5
  isplitl [H6]; · iexists _; iexact H6
  isplitl [H7]; · iexists _; iexact H7
  isplitl [H8]; · iexists _; iexact H8
  rw [tile_pieces]
  dsimp only
  iintro ⟨H0, H1, H2, G0, G1, ⟨%f4, H4⟩, ⟨%f5, H5⟩, ⟨%f6, H6⟩, ⟨%f7, H7⟩, ⟨%f8, H8⟩, G2⟩
  isplitl [G0 G1 G2 Hp]
  · iexists _; iexists _; iexists (stAt m c (t.val + 1 - 8))
    isplitr
    · ipureintro; exact ⟨Filled.kept m c (t.val + 1), fun _ => rfl⟩
    isplitl [G0]; · iexact G0
    isplitl [G1]; · iexact G1
    isplitl [G2]
    · unfold owns; iexists _; isplitr
      swap; · iexact G2
      ipureintro
      rw [stAt_next m c t ht8]
      exact store_state _ _ _ _ _ _ _ _
    iexact Hp
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact store_whole _ _ _ _
  isplitl [H5]
  · unfold owns; iexists _; isplitr
    swap; · iexact H5
    ipureintro; exact store_whole _ _ _ _
  isplitl [H6]
  · unfold owns; iexists _; isplitr
    swap; · iexact H6
    ipureintro; exact store_halves _ _ _
  isplitl [H7]
  · unfold owns; iexists _; isplitr
    swap; · iexact H7
    ipureintro; exact store_halves _ _ _
  unfold owns; iexists _; isplitr
  swap; · iexact H8
  ipureintro
  unfold orf
  exact store_rf _ _ _ _ _ _ _ _

/-- The body table's row at point `t`'s slots. -/
theorem row_eq (t : Fin cfg0.N) : defs₀ (F := F) .tc cfg0.body (cfg0.bodyArgs t (cfg0.slots t)) = bodyAt0 t := by
  unfold defs₀; rw [Defs.onTc_tc]

theorem idle_out (t : Fin cfg0.N) : idle0 4 (grid0.coords t) = decide (t.val < 8) := by
  by_cases h : t.val < 8
  · have h2 : ¬ k0_cond3 (grid0.coords t) = 1#1 := fun h' => (cond3_iff t).mp h' h
    rw [decide_eq_true h]
    change (!(k0_cond3 (grid0.coords t) == 1#1)) = true
    rw [beq_eq_false_iff_ne.mpr h2]; rfl
  · rw [decide_eq_false h]
    change (!(k0_cond3 (grid0.coords t) == 1#1)) = false
    rw [(cond3_iff t).mpr h]; rfl

theorem flush_early4 (t : Fin cfg0.N) (h : t.val < 8) : (win0 4).flush t = false :=
  Bool.eq_false_iff.mpr fun h' => (flush_out4 t).mp h' h

theorem flush_early5 (t : Fin cfg0.N) (h : t.val < 8) : (win0 5).flush t = false :=
  Bool.eq_false_iff.mpr fun h' => (flush_out5 t).mp h' h

theorem flush_early6 (t : Fin cfg0.N) (h : t.val < 8) : (win0 6).flush t = false :=
  Bool.eq_false_iff.mpr fun h' => (flush_out6 t).mp h' h

theorem flush_early7 (t : Fin cfg0.N) (h : t.val < 8) : (win0 7).flush t = false :=
  Bool.eq_false_iff.mpr fun h' => (flush_out7 t).mp h' h

theorem flush_early8 (t : Fin cfg0.N) (h : t.val < 8) : (win0 8).flush t = false :=
  Bool.eq_false_iff.mpr fun h' => (flush_out8 t).mp h' h

/-- The library's body obligation, at every point. -/
theorem body_obligation (c : Dev nD) : BodyObligation (dats (F := F) m 0 c) (defs₀ (F := F)) Variants.none () Set.univ := fun t => by
  rw [bigSep_W0, bigSep_W0, row_eq]
  dsimp only
  rw [idle_out]
  by_cases h : t.val < 8
  · rw [decide_eq_true h, flush_early4 t h, flush_early5 t h, flush_early6 t h, flush_early7 t h, flush_early8 t h]
    exact triple_restated (sound_cast m c t h) rfl .rfl fun _ => .rfl
  · rw [decide_eq_false h]
    by_cases h8 : t.val = 8
    · exact triple_restated (sound_first m c t h8) rfl .rfl fun _ => .rfl
    · exact triple_restated (sound_tile m c t (by omega)) rfl .rfl fun _ => .rfl

theorem carry_in (c : Dev nD) : Pipeline.ΦA spec0 c ⊢ (dats (F := F) m 0 c).Φ 0 := by
  change Pipeline.ΦA spec0 c ⊢ Carry m c 0
  unfold Pipeline.ΦA Carry
  rw [scopedRest0_eq]
  simp only [owns_whole]
  iintro ⟨⟨⟨%f0, G0⟩, ⟨%f1, G1⟩, ⟨%f2, G2⟩⟩, Hp⟩
  iexists f0; iexists f1; iexists f2
  isplitr; · ipureintro; exact ⟨Filled.zero m c f0 f1, fun h => absurd h (by omega)⟩
  isplitl [G0]; · iexact G0
  isplitl [G1]; · iexact G1
  isplitl [G2]; · iexact G2
  iexact Hp

theorem carry_out (c : Dev nD) : (dats (F := F) m 0 c).Φ (Fin.last cfg0.N) ⊢ Pipeline.ΦA spec0 c := by
  change Carry m c cfg0.N ⊢ Pipeline.ΦA spec0 c
  unfold Pipeline.ΦA Carry
  rw [scopedRest0_eq]
  simp only [owns_whole]
  iintro ⟨%w0, %w1, %s, %hw, G0, G1, G2, Hp⟩
  isplitr [Hp]
  · isplitl [G0]; · iexists _; iexact G0
    isplitl [G1]; · iexists _; iexact G1
    iexists _; iexact G2
  iexact Hp

set_option backward.isDefEq.respectTransparency.types false in
/-- Every run of the program ends, the pipeline's arrays at what the proof data say and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun _ _ => by unfold Dat.share; exact ite_self _)
    (howed := fun _ _ => rfl) (V := V m) (hmain := hmain m Variants.none) (hA := dats_A m) (hin := carry_in m) (hout := carry_out m)

/-- The frame, whatever the values are. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (dats_A m) ((θ_run defs _ _).mono (fun _ h => h.1) (run_quiescent m ρ)))
    ((θ_run defs _ _).mono (fun _ h => h.2) (run_quiescent m ρ))

end Cert.ProjProof
end
-- ==== Proof.ProjSame.lean ====
module

public import proofs.«01_k».proof.Proof.ProjFrame
public import proofs.«01_k».proof.Proof.Gen.Kernel4

@[expose] public section

set_option maxRecDepth 65536

noncomputable section

namespace Cert.ProjProof

open Idealize.ShloMosaic Idealize.ShloMosaic.TcCoe Idealize.SL.Sem

variable {F : FTy → Type} [FloatOps F]

/-- A call's record of one text as the other's. -/
def soft (φ : Cert.Kernel4.fn_softplus.Bufs) : Cert.Kernel4Ideal.fn_softplus.Bufs :=
  ⟨φ.cst, φ.v0, φ.v1, φ.v2, φ.v3, φ.v4, φ.v5, φ.v6, φ.v7, φ.v8, φ.v9, φ.v10, φ.v11, φ.v12⟩

/-- The two printed programs are one text: what the host calls, -/
theorem soft_same (a : StableHlo.TRef Cert.Kernel4.sig ⟨Cert.Kernel4.S8, .f32⟩) (φ : Cert.Kernel4.fn_softplus.Bufs) :
    Cert.Kernel4.fn_softplus.body (F := F) a φ = Cert.Kernel4Ideal.fn_softplus.body a (soft φ) := by
  unfold Cert.Kernel4.fn_softplus.body Cert.Kernel4Ideal.fn_softplus.body
  rfl

theorem sigmoid_same (a : StableHlo.TRef Cert.Kernel4.sig ⟨Cert.Kernel4.S8, .f32⟩) (φ : Cert.Kernel4.fn_log_sigmoid.Bufs) :
    Cert.Kernel4.fn_log_sigmoid.body (F := F) a φ = Cert.Kernel4Ideal.fn_log_sigmoid.body a ⟨φ.v0, soft φ.call0, φ.v2⟩ := by
  unfold Cert.Kernel4.fn_log_sigmoid.body Cert.Kernel4Ideal.fn_log_sigmoid.body
  rw [soft_same]
  rfl

/-- the host part, -/
theorem main_same : Cert.Kernel4.main (F := F) = Cert.Kernel4Ideal.main := by
  unfold Cert.Kernel4.main Cert.Kernel4Ideal.main
  rw [sigmoid_same]
  rfl

set_option maxHeartbeats 8000000 in
/-- the table of bodies, -/
theorem table_same : Cert.Kernel4.defs₀ (F := F) = Cert.Kernel4Ideal.defs₀ := by
  unfold Cert.Kernel4.defs₀ Cert.Kernel4Ideal.defs₀
  refine congrArg (Defs.onTc (τ := Cert.Kernel4.τ)) ?_
  funext l x
  match l with
  | ⟨0, _⟩ => rfl

/-- and the pipeline's. -/
theorem defs_same : Cert.Kernel4.defs (F := F) = Cert.Kernel4Ideal.defs :=
  congrArg (Pipeline.defs (Cert.Kernel4Ideal.pcfgs (F := F))) table_same

end Cert.ProjProof
end
-- ==== Proof.ProjMath.lean ====
module

public import proofs.«01_k».proof.Proof.LayerRow
public import Idealize.ShloMosaic.Lib.Pointwise

@[expose] public section

set_option maxRecDepth 16384

noncomputable section

namespace Cert.ProjProof

open Idealize.ShloMosaic

/-! ## Words as numbers -/

theorem half_word : Ideal.ofBits .f32 0x3F000000#32 = ((1 / 2 : ℝ) : EReal) := by
  simp [Ideal.ofBits, Ideal.ieee]
  rw [← EReal.coe_mul]
  norm_num
theorem w255 : Ideal.ofBits .f32 0x437F0000#32 = ((255 : ℝ) : EReal) := by
  simp [Ideal.ofBits, Ideal.ieee]
  rw [← EReal.coe_mul]
  norm_num
theorem w256 : Ideal.ofBits .f32 0x43800000#32 = ((256 : ℝ) : EReal) := by
  simp [Ideal.ofBits, Ideal.ieee]
  rw [← EReal.coe_mul]
  norm_num

/-! ## The gate -/

theorem logistic_tanh (y : EReal) :
    Ideal.ofBits .f32 0x3F000000#32 * Ideal.tanh (Ideal.ofBits .f32 0x3F000000#32 * y) + Ideal.ofBits .f32 0x3F000000#32 = Ideal.logistic y := by
  rw [half_word]
  induction y with
  | bot =>
    rw [EReal.coe_mul_bot_of_pos (by norm_num), Ideal.tanh_bot, Ideal.logistic_bot]
    rw [show (-1 : EReal) = ((-1 : ℝ) : EReal) from rfl, ← EReal.coe_mul, ← EReal.coe_add]
    norm_num
  | top =>
    rw [EReal.coe_mul_top_of_pos (by norm_num), Ideal.tanh_top, Ideal.logistic_top]
    rw [show (1 : EReal) = ((1 : ℝ) : EReal) from rfl, ← EReal.coe_mul, ← EReal.coe_add]
    norm_num
  | coe r =>
    rw [← EReal.coe_mul, Ideal.tanh_coe, Ideal.logistic_coe, ← EReal.coe_mul, ← EReal.coe_add]
    refine congrArg _ ?_
    have e : Real.exp (-r) = Real.exp (-(1 / 2 * r)) * Real.exp (-(1 / 2 * r)) := by rw [← Real.exp_add]; congr 1; ring
    have hp := Real.exp_pos (1 / 2 * r)
    have hn := Real.exp_pos (-(1 / 2 * r))
    have h1 : Real.exp (1 / 2 * r) * Real.exp (-(1 / 2 * r)) = 1 := by rw [← Real.exp_add]; simp
    rw [Real.tanh_eq_sinh_div_cosh, Real.sinh_eq, Real.cosh_eq, e]
    generalize Real.exp (1 / 2 * r) = a at *
    generalize Real.exp (-(1 / 2 * r)) = b at *
    have hb : b = a⁻¹ := by field_simp; linarith
    subst hb
    field_simp
    ring

/-! ## The decaying state -/

/-- A state over chunks of 256 tokens: decayed over each, each token's contribution decayed to the chunk's end. -/
def chain (l : EReal) (K V : ℕ → EReal) : ℕ → EReal
  | 0 => 0
  | c + 1 => chain l K V c * Ideal.exp (l * ((256 : ℝ) : EReal))
      + ∑ t : Fin 256, K (256 * c + t.val) * Ideal.exp (l * ((255 - t.val : ℝ) : EReal)) * V (256 * c + t.val)

/-- What is left of a token in the state before a chunk. -/
def gam (l : EReal) (c n : ℕ) : EReal := if n < 256 * c then Ideal.exp (l * (((256 * c - 1 - n : ℕ) : ℝ) : EReal)) else 0

theorem sum_mul_const {ι : Type} (s : Finset ι) (f : ι → EReal) (a : EReal) (h0 : 0 ≤ a) (ht : a ≠ ⊤) : (∑ i ∈ s, f i) * a = ∑ i ∈ s, f i * a := by
  classical
  induction s using Finset.induction_on with
  | empty => simp
  | insert i s hi ih => rw [Finset.sum_insert hi, Finset.sum_insert hi, mul_comm, EReal.left_distrib_of_nonneg_of_ne_top h0 ht, mul_comm a, mul_comm a, ih]

theorem exp_nonneg (x : EReal) : 0 ≤ Ideal.exp x := by
  induction x with
  | bot => simp
  | top => simp
  | coe r => rw [Ideal.exp_coe]; exact_mod_cast (Real.exp_pos r).le

theorem exp_ne_top (l : EReal) (hl : l ≠ ⊤) : Ideal.exp (l * ((256 : ℝ) : EReal)) ≠ ⊤ := by
  induction l with
  | bot => rw [EReal.bot_mul_coe_of_pos (by norm_num)]; simp
  | top => exact absurd rfl hl
  | coe r => rw [← EReal.coe_mul, Ideal.exp_coe]; exact EReal.coe_ne_top _

theorem exp_shift (l : EReal) (hl : l ≠ ⊤) (x : ℝ) (hx : 0 ≤ x) :
    Ideal.exp (l * (x : EReal)) * Ideal.exp (l * ((256 : ℝ) : EReal)) = Ideal.exp (l * ((256 + x : ℝ) : EReal)) := by
  induction l with
  | bot =>
    rw [EReal.bot_mul_coe_of_pos (show (0 : ℝ) < 256 by norm_num), EReal.bot_mul_coe_of_pos (show (0 : ℝ) < 256 + x by linarith)]; simp
  | top => exact absurd rfl hl
  | coe r =>
    rw [← EReal.coe_mul, ← EReal.coe_mul, ← EReal.coe_mul, Ideal.exp_coe, Ideal.exp_coe, Ideal.exp_coe, ← EReal.coe_mul, ← Real.exp_add]
    congr 2; ring

theorem chain_range (l : EReal) (hl : l ≠ ⊤) (K V : ℕ → EReal) (c : ℕ) :
    chain l K V c = ∑ n ∈ Finset.range (256 * c), V n * (gam l c n * K n) := by
  induction c with
  | zero => rfl
  | succ c ih =>
    rw [Nat.mul_succ, Finset.sum_range_add, chain, ih, sum_mul_const _ _ _ (exp_nonneg _) (exp_ne_top l hl),
      ← Fin.sum_univ_eq_sum_range (fun x => V (256 * c + x) * (gam l (c + 1) (256 * c + x) * K (256 * c + x)))]
    refine congrArg₂ (· + ·) (Finset.sum_congr rfl fun n hn => ?_) (Finset.sum_congr rfl fun t _ => ?_)
    · have h := Finset.mem_range.mp hn
      unfold gam
      rw [if_pos h, if_pos (by omega)]
      have e : (((256 * (c + 1) - 1 - n : ℕ) : ℝ)) = 256 + ((256 * c - 1 - n : ℕ) : ℝ) := by
        rw [show 256 * (c + 1) - 1 - n = 256 + (256 * c - 1 - n) by omega]; push_cast; ring
      rw [e, ← exp_shift l hl _ (Nat.cast_nonneg _)]
      ac_rfl
    · have h := t.isLt
      unfold gam
      rw [if_pos (by omega)]
      have e : (((256 * (c + 1) - 1 - (256 * c + t.val) : ℕ) : ℝ)) = 255 - (t.val : ℝ) := by
        rw [show 256 * (c + 1) - 1 - (256 * c + t.val) = 255 - t.val by omega, Nat.cast_sub (by omega)]; norm_num
      rw [e]
      ac_rfl

/-- The state before a chunk is the sum of what is left of every token. -/
theorem chain_eq (l : EReal) (hl : l ≠ ⊤) (K V : ℕ → EReal) (c : ℕ) (hc : c ≤ 64) :
    chain l K V c = ∑ n : Fin 16384, V n.val * (gam l c n.val * K n.val) := by
  rw [chain_range l hl, Fin.sum_univ_eq_sum_range (fun n => V n * (gam l c n * K n))]
  refine Finset.sum_subset (fun n hn => Finset.mem_range.mpr ?_) fun n _ hn => ?_
  · have := Finset.mem_range.mp hn; omega
  · unfold gam
    rw [if_neg (fun h => hn (Finset.mem_range.mpr h)), zero_mul, mul_zero]

end Cert.ProjProof
end
-- ==== Proof.ProjValue.lean ====
module

public import proofs.«01_k».proof.Proof.ProjFill
public import proofs.«01_k».proof.Proof.ProjMath

@[expose] public section

set_option maxRecDepth 16384

noncomputable section

namespace Cert.ProjProof

open Cert.Layer Idealize.ShloMosaic Idealize.ShloMosaic.TcCoe Idealize.ShloMosaic.Tactic
open Idealize.SL.Sem

/-! ## The projections over one row of numbers -/

/-- A column of the normalised row's product with the weights, -/
def prodOf (g : Fin 1024 → EReal) (w : Fin 1024 → Fin 6144 → EReal) (x : Fin 1024 → EReal) (j : Fin 6144) : EReal :=
  ∑ e, normOf g x e * w e j

/-- a key's, scaled, -/
def keyOf (g : Fin 1024 → EReal) (w : Fin 1024 → Fin 6144 → EReal) (x : Fin 1024 → EReal) (d : Fin 1024) : EReal :=
  prodOf g w x ⟨1024 + d.val, by omega⟩ * Ideal.ofBits .f32 0x3DB504F3#32

/-- a value's, -/
def valOf (g : Fin 1024 → EReal) (w : Fin 1024 → Fin 6144 → EReal) (x : Fin 1024 → EReal) (d : Fin 2048) : EReal :=
  prodOf g w x ⟨2048 + d.val, by omega⟩

/-- a gate's: each by its own logistic. -/
def gateOf (g : Fin 1024 → EReal) (w : Fin 1024 → Fin 6144 → EReal) (x : Fin 1024 → EReal) (d : Fin 2048) : EReal :=
  prodOf g w x ⟨4096 + d.val, by omega⟩ * Ideal.logistic (prodOf g w x ⟨4096 + d.val, by omega⟩)

/-- A chunk of 256 tokens into a state's entry. -/
def stepOf (l s : EReal) (k v : Fin 256 → EReal) : EReal :=
  s * Ideal.exp (l * ((256 : ℝ) : EReal)) + ∑ t : Fin 256, k t * Ideal.exp (l * ((255 - t.val : ℝ) : EReal)) * v t

/-- The tokens' entries as a sequence. -/
def seqOf (f : Fin 16384 → EReal) (n : ℕ) : EReal := if h : n < 16384 then f ⟨n, h⟩ else 0

theorem seqOf_lt (f : Fin 16384 → EReal) (n : ℕ) (h : n < 16384) : seqOf f n = f ⟨n, h⟩ := dif_pos h

theorem chain_step (l : EReal) (K V : ℕ → EReal) (c : ℕ) :
    chain l K V (c + 1) = stepOf l (chain l K V c) (fun t => K (256 * c + t.val)) (fun t => V (256 * c + t.val)) := rfl

/-! ## The kernel's blocks read so -/

section
open Cert.Kernel4Ideal Cert.Kernel4Ideal.Gen

variable (lg : FVec Ideal S8 .f32) (x1 : FVec Ideal S512x1024 .f32) (x2 : FVec Ideal S1x1024 .f32) (w0 : FVec Ideal S1024x6144 .bf16)
  (w1 : FVec Ideal S1024x1024 .bf16) (s : FVec Ideal S8x128x256 .f32)

theorem rows_at (r : Fin 512) (d : Fin 1024) :
    (rows x1 x2 : FVec Ideal S512x1024 .bf16) (ix2 r d) = normOf (fun d => x2 (ix2 0 d)) (fun d => x1 (ix2 r d)) d := by
  have h1 : View.ld (Val := Elt Ideal) (e' := .f32) x1 (Rect.unit ![0, 0] ![512, 1024] (fun a => by fin_cases a <;> simp)) = x1 := ld_whole (F := Ideal) (R := 512) (C := 1024) (e := .f32) x1 _
  have h2 : View.ld (Val := Elt Ideal) (e' := .f32) x2 (Rect.unit ![0, 0] ![1, 1024] (fun a => by fin_cases a <;> simp)) = x2 := ld_whole (F := Ideal) (R := 1) (C := 1024) (e := .f32) x2 _
  unfold rows
  rw [h1, h2]
  pointwise [k0_pay6]
  rfl

theorem cols_at (j : Fin 6) (e f : Fin 1024) : (cols (F := Ideal) w0 j : FVec Ideal S1024x1024 .bf16) (ix2 e f) = w0 (ix2 e ⟨1024 * j.val + f.val, by omega⟩) := by
  refine congrArg w0 ?_
  funext a
  refine Fin.ext ?_
  fin_cases a <;> simp [Rect.emb, ix2]

theorem pay5_at (a : FVec Ideal S512x1024 .bf16) (b : FVec Ideal S1024x1024 .bf16) (r : Fin 512) (d : Fin 1024) :
    (k0_pay5 a b : FVec Ideal S512x1024 .bf16) (ix2 r d) = ∑ e : Fin 1024, (a (ix2 r e) * b (ix2 e d) : EReal) := by
  pointwise [k0_pay5]

theorem pay10_at (a : FVec Ideal S512x1024 .bf16) (b : FVec Ideal S1024x1024 .bf16) (r : Fin 512) (d : Fin 1024) :
    (k0_pay10 a b : FVec Ideal S512x1024 .bf16) (ix2 r d) = ∑ e : Fin 1024, (a (ix2 r e) * b (ix2 e d) : EReal) := by
  pointwise [k0_pay10]

theorem pay12_at (a : FVec Ideal S512x1024 .bf16) (b : FVec Ideal S1024x1024 .bf16) (r : Fin 512) (d : Fin 1024) :
    (k0_pay12 a b : FVec Ideal S1024x512 .f32) (ix2 d r)
      = (∑ e : Fin 1024, (b (ix2 d e) * a (ix2 r e) : EReal)) * Ideal.ofBits .f32 0x3DB504F3#32 := by
  pointwise [k0_pay12]

theorem pay8_at (x1 : FVec Ideal S512x1024 .f32) (x2 : FVec Ideal S1x1024 .f32) (b : FVec Ideal S1024x1024 .bf16) (r : Fin 512) (d : Fin 1024) :
    (k0_pay8 x1 x2 b : FVec Ideal S512x1024 .f32) (ix2 r d)
      = (∑ e : Fin 1024, ((k0_pay6 x1 x2 : FVec Ideal S512x1024 .bf16) (ix2 r e) * b (ix2 e d) : EReal))
        * Ideal.logistic (∑ e : Fin 1024, ((k0_pay6 x1 x2 : FVec Ideal S512x1024 .bf16) (ix2 r e) * b (ix2 e d) : EReal)) := by
  unfold k0_pay8
  generalize (k0_pay6 x1 x2 : FVec Ideal S512x1024 .bf16) = a
  rw [← logistic_tanh]
  pointwise

theorem qOut_at (r : Fin 512) (d : Fin 1024) :
    (qOut x1 x2 w0 : FVec Ideal S512x1024 .bf16) (ix2 r d)
      = prodOf (fun d => x2 (ix2 0 d)) (fun e j => w0 (ix2 e j)) (fun d => x1 (ix2 r d)) ⟨d.val, by omega⟩ := by
  unfold qOut prodOf
  rw [pay5_at]
  simp only [rows_at, cols_at]
  refine Finset.sum_congr rfl fun e _ => congrArg (fun j => _ * w0 (ix2 e j)) (Fin.ext ?_)
  show 1024 * 0 + d.val = d.val; omega

/-- A key, against the turned weights. -/
theorem ktF_at (hw : ∀ d e : Fin 1024, w1 (ix2 d e) = w0 (ix2 e ⟨1024 + d.val, by omega⟩)) (r : Fin 512) (d : Fin 1024) :
    (ktF x1 x2 w1 : FVec Ideal S1024x512 .f32) (ix2 d r)
      = keyOf (fun d => x2 (ix2 0 d)) (fun e j => w0 (ix2 e j)) (fun d => x1 (ix2 r d)) d := by
  have h1 : (keyRows (F := Ideal) w1 : FVec Ideal S1024x1024 .bf16) = w1 := ld_whole (F := Ideal) (R := 1024) (C := 1024) (e := .bf16) w1 _
  unfold ktF keyOf prodOf
  rw [pay12_at, h1]
  refine congrArg (· * _) (Finset.sum_congr rfl fun e _ => ?_)
  rw [rows_at, hw, mul_comm]

theorem vHalf_at (j : Fin 2) (r : Fin 512) (d : Fin 1024) :
    (vHalf x1 x2 w0 j : FVec Ideal S512x1024 .bf16) (ix2 r d)
      = valOf (fun d => x2 (ix2 0 d)) (fun e j => w0 (ix2 e j)) (fun d => x1 (ix2 r d)) ⟨1024 * j.val + d.val, by omega⟩ := by
  unfold vHalf valOf prodOf
  rw [pay10_at]
  simp only [rows_at, cols_at]
  refine Finset.sum_congr rfl fun e _ => congrArg (fun j => _ * w0 (ix2 e j)) (Fin.ext ?_)
  show 1024 * (2 + j.val) + d.val = 2048 + (1024 * j.val + d.val); omega

theorem gateHalf_at (j : Fin 2) (r : Fin 512) (d : Fin 1024) :
    (gateHalf x1 x2 w0 j : FVec Ideal S512x1024 .bf16) (ix2 r d)
      = gateOf (fun d => x2 (ix2 0 d)) (fun e j => w0 (ix2 e j)) (fun d => x1 (ix2 r d)) ⟨1024 * j.val + d.val, by omega⟩ := by
  have h : (∑ e : Fin 1024, ((rows x1 x2 : FVec Ideal S512x1024 .bf16) (ix2 r e) * (cols (F := Ideal) w0 ⟨4 + j.val, by omega⟩ : FVec Ideal S1024x1024 .bf16) (ix2 e d) : EReal))
      = prodOf (fun d => x2 (ix2 0 d)) (fun e j => w0 (ix2 e j)) (fun d => x1 (ix2 r d)) ⟨4096 + (1024 * j.val + d.val), by omega⟩ := by
    unfold prodOf
    simp only [rows_at, cols_at]
    refine Finset.sum_congr rfl fun e _ => congrArg (fun j => _ * w0 (ix2 e j)) (Fin.ext ?_)
    show 1024 * (4 + j.val) + d.val = 4096 + (1024 * j.val + d.val); omega
  unfold gateOf
  rw [← h]
  exact pay8_at _ _ _ r d

theorem iota_num (t : Fin 256) : (FloatOps.sitofp (F := Ideal) .f32 (BitVec.ofNat 32 t.val) : EReal) = ((t.val : ℝ) : EReal) := by
  have h : (BitVec.ofNat 32 t.val).toInt = t.val := by
    have := t.isLt
    rw [BitVec.toInt_eq_toNat_of_lt (by rw [BitVec.toNat_ofNat]; omega), BitVec.toNat_ofNat]
    omega
  show (((BitVec.ofNat 32 t.val).toInt : ℝ) : EReal) = _
  rw [h]
  norm_cast

theorem chunk_at (l : EReal) (s k : FVec Ideal S128x256 .f32) (v : FVec Ideal S256x256 .bf16) (d : Fin 128) (j : Fin 256) :
    (chunkStep (F := Ideal) l s k v : FVec Ideal S128x256 .f32) (ix2 d j) = stepOf l (s (ix2 d j)) (fun t => k (ix2 d t)) (fun t => v (ix2 t j)) := by
  have e : ∀ t : Fin 256, ((255 - t.val : ℝ) : EReal) = Ideal.ofBits .f32 0x437F0000#32 - FloatOps.sitofp (F := Ideal) .f32 (BitVec.ofNat 32 t.val) := fun t => by
    rw [w255, iota_num, ← EReal.coe_sub]
  unfold stepOf
  simp only [e, ← w256]
  pointwise [chunkStep, k0_pay15, k0_pay16, k0_pay14]

theorem keysAt_at (h : Fin 8) (j : Fin 2) (d : Fin 128) (t : Fin 256) :
    (keysAt x1 x2 w1 h j : FVec Ideal S128x256 .f32) (ix2 d t)
      = (ktF x1 x2 w1 : FVec Ideal S1024x512 .f32) (ix2 ⟨128 * h.val + d.val, by omega⟩ ⟨256 * j.val + t.val, by omega⟩) := by
  unfold keysAt
  generalize (ktF x1 x2 w1 : FVec Ideal S1024x512 .f32) = K
  refine congrArg K ?_
  funext a
  match a with
  | ⟨0, _⟩ => rfl
  | ⟨1, _⟩ => rfl

theorem valsAt_at (h : Fin 8) (j : Fin 2) (t : Fin 256) (v : Fin 256) :
    (valsAt x1 x2 w0 h j : FVec Ideal S256x256 .bf16) (ix2 t v)
      = valOf (fun d => x2 (ix2 0 d)) (fun e j => w0 (ix2 e j)) (fun d => x1 (ix2 ⟨256 * j.val + t.val, by omega⟩ d)) ⟨256 * h.val + v.val, by omega⟩ := by
  have hs : (valsAt x1 x2 w0 h j : FVec Ideal S256x256 .bf16) (ix2 t v)
      = (if h.val < 4 then vHalf x1 x2 w0 0 else vHalf x1 x2 w0 1 : FVec Ideal S512x1024 .bf16)
          (ix2 ⟨256 * j.val + t.val, by omega⟩ ⟨256 * (h.val % 4) + v.val, by omega⟩) := by
    unfold valsAt
    generalize (if h.val < 4 then vHalf x1 x2 w0 0 else vHalf x1 x2 w0 1 : FVec Ideal S512x1024 .bf16) = K
    refine congrArg K ?_
    funext a
    match a with
    | ⟨0, _⟩ => rfl
    | ⟨1, _⟩ => rfl
  rw [hs]
  by_cases hh : h.val < 4
  · rw [if_pos hh, vHalf_at]
    refine congrArg _ (Fin.ext ?_)
    show 1024 * 0 + (256 * (h.val % 4) + v.val) = 256 * h.val + v.val; omega
  · rw [if_neg hh, vHalf_at]
    refine congrArg _ (Fin.ext ?_)
    show 1024 * 1 + (256 * (h.val % 4) + v.val) = 256 * h.val + v.val; omega

theorem lgAt_at (h : Fin 8) : (lgAt (F := Ideal) lg h : EReal) = lg (ix1 h) := by
  refine congrArg lg ?_
  funext a
  refine Fin.ext ?_
  match a with
  | ⟨0, _⟩ => rfl

theorem flat_at (K : FVec Ideal S1x128x256 .f32) (d : Fin 128) (j : Fin 256) :
    (shapeCast S128x256 K shapeCasts_S1x128x256_S128x256 : FVec Ideal S128x256 .f32) (ix2 d j) = K (ix3 0 d j) := by
  pointwise

theorem head_at (h : Fin 8) (hb : ∀ a, (![h.val, 0, 0] : Fin 3 → ℕ) a + (![1, 128, 256] : Fin 3 → ℕ) a ≤ S8x128x256.size a) (d : Fin 128) (j : Fin 256) :
    (View.ld (Val := Elt Ideal) (e' := .f32) s (Rect.unit (s := S8x128x256) ![h.val, 0, 0] ![1, 128, 256] hb) : FVec Ideal S1x128x256 .f32)
      (ix3 0 d j) = s (ix3 h d j) := by
  refine congrArg s ?_
  funext a
  refine Fin.ext ?_
  match a with
  | ⟨0, _⟩ => show h.val + 1 * 0 = h.val; omega
  | ⟨1, _⟩ => show 0 + 1 * d.val = d.val; omega
  | ⟨2, _⟩ => show 0 + 1 * j.val = j.val; omega

theorem st0_at (h : Fin 8) (d : Fin 128) (j : Fin 256) : (st0 s h : FVec Ideal S128x256 .f32) (ix2 d j) = s (ix3 h d j) :=
  (flat_at _ d j).trans (head_at s h _ d j)

/-- A head's entry through the first chunk, -/
theorem st1_at (hw : ∀ d e : Fin 1024, w1 (ix2 d e) = w0 (ix2 e ⟨1024 + d.val, by omega⟩)) (h : Fin 8) (d : Fin 128) (j : Fin 256) :
    (st1 lg x1 x2 w0 w1 s h : FVec Ideal S128x256 .f32) (ix2 d j)
      = stepOf (lg (ix1 h)) (s (ix3 h d j))
          (fun t => keyOf (fun d => x2 (ix2 0 d)) (fun e j => w0 (ix2 e j)) (fun d => x1 (ix2 ⟨t.val, by omega⟩ d)) ⟨128 * h.val + d.val, by omega⟩)
          (fun t => valOf (fun d => x2 (ix2 0 d)) (fun e j => w0 (ix2 e j)) (fun d => x1 (ix2 ⟨t.val, by omega⟩ d)) ⟨256 * h.val + j.val, by omega⟩) := by
  unfold st1
  rw [chunk_at, lgAt_at, st0_at]
  simp only [keysAt_at, valsAt_at, ktF_at x1 x2 w0 w1 hw]
  have z : ∀ t : Fin 256, (⟨256 * (0 : Fin 2).val + t.val, by have := t.isLt; show 256 * 0 + t.val < 512; omega⟩ : Fin 512) = ⟨t.val, by omega⟩ :=
    fun t => Fin.ext (show 256 * 0 + t.val = t.val by omega)
  simp only [z]

/-- and through the second. -/
theorem st2_at (hw : ∀ d e : Fin 1024, w1 (ix2 d e) = w0 (ix2 e ⟨1024 + d.val, by omega⟩)) (h : Fin 8) (d : Fin 128) (j : Fin 256) :
    (st2 lg x1 x2 w0 w1 s h : FVec Ideal S128x256 .f32) (ix2 d j)
      = stepOf (lg (ix1 h)) ((st1 lg x1 x2 w0 w1 s h : FVec Ideal S128x256 .f32) (ix2 d j))
          (fun t => keyOf (fun d => x2 (ix2 0 d)) (fun e j => w0 (ix2 e j)) (fun d => x1 (ix2 ⟨256 + t.val, by omega⟩ d)) ⟨128 * h.val + d.val, by omega⟩)
          (fun t => valOf (fun d => x2 (ix2 0 d)) (fun e j => w0 (ix2 e j)) (fun d => x1 (ix2 ⟨256 + t.val, by omega⟩ d)) ⟨256 * h.val + j.val, by omega⟩) := by
  unfold st2
  rw [chunk_at, lgAt_at]
  simp only [keysAt_at, valsAt_at, ktF_at x1 x2 w0 w1 hw]
  rfl

theorem next_at (h : Fin 8) (d : Fin 128) (j : Fin 256) :
    (stNext lg x1 x2 w0 w1 s : FVec Ideal S8x128x256 .f32) (ix3 h d j) = (st2 lg x1 x2 w0 w1 s h : FVec Ideal S128x256 .f32) (ix2 d j) := by
  show (lift3 (st2 lg x1 x2 w0 w1 s h) : FVec Ideal S1x128x256 .f32) (ix3 0 d j) = _
  generalize (st2 lg x1 x2 w0 w1 s h : FVec Ideal S128x256 .f32) = K
  pointwise [lift3]

theorem lift4_at (K : FVec Ideal S128x256 .f32) (d : Fin 128) (j : Fin 256) : (lift4 K : FVec Ideal S1x1x128x256 .bf16) (ix4 0 0 d j) = K (ix2 d j) := by
  pointwise [lift4]

theorem pay1_at (b : FVec Ideal S1x128x6144 .f32) (x : Fin 128) (j : Fin 6144) : (k0_pay1 b : FVec Ideal S128x6144 .bf16) (ix2 x j) = b (ix3 0 x j) := by
  pointwise [k0_pay1]

theorem pay2_at (b : FVec Ideal S1x128x1024 .f32) (d : Fin 1024) (x : Fin 128) : (k0_pay2 b : FVec Ideal S1024x128 .bf16) (ix2 d x) = b (ix3 0 x d) := by
  pointwise [k0_pay2]

/-- The casts of a slab, and the state at first. -/
theorem cast0_at (b : FVec Ideal S1x128x6144 .f32) (x : Fin 128) (j : Fin 6144) : (cast0 (F := Ideal) b : FVec Ideal S128x6144 .bf16) (ix2 x j) = b (ix3 0 x j) := by
  refine (pay1_at _ x j).trans (congrArg b ?_)
  funext a
  refine Fin.ext ?_
  match a with
  | ⟨0, _⟩ => rfl
  | ⟨1, _⟩ => show 0 + 1 * x.val = x.val; omega
  | ⟨2, _⟩ => show 0 + 1 * j.val = j.val; omega

theorem cast1_at (b : FVec Ideal S1x128x6144 .f32) (d : Fin 1024) (x : Fin 128) :
    (cast1 (F := Ideal) b : FVec Ideal S1024x128 .bf16) (ix2 d x) = b (ix3 0 x ⟨1024 + d.val, by omega⟩) := by
  refine (pay2_at _ d x).trans (congrArg b ?_)
  funext a
  refine Fin.ext ?_
  match a with
  | ⟨0, _⟩ => rfl
  | ⟨1, _⟩ => show 0 + 1 * x.val = x.val; omega
  | ⟨2, _⟩ => show 1024 + 1 * d.val = 1024 + d.val; omega

theorem zero_at (h : Fin 8) (d : Fin 128) (j : Fin 256) : (k0_pay3 (F := Ideal) (ix3 h d j) : EReal) = 0 := by
  pointwise [k0_pay3]
end

end Cert.ProjProof
end
-- ==== Proof.ProjFinal.lean ====
module

public import proofs.«01_k».proof.Proof.ProjFrame
public import proofs.«01_k».proof.Proof.ProjValue

@[expose] public section

set_option maxRecDepth 16384

noncomputable section

namespace Cert.ProjProof

open Cert.Kernel4Ideal Cert.Kernel4Ideal.Gen Idealize.ShloMosaic Idealize.ShloMosaic.TcCoe Idealize.SL.Sem Idealize.ShloMosaic.Tactic

variable (m : (ℓ : Loc nD τ sig) → Buf (Elt Ideal) ℓ) (c : Dev nD)

/-! ## The arguments' entries -/

def lA (h : Fin 8) : EReal := (V m c main_v1 : FVec Ideal S8 .f32) (ix1 h)
def xA (n : Fin 16384) (d : Fin 1024) : EReal := (m ((c : Thread nD τ).loc main_arg1) : FVec Ideal S16384x1024 .f32) (ix2 n d)
def gA (d : Fin 1024) : EReal := (m ((c : Thread nD τ).loc main_arg2) : FVec Ideal S1x1024 .f32) (ix2 0 d)
def wA (e : Fin 1024) (j : Fin 6144) : EReal := (m ((c : Thread nD τ).loc main_arg3) : FVec Ideal S1x1024x6144 .f32) (ix3 0 e j)

/-! ## The results, an entry from its token's row, -/

def goalQ : FVec Ideal S16384x1024 .bf16 := fun i => prodOf (gA m c) (wA m c) (xA m c (i 0)) ⟨(i 1).val, lt_trans (i 1).isLt (by decide)⟩
def goalK : FVec Ideal S1024x16384 .bf16 := fun i => keyOf (gA m c) (wA m c) (xA m c (i 1)) (i 0)
def goalV : FVec Ideal S16384x2048 .bf16 := fun i => valOf (gA m c) (wA m c) (xA m c (i 0)) (i 1)
def goalG : FVec Ideal S16384x2048 .bf16 := fun i => gateOf (gA m c) (wA m c) (xA m c (i 0)) (i 1)

/-- and a state's, from every token's before it. -/
def stateOf (h : Fin 8) (d : Fin 128) (j : Fin 256) (n : ℕ) : EReal :=
  chain (lA m c h) (seqOf fun n => keyOf (gA m c) (wA m c) (xA m c n) ⟨128 * h.val + d.val, by omega⟩)
    (seqOf fun n => valOf (gA m c) (wA m c) (xA m c n) ⟨256 * h.val + j.val, by omega⟩) n
def goalR : FVec Ideal S64x8x128x256 .bf16 := fun i => stateOf m c (i 1) (i 2) (i 3) (i 0).val

/-! ## The windows' blocks, read in the arguments -/

theorem at1 : ∀ t : Fin cfg0.N, win0_1.index t 0 = t.val - 8 ∧ win0_1.index t 1 = 0 :=
  (by decide +kernel : ∀ t : Fin grid0.N, win0_1.index t 0 = t.val - 8 ∧ win0_1.index t 1 = 0)
theorem at3 : ∀ t : Fin cfg0.N, win0_3.index t 0 = 0 ∧ win0_3.index t 1 = min t.val 7 ∧ win0_3.index t 2 = 0 :=
  (by decide +kernel : ∀ t : Fin grid0.N, win0_3.index t 0 = 0 ∧ win0_3.index t 1 = min t.val 7 ∧ win0_3.index t 2 = 0)
theorem at4 : ∀ t : Fin cfg0.N, win0_4.index t 0 = t.val - 8 ∧ win0_4.index t 1 = 0 :=
  (by decide +kernel : ∀ t : Fin grid0.N, win0_4.index t 0 = t.val - 8 ∧ win0_4.index t 1 = 0)
theorem at5 : ∀ t : Fin cfg0.N, win0_5.index t 0 = 0 ∧ win0_5.index t 1 = t.val - 8 :=
  (by decide +kernel : ∀ t : Fin grid0.N, win0_5.index t 0 = 0 ∧ win0_5.index t 1 = t.val - 8)
theorem at6 : ∀ t : Fin cfg0.N, win0_6.index t 0 = t.val - 8 ∧ win0_6.index t 1 = 0 :=
  (by decide +kernel : ∀ t : Fin grid0.N, win0_6.index t 0 = t.val - 8 ∧ win0_6.index t 1 = 0)
theorem at7 : ∀ t : Fin cfg0.N, win0_7.index t 0 = t.val - 8 ∧ win0_7.index t 1 = 0 :=
  (by decide +kernel : ∀ t : Fin grid0.N, win0_7.index t 0 = t.val - 8 ∧ win0_7.index t 1 = 0)
theorem at8 : ∀ t : Fin cfg0.N, win0_8.index t 0 = t.val - 8 ∧ win0_8.index t 1 = 0 ∧ win0_8.index t 2 = 0 ∧ win0_8.index t 3 = 0 :=
  (by decide +kernel : ∀ t : Fin grid0.N, win0_8.index t 0 = t.val - 8 ∧ win0_8.index t 1 = 0 ∧ win0_8.index t 2 = 0 ∧ win0_8.index t 3 = 0)
theorem lt40 (t : Fin cfg0.N) : t.val < 40 := lt_of_lt_of_eq t.isLt N_0

/-- The row of the arrays a row of point `t`'s blocks is. -/
def rowAt (t : Fin cfg0.N) (r : Fin 512) : Fin 16384 := ⟨512 * (t.val - 8) + r.val, by have := lt40 t; omega⟩

theorem blk_l (t : Fin cfg0.N) (h : Fin 8) : (iblk m c 0 t : FVec Ideal S8 .f32) (ix1 h) = lA m c h := by
  unfold iblk lA
  rw [View.read_apply]
  show V m c main_v1 _ = V m c main_v1 _
  congr 1
  funext a
  apply Fin.ext
  match a with
  | ⟨0, _⟩ => show win0_0.index t 0 * 8 + 1 * h.val = h.val; rw [show win0_0.index t 0 = 0 from rfl]; omega

theorem blk_x (t : Fin cfg0.N) (r : Fin 512) (d : Fin 1024) : (iblk m c 1 t : FVec Ideal S512x1024 .f32) (ix2 r d) = xA m c (rowAt t r) d := by
  unfold iblk xA
  rw [View.read_apply, ← V_main_arg1 m c]
  show V m c main_arg1 _ = V m c main_arg1 _
  congr 1
  funext a
  apply Fin.ext
  match a with
  | ⟨0, _⟩ => show win0_1.index t 0 * 512 + 1 * r.val = 512 * (t.val - 8) + r.val; rw [(at1 t).1]; omega
  | ⟨1, _⟩ => show win0_1.index t 1 * 1024 + 1 * d.val = d.val; rw [(at1 t).2]; omega

theorem blk_g (t : Fin cfg0.N) (d : Fin 1024) : (iblk m c 2 t : FVec Ideal S1x1024 .f32) (ix2 0 d) = gA m c d := by
  have h : (V m c main_v3 : FVec Ideal S1x1024 .f32) (ix2 0 d) = gA m c d := by
    unfold V
    simp only [hostOps0, hostOps0_1, hostOps0_2, List.flatten_cons, List.flatten_nil, List.append_nil, List.cons_append, List.nil_append]
    entry_read
    pointwise
    rfl
  rw [← h]
  unfold iblk
  rw [View.read_apply]
  show V m c main_v3 _ = V m c main_v3 _
  congr 1
  funext a
  apply Fin.ext
  match a with
  | ⟨0, _⟩ => show win0_2.index t 0 * 1 + 1 * 0 = 0; rw [show win0_2.index t 0 = 0 from rfl]
  | ⟨1, _⟩ => show win0_2.index t 1 * 1024 + 1 * d.val = d.val; rw [show win0_2.index t 1 = 0 from rfl]; omega

theorem blk_w (k : Fin 8) (x : Fin 128) (j : Fin 6144) : (iblk m c 3 (pt k) : FVec Ideal S1x128x6144 .f32) (ix3 0 x j) = wA m c ⟨128 * k.val + x.val, by omega⟩ j := by
  unfold iblk wA
  rw [View.read_apply, ← V_main_arg3 m c]
  show V m c main_arg3 _ = V m c main_arg3 _
  congr 1
  funext a
  apply Fin.ext
  have hk := k.isLt
  match a with
  | ⟨0, _⟩ => show win0_3.index (pt k) 0 * 1 + 1 * 0 = 0; rw [(at3 _).1]
  | ⟨1, _⟩ => show win0_3.index (pt k) 1 * 128 + 1 * x.val = 128 * k.val + x.val; rw [(at3 _).2.1]; show min k.val 7 * 128 + 1 * x.val = _; omega
  | ⟨2, _⟩ => show win0_3.index (pt k) 2 * 6144 + 1 * j.val = j.val; rw [(at3 _).2.2]; omega

/-- The slabs at a casting point. -/
theorem slab0_at (k : Fin 8) (x : Fin 128) (j : Fin 6144) : (slab0 m c (pt k) (ix2 x j) : EReal) = wA m c ⟨128 * k.val + x.val, by omega⟩ j := by
  rw [← blk_w]
  unfold slab0
  generalize (iblk m c 3 (pt k) : FVec Ideal S1x128x6144 .f32) = b
  exact cast0_at b x j

theorem slab1_at (k : Fin 8) (d : Fin 1024) (x : Fin 128) :
    (slab1 m c (pt k) (ix2 d x) : EReal) = wA m c ⟨128 * k.val + x.val, by omega⟩ ⟨1024 + d.val, by omega⟩ := by
  rw [← blk_w]
  unfold slab1
  generalize (iblk m c 3 (pt k) : FVec Ideal S1x128x6144 .f32) = b
  exact cast1_at b d x

/-- The kept weights are the arguments'. -/
theorem kept0_at (e : Fin 1024) (j : Fin 6144) : (kept0 m c (ix2 e j) : EReal) = wA m c e j :=
  (slab0_at m c ⟨e.val / 128, by omega⟩ ⟨e.val % 128, by omega⟩ j).trans
    (congrArg (fun k => wA m c k j) (Fin.ext (show 128 * (e.val / 128) + e.val % 128 = e.val by omega)))

theorem kept1_at (d e : Fin 1024) : (kept1 m c (ix2 d e) : EReal) = wA m c e ⟨1024 + d.val, by omega⟩ :=
  (slab1_at m c ⟨e.val / 128, by omega⟩ d ⟨e.val % 128, by omega⟩).trans
    (congrArg (fun k => wA m c k ⟨1024 + d.val, by omega⟩) (Fin.ext (show 128 * (e.val / 128) + e.val % 128 = e.val by omega)))

theorem turned (d e : Fin 1024) : (kept1 m c (ix2 d e) : EReal) = kept0 m c (ix2 e ⟨1024 + d.val, by omega⟩) := by
  rw [kept1_at, kept0_at]

/-! ## A computing point's blocks of the results -/

theorem oq_at (t : Fin cfg0.N) (r : Fin 512) (d : Fin 1024) : (oq m c t (ix2 r d) : EReal) = goalQ m c (ix2 (rowAt t r) d) := by
  unfold oq
  refine (qOut_at _ _ _ r d).trans ?_
  simp only [blk_x, blk_g, kept0_at]
  rfl

theorem okt_at (t : Fin cfg0.N) (d : Fin 1024) (r : Fin 512) : (okt m c t (ix2 d r) : EReal) = goalK m c (ix2 d (rowAt t r)) := by
  unfold okt
  refine (ktF_at _ _ (kept0 m c) (kept1 m c) (turned m c) r d).trans ?_
  simp only [blk_x, blk_g, kept0_at]
  rfl

theorem ov_at (t : Fin cfg0.N) (r : Fin 512) (d : Fin 2048) : (ov m c t (ix2 r d) : EReal) = goalV m c (ix2 (rowAt t r) d) := by
  unfold ov
  refine (vHalf_at _ _ _ ⟨d.val / 1024, by omega⟩ r ⟨d.val % 1024, by omega⟩).trans ?_
  simp only [blk_x, blk_g, kept0_at]
  exact congrArg (valOf (gA m c) (wA m c) (xA m c (rowAt t r))) (Fin.ext (show 1024 * (d.val / 1024) + d.val % 1024 = d.val by omega))

theorem og_at (t : Fin cfg0.N) (r : Fin 512) (d : Fin 2048) : (og m c t (ix2 r d) : EReal) = goalG m c (ix2 (rowAt t r) d) := by
  unfold og
  refine (gateHalf_at _ _ _ ⟨d.val / 1024, by omega⟩ r ⟨d.val % 1024, by omega⟩).trans ?_
  simp only [blk_x, blk_g, kept0_at]
  exact congrArg (gateOf (gA m c) (wA m c) (xA m c (rowAt t r))) (Fin.ext (show 1024 * (d.val / 1024) + d.val % 1024 = d.val by omega))

/-- One chunk of a point's tile into a state. -/
theorem into (t : Fin cfg0.N) (h : Fin 8) (d : Fin 128) (j : Fin 256) (n b : ℕ) (hb : 256 * n = 512 * (t.val - 8) + b) (hr : ∀ u : Fin 256, b + u.val < 512) :
    stepOf (lA m c h) (stateOf m c h d j n)
      (fun u => keyOf (gA m c) (wA m c) (xA m c (rowAt t ⟨b + u.val, hr u⟩)) ⟨128 * h.val + d.val, by omega⟩)
      (fun u => valOf (gA m c) (wA m c) (xA m c (rowAt t ⟨b + u.val, hr u⟩)) ⟨256 * h.val + j.val, by omega⟩)
      = stateOf m c h d j (n + 1) := by
  unfold stateOf
  rw [chain_step]
  have hn : ∀ u : Fin 256, 256 * n + u.val < 16384 := fun u => by have := lt40 t; have := hr u; omega
  have e : ∀ u : Fin 256, rowAt t ⟨b + u.val, hr u⟩ = ⟨256 * n + u.val, hn u⟩ := fun u => Fin.ext (by show 512 * (t.val - 8) + (b + u.val) = _; simp only; omega)
  simp only [e, fun f u => seqOf_lt f _ (hn u)]

theorem first_at (t : Fin cfg0.N) (s : FVec Ideal S8x128x256 .f32) (h : Fin 8) (d : Fin 128) (j : Fin 256)
    (hs : s (ix3 h d j) = stateOf m c h d j (2 * (t.val - 8))) :
    (st1 (iblk m c 0 t : FVec Ideal S8 .f32) (iblk m c 1 t : FVec Ideal S512x1024 .f32) (iblk m c 2 t : FVec Ideal S1x1024 .f32) (kept0 m c) (kept1 m c) s h : FVec Ideal S128x256 .f32) (ix2 d j)
      = stateOf m c h d j (2 * (t.val - 8) + 1) := by
  refine (st1_at _ _ _ (kept0 m c) (kept1 m c) s (turned m c) h d j).trans ?_
  simp only [blk_l, blk_x, blk_g, kept0_at]
  rw [hs, ← into m c t h d j (2 * (t.val - 8)) 0 (by omega) (fun u => by omega)]
  simp only [Nat.zero_add]

theorem second_at (t : Fin cfg0.N) (s : FVec Ideal S8x128x256 .f32) (h : Fin 8) (d : Fin 128) (j : Fin 256)
    (hs : s (ix3 h d j) = stateOf m c h d j (2 * (t.val - 8))) :
    (st2 (iblk m c 0 t : FVec Ideal S8 .f32) (iblk m c 1 t : FVec Ideal S512x1024 .f32) (iblk m c 2 t : FVec Ideal S1x1024 .f32) (kept0 m c) (kept1 m c) s h : FVec Ideal S128x256 .f32) (ix2 d j)
      = stateOf m c h d j (2 * (t.val - 8) + 2) := by
  refine (st2_at _ _ _ (kept0 m c) (kept1 m c) s (turned m c) h d j).trans ?_
  rw [first_at m c t s h d j hs]
  simp only [blk_l, blk_x, blk_g, kept0_at]
  rw [← into m c t h d j (2 * (t.val - 8) + 1) 256 (by omega) (fun u => by omega)]

/-- The state before a tile is the sum's through the tiles before. -/
theorem stAt_at (h : Fin 8) (d : Fin 128) (j : Fin 256) : ∀ k : ℕ, k < 32 → (stAt m c k (ix3 h d j) : EReal) = stateOf m c h d j (2 * k)
  | 0, _ => zero_at h d j
  | k + 1, hk => by
    have ht : (tp k).val - 8 = k := by show min (8 + k) 39 - 8 = k; omega
    refine (next_at _ _ _ _ _ _ h d j).trans ((second_at m c (tp k) (stAt m c k) h d j ?_).trans ?_)
    · rw [ht]; exact stAt_at h d j k (by omega)
    · rw [ht]; rfl

theorem orf_at (t : Fin cfg0.N) (b : Fin 2) (h : Fin 8) (d : Fin 128) (j : Fin 256) :
    (orf m c t (ix4 b h d j) : EReal) = stateOf m c h d j (2 * (t.val - 8) + b.val) := by
  have hs := stAt_at m c h d j (t.val - 8) (by have := lt40 t; omega)
  unfold orf
  show (if b.val = 0 then lift4 (st0 (stAt m c (t.val - 8)) h) (ix4 0 0 d j)
    else lift4 (st1 (iblk m c 0 t : FVec Ideal S8 .f32) (iblk m c 1 t : FVec Ideal S512x1024 .f32) (iblk m c 2 t : FVec Ideal S1x1024 .f32) (kept0 m c) (kept1 m c) (stAt m c (t.val - 8)) h) (ix4 0 0 d j) : EReal) = _
  have hb := b.isLt
  by_cases h0 : b.val = 0
  · rw [if_pos h0, h0]
    exact (lift4_at _ d j).trans ((st0_at _ h d j).trans hs)
  · rw [if_neg h0, show b.val = 1 by omega]
    exact (lift4_at _ d j).trans (first_at m c t _ h d j hs)

/-! ## The results, as whole arrays -/

theorem flushed_q (t : Fin cfg0.N) : (dats m 0 c).flushed 4 t = ((cfg0.win 4).blk t).view.read (Elt Ideal) (goalQ m c) := by
  refine (dats_after4 m c t).trans ?_
  funext y
  have hy : y = ix2 (y 0) (y 1) := by
    funext a
    match a with
    | ⟨0, _⟩ => rfl
    | ⟨1, _⟩ => rfl
  rw [View.read_apply]
  refine (congrArg _ hy).trans ((oq_at m c t (y 0) (y 1)).trans ?_)
  show goalQ m c _ = goalQ m c _
  congr 1
  funext a
  apply Fin.ext
  match a with
  | ⟨0, _⟩ => show 512 * (t.val - 8) + (y 0).val = win0_4.index t 0 * 512 + 1 * (y 0).val; rw [(at4 t).1]; omega
  | ⟨1, _⟩ => show (y 1).val = win0_4.index t 1 * 1024 + 1 * (y 1).val; rw [(at4 t).2]; omega

theorem final_q : (dats m 0 c).arrAt 4 cfg0.N = goalQ m c := by
  refine (dats m 0 c).arrAt_eq_of_cover 4 (goalQ m c) (fun t _ => flushed_q m c t) fun y => ?_
  have h0 : (y 0).val < 16384 := (y 0).isLt
  have h1 : (y 1).val < 1024 := (y 1).isLt
  have hN : (y 0).val / 512 + 8 < cfg0.N := by
    rw [show cfg0.N = 40 from N_0]
    omega
  refine ⟨⟨(y 0).val / 512 + 8, hN⟩, (flush_out4 _).mpr (by simp only; omega), ?_⟩
  have h := ((cfg0.win 4).blk ⟨(y 0).val / 512 + 8, hN⟩).view.emb_mem_set (ix2 (⟨(y 0).val % 512, by omega⟩ : Fin 512) (⟨(y 1).val, h1⟩ : Fin 1024))
  refine (congrArg (· ∈ ((cfg0.win 4).blk ⟨(y 0).val / 512 + 8, hN⟩).view.set) (funext fun a => Fin.ext ?_)).mp h
  match a with
  | ⟨0, _⟩ => show win0_4.index ⟨(y 0).val / 512 + 8, hN⟩ 0 * 512 + 1 * ((y 0).val % 512) = (y 0).val; rw [(at4 _).1]; simp only; omega
  | ⟨1, _⟩ => show win0_4.index ⟨(y 0).val / 512 + 8, hN⟩ 1 * 1024 + 1 * (y 1).val = (y 1).val; rw [(at4 _).2]; omega

theorem flushed_kt (t : Fin cfg0.N) : (dats m 0 c).flushed 5 t = ((cfg0.win 5).blk t).view.read (Elt Ideal) (goalK m c) := by
  refine (dats_after5 m c t).trans ?_
  funext y
  have hy : y = ix2 (y 0) (y 1) := by
    funext a
    match a with
    | ⟨0, _⟩ => rfl
    | ⟨1, _⟩ => rfl
  rw [View.read_apply]
  refine (congrArg _ hy).trans ((okt_at m c t (y 0) (y 1)).trans ?_)
  show goalK m c _ = goalK m c _
  congr 1
  funext a
  apply Fin.ext
  match a with
  | ⟨0, _⟩ => show (y 0).val = win0_5.index t 0 * 1024 + 1 * (y 0).val; rw [(at5 t).1]; omega
  | ⟨1, _⟩ => show 512 * (t.val - 8) + (y 1).val = win0_5.index t 1 * 512 + 1 * (y 1).val; rw [(at5 t).2]; omega

theorem final_kt : (dats m 0 c).arrAt 5 cfg0.N = goalK m c := by
  refine (dats m 0 c).arrAt_eq_of_cover 5 (goalK m c) (fun t _ => flushed_kt m c t) fun y => ?_
  have h0 : (y 0).val < 1024 := (y 0).isLt
  have h1 : (y 1).val < 16384 := (y 1).isLt
  have hN : (y 1).val / 512 + 8 < cfg0.N := by
    rw [show cfg0.N = 40 from N_0]
    omega
  refine ⟨⟨(y 1).val / 512 + 8, hN⟩, (flush_out5 _).mpr (by simp only; omega), ?_⟩
  have h := ((cfg0.win 5).blk ⟨(y 1).val / 512 + 8, hN⟩).view.emb_mem_set (ix2 (⟨(y 0).val, h0⟩ : Fin 1024) (⟨(y 1).val % 512, by omega⟩ : Fin 512))
  refine (congrArg (· ∈ ((cfg0.win 5).blk ⟨(y 1).val / 512 + 8, hN⟩).view.set) (funext fun a => Fin.ext ?_)).mp h
  match a with
  | ⟨0, _⟩ => show win0_5.index ⟨(y 1).val / 512 + 8, hN⟩ 0 * 1024 + 1 * (y 0).val = (y 0).val; rw [(at5 _).1]; omega
  | ⟨1, _⟩ => show win0_5.index ⟨(y 1).val / 512 + 8, hN⟩ 1 * 512 + 1 * ((y 1).val % 512) = (y 1).val; rw [(at5 _).2]; simp only; omega

theorem flushed_v (t : Fin cfg0.N) : (dats m 0 c).flushed 6 t = ((cfg0.win 6).blk t).view.read (Elt Ideal) (goalV m c) := by
  refine (dats_after6 m c t).trans ?_
  funext y
  have hy : y = ix2 (y 0) (y 1) := by
    funext a
    match a with
    | ⟨0, _⟩ => rfl
    | ⟨1, _⟩ => rfl
  rw [View.read_apply]
  refine (congrArg _ hy).trans ((ov_at m c t (y 0) (y 1)).trans ?_)
  show goalV m c _ = goalV m c _
  congr 1
  funext a
  apply Fin.ext
  match a with
  | ⟨0, _⟩ => show 512 * (t.val - 8) + (y 0).val = win0_6.index t 0 * 512 + 1 * (y 0).val; rw [(at6 t).1]; omega
  | ⟨1, _⟩ => show (y 1).val = win0_6.index t 1 * 2048 + 1 * (y 1).val; rw [(at6 t).2]; omega

theorem final_v : (dats m 0 c).arrAt 6 cfg0.N = goalV m c := by
  refine (dats m 0 c).arrAt_eq_of_cover 6 (goalV m c) (fun t _ => flushed_v m c t) fun y => ?_
  have h0 : (y 0).val < 16384 := (y 0).isLt
  have h1 : (y 1).val < 2048 := (y 1).isLt
  have hN : (y 0).val / 512 + 8 < cfg0.N := by
    rw [show cfg0.N = 40 from N_0]
    omega
  refine ⟨⟨(y 0).val / 512 + 8, hN⟩, (flush_out6 _).mpr (by simp only; omega), ?_⟩
  have h := ((cfg0.win 6).blk ⟨(y 0).val / 512 + 8, hN⟩).view.emb_mem_set (ix2 (⟨(y 0).val % 512, by omega⟩ : Fin 512) (⟨(y 1).val, h1⟩ : Fin 2048))
  refine (congrArg (· ∈ ((cfg0.win 6).blk ⟨(y 0).val / 512 + 8, hN⟩).view.set) (funext fun a => Fin.ext ?_)).mp h
  match a with
  | ⟨0, _⟩ => show win0_6.index ⟨(y 0).val / 512 + 8, hN⟩ 0 * 512 + 1 * ((y 0).val % 512) = (y 0).val; rw [(at6 _).1]; simp only; omega
  | ⟨1, _⟩ => show win0_6.index ⟨(y 0).val / 512 + 8, hN⟩ 1 * 2048 + 1 * (y 1).val = (y 1).val; rw [(at6 _).2]; omega

theorem flushed_g (t : Fin cfg0.N) : (dats m 0 c).flushed 7 t = ((cfg0.win 7).blk t).view.read (Elt Ideal) (goalG m c) := by
  refine (dats_after7 m c t).trans ?_
  funext y
  have hy : y = ix2 (y 0) (y 1) := by
    funext a
    match a with
    | ⟨0, _⟩ => rfl
    | ⟨1, _⟩ => rfl
  rw [View.read_apply]
  refine (congrArg _ hy).trans ((og_at m c t (y 0) (y 1)).trans ?_)
  show goalG m c _ = goalG m c _
  congr 1
  funext a
  apply Fin.ext
  match a with
  | ⟨0, _⟩ => show 512 * (t.val - 8) + (y 0).val = win0_7.index t 0 * 512 + 1 * (y 0).val; rw [(at7 t).1]; omega
  | ⟨1, _⟩ => show (y 1).val = win0_7.index t 1 * 2048 + 1 * (y 1).val; rw [(at7 t).2]; omega

theorem final_g : (dats m 0 c).arrAt 7 cfg0.N = goalG m c := by
  refine (dats m 0 c).arrAt_eq_of_cover 7 (goalG m c) (fun t _ => flushed_g m c t) fun y => ?_
  have h0 : (y 0).val < 16384 := (y 0).isLt
  have h1 : (y 1).val < 2048 := (y 1).isLt
  have hN : (y 0).val / 512 + 8 < cfg0.N := by
    rw [show cfg0.N = 40 from N_0]
    omega
  refine ⟨⟨(y 0).val / 512 + 8, hN⟩, (flush_out7 _).mpr (by simp only; omega), ?_⟩
  have h := ((cfg0.win 7).blk ⟨(y 0).val / 512 + 8, hN⟩).view.emb_mem_set (ix2 (⟨(y 0).val % 512, by omega⟩ : Fin 512) (⟨(y 1).val, h1⟩ : Fin 2048))
  refine (congrArg (· ∈ ((cfg0.win 7).blk ⟨(y 0).val / 512 + 8, hN⟩).view.set) (funext fun a => Fin.ext ?_)).mp h
  match a with
  | ⟨0, _⟩ => show win0_7.index ⟨(y 0).val / 512 + 8, hN⟩ 0 * 512 + 1 * ((y 0).val % 512) = (y 0).val; rw [(at7 _).1]; simp only; omega
  | ⟨1, _⟩ => show win0_7.index ⟨(y 0).val / 512 + 8, hN⟩ 1 * 2048 + 1 * (y 1).val = (y 1).val; rw [(at7 _).2]; omega

theorem flushed_rf (t : Fin cfg0.N) : (dats m 0 c).flushed 8 t = ((cfg0.win 8).blk t).view.read (Elt Ideal) (goalR m c) := by
  refine (dats_after8 m c t).trans ?_
  funext y
  have hy : y = ix4 (y 0) (y 1) (y 2) (y 3) := by
    funext a
    match a with
    | ⟨0, _⟩ => rfl
    | ⟨1, _⟩ => rfl
    | ⟨2, _⟩ => rfl
    | ⟨3, _⟩ => rfl
  rw [View.read_apply]
  refine (congrArg _ hy).trans ((orf_at m c t (y 0) (y 1) (y 2) (y 3)).trans ?_)
  have hb := (y 0).isLt
  change (y 0).val < 2 at hb
  have e : (ix4 (⟨2 * (t.val - 8) + (y 0).val, by have := lt40 t; omega⟩ : Fin 64) (y 1) (y 2) (y 3) : S64x8x128x256.Idx) = ((cfg0.win 8).blk t).view.emb y := by
    funext a
    apply Fin.ext
    match a with
    | ⟨0, _⟩ => show 2 * (t.val - 8) + (y 0).val = win0_8.index t 0 * 2 + 1 * (y 0).val; rw [(at8 t).1]; omega
    | ⟨1, _⟩ => show (y 1).val = win0_8.index t 1 * 8 + 1 * (y 1).val; rw [(at8 t).2.1]; omega
    | ⟨2, _⟩ => show (y 2).val = win0_8.index t 2 * 128 + 1 * (y 2).val; rw [(at8 t).2.2.1]; omega
    | ⟨3, _⟩ => show (y 3).val = win0_8.index t 3 * 256 + 1 * (y 3).val; rw [(at8 t).2.2.2]; omega
  show goalR m c (ix4 (⟨2 * (t.val - 8) + (y 0).val, by have := lt40 t; omega⟩ : Fin 64) (y 1) (y 2) (y 3)) = goalR m c _
  exact congrArg _ e

theorem final_rf : (dats m 0 c).arrAt 8 cfg0.N = goalR m c := by
  refine (dats m 0 c).arrAt_eq_of_cover 8 (goalR m c) (fun t _ => flushed_rf m c t) fun y => ?_
  have h0 : (y 0).val < 64 := (y 0).isLt
  have h1 : (y 1).val < 8 := (y 1).isLt
  have h2 : (y 2).val < 128 := (y 2).isLt
  have h3 : (y 3).val < 256 := (y 3).isLt
  have hN : (y 0).val / 2 + 8 < cfg0.N := by
    rw [show cfg0.N = 40 from N_0]
    omega
  refine ⟨⟨(y 0).val / 2 + 8, hN⟩, (flush_out8 _).mpr (by simp only; omega), ?_⟩
  have h := ((cfg0.win 8).blk ⟨(y 0).val / 2 + 8, hN⟩).view.emb_mem_set (ix4 (⟨(y 0).val % 2, by omega⟩ : Fin 2) (⟨(y 1).val, h1⟩ : Fin 8) (⟨(y 2).val, h2⟩ : Fin 128) (⟨(y 3).val, h3⟩ : Fin 256))
  refine (congrArg (· ∈ ((cfg0.win 8).blk ⟨(y 0).val / 2 + 8, hN⟩).view.set) (funext fun a => Fin.ext ?_)).mp h
  match a with
  | ⟨0, _⟩ => show win0_8.index ⟨(y 0).val / 2 + 8, hN⟩ 0 * 2 + 1 * ((y 0).val % 2) = (y 0).val; rw [(at8 _).1]; simp only; omega
  | ⟨1, _⟩ => show win0_8.index ⟨(y 0).val / 2 + 8, hN⟩ 1 * 8 + 1 * (y 1).val = (y 1).val; rw [(at8 _).2.1]; omega
  | ⟨2, _⟩ => show win0_8.index ⟨(y 0).val / 2 + 8, hN⟩ 2 * 128 + 1 * (y 2).val = (y 2).val; rw [(at8 _).2.2.1]; omega
  | ⟨3, _⟩ => show win0_8.index ⟨(y 0).val / 2 + 8, hN⟩ 3 * 256 + 1 * (y 3).val = (y 3).val; rw [(at8 _).2.2.2]; omega

end Cert.ProjProof
end
-- ==== Proof.ProjRef.lean ====
module

public import proofs.«01_k».proof.Proof.ProjValue
public import proofs.«01_k».proof.Proof.Gen.Reference4Ideal.Read

@[expose] public section

set_option maxRecDepth 16384

noncomputable section

namespace Cert.ProjProof

open Cert.Reference4Ideal Cert.Reference4Ideal.Gen Cert.Reference4Ideal.Read Cert.Layer Idealize.ShloMosaic Idealize.ShloMosaic.TcCoe Idealize.SL.Sem Idealize.ShloMosaic.Tactic

variable (x0 : FVec Ideal S1x8 .f32) (x1 : FVec Ideal S16384x1024 .f32) (x2 : FVec Ideal S1x1024 .f32) (x3 : FVec Ideal S1x1024x6144 .f32)

theorem ref_norm (n : Fin 16384) (d : Fin 1024) :
    (val_main_v13 (F := Ideal) x1 x2 (ix2 n d) : EReal) = normOf (fun d => x2 (ix2 0 d)) (fun d => x1 (ix2 n d)) d := by
  have h2 : (val_main_v2 (F := Ideal) x1 (ix1 n) : EReal) = ∑ d : Fin 1024, (x1 (ix2 n d) * x1 (ix2 n d) : EReal) := by
    rw [val_main_v2_apply]
    pointwise [val_main_cst]
    refine Finset.sum_congr rfl fun d _ => ?_
    rw [show idx_main_v2 (ix1 n) d = ix2 n d from funext fun a => match a with | ⟨0, _⟩ => rfl | ⟨1, _⟩ => rfl]
    rfl
  have h8 : (val_main_v8 (F := Ideal) x1 (ix2 n 0) : EReal)
      = Ideal.rsqrt (Ideal.div (val_main_v2 (F := Ideal) x1 (ix1 n)) (Ideal.ofBits .f32 0x44800000#32) + Ideal.ofBits .f32 0x358637BD#32) := by
    pointwise [val_main_v8, val_main_v7, val_main_v6, val_main_v5, val_main_v4, val_main_v3, val_main_cst_0, val_main_cst_1]
  have h9 : (val_main_v9 (F := Ideal) x1 (ix2 n d) : EReal) = val_main_v8 (F := Ideal) x1 (ix2 n 0) := by
    pointwise [val_main_v9]
  have h12 : (val_main_v12 (F := Ideal) x2 (ix2 n d) : EReal) = x2 (ix2 0 d) := by
    pointwise [val_main_v12, val_main_v11, val_main_v0]
  unfold normOf
  dsimp only
  rw [← h2, ← h8, ← h9, ← h12]
  rfl

theorem ref_prod (n : Fin 16384) (j : Fin 6144) :
    (val_main_v15 (F := Ideal) x1 x2 x3 (ix2 n j) : EReal)
      = prodOf (fun d => x2 (ix2 0 d)) (fun e j => x3 (ix3 0 e j)) (fun d => x1 (ix2 n d)) j := by
  have h14 : ∀ e : Fin 1024, (val_main_v14 (F := Ideal) x3 (ix2 e j) : EReal) = x3 (ix3 0 e j) := by
    intro e
    pointwise [val_main_v14]
  unfold prodOf
  rw [val_main_v15_apply]
  refine Finset.sum_congr rfl fun e _ => ?_
  rw [show lidx_main_v15 (ix2 n j) e = ix2 n e from funext fun a => match a with | ⟨0, _⟩ => rfl | ⟨1, _⟩ => rfl,
    show ridx_main_v15 (ix2 n j) e = ix2 e j from funext fun a => match a with | ⟨0, _⟩ => rfl | ⟨1, _⟩ => rfl, h14, ref_norm]

/-- The queries, -/
theorem ref_q (n : Fin 16384) (d : Fin 1024) :
    (val_main_v59 (F := Ideal) x1 x2 x3 (ix2 n d) : EReal)
      = prodOf (fun d => x2 (ix2 0 d)) (fun e j => x3 (ix3 0 e j)) (fun d => x1 (ix2 n d)) ⟨d.val, by omega⟩ := by
  rw [← ref_prod, val_main_v59_apply, val_main_v16_apply]
  show val_main_v15 (F := Ideal) x1 x2 x3 _ = _
  refine congrArg _ ?_
  funext a
  refine Fin.ext ?_
  match a with
  | ⟨0, _⟩ => first | rfl | (simp [ix2])
  | ⟨1, _⟩ => first | rfl | (simp [ix2])

/-- the scaled keys, -/
theorem ref_k (n : Fin 16384) (d : Fin 1024) :
    (val_main_v21 (F := Ideal) x1 x2 x3 (ix2 n d) : EReal)
      = keyOf (fun d => x2 (ix2 0 d)) (fun e j => x3 (ix3 0 e j)) (fun d => x1 (ix2 n d)) d := by
  unfold keyOf
  rw [← ref_prod]
  pointwise [val_main_v21, val_main_v20, val_main_cst_2, val_main_v17]

theorem ref_kt (n : Fin 16384) (d : Fin 1024) :
    (val_main_v61 (F := Ideal) x1 x2 x3 (ix2 d n) : EReal)
      = keyOf (fun d => x2 (ix2 0 d)) (fun e j => x3 (ix3 0 e j)) (fun d => x1 (ix2 n d)) d := by
  rw [← ref_k, val_main_v61_apply, val_main_v60_apply]
  show val_main_v21 (F := Ideal) x1 x2 x3 _ = _
  refine congrArg _ ?_
  funext a
  match a with
  | ⟨0, _⟩ => rfl
  | ⟨1, _⟩ => rfl

/-- the values -/
theorem ref_v (n : Fin 16384) (d : Fin 2048) :
    (val_main_v18 (F := Ideal) x1 x2 x3 (ix2 n d) : EReal)
      = valOf (fun d => x2 (ix2 0 d)) (fun e j => x3 (ix3 0 e j)) (fun d => x1 (ix2 n d)) d := by
  unfold valOf
  rw [← ref_prod]
  pointwise [val_main_v18]

/-- and the gate. -/
theorem ref_g (n : Fin 16384) (d : Fin 2048) :
    (val_main_v64 (F := Ideal) x1 x2 x3 (ix2 n d) : EReal)
      = gateOf (fun d => x2 (ix2 0 d)) (fun e j => x3 (ix3 0 e j)) (fun d => x1 (ix2 n d)) d := by
  have h19 : (val_main_v19 (F := Ideal) x1 x2 x3 (ix2 n d) : EReal)
      = prodOf (fun d => x2 (ix2 0 d)) (fun e j => x3 (ix3 0 e j)) (fun d => x1 (ix2 n d)) ⟨4096 + d.val, by omega⟩ := by
    rw [← ref_prod]
    pointwise [val_main_v19]
  unfold gateOf
  rw [← h19]
  generalize hy : (val_main_v19 (F := Ideal) x1 x2 x3) = y
  pointwise [val_main_v64, val_main_v63, val_main_call2_v5, val_main_call2_v4, val_main_call2_cst_0, val_main_call2_v3, val_main_call2_v2, val_main_call2_cst, val_main_call2_v1, val_main_call2_v0]
  rw [hy]
  rfl

/-! ## The decay -/

theorem log1p_ne (y : EReal) (hy : 0 ≤ y) : Ideal.log1p y ≠ ⊥ := by
  induction y with
  | bot => simp at hy
  | top =>
    unfold Ideal.log1p
    rw [EReal.add_top_of_ne_bot (by exact_mod_cast EReal.coe_ne_bot 1)]
    exact bot_lt_top.ne'
  | coe r =>
    have hr : (0 : ℝ) ≤ r := by exact_mod_cast hy
    have h1 : (1 : EReal) + (r : EReal) = ((1 + r : ℝ) : EReal) := by norm_cast
    unfold Ideal.log1p
    rw [h1]
    show (if (1 + r : ℝ) ≤ 0 then (⊥ : EReal) else ((Real.log (1 + r) : ℝ) : EReal)) ≠ ⊥
    rw [if_neg (by linarith)]
    exact EReal.coe_ne_bot _

theorem num_int (n : ℕ) (h : n < 16384) : (BitVec.ofNat 32 n).toInt = n := by
  rw [BitVec.toInt_eq_toNat_of_lt (by rw [BitVec.toNat_ofNat]; omega), BitVec.toNat_ofNat]
  omega

/-- A chunk's start less one less the token, in words. -/
theorem dist_int (c : Fin 64) (n : Fin 16384) :
    (IntOp.subi (IntOp.subi (IntOp.muli (256#32) (BitVec.ofNat 32 c.val)) 1#32) (BitVec.ofNat 32 n.val)).toInt = 256 * c.val - 1 - n.val := by
  have hc := c.isLt
  have hn := n.isLt
  unfold IntOp.subi IntOp.muli
  rw [BitVec.toInt_sub, BitVec.toInt_sub, BitVec.toInt_mul, show (256#32 : BitVec 32).toInt = 256 from rfl, show (1#32 : BitVec 32).toInt = 1 from rfl,
    num_int _ (by omega), num_int _ (by omega)]
  norm_num only [Int.bmod_def]
  split_ifs <;> omega

theorem cell_v47 (h : Fin 8) (c : Fin 64) (n : Fin 16384) :
    (val_main_v47 (F := Ideal) x0 (ix3 h c n) : EReal) = gam (val_main_v23 (F := Ideal) x0 (ix1 h)) c.val n.val := by
  generalize hl : (val_main_v23 (F := Ideal) x0) = l
  pointwise [val_main_v47, val_main_call1_v0, val_main_call1_v1, val_main_call1_v2, val_main_cst_6, val_main_v46, val_main_v45, val_main_v44, val_main_c_5, val_main_v43, val_main_v42, val_main_v41, val_main_v40, val_main_v39, val_main_v38, val_main_v37, val_main_v36, val_main_c_4, val_main_v35, val_main_v34, val_main_v33, val_main_v32, val_main_v31, val_main_v30, val_main_v29, val_main_v28, val_main_v27, val_main_v26, val_main_v25, val_main_v24, val_main_c, val_main_c_3]
  have hd := dist_int c n
  generalize (IntOp.subi (IntOp.subi (IntOp.muli (256#32) (BitVec.ofNat 32 c.val)) 1#32) (BitVec.ofNat 32 n.val)) = z at hd ⊢
  rw [hl]
  by_cases hn : n.val < 256 * c.val
  · have h0 : (0#32 : BitVec 32).sle z = true := by
      rw [BitVec.sle_iff_toInt_le, hd]; simp; omega
    have hm : IntOp.maxsi z 0#32 = z := by
      unfold IntOp.maxsi
      by_cases hs : (0#32 : BitVec 32).slt z = true
      · rw [if_pos hs]
      · rw [if_neg hs]
        rw [BitVec.slt_iff_toInt_lt] at hs
        rw [BitVec.sle_iff_toInt_le] at h0
        exact BitVec.eq_of_toInt_eq (by omega)
    have hs : (FloatOps.sitofp (F := Ideal) .f32 z : EReal) = (((256 * c.val - 1 - n.val : ℕ) : ℝ) : EReal) := by
      show ((z.toInt : ℝ) : EReal) = _
      rw [hd, show (256 * c.val - 1 - n.val : ℤ) = ((256 * c.val - 1 - n.val : ℕ) : ℤ) by omega]
      norm_cast
    rw [hm, hs]
    unfold gam IntOp.cmpi
    rw [if_pos hn]
    dsimp only
    rw [h0]
    rfl
  · have h0 : (0#32 : BitVec 32).sle z = false := by
      rw [Bool.eq_false_iff, ne_eq, BitVec.sle_iff_toInt_le, hd]; simp; omega
    unfold gam IntOp.cmpi
    rw [if_neg hn]
    dsimp only
    rw [h0]
    show Ideal.ofBits .f32 0#32 = 0
    simp [Ideal.ofBits, Ideal.ieee]

theorem lg_ne (h : Fin 8) : (val_main_v23 (F := Ideal) x0 (ix1 h) : EReal) ≠ ⊤ := by
  pointwise [val_main_v23, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v22]
  generalize -x0 (ix2 0 h) = u
  rw [if_neg (not_not.mpr rfl)]
  intro e
  rcases EReal.add_eq_bot_iff.mp (EReal.neg_eq_top_iff.mp e) with e | e
  · exact absurd (e ▸ le_max_right u 0) (by simp)
  · exact log1p_ne _ (exp_nonneg _) e

/-- The states: a sum over the tokens before. -/
theorem ref_rf (c : Fin 64) (h : Fin 8) (d : Fin 128) (j : Fin 256) :
    (val_main_v65 (F := Ideal) x0 x1 x2 x3 (ix4 c h d j) : EReal)
      = ∑ n : Fin 16384, (val_main_v18 (F := Ideal) x1 x2 x3 (ix2 n ⟨256 * h.val + j.val, by omega⟩) : EReal)
          * (val_main_v47 (F := Ideal) x0 (ix3 h c n) * val_main_v21 (F := Ideal) x1 x2 x3 (ix2 n ⟨128 * h.val + d.val, by omega⟩)) := by
  have h51 : ∀ n : Fin 16384, (val_main_v51 (F := Ideal) x1 x2 x3 (ix3 h n j) : EReal) = val_main_v18 (F := Ideal) x1 x2 x3 (ix2 n ⟨256 * h.val + j.val, by omega⟩) := by
    intro n
    pointwise [val_main_v51, val_main_v50]
    refine congrArg (fun k => val_main_v18 (F := Ideal) x1 x2 x3 (ix2 n k)) (Fin.ext ?_)
    show h.val * 256 + j.val = 256 * h.val + j.val; omega
  have h56 : ∀ n : Fin 16384, (val_main_v56 (F := Ideal) x0 x1 x2 x3 (ix4 h c n d) : EReal)
      = val_main_v47 (F := Ideal) x0 (ix3 h c n) * val_main_v21 (F := Ideal) x1 x2 x3 (ix2 n ⟨128 * h.val + d.val, by omega⟩) := by
    intro n
    pointwise [val_main_v56, val_main_v55, val_main_v54, val_main_v53, val_main_v52, val_main_v49, val_main_v48]
    refine congrArg (fun k => val_main_v47 (F := Ideal) x0 (ix3 h c n) * val_main_v21 (F := Ideal) x1 x2 x3 (ix2 n k)) (Fin.ext ?_)
    show h.val * 128 + d.val = 128 * h.val + d.val; omega
  rw [val_main_v65_apply, val_main_v58_apply]
  show val_main_v57 (F := Ideal) x0 x1 x2 x3 _ = _
  rw [show idx_main_v58 (ix4 c h d j) = ix4 h j c d from funext fun a => match a with | ⟨0, _⟩ => rfl | ⟨1, _⟩ => rfl | ⟨2, _⟩ => rfl | ⟨3, _⟩ => rfl, val_main_v57_apply]
  refine Finset.sum_congr rfl fun n _ => ?_
  rw [show lidx_main_v57 (ix4 h j c d) n = ix3 h n j from funext fun a => match a with | ⟨0, _⟩ => rfl | ⟨1, _⟩ => rfl | ⟨2, _⟩ => rfl,
    show ridx_main_v57 (ix4 h j c d) n = ix4 h c n d from funext fun a => match a with | ⟨0, _⟩ => rfl | ⟨1, _⟩ => rfl | ⟨2, _⟩ => rfl | ⟨3, _⟩ => rfl, h51, h56]

theorem ref_state (c : Fin 64) (h : Fin 8) (d : Fin 128) (j : Fin 256) :
    (val_main_v65 (F := Ideal) x0 x1 x2 x3 (ix4 c h d j) : EReal)
      = chain (val_main_v23 (F := Ideal) x0 (ix1 h))
          (seqOf fun n => keyOf (fun d => x2 (ix2 0 d)) (fun e j => x3 (ix3 0 e j)) (fun d => x1 (ix2 n d)) ⟨128 * h.val + d.val, by omega⟩)
          (seqOf fun n => valOf (fun d => x2 (ix2 0 d)) (fun e j => x3 (ix3 0 e j)) (fun d => x1 (ix2 n d)) ⟨256 * h.val + j.val, by omega⟩) c.val := by
  rw [ref_rf, chain_eq _ (lg_ne x0 h) _ _ _ (by omega)]
  refine Finset.sum_congr rfl fun n _ => ?_
  rw [ref_v, ref_k, cell_v47, seqOf_lt _ _ n.isLt, seqOf_lt _ _ n.isLt]

end Cert.ProjProof
end
-- ==== Proof.ProjClaim.lean ====
module

public import proofs.«01_k».proof.Defs
public import proofs.«01_k».proof.Proof.ProjSame
public import proofs.«01_k».proof.Proof.ProjFinal
public import proofs.«01_k».proof.Proof.ProjRef
public import proofs.«01_k».proof.Proof.Gen.Reference4Ideal.Run
public import Idealize.ShloMosaic.Lib.ReduceAll

@[expose] public section

set_option maxRecDepth 65536

noncomputable section

namespace Cert.ProjProof

open Idealize.ShloMosaic Idealize.ShloMosaic.TcCoe Idealize.SL.Sem Idealize.ShloMosaic.Tactic

/-- The kernel terminates and leaves its arguments and counters as they were, at exact values, -/
theorem frame_pi4 : Cert.quiescent_Kernel4Ideal := fun m ρ _ => frame_any m ρ

/-- and at machine words, the text being the same. -/
theorem frame_p4 : Cert.quiescent_Kernel4 := fun m ρ _ => by
  have h := frame_any (F := Bits) m ρ
  rw [← main_same, ← defs_same] at h
  exact h

theorem frame_ri4 : Cert.quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run (F := Ideal) m ρ)

/-- Nothing is replaced. -/
theorem preserves4 : Cert.preserves_Kernel4_Kernel4Ideal := trivial

section
open Cert.Kernel4Ideal Cert.Kernel4Ideal.Gen

/-- The decays' logarithms, which both programs take from the argument before anything else. -/
theorem lA_eq (m : (ℓ : Loc nD τ sig) → Buf (Elt Ideal) ℓ) (c : Dev nD) (h : Fin 8) :
    lA m c h = (Cert.Reference4Ideal.Read.val_main_v23 (F := Ideal) (m ((c : Thread nD τ).loc main_arg0)) : FVec Ideal S8 .f32) (ix1 h) := by
  have e : (V m c main_v1 : FVec Ideal S8 .f32) = Cert.Reference4Ideal.Read.val_main_v23 (F := Ideal) (m ((c : Thread nD τ).loc main_arg0)) := by
    unfold V
    simp only [hostOps0, hostOps0_1, hostOps0_2, List.flatten_cons, List.flatten_nil, List.append_nil, List.cons_append, List.nil_append]
    entry_read
    rfl
  exact congrFun e (ix1 h)

theorem goalR_at (m : (ℓ : Loc nD τ sig) → Buf (Elt Ideal) ℓ) (c : Dev nD) (n : Fin 64) (h : Fin 8) (d : Fin 128) (j : Fin 256) :
    goalR m c (ix4 n h d j)
      = chain ((Cert.Reference4Ideal.Read.val_main_v23 (F := Ideal) (m ((c : Thread nD τ).loc main_arg0)) : FVec Ideal S8 .f32) (ix1 h))
          (seqOf fun n => keyOf (gA m c) (wA m c) (xA m c n) ⟨128 * h.val + d.val, by omega⟩)
          (seqOf fun n => valOf (gA m c) (wA m c) (xA m c n) ⟨256 * h.val + j.val, by omega⟩) n.val := by
  rw [← lA_eq]
  rfl
end

/-- The five results are the reference's, whatever the arguments. -/
theorem algebraic4 : Cert.algebraic_Kernel4Ideal_Reference4Ideal := by
  intro m ρ m' ρ' hpre hagree
  refine ⟨fun c => goalQ m c, fun c => goalK m c, fun c => goalV m c, fun c => goalG m c, fun c => goalR m c, ?_, ?_⟩
  · exact (θ_run Cert.Kernel4Ideal.defs _ _).mono
      (fun _ h c => ⟨((h.1 c).1 4).trans (final_q m c), ((h.1 c).1 5).trans (final_kt m c), ((h.1 c).1 6).trans (final_v m c),
        ((h.1 c).1 7).trans (final_g m c), ((h.1 c).1 8).trans (final_rf m c), h.2.1 c⟩)
      (θ_run_and ((θ_run Cert.Kernel4Ideal.defs _ _).mono (fun _ h => h.1) (run_quiescent (F := Ideal) m ρ)) (frame_any (F := Ideal) m ρ))
  · refine (θ_run Cert.Reference4Ideal.defs _ _).mono
      (fun _ h c => ⟨(h c).1.trans ?_, (h c).2.1.trans ?_, (h c).2.2.1.trans ?_, (h c).2.2.2.1.trans ?_, (h c).2.2.2.2.1.trans ?_, (h c).2.2.2.2.2⟩)
      (Cert.Reference4Ideal.Value.run (F := Ideal) m' ρ')
    all_goals obtain ⟨e0, e1, e2, e3⟩ := hagree c
    · rw [Cert.Reference4Ideal.Read.val_main_v59_eq, e1, e2, e3]
      funext y
      have hy : y = ix2 (y 0) (y 1) := by
        funext a
        match a with
        | ⟨0, _⟩ => rfl
        | ⟨1, _⟩ => rfl
      exact (congrArg _ hy).trans ((ref_q _ _ _ (y 0) (y 1)).trans rfl)
    · rw [Cert.Reference4Ideal.Read.val_main_v61_eq, e1, e2, e3]
      funext y
      have hy : y = ix2 (y 0) (y 1) := by
        funext a
        match a with
        | ⟨0, _⟩ => rfl
        | ⟨1, _⟩ => rfl
      exact (congrArg _ hy).trans ((ref_kt _ _ _ (y 1) (y 0)).trans rfl)
    · rw [Cert.Reference4Ideal.Read.val_main_v62_eq, e1, e2, e3]
      funext y
      have hy : y = ix2 (y 0) (y 1) := by
        funext a
        match a with
        | ⟨0, _⟩ => rfl
        | ⟨1, _⟩ => rfl
      exact (congrArg _ hy).trans ((ref_v _ _ _ (y 0) (y 1)).trans rfl)
    · rw [Cert.Reference4Ideal.Read.val_main_v64_eq, e1, e2, e3]
      funext y
      have hy : y = ix2 (y 0) (y 1) := by
        funext a
        match a with
        | ⟨0, _⟩ => rfl
        | ⟨1, _⟩ => rfl
      exact (congrArg _ hy).trans ((ref_g _ _ _ (y 0) (y 1)).trans rfl)
    · rw [Cert.Reference4Ideal.Read.val_main_v65_eq, e0, e1, e2, e3]
      funext y
      have hy : y = ix4 (y 0) (y 1) (y 2) (y 3) := by
        funext a
        match a with
        | ⟨0, _⟩ => rfl
        | ⟨1, _⟩ => rfl
        | ⟨2, _⟩ => rfl
        | ⟨3, _⟩ => rfl
      exact (congrArg _ hy).trans ((ref_state _ _ _ _ (y 0) (y 1) (y 2) (y 3)).trans (goalR_at m c (y 0) (y 1) (y 2) (y 3)).symm)

end Cert.ProjProof
end
-- ==== Proof.EvenRunA.lean ====
module

public import proofs.«01_k».proof.Proof.Gen.Kernel5Ideal.Frame
public import proofs.«01_k».proof.Proof.Gen.Kernel5Ideal.Skeleton

@[expose] public section

set_option maxRecDepth 16384

noncomputable section

namespace Cert.EvenProof

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- A casting point: from the slab and the kept weight, to the kept weight with the cast slab written. -/
def castRun (c : Dev nD) (i : grid0.Coords) (h1 : k0_cond1 i = 1#1) (h2 : ¬ k0_cond2 i = 1#1) (arg1 : Memref sig .tc .vmem S1024x1024 .f32) (harg1 : arg1.IsWhole) (arg2 : Memref sig .tc .vmem S1x1024 .f32) (harg2 : arg2.IsWhole) (arg3 : Memref sig .tc .vmem S1x128x2304 .f32) (harg3 : arg3.IsWhole) (arg4 : Memref sig .tc .vmem S1x2304 .f32) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x2304 .bf16) (harg11 : arg11.IsWhole)
    (x2 : Vec F S1x128x2304 .f32) (w0 : Vec F S1024x2304 .bf16) :
    { L : List (View.Piece (Elt F) S1024x2304 .bf16) //
      ∀ (E : Set ℕ) (K : PUnit → sProp 𝕄),
        iprop(owns (c : Thread nD τ) arg3 fullShare x2 ∗ owns (c : Thread nD τ) arg11 fullShare w0
            ∗ (iprop(owns (c : Thread nD τ) arg3 fullShare x2
              ∗ (arg11.view.loc (c : Thread nD τ) ↦[arg11.view.set]{fullShare} arg11.view.writes (Elt F) (harg11.unread w0) L)) -∗ K ⟨⟩))
          ⊢ wp frame (wpE (defs₀ (F := F)) Variants.none c none) E (cc0_inproj_even i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0_inproj_even_eq_skeleton]; unfold cc0_inproj_even_skel
    unfold owns
    iintro ⟨⟨%f3, %hf3, H3⟩, ⟨%f11, %hf11, H11⟩, Hk⟩
    obtain rfl := harg3.eq_unread hf3; obtain rfl := harg11.eq_unread hf11
    sl_exec (disch := first | sl_exact h1 | sl_exact h2)
    sl_step
    iapply Hk
    isplitl [H3]
    · iexists _; isplitr; · ipureintro; exact harg3.read_unread _
      iexact H3
    iexact H11

end Cert.EvenProof
end
-- ==== Proof.EvenRunB.lean ====
module

public import proofs.«01_k».proof.Proof.EvenRunA

@[expose] public section

set_option maxRecDepth 16384

noncomputable section

namespace Cert.EvenProof

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 40000000 in
/-- A computing point: from the rows, the two gains and the kept weight, to the six results' blocks. -/
def tileRun (c : Dev nD) (i : grid0.Coords) (h1 : ¬ k0_cond1 i = 1#1) (h2 : k0_cond2 i = 1#1) (arg1 : Memref sig .tc .vmem S1024x1024 .f32) (harg1 : arg1.IsWhole) (arg2 : Memref sig .tc .vmem S1x1024 .f32) (harg2 : arg2.IsWhole) (arg3 : Memref sig .tc .vmem S1x128x2304 .f32) (harg3 : arg3.IsWhole) (arg4 : Memref sig .tc .vmem S1x2304 .f32) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x2304 .bf16) (harg11 : arg11.IsWhole)
    (x0 : Vec F S1024x1024 .f32) (x1 : Vec F S1x1024 .f32) (x3 : Vec F S1x2304 .f32) (w0 : Vec F S1024x2304 .bf16) :
    { L : List (View.Piece (Elt F) S1024x512 .bf16) × List (View.Piece (Elt F) S1024x256 .bf16) × List (View.Piece (Elt F) S1024x256 .bf16) × List (View.Piece (Elt F) S1024x512 .bf16) × List (View.Piece (Elt F) S1024x512 .bf16) × List (View.Piece (Elt F) S1024x512 .bf16) //
      ∀ (E : Set ℕ) (K : PUnit → sProp 𝕄),
        iprop(owns (c : Thread nD τ) arg1 fullShare x0 ∗ owns (c : Thread nD τ) arg2 fullShare x1 ∗ owns (c : Thread nD τ) arg4 fullShare x3 ∗ owns (c : Thread nD τ) arg11 fullShare w0 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg4 fullShare x3 ∗ owns (c : Thread nD τ) arg11 fullShare w0
              ∗ (∃ f, arg5.view.loc (c : Thread nD τ) ↦[arg5.view.set]{fullShare} arg5.view.writes (Elt F) f L.1)
              ∗ (∃ f, arg6.view.loc (c : Thread nD τ) ↦[arg6.view.set]{fullShare} arg6.view.writes (Elt F) f L.2.1)
              ∗ (∃ f, arg7.view.loc (c : Thread nD τ) ↦[arg7.view.set]{fullShare} arg7.view.writes (Elt F) f L.2.2.1)
              ∗ (∃ f, arg8.view.loc (c : Thread nD τ) ↦[arg8.view.set]{fullShare} arg8.view.writes (Elt F) f L.2.2.2.1)
              ∗ (∃ f, arg9.view.loc (c : Thread nD τ) ↦[arg9.view.set]{fullShare} arg9.view.writes (Elt F) f L.2.2.2.2.1)
              ∗ (∃ f, arg10.view.loc (c : Thread nD τ) ↦[arg10.view.set]{fullShare} arg10.view.writes (Elt F) f L.2.2.2.2.2)) -∗ K ⟨⟩))
          ⊢ wp frame (wpE (defs₀ (F := F)) Variants.none c none) E (cc0_inproj_even i arg1 harg1 arg2 harg2 arg3 harg3 arg4 harg4 arg5 harg5 arg6 harg6 arg7 harg7 arg8 harg8 arg9 harg9 arg10 harg10 arg11 harg11) K } := by
  refine ⟨⟨?_, ?_, ?_, ?_, ?_, ?_⟩, fun E K => ?run⟩
  case run =>
    simp only [cc0_inproj_even_eq_skeleton]; unfold cc0_inproj_even_skel
    simp only [k0_part1_eq_skeleton, k0_part2_eq_skeleton, k0_part3_eq_skeleton, k0_part4_eq_skeleton, k0_part5_eq_skeleton]
    unfold owns
    iintro ⟨⟨%f1, %hf1, H1⟩, ⟨%f2, %hf2, H2⟩, ⟨%f4, %hf4, H4⟩, ⟨%f11, %hf11, H11⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
    obtain rfl := harg1.eq_unread hf1; obtain rfl := harg2.eq_unread hf2; obtain rfl := harg4.eq_unread hf4; obtain rfl := harg11.eq_unread hf11
    sl_exec (disch := first | sl_exact h1 | sl_exact h2)
    sl_step
    iapply Hk
    isplitl [H1]
    · iexists _; isplitr; · ipureintro; exact harg1.read_unread _
      iexact H1
    isplitl [H2]
    · iexists _; isplitr; · ipureintro; exact harg2.read_unread _
      iexact H2
    isplitl [H4]
    · iexists _; isplitr; · ipureintro; exact harg4.read_unread _
      iexact H4
    isplitl [H11]
    · iexists _; isplitr; · ipureintro; exact harg11.read_unread _
      iexact H11
    isplitl [H5]; · iexists _; iexact H5
    isplitl [H6]; · iexists _; iexact H6
    isplitl [H7]; · iexists _; iexact H7
    isplitl [H8]; · iexists _; iexact H8
    isplitl [H9]; · iexists _; iexact H9
    iexists _; iexact H10

end Cert.EvenProof
end
-- ==== Proof.EvenStep.lean ====
module

public import proofs.«01_k».proof.Proof.EvenRunB
public import proofs.«01_k».proof.Proof.LayerStep
public import Idealize.ShloMosaic.Lib.Pipeline.ReadBack

@[expose] public section

set_option maxRecDepth 16384

noncomputable section

namespace Cert.EvenProof

open Cert.Kernel5Ideal Cert.Kernel5Ideal.Gen Cert.Layer Idealize.ShloMosaic Idealize.ShloMosaic.TcCoe Idealize.ShloMosaic.Tactic
open Idealize.SL.Sem

variable {F : FTy → Type} [FloatOps F]

/-- A slab of the weight, cast. -/
def cast0 (x2 : Vec F S1x128x2304 .f32) : Vec F S128x2304 .bf16 :=
  k0_pay1 (View.ld (Val := Elt F) (e' := .f32) x2 (Rect.unit ![0, 0, 0] ![1, 128, 2304] (fun a => by fin_cases a <;> simp)))

/-- The matrix that averages over each head's 64 lanes. -/
def headMean : FVec F S256x256 .bf16 := k0_pay9 k0_pay7 (iota .tc S256x256 32 [1] iota_S256x256_d1_w32) 64#32 k0_pay8 0#32

/-- Two wide of a block of 512 columns, -/
def wide (b : Fin 2 → FVec F S1024x256 .bf16) : List (View.Piece (Elt F) S1024x512 .bf16) :=
  [⟨Rect.unit (s := S1024x512) ![0, 256] ![1024, 256] (fun a => by fin_cases a <;> simp), b 1⟩,
   ⟨Rect.unit (s := S1024x512) ![0, 0] ![1024, 256] (fun a => by fin_cases a <;> simp), b 0⟩]

/-- Two narrow of a block of 256 columns, -/
def narrow (b : Fin 2 → FVec F S1024x128 .bf16) : List (View.Piece (Elt F) S1024x256 .bf16) :=
  [⟨Rect.unit (s := S1024x256) ![0, 128] ![1024, 128] (fun a => by fin_cases a <;> simp), b 1⟩,
   ⟨Rect.unit (s := S1024x256) ![0, 0] ![1024, 128] (fun a => by fin_cases a <;> simp), b 0⟩]

section
variable (x0 : Vec F S1024x1024 .f32) (x1 : Vec F S1x1024 .f32) (x3 : Vec F S1x2304 .f32) (w0 : Vec F S1024x2304 .bf16)

/-- The rows, normalised by their mean square. -/
def rows : FVec F S1024x1024 .bf16 :=
  k0_pay6 (View.ld (Val := Elt F) (e' := .f32) x0 (Rect.unit ![0, 0] ![1024, 1024] (fun a => by fin_cases a <;> simp)))
    (View.ld (Val := Elt F) (e' := .f32) x1 (Rect.unit ![0, 0] ![1, 1024] (fun a => by fin_cases a <;> simp)))

/-- A ninth of the weight's columns, -/
def cols (j : Fin 9) : Vec F S1024x256 .bf16 :=
  View.ld (Val := Elt F) (e' := .bf16) w0 (Rect.unit ![0, 256 * j.val] ![1024, 256] (fun a => by fin_cases a <;> simp <;> omega))
/-- and of the gain's. -/
def gains (j : Fin 9) : Vec F S1x256 .f32 :=
  View.ld (Val := Elt F) (e' := .f32) x3 (Rect.unit ![0, 256 * j.val] ![1, 256] (fun a => by fin_cases a <;> simp <;> omega))

def prod (j : Fin 9) : FVec F S1024x256 .f32 := k0_pay12 (rows x0 x1) (cols w0 j)

/-- A chunk of heads, each normalised and scaled, -/
def normed (j : Fin 9) : FVec F S1024x256 .bf16 :=
  k0_pay28 (prod x0 x1 w0 j) (k0_pay27 headMean (prod x0 x1 w0 j)) (gains x3 j)
/-- a chunk as it is, -/
def plain (j : Fin 9) : FVec F S1024x256 .bf16 := truncf .bf16 (prod x0 x1 w0 j) bitsLt_bf16_f32
/-- and the chunk of which the keys' half is normalised: the keys' heads, each twice, -/
def keyDup : Fin 2 → FVec F S1024x128 .bf16
  | 0 => k0_pay34 k0_pay10 k0_pay11 (prod x0 x1 w0 2) (k0_pay22 headMean (prod x0 x1 w0 2)) (gains x3 2)
  | 1 => k0_pay35 k0_pay10 k0_pay11 (prod x0 x1 w0 2) (k0_pay22 headMean (prod x0 x1 w0 2)) (gains x3 2)
/-- and the values'. -/
def valDup : Fin 2 → FVec F S1024x128 .bf16
  | 0 => k0_pay37 k0_pay11 (k0_pay32 k0_pay10 (prod x0 x1 w0 2) (k0_pay22 headMean (prod x0 x1 w0 2)) (gains x3 2))
  | 1 => k0_pay38 k0_pay11 (k0_pay32 k0_pay10 (prod x0 x1 w0 2) (k0_pay22 headMean (prod x0 x1 w0 2)) (gains x3 2))

/-- The six results, half a block's columns each. -/
def qaHalf (j : Fin 2) : FVec F S1024x256 .bf16 := normed x0 x1 x3 w0 ⟨j.val, by omega⟩
def qbHalf (j : Fin 2) : FVec F S1024x256 .bf16 := normed x0 x1 x3 w0 ⟨3 + j.val, by omega⟩
def kbHalf (j : Fin 2) : FVec F S1024x256 .bf16 := normed x0 x1 x3 w0 ⟨5 + j.val, by omega⟩
def vbHalf (j : Fin 2) : FVec F S1024x256 .bf16 := plain x0 x1 w0 ⟨7 + j.val, by omega⟩

variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x128x2304 .f32) (harg3 : arg3.IsWhole) (arg4 : Memref sig .tc .vmem S1x2304 .f32) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x2304 .bf16) (harg11 : arg11.IsWhole)

set_option maxHeartbeats 40000000 in
/-- What a computing point stores. -/
theorem tile_pieces (h1 : ¬ k0_cond1 i = 1#1) (h2 : k0_cond2 i = 1#1) :
    (tileRun c i h1 h2 arg1 harg1 arg2 harg2 arg3 harg3 arg4 harg4 arg5 harg5 arg6 harg6 arg7 harg7 arg8 harg8 arg9 harg9 arg10 harg10 arg11 harg11 x0 x1 x3 w0).1 =
      (wide (qaHalf x0 x1 x3 w0), narrow (keyDup x0 x1 x3 w0), narrow (valDup x0 x1 x3 w0), wide (qbHalf x0 x1 x3 w0), wide (kbHalf x0 x1 x3 w0),
        wide (vbHalf x0 x1 w0)) := by
  unfold tileRun
  dsimp only
  sl_unfold_words
  simp only [View.readAt_eq_ld, harg1.read_unread, harg2.read_unread, harg4.read_unread, harg11.read_unread]
  rfl

variable (x2 : Vec F S1x128x2304 .f32)

set_option maxHeartbeats 4000000 in
/-- What a casting point stores into the kept weight. -/
theorem cast_pieces (h1 : k0_cond1 i = 1#1) (h2 : ¬ k0_cond2 i = 1#1) :
    (castRun c i h1 h2 arg1 harg1 arg2 harg2 arg3 harg3 arg4 harg4 arg5 harg5 arg6 harg6 arg7 harg7 arg8 harg8 arg9 harg9 arg10 harg10 arg11 harg11 x2 w0).1 =
      [⟨Rect.unit (s := S1024x2304) (k0_off1 i) S128x2304.size (k0_off1_inb i h1), cast0 x2⟩] := by
  unfold castRun
  dsimp only
  sl_unfold_words
  simp only [View.readAt_eq_ld, harg3.read_unread]
  rfl
end

end Cert.EvenProof
end
-- ==== Proof.EvenFill.lean ====
module

public import proofs.«01_k».proof.Proof.EvenStep
public import proofs.«01_k».proof.Proof.ProjFill

@[expose] public section

set_option maxRecDepth 16384

noncomputable section

namespace Cert.EvenProof

open Cert.Kernel5Ideal Cert.Kernel5Ideal.Gen Cert.Layer Idealize.ShloMosaic Idealize.ShloMosaic.TcCoe Idealize.ShloMosaic.Tactic
open Idealize.SL Idealize.SL.RA Idealize.SL.BI Idealize.ShloMosaic.Pipeline
open scoped Idealize.SL.BI
open Idealize.SL.BI.BIBase Idealize.SL.BI.Laws Idealize.SL.ProofMode Idealize.SL.Sem

variable {F : FTy → Type} [FloatOps F]

/-- Two halves of a block of 512 columns, as one block. -/
def bothWide (b : Fin 2 → FVec F S1024x256 .bf16) : FVec F S1024x512 .bf16 := fun y =>
  b ⟨(y 1).val / 256, Nat.div_lt_of_lt_mul (y 1).isLt⟩ (ix2 (y 0) ⟨(y 1).val % 256, Nat.mod_lt _ (by decide)⟩)

theorem store_wide {sg : RefSig} (a : Memref sg .tc .vmem S1024x512 .bf16) (f : a.view.ty.Contents (Elt F)) (b : Fin 2 → FVec F S1024x256 .bf16) :
    a.view.read (Elt F) (a.view.writes (Elt F) f (wide b)) = bothWide b := by
  have key : ∀ (j j' : Fin 2) (z z' : S1024x256.Idx), j = j' → z = z' → b j z = b j' z' := by rintro _ _ _ _ rfl rfl; rfl
  refine ProjProof.read_of_pieces a f _ (bothWide b) (fun p hp x => ?_) fun y => ?_
  · simp only [wide, List.mem_cons, List.mem_nil_iff, or_false] at hp
    rcases hp with rfl | rfl
    · have h1 : (x 1).val < 256 := (x 1).isLt
      refine key _ _ _ _ (Fin.ext (show 1 = (256 + 1 * (x 1).val) / 256 by omega)) (funext fun i => Fin.ext ?_)
      fin_cases i
      · show (x 0).val = 0 + 1 * (x 0).val; omega
      · show (x 1).val = (256 + 1 * (x 1).val) % 256; omega
    · have h1 : (x 1).val < 256 := (x 1).isLt
      refine key _ _ _ _ (Fin.ext (show 0 = (0 + 1 * (x 1).val) / 256 by omega)) (funext fun i => Fin.ext ?_)
      fin_cases i
      · show (x 0).val = 0 + 1 * (x 0).val; omega
      · show (x 1).val = (0 + 1 * (x 1).val) % 256; omega
  · have h0 : (y 0).val < 1024 := (y 0).isLt
    have h1 : (y 1).val < 512 := (y 1).isLt
    by_cases h : (y 1).val < 256
    · refine ⟨_, List.mem_cons_of_mem _ (List.mem_singleton_self _), (LoadRect.mem_set _).mpr fun i => ?_⟩
      fin_cases i
      · exact ⟨(y 0).val, h0, by show (y 0).val = 0 + 1 * (y 0).val; omega⟩
      · exact ⟨(y 1).val, h, by show (y 1).val = 0 + 1 * (y 1).val; omega⟩
    · refine ⟨_, List.mem_cons_self, (LoadRect.mem_set _).mpr fun i => ?_⟩
      fin_cases i
      · exact ⟨(y 0).val, h0, by show (y 0).val = 0 + 1 * (y 0).val; omega⟩
      · exact ⟨(y 1).val - 256, by show (y 1).val - 256 < 256; omega, by show (y 1).val = 256 + 1 * ((y 1).val - 256); omega⟩

/-- Two halves of a block of 256 columns, as one block. -/
def bothNarrow (b : Fin 2 → FVec F S1024x128 .bf16) : FVec F S1024x256 .bf16 := fun y =>
  b ⟨(y 1).val / 128, Nat.div_lt_of_lt_mul (y 1).isLt⟩ (ix2 (y 0) ⟨(y 1).val % 128, Nat.mod_lt _ (by decide)⟩)

theorem store_narrow {sg : RefSig} (a : Memref sg .tc .vmem S1024x256 .bf16) (f : a.view.ty.Contents (Elt F)) (b : Fin 2 → FVec F S1024x128 .bf16) :
    a.view.read (Elt F) (a.view.writes (Elt F) f (narrow b)) = bothNarrow b := by
  have key : ∀ (j j' : Fin 2) (z z' : S1024x128.Idx), j = j' → z = z' → b j z = b j' z' := by rintro _ _ _ _ rfl rfl; rfl
  refine ProjProof.read_of_pieces a f _ (bothNarrow b) (fun p hp x => ?_) fun y => ?_
  · simp only [narrow, List.mem_cons, List.mem_nil_iff, or_false] at hp
    rcases hp with rfl | rfl
    · have h1 : (x 1).val < 128 := (x 1).isLt
      refine key _ _ _ _ (Fin.ext (show 1 = (128 + 1 * (x 1).val) / 128 by omega)) (funext fun i => Fin.ext ?_)
      fin_cases i
      · show (x 0).val = 0 + 1 * (x 0).val; omega
      · show (x 1).val = (128 + 1 * (x 1).val) % 128; omega
    · have h1 : (x 1).val < 128 := (x 1).isLt
      refine key _ _ _ _ (Fin.ext (show 0 = (0 + 1 * (x 1).val) / 128 by omega)) (funext fun i => Fin.ext ?_)
      fin_cases i
      · show (x 0).val = 0 + 1 * (x 0).val; omega
      · show (x 1).val = (0 + 1 * (x 1).val) % 128; omega
  · have h0 : (y 0).val < 1024 := (y 0).isLt
    have h1 : (y 1).val < 256 := (y 1).isLt
    by_cases h : (y 1).val < 128
    · refine ⟨_, List.mem_cons_of_mem _ (List.mem_singleton_self _), (LoadRect.mem_set _).mpr fun i => ?_⟩
      fin_cases i
      · exact ⟨(y 0).val, h0, by show (y 0).val = 0 + 1 * (y 0).val; omega⟩
      · exact ⟨(y 1).val, h, by show (y 1).val = 0 + 1 * (y 1).val; omega⟩
    · refine ⟨_, List.mem_cons_self, (LoadRect.mem_set _).mpr fun i => ?_⟩
      fin_cases i
      · exact ⟨(y 0).val, h0, by show (y 0).val = 0 + 1 * (y 0).val; omega⟩
      · exact ⟨(y 1).val - 128, by show (y 1).val - 128 < 128; omega, by show (y 1).val = 128 + 1 * ((y 1).val - 128); omega⟩

end Cert.EvenProof
end
-- ==== Proof.EvenFrame.lean ====
module

public import proofs.«01_k».proof.Proof.EvenFill
public import Idealize.ShloMosaic.Lib.Claim
public import Idealize.ShloMosaic.Lib.Pointwise

@[expose] public section

set_option maxRecDepth 16384

noncomputable section

namespace Cert.EvenProof

open Cert.Kernel5Ideal Cert.Kernel5Ideal.Gen Cert.Layer Idealize.ShloMosaic Idealize.ShloMosaic.TcCoe Idealize.ShloMosaic.Tactic
open Idealize.SL Idealize.SL.RA Idealize.SL.BI Idealize.ShloMosaic.Pipeline
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The casting points are the first eight, -/
theorem cond1_iff : ∀ t : Fin cfg0.N, k0_cond1 (grid0.coords t) = 1#1 ↔ t.val < 8 := by
  have h : ∀ t : Fin grid0.N, k0_cond1 (grid0.coords t) = 1#1 ↔ t.val < 8 := by decide +kernel
  exact h

/-- the computing points the others. -/
theorem cond2_iff : ∀ t : Fin cfg0.N, k0_cond2 (grid0.coords t) = 1#1 ↔ ¬ t.val < 8 := by
  have h : ∀ t : Fin grid0.N, k0_cond2 (grid0.coords t) = 1#1 ↔ ¬ t.val < 8 := by decide +kernel
  exact h

theorem coord_val : ∀ t : Fin cfg0.N, (grid0.coords t 0).val = t.val := by
  have h : ∀ t : Fin grid0.N, (grid0.coords t 0).val = t.val := by decide +kernel
  exact h

theorem flush_out4 : ∀ t : Fin cfg0.N, (cfg0.win 4).flush t = true ↔ ¬ t.val < 8 := by
  have h : ∀ t : Fin grid0.N, win0_4.flush t = true ↔ ¬ t.val < 8 := by decide +kernel
  exact h

theorem flush_out5 : ∀ t : Fin cfg0.N, (cfg0.win 5).flush t = true ↔ ¬ t.val < 8 := by
  have h : ∀ t : Fin grid0.N, win0_5.flush t = true ↔ ¬ t.val < 8 := by decide +kernel
  exact h

theorem flush_out6 : ∀ t : Fin cfg0.N, (cfg0.win 6).flush t = true ↔ ¬ t.val < 8 := by
  have h : ∀ t : Fin grid0.N, win0_6.flush t = true ↔ ¬ t.val < 8 := by decide +kernel
  exact h

theorem flush_out7 : ∀ t : Fin cfg0.N, (cfg0.win 7).flush t = true ↔ ¬ t.val < 8 := by
  have h : ∀ t : Fin grid0.N, win0_7.flush t = true ↔ ¬ t.val < 8 := by decide +kernel
  exact h

theorem flush_out8 : ∀ t : Fin cfg0.N, (cfg0.win 8).flush t = true ↔ ¬ t.val < 8 := by
  have h : ∀ t : Fin grid0.N, win0_8.flush t = true ↔ ¬ t.val < 8 := by decide +kernel
  exact h

theorem flush_out9 : ∀ t : Fin cfg0.N, (cfg0.win 9).flush t = true ↔ ¬ t.val < 8 := by
  have h : ∀ t : Fin grid0.N, win0_9.flush t = true ↔ ¬ t.val < 8 := by decide +kernel
  exact h

/-- A casting point, by the number of its slab. -/
abbrev pt (k : Fin 8) : Fin cfg0.N := ⟨k.val, lt_of_lt_of_eq (lt_trans k.isLt (by decide : 8 < 24)) N_0.symm⟩

/-- The cast slab of one point. -/
def slab0 (c : Dev nD) (t : Fin cfg0.N) : Vec F S128x2304 .bf16 := cast0 (iblk m c 2 t)

/-- The kept weight once every slab is cast. -/
def kept0 (c : Dev nD) : Vec F S1024x2304 .bf16 := fun y =>
  slab0 m c (pt ⟨(y 0).val / 128, Nat.div_lt_of_lt_mul (y 0).isLt⟩) (ix2 ⟨(y 0).val % 128, Nat.mod_lt _ (by decide)⟩ (y 1))

/-- The kept weight agrees with the cast one in the slabs of the first `n` points. -/
def Filled (c : Dev nD) (n : ℕ) (w0 : Vec F S1024x2304 .bf16) : Prop :=
  ∀ y : S1024x2304.Idx, (y 0).val < 128 * n → w0 y = kept0 m c y

theorem Filled.zero (c : Dev nD) (w0 : Vec F S1024x2304 .bf16) : Filled m c 0 w0 := fun _ h => absurd h (by omega)

/-- Once all are cast it is the whole of it. -/
theorem Filled.eq {c : Dev nD} {n : ℕ} {w0 : Vec F S1024x2304 .bf16} (h : Filled m c n w0) (hn : ¬ n < 8) : w0 = kept0 m c :=
  funext fun y => h y (by have h0 := (y 0).isLt; change (y 0).val < 1024 at h0; omega)

theorem Filled.kept (c : Dev nD) (k : ℕ) : Filled m c k (kept0 m c) := fun _ _ => rfl

/-- A casting point's store carries the agreement one slab further. -/
theorem Filled.succ {c : Dev nD} {t : Fin cfg0.N} (ht : t.val < 8) {w0 : Vec F S1024x2304 .bf16}
    (h : Filled m c t.val w0) (h1 : k0_cond1 (grid0.coords t) = 1#1) (a0 : Memref sig .tc .vmem S1024x2304 .bf16) (ha0 : a0.IsWhole) :
    Filled m c (t.val + 1)
      (a0.view.read (Elt F) (a0.view.writes (Elt F) (ha0.unread w0) [⟨Rect.unit (s := S1024x2304) (k0_off1 (grid0.coords t)) S128x2304.size (k0_off1_inb _ h1), slab0 m c t⟩])) := by
  refine slab_step a0 ha0 w0 (kept0 m c) (slab0 m c t) _ _ t.val (by rw [k0_off1_eq, coord_val]) h fun y x hx => ?_
  have hq : (y 0).val / 128 = t.val := by have := x.isLt; omega
  have hr : (y 0).val % 128 = x.val := by have := x.isLt; omega
  exact congrArg₂ (fun s i => slab0 m c s (ix2 i (y 1))) (Fin.ext hq.symm) (Fin.ext hr.symm)

/-- The blocks of the results a computing point leaves. -/
def oqa (c : Dev nD) (t : Fin cfg0.N) : Vec F S1024x512 .bf16 := bothWide (qaHalf (iblk m c 0 t) (iblk m c 1 t) (iblk m c 3 t) (kept0 m c))
def oka (c : Dev nD) (t : Fin cfg0.N) : Vec F S1024x256 .bf16 := bothNarrow (keyDup (iblk m c 0 t) (iblk m c 1 t) (iblk m c 3 t) (kept0 m c))
def ova (c : Dev nD) (t : Fin cfg0.N) : Vec F S1024x256 .bf16 := bothNarrow (valDup (iblk m c 0 t) (iblk m c 1 t) (iblk m c 3 t) (kept0 m c))
def oqb (c : Dev nD) (t : Fin cfg0.N) : Vec F S1024x512 .bf16 := bothWide (qbHalf (iblk m c 0 t) (iblk m c 1 t) (iblk m c 3 t) (kept0 m c))
def okb (c : Dev nD) (t : Fin cfg0.N) : Vec F S1024x512 .bf16 := bothWide (kbHalf (iblk m c 0 t) (iblk m c 1 t) (iblk m c 3 t) (kept0 m c))
def ovb (c : Dev nD) (t : Fin cfg0.N) : Vec F S1024x512 .bf16 := bothWide (vbHalf (iblk m c 0 t) (iblk m c 1 t) (kept0 m c))

/-- What holds before the point numbered `n`: the kept weight agrees with the cast one in the slabs of the points before it. -/
def Carry (c : Dev nD) (n : ℕ) : sProp 𝕄 :=
  iprop(∃ w0 : Vec F S1024x2304 .bf16, ⌜Filled m c n w0⌝ ∗ owns (c : Thread nD τ) (Memref.whole cc0_scratch0) fullShare w0 ∗ ∃ r, prngReg c r)

/-- The proof data: the arrays as the call finds them, each input's block left in place, each result's block at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oqa m c t
    | ⟨5, _⟩ => oka m c t
    | ⟨6, _⟩ => ova m c t
    | ⟨7, _⟩ => oqb m c t
    | ⟨8, _⟩ => okb m c t
    | ⟨9, _⟩ => ovb m c t
  Φ t := Carry m c t.val
  q _ := fullShare
  owed _ := 0

theorem dats_A (c : Dev nD) (w : Fin cfg0.W) : (dats m 0 c).A w = V m c (Pipeline.arrRef spec0 w) := by dsimp only [dats]

theorem dats_after0 (c : Dev nD) (t : Fin cfg0.N) : (dats m 0 c).after 0 t = iblk m c 0 t := by dsimp only [dats]
theorem dats_after1 (c : Dev nD) (t : Fin cfg0.N) : (dats m 0 c).after 1 t = iblk m c 1 t := by dsimp only [dats]
theorem dats_after2 (c : Dev nD) (t : Fin cfg0.N) : (dats m 0 c).after 2 t = iblk m c 2 t := by dsimp only [dats]
theorem dats_after3 (c : Dev nD) (t : Fin cfg0.N) : (dats m 0 c).after 3 t = iblk m c 3 t := by dsimp only [dats]
theorem dats_after4 (c : Dev nD) (t : Fin cfg0.N) : (dats m 0 c).after 4 t = oqa m c t := by dsimp only [dats]
theorem dats_after5 (c : Dev nD) (t : Fin cfg0.N) : (dats m 0 c).after 5 t = oka m c t := by dsimp only [dats]
theorem dats_after6 (c : Dev nD) (t : Fin cfg0.N) : (dats m 0 c).after 6 t = ova m c t := by dsimp only [dats]
theorem dats_after7 (c : Dev nD) (t : Fin cfg0.N) : (dats m 0 c).after 7 t = oqb m c t := by dsimp only [dats]
theorem dats_after8 (c : Dev nD) (t : Fin cfg0.N) : (dats m 0 c).after 8 t = okb m c t := by dsimp only [dats]
theorem dats_after9 (c : Dev nD) (t : Fin cfg0.N) : (dats m 0 c).after 9 t = ovb m c t := by dsimp only [dats]
theorem dats_before0 (c : Dev nD) (t : Fin cfg0.N) (d) : (dats m 0 c).before 0 t d = iblk m c 0 t :=
  before0_0_of m (dats m 0 c) (dats_A m c 0) (dats_after0 m c) t d
theorem dats_before1 (c : Dev nD) (t : Fin cfg0.N) (d) : (dats m 0 c).before 1 t d = iblk m c 1 t :=
  before0_1_of m (dats m 0 c) (dats_A m c 1) (dats_after1 m c) t d
theorem dats_before2 (c : Dev nD) (t : Fin cfg0.N) (d) : (dats m 0 c).before 2 t d = iblk m c 2 t :=
  before0_2_of m (dats m 0 c) (dats_A m c 2) (dats_after2 m c) t d
theorem dats_before3 (c : Dev nD) (t : Fin cfg0.N) (d) : (dats m 0 c).before 3 t d = iblk m c 3 t :=
  before0_3_of m (dats m 0 c) (dats_A m c 3) (dats_after3 m c) t d

/-- What the body is called with at point `t`, -/
def bodyPre (c : Dev nD) (t : Fin cfg0.N) : sProp 𝕄 :=
  iprop(Carry m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns, the results' buffers as `R` says. -/
def bodyPost (c : Dev nD) (t : Fin cfg0.N) (R : sProp 𝕄) : sProp 𝕄 :=
  iprop(Carry m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ R)

/-- The results' buffers passed through, -/
def keepR (c : Dev nD) (t : Fin cfg0.N) : sProp 𝕄 :=
  iprop((∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- or left at their blocks. -/
def outR (c : Dev nD) (t : Fin cfg0.N) : sProp 𝕄 :=
  iprop(owns (c : Thread nD τ) (st0_4 t) fullShare (oqa m c t)
    ∗ owns (c : Thread nD τ) (st0_5 t) fullShare (oka m c t)
    ∗ owns (c : Thread nD τ) (st0_6 t) fullShare (ova m c t)
    ∗ owns (c : Thread nD τ) (st0_7 t) fullShare (oqb m c t)
    ∗ owns (c : Thread nD τ) (st0_8 t) fullShare (okb m c t)
    ∗ owns (c : Thread nD τ) (st0_9 t) fullShare (ovb m c t))

set_option maxHeartbeats 4000000 in
/-- The body at a casting point: the results' buffers pass through. -/
theorem sound_cast (c : Dev nD) (t : Fin cfg0.N) (ht : t.val < 8) :
    bodyPre m c t ⊢ wp frame (wpE (defs₀ (F := F)) Variants.none c none) Set.univ (bodyAt0 t) (fun _ => bodyPost m c t (keepR m c t)) := by
  unfold bodyPre bodyPost keepR bodyAt0 Carry
  simp only [dats_before0, dats_before1, dats_before2, dats_before3]
  rw [show (dats m 0 c).owesAt () t.succ = (dats m 0 c).owesAt () t.castSucc from rfl, dats_after0, dats_after1, dats_after2, dats_after3]
  iintro ⟨⟨%w0, %hw, G0, Hp⟩, Ho, ⟨%d0, H0⟩, ⟨%d1, H1⟩, ⟨%d2, H2⟩, ⟨%d3, H3⟩, H4, H5, H6, H7, H8, H9⟩
  have h1 := (cond1_iff t).mpr ht
  have h2 : ¬ k0_cond2 (grid0.coords t) = 1#1 := fun h => (cond2_iff t).mp h ht
  iapply ((castRun c (grid0.coords t) h1 h2 _ _ _ _ _ _ _ _ _ _ _ _ _ _ _ _ _ _ _ _ _ _ (iblk m c 2 t) w0).2 Set.univ _)
  isplitl [H2]; · iexact H2
  isplitl [G0]; · iexact G0
  rw [cast_pieces]
  iintro ⟨H2, G0⟩
  isplitl [G0 Hp]
  · iexists _
    isplitr
    · ipureintro; exact Filled.succ m ht hw h1 (Memref.whole cc0_scratch0) (Memref.isWhole_whole _)
    isplitl [G0]
    · unfold owns; iexists _; isplitr
      swap; · iexact G0
      ipureintro; rfl
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 8000000 in
/-- The body at a computing point: the results' buffers are left at their blocks. -/
theorem sound_tile (c : Dev nD) (t : Fin cfg0.N) (ht : ¬ t.val < 8) :
    bodyPre m c t ⊢ wp frame (wpE (defs₀ (F := F)) Variants.none c none) Set.univ (bodyAt0 t) (fun _ => bodyPost m c t (outR m c t)) := by
  unfold bodyPre bodyPost outR bodyAt0 Carry
  simp only [dats_before0, dats_before1, dats_before2, dats_before3]
  rw [show (dats m 0 c).owesAt () t.succ = (dats m 0 c).owesAt () t.castSucc from rfl, dats_after0, dats_after1, dats_after2, dats_after3]
  iintro ⟨⟨%w0, %hw, G0, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have h1 : ¬ k0_cond1 (grid0.coords t) = 1#1 := fun h => ht ((cond1_iff t).mp h)
  have h2 := (cond2_iff t).mpr ht
  have e0 := Filled.eq m hw ht
  subst e0
  iapply ((tileRun c (grid0.coords t) h1 h2 _ _ _ _ _ _ _ _ _ _ _ _ _ _ _ _ _ _ _ _ _ _ (iblk m c 0 t) (iblk m c 1 t) (iblk m c 3 t) (kept0 m c)).2 Set.univ _)
  isplitl [H0]; · iexact H0
  isplitl [H1]; · iexact H1
  isplitl [H3]; · iexact H3
  isplitl [G0]; · iexact G0
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  rw [tile_pieces]
  dsimp only
  iintro ⟨H0, H1, H3, G0, ⟨%f4, H4⟩, ⟨%f5, H5⟩, ⟨%f6, H6⟩, ⟨%f7, H7⟩, ⟨%f8, H8⟩, ⟨%f9, H9⟩⟩
  isplitl [G0 Hp]
  · iexists _
    isplitr
    · ipureintro; exact Filled.kept m c (t.val + 1)
    isplitl [G0]; · iexact G0
    iexact Hp
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact store_wide _ _ _
  isplitl [H5]
  · unfold owns; iexists _; isplitr
    swap; · iexact H5
    ipureintro; exact store_narrow _ _ _
  isplitl [H6]
  · unfold owns; iexists _; isplitr
    swap; · iexact H6
    ipureintro; exact store_narrow _ _ _
  isplitl [H7]
  · unfold owns; iexists _; isplitr
    swap; · iexact H7
    ipureintro; exact store_wide _ _ _
  isplitl [H8]
  · unfold owns; iexists _; isplitr
    swap; · iexact H8
    ipureintro; exact store_wide _ _ _
  unfold owns; iexists _; isplitr
  swap; · iexact H9
  ipureintro; exact store_wide _ _ _

/-- The body table's row at point `t`'s slots. -/
theorem row_eq (t : Fin cfg0.N) : defs₀ (F := F) .tc cfg0.body (cfg0.bodyArgs t (cfg0.slots t)) = bodyAt0 t := by
  unfold defs₀; rw [Defs.onTc_tc]

theorem idle_out (t : Fin cfg0.N) : idle0 4 (grid0.coords t) = decide (t.val < 8) := by
  by_cases h : t.val < 8
  · have h2 : ¬ k0_cond2 (grid0.coords t) = 1#1 := fun h' => (cond2_iff t).mp h' h
    rw [decide_eq_true h]
    change (!(k0_cond2 (grid0.coords t) == 1#1)) = true
    rw [beq_eq_false_iff_ne.mpr h2]; rfl
  · rw [decide_eq_false h]
    change (!(k0_cond2 (grid0.coords t) == 1#1)) = false
    rw [(cond2_iff t).mpr h]; rfl

theorem flush_early4 (t : Fin cfg0.N) (h : t.val < 8) : (win0 4).flush t = false :=
  Bool.eq_false_iff.mpr fun h' => (flush_out4 t).mp h' h

theorem flush_early5 (t : Fin cfg0.N) (h : t.val < 8) : (win0 5).flush t = false :=
  Bool.eq_false_iff.mpr fun h' => (flush_out5 t).mp h' h

theorem flush_early6 (t : Fin cfg0.N) (h : t.val < 8) : (win0 6).flush t = false :=
  Bool.eq_false_iff.mpr fun h' => (flush_out6 t).mp h' h

theorem flush_early7 (t : Fin cfg0.N) (h : t.val < 8) : (win0 7).flush t = false :=
  Bool.eq_false_iff.mpr fun h' => (flush_out7 t).mp h' h

theorem flush_early8 (t : Fin cfg0.N) (h : t.val < 8) : (win0 8).flush t = false :=
  Bool.eq_false_iff.mpr fun h' => (flush_out8 t).mp h' h

theorem flush_early9 (t : Fin cfg0.N) (h : t.val < 8) : (win0 9).flush t = false :=
  Bool.eq_false_iff.mpr fun h' => (flush_out9 t).mp h' h

/-- The library's body obligation, at every point. -/
theorem body_obligation (c : Dev nD) : BodyObligation (dats (F := F) m 0 c) (defs₀ (F := F)) Variants.none () Set.univ := fun t => by
  rw [bigSep_W0, bigSep_W0, row_eq]
  dsimp only
  rw [idle_out]
  by_cases h : t.val < 8
  · rw [decide_eq_true h, flush_early4 t h, flush_early5 t h, flush_early6 t h, flush_early7 t h, flush_early8 t h, flush_early9 t h]
    exact triple_restated (sound_cast m c t h) rfl .rfl fun _ => .rfl
  · rw [decide_eq_false h]
    exact triple_restated (sound_tile m c t h) rfl .rfl fun _ => .rfl

theorem carry_in (c : Dev nD) : Pipeline.ΦA spec0 c ⊢ (dats (F := F) m 0 c).Φ 0 := by
  change Pipeline.ΦA spec0 c ⊢ Carry m c 0
  unfold Pipeline.ΦA Carry
  rw [scopedRest0_eq]
  simp only [owns_whole]
  iintro ⟨⟨%f0, G0⟩, Hp⟩
  iexists f0
  isplitr; · ipureintro; exact Filled.zero m c f0
  isplitl [G0]; · iexact G0
  iexact Hp

theorem carry_out (c : Dev nD) : (dats (F := F) m 0 c).Φ (Fin.last cfg0.N) ⊢ Pipeline.ΦA spec0 c := by
  change Carry m c cfg0.N ⊢ Pipeline.ΦA spec0 c
  unfold Pipeline.ΦA Carry
  rw [scopedRest0_eq]
  simp only [owns_whole]
  iintro ⟨%w0, %hw, G0, Hp⟩
  isplitr [Hp]
  · iexists _; iexact G0
  iexact Hp

set_option backward.isDefEq.respectTransparency.types false in
/-- Every run of the program ends, the pipeline's arrays at what the proof data say and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun _ _ => by unfold Dat.share; exact ite_self _)
    (howed := fun _ _ => rfl) (V := V m) (hmain := hmain m Variants.none) (hA := dats_A m) (hin := carry_in m) (hout := carry_out m)

/-- The frame, whatever the values are. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (dats_A m) ((θ_run defs _ _).mono (fun _ h => h.1) (run_quiescent m ρ)))
    ((θ_run defs _ _).mono (fun _ h => h.2) (run_quiescent m ρ))

end Cert.EvenProof
end
-- ==== Proof.EvenSame.lean ====
module

public import proofs.«01_k».proof.Proof.EvenFrame
public import proofs.«01_k».proof.Proof.Gen.Kernel5

@[expose] public section

set_option maxRecDepth 65536

noncomputable section

namespace Cert.EvenProof

open Idealize.ShloMosaic Idealize.ShloMosaic.TcCoe Idealize.SL.Sem

variable {F : FTy → Type} [FloatOps F]

/-- The two printed programs are one text: the host part, -/
theorem main_same : Cert.Kernel5.main (F := F) = Cert.Kernel5Ideal.main := rfl

/-- the table of bodies, -/
theorem table_same : Cert.Kernel5.defs₀ (F := F) = Cert.Kernel5Ideal.defs₀ := by
  unfold Cert.Kernel5.defs₀ Cert.Kernel5Ideal.defs₀
  refine congrArg (Defs.onTc (τ := Cert.Kernel5.τ)) ?_
  funext l x
  match l with
  | ⟨0, _⟩ => rfl

/-- and the pipeline's. -/
theorem defs_same : Cert.Kernel5.defs (F := F) = Cert.Kernel5Ideal.defs :=
  congrArg (Pipeline.defs (Cert.Kernel5Ideal.pcfgs (F := F))) table_same

end Cert.EvenProof
end
-- ==== Proof.EvenValue.lean ====
module

public import proofs.«01_k».proof.Proof.EvenFill
public import proofs.«01_k».proof.Proof.ProjMath

@[expose] public section

set_option maxRecDepth 16384

noncomputable section

namespace Cert.EvenProof

open Cert.Layer Idealize.ShloMosaic Idealize.ShloMosaic.TcCoe Idealize.ShloMosaic.Tactic
open Idealize.SL.Sem
open Cert.ProjProof (sum_mul_const)

/-! ## The projections over one row of numbers -/

/-- A column of the normalised row's product with the weights, -/
def prodOf (g : Fin 1024 → EReal) (w : Fin 1024 → Fin 2304 → EReal) (x : Fin 1024 → EReal) (j : Fin 2304) : EReal :=
  ∑ e, normOf g x e * w e j

/-- a head of 64 lanes' factor, -/
def rootOf (v : Fin 64 → EReal) : EReal :=
  Ideal.rsqrt (Ideal.div (∑ l, v l * v l) (Ideal.ofBits .f32 0x42800000#32) + Ideal.ofBits .f32 0x358637BD#32)

/-- and a column's: that of the head it lies in. -/
def headRoot (y : Fin 2304 → EReal) (j : Fin 2304) : EReal := rootOf fun l => y ⟨64 * (j.val / 64) + l.val, by omega⟩

/-- The queries' scale: an eighth over the logarithm of two. -/
def scale : EReal := Ideal.div (Ideal.ofBits .f32 0x3E000000#32) (Ideal.log (Ideal.ofBits .f32 0x40000000#32))

theorem w64 : Ideal.ofBits .f32 0x42800000#32 = ((64 : ℝ) : EReal) := by
  simp [Ideal.ofBits, Ideal.ieee]
  rw [← EReal.coe_mul]
  norm_num

theorem w64th : Ideal.ofBits .f32 1015021568#32 = ((1 / 64 : ℝ) : EReal) := by
  simp [Ideal.ofBits, Ideal.ieee]
  rw [← EReal.coe_mul]
  norm_num

/-- A chunk's squares against the averaging matrix: the mean over the column's head. -/
theorem mean_head (v : Fin 256 → EReal) (d : Fin 256) :
    (∑ k : Fin 256, v k * v k * (if k.val / 64 = d.val / 64 then ((1 / 64 : ℝ) : EReal) else 0))
      = Ideal.div (∑ l : Fin 64, v ⟨64 * (d.val / 64) + l.val, by omega⟩ * v ⟨64 * (d.val / 64) + l.val, by omega⟩) (Ideal.ofBits .f32 0x42800000#32) := by
  rw [sum_blocks (a := 4) (b := 64) (by norm_num), Finset.sum_eq_single (⟨d.val / 64, by omega⟩ : Fin 4)]
  · rw [w64, Ideal.div_coe (by norm_num), sum_mul_const _ _ _ (by exact_mod_cast (by norm_num : (0 : ℝ) ≤ 1 / 64)) (EReal.coe_ne_top _)]
    refine Finset.sum_congr rfl fun l _ => ?_
    rw [if_pos (by dsimp only; omega)]
  · intro b _ hb
    refine Finset.sum_eq_zero fun l _ => ?_
    rw [if_neg, mul_zero]
    intro e
    refine hb (Fin.ext ?_)
    dsimp only at e ⊢
    omega
  · intro h
    exact absurd (Finset.mem_univ _) h

/-! ## The kernel's blocks read so -/

section
open Cert.Kernel5Ideal Cert.Kernel5Ideal.Gen

/-- Which head of a chunk a lane lies in, in words. -/
theorem head_word (x : Fin 256) :
    Scalar.select (IntOp.andi (IntOp.cmpi .ne (IntOp.subi (BitVec.setWidth 32 (IntOp.cmpi .sgt (BitVec.ofNat 32 x.val) 0#32)) (BitVec.setWidth 32 (IntOp.cmpi .slt (BitVec.ofNat 32 x.val) 0#32))) (Scalar.subi (Scalar.extui (Scalar.cmpi .sgt 64#32 0#32)) (Scalar.extui (Scalar.cmpi .slt 64#32 0#32)))) (IntOp.cmpi .ne (IntOp.remsi ArithUnit.vector (BitVec.ofNat 32 x.val) 64#32) 0#32))
      (IntOp.subi (IntOp.divsi ArithUnit.vector (BitVec.ofNat 32 x.val) 64#32) 1#32) (IntOp.divsi ArithUnit.vector (BitVec.ofNat 32 x.val) 64#32)
      = BitVec.ofNat 32 (x.val / 64) := by
  revert x
  decide +kernel

theorem same_head : ∀ a b : Fin 4, IntOp.cmpi .eq (BitVec.ofNat 32 a.val) (BitVec.ofNat 32 b.val) = if a.val = b.val then 1#1 else 0#1 := by
  decide +kernel

theorem headMean_at (k d : Fin 256) :
    (headMean (F := Ideal) : FVec Ideal S256x256 .bf16) (ix2 k d) = if k.val / 64 = d.val / 64 then ((1 / 64 : ℝ) : EReal) else 0 := by
  unfold headMean
  pointwise [k0_pay9, k0_pay7, k0_pay8]
  rw [head_word, head_word, same_head ⟨k.val / 64, by omega⟩ ⟨d.val / 64, by omega⟩, w64th]
  dsimp only
  by_cases h : k.val / 64 = d.val / 64
  · rw [if_pos h, if_pos h]; rfl
  · rw [if_neg h, if_neg h]
    show (Scalar.select 0#1 _ _ : EReal) = 0
    unfold Scalar.select
    simp [Ideal.ofBits, Ideal.ieee]

theorem pay22_at (hm : FVec Ideal S256x256 .bf16) (y : FVec Ideal S1024x256 .f32) (r : Fin 1024) (d : Fin 256) :
    (k0_pay22 hm y : FVec Ideal S1024x256 .f32) (ix2 r d) = ∑ k : Fin 256, (y (ix2 r k) * y (ix2 r k) * hm (ix2 k d) : EReal) := by
  pointwise [k0_pay22]

theorem pay27_at (hm : FVec Ideal S256x256 .bf16) (y : FVec Ideal S1024x256 .f32) (r : Fin 1024) (d : Fin 256) :
    (k0_pay27 hm y : FVec Ideal S1024x256 .f32) (ix2 r d)
      = Ideal.rsqrt ((∑ k : Fin 256, (y (ix2 r k) * y (ix2 r k) * hm (ix2 k d) : EReal)) + Ideal.ofBits .f32 0x358637BD#32) := by
  pointwise [k0_pay27]

theorem pay28_at (s y : FVec Ideal S1024x256 .f32) (g : FVec Ideal S1x256 .f32) (r : Fin 1024) (d : Fin 256) :
    (k0_pay28 y s g : FVec Ideal S1024x256 .bf16) (ix2 r d) = y (ix2 r d) * (s (ix2 r d) * g (ix2 0 d)) := by
  pointwise [k0_pay28]

theorem pay12_at (a : FVec Ideal S1024x1024 .bf16) (b : FVec Ideal S1024x256 .bf16) (r : Fin 1024) (d : Fin 256) :
    (k0_pay12 a b : FVec Ideal S1024x256 .f32) (ix2 r d) = ∑ e : Fin 1024, (a (ix2 r e) * b (ix2 e d) : EReal) := by
  pointwise [k0_pay12]

variable (x0 : FVec Ideal S1024x1024 .f32) (x1 : FVec Ideal S1x1024 .f32) (x3 : FVec Ideal S1x2304 .f32) (w0 : FVec Ideal S1024x2304 .bf16)

theorem rows_at (r : Fin 1024) (d : Fin 1024) :
    (rows x0 x1 : FVec Ideal S1024x1024 .bf16) (ix2 r d) = normOf (fun d => x1 (ix2 0 d)) (fun d => x0 (ix2 r d)) d := by
  have h1 : View.ld (Val := Elt Ideal) (e' := .f32) x0 (Rect.unit ![0, 0] ![1024, 1024] (fun a => by fin_cases a <;> simp)) = x0 := ld_whole (F := Ideal) (R := 1024) (C := 1024) (e := .f32) x0 _
  have h2 : View.ld (Val := Elt Ideal) (e' := .f32) x1 (Rect.unit ![0, 0] ![1, 1024] (fun a => by fin_cases a <;> simp)) = x1 := ld_whole (F := Ideal) (R := 1) (C := 1024) (e := .f32) x1 _
  unfold rows
  rw [h1, h2]
  pointwise [k0_pay6]
  rfl

theorem cols_at (j : Fin 9) (e : Fin 1024) (f : Fin 256) : (cols (F := Ideal) w0 j : FVec Ideal S1024x256 .bf16) (ix2 e f) = w0 (ix2 e ⟨256 * j.val + f.val, by omega⟩) := by
  refine congrArg w0 ?_
  funext a
  refine Fin.ext ?_
  fin_cases a <;> simp [Rect.emb, ix2]

theorem gains_at (j : Fin 9) (f : Fin 256) : (gains (F := Ideal) x3 j : FVec Ideal S1x256 .f32) (ix2 0 f) = x3 (ix2 0 ⟨256 * j.val + f.val, by omega⟩) := by
  refine congrArg x3 ?_
  funext a
  refine Fin.ext ?_
  fin_cases a <;> simp [Rect.emb, ix2]

/-- A row's product, -/
def rowProd (r : Fin 1024) : Fin 2304 → EReal := prodOf (fun d => x1 (ix2 0 d)) (fun e j => w0 (ix2 e j)) (fun d => x0 (ix2 r d))

theorem prod_at (j : Fin 9) (r : Fin 1024) (d : Fin 256) :
    (prod (F := Ideal) x0 x1 w0 j : FVec Ideal S1024x256 .f32) (ix2 r d) = rowProd x0 x1 w0 r ⟨256 * j.val + d.val, by omega⟩ := by
  unfold prod rowProd prodOf
  rw [pay12_at]
  simp only [rows_at, cols_at]

/-- a head's mean square, -/
theorem mean_at (j : Fin 9) (r : Fin 1024) (d : Fin 256) :
    (∑ k : Fin 256, ((prod (F := Ideal) x0 x1 w0 j : FVec Ideal S1024x256 .f32) (ix2 r k) * (prod (F := Ideal) x0 x1 w0 j : FVec Ideal S1024x256 .f32) (ix2 r k)
        * (headMean (F := Ideal) : FVec Ideal S256x256 .bf16) (ix2 k d) : EReal))
      = Ideal.div (∑ l : Fin 64, rowProd x0 x1 w0 r ⟨64 * ((256 * j.val + d.val) / 64) + l.val, by omega⟩
          * rowProd x0 x1 w0 r ⟨64 * ((256 * j.val + d.val) / 64) + l.val, by omega⟩) (Ideal.ofBits .f32 0x42800000#32) := by
  simp only [headMean_at, prod_at]
  rw [mean_head (fun k => rowProd x0 x1 w0 r ⟨256 * j.val + k.val, by omega⟩) d]
  have e : ∀ l : Fin 64, (⟨256 * j.val + (64 * (d.val / 64) + l.val), by omega⟩ : Fin 2304) = ⟨64 * ((256 * j.val + d.val) / 64) + l.val, by omega⟩ :=
    fun l => Fin.ext (by dsimp only; omega)
  simp only [e]

/-- and its factor. -/
theorem root_at (j : Fin 9) (r : Fin 1024) (d : Fin 256) :
    Ideal.rsqrt ((k0_pay22 (headMean (F := Ideal)) (prod (F := Ideal) x0 x1 w0 j) : FVec Ideal S1024x256 .f32) (ix2 r d) + Ideal.ofBits .f32 0x358637BD#32)
      = headRoot (rowProd x0 x1 w0 r) ⟨256 * j.val + d.val, by omega⟩ := by
  rw [pay22_at, mean_at]
  rfl

theorem normed_at (j : Fin 9) (r : Fin 1024) (d : Fin 256) (z : Fin 2304) (hz : z.val = 256 * j.val + d.val) :
    (normed (F := Ideal) x0 x1 x3 w0 j : FVec Ideal S1024x256 .bf16) (ix2 r d)
      = rowProd x0 x1 w0 r z * (headRoot (rowProd x0 x1 w0 r) z * x3 (ix2 0 z)) := by
  have h : 256 * j.val + d.val < 2304 := by have := j.isLt; have := d.isLt; clear hz; omega
  obtain rfl : z = ⟨256 * j.val + d.val, h⟩ := Fin.ext hz
  unfold normed
  rw [pay28_at, pay27_at, mean_at, prod_at, gains_at]
  rfl

theorem trunc_at (y : FVec Ideal S1024x256 .f32) (r : Fin 1024) (d : Fin 256) :
    (truncf .bf16 y bitsLt_bf16_f32 : FVec Ideal S1024x256 .bf16) (ix2 r d) = y (ix2 r d) := by
  pointwise

theorem plain_at (j : Fin 9) (r : Fin 1024) (d : Fin 256) (z : Fin 2304) (hz : z.val = 256 * j.val + d.val) :
    (plain (F := Ideal) x0 x1 w0 j : FVec Ideal S1024x256 .bf16) (ix2 r d) = rowProd x0 x1 w0 r z := by
  have h : 256 * j.val + d.val < 2304 := by have := j.isLt; have := d.isLt; clear hz; omega
  obtain rfl : z = ⟨256 * j.val + d.val, h⟩ := Fin.ext hz
  unfold plain
  rw [trunc_at, prod_at]

/-! ## The chunk of which half is normalised -/

theorem lt64 : ∀ d : Fin 128, IntOp.cmpi .slt (BitVec.ofNat 32 d.val) 64#32 = if d.val < 64 then 1#1 else 0#1 := by decide +kernel
theorem lt128 : ∀ d : Fin 256, IntOp.cmpi .slt (BitVec.ofNat 32 d.val) 128#32 = if d.val < 128 then 1#1 else 0#1 := by decide +kernel

/-- The half's lanes, each times its factor or one. -/
def mixed (y s : FVec Ideal S1024x256 .f32) (g : FVec Ideal S1x256 .f32) (r : Fin 1024) (d : Fin 256) : EReal :=
  y (ix2 r d) * (if d.val < 128 then Ideal.rsqrt (s (ix2 r d) + Ideal.ofBits .f32 0x358637BD#32) * g (ix2 0 d) else 1)

theorem pay30_at (y s : FVec Ideal S1024x256 .f32) (g : FVec Ideal S1x256 .f32) (r : Fin 1024) (d : Fin 256) :
    (k0_pay30 k0_pay10 y s g : FVec Ideal S1024x256 .f32) (ix2 r d) = mixed y s g r d := by
  pointwise [k0_pay30, k0_pay10]
  unfold mixed
  rw [lt128]
  by_cases h : d.val < 128
  · rw [if_pos h, if_pos h]; rfl
  · rw [if_neg h, if_neg h]; rfl

theorem pay34_at (y s : FVec Ideal S1024x256 .f32) (g : FVec Ideal S1x256 .f32) (r : Fin 1024) (d : Fin 128) :
    (k0_pay34 k0_pay10 k0_pay11 y s g : FVec Ideal S1024x128 .bf16) (ix2 r d) = (k0_pay30 k0_pay10 y s g : FVec Ideal S1024x256 .f32) (ix2 r ⟨d.val % 64, by omega⟩) := by
  pointwise [k0_pay34, k0_pay33, k0_pay31, k0_pay11]
  rw [lt64]
  by_cases h : d.val < 64
  · rw [if_pos h]
    refine congrArg (fun z => (k0_pay30 k0_pay10 y s g : FVec Ideal S1024x256 .f32) (ix2 r z)) (Fin.ext ?_)
    dsimp only
    omega
  · rw [if_neg h]
    refine congrArg (fun z => (k0_pay30 k0_pay10 y s g : FVec Ideal S1024x256 .f32) (ix2 r z)) (Fin.ext ?_)
    dsimp only
    omega

theorem pay35_at (y s : FVec Ideal S1024x256 .f32) (g : FVec Ideal S1x256 .f32) (r : Fin 1024) (d : Fin 128) :
    (k0_pay35 k0_pay10 k0_pay11 y s g : FVec Ideal S1024x128 .bf16) (ix2 r d) = (k0_pay30 k0_pay10 y s g : FVec Ideal S1024x256 .f32) (ix2 r ⟨64 + d.val % 64, by omega⟩) := by
  pointwise [k0_pay35, k0_pay33, k0_pay31, k0_pay11]
  rw [lt64]
  by_cases h : d.val < 64
  · rw [if_pos h]
    refine congrArg (fun z => (k0_pay30 k0_pay10 y s g : FVec Ideal S1024x256 .f32) (ix2 r z)) (Fin.ext ?_)
    dsimp only
    omega
  · rw [if_neg h]
    refine congrArg (fun z => (k0_pay30 k0_pay10 y s g : FVec Ideal S1024x256 .f32) (ix2 r z)) (Fin.ext ?_)
    dsimp only
    omega

theorem pay37_at (y s : FVec Ideal S1024x256 .f32) (g : FVec Ideal S1x256 .f32) (r : Fin 1024) (d : Fin 128) :
    (k0_pay37 k0_pay11 (k0_pay32 k0_pay10 y s g) : FVec Ideal S1024x128 .bf16) (ix2 r d) = (k0_pay30 k0_pay10 y s g : FVec Ideal S1024x256 .f32) (ix2 r ⟨128 + d.val % 64, by omega⟩) := by
  pointwise [k0_pay37, k0_pay36, k0_pay32, k0_pay11]
  rw [lt64]
  by_cases h : d.val < 64
  · rw [if_pos h]
    refine congrArg (fun z => (k0_pay30 k0_pay10 y s g : FVec Ideal S1024x256 .f32) (ix2 r z)) (Fin.ext ?_)
    dsimp only
    omega
  · rw [if_neg h]
    refine congrArg (fun z => (k0_pay30 k0_pay10 y s g : FVec Ideal S1024x256 .f32) (ix2 r z)) (Fin.ext ?_)
    dsimp only
    omega

theorem pay38_at (y s : FVec Ideal S1024x256 .f32) (g : FVec Ideal S1x256 .f32) (r : Fin 1024) (d : Fin 128) :
    (k0_pay38 k0_pay11 (k0_pay32 k0_pay10 y s g) : FVec Ideal S1024x128 .bf16) (ix2 r d) = (k0_pay30 k0_pay10 y s g : FVec Ideal S1024x256 .f32) (ix2 r ⟨192 + d.val % 64, by omega⟩) := by
  pointwise [k0_pay38, k0_pay36, k0_pay32, k0_pay11]
  rw [lt64]
  by_cases h : d.val < 64
  · rw [if_pos h]
    refine congrArg (fun z => (k0_pay30 k0_pay10 y s g : FVec Ideal S1024x256 .f32) (ix2 r z)) (Fin.ext ?_)
    dsimp only
    omega
  · rw [if_neg h]
    refine congrArg (fun z => (k0_pay30 k0_pay10 y s g : FVec Ideal S1024x256 .f32) (ix2 r z)) (Fin.ext ?_)
    dsimp only
    omega

theorem mixed_lo (r : Fin 1024) (d : Fin 256) (hd : d.val < 128) (z : Fin 2304) (hz : z.val = 512 + d.val) :
    mixed (prod (F := Ideal) x0 x1 w0 2) (k0_pay22 headMean (prod (F := Ideal) x0 x1 w0 2)) (gains (F := Ideal) x3 2) r d
      = rowProd x0 x1 w0 r z * (headRoot (rowProd x0 x1 w0 r) z * x3 (ix2 0 z)) := by
  have h : 512 + d.val < 2304 := by clear hz; omega
  obtain rfl : z = ⟨512 + d.val, h⟩ := Fin.ext hz
  unfold mixed
  rw [if_pos hd, root_at, prod_at, gains_at]
  rfl

theorem mixed_hi (r : Fin 1024) (d : Fin 256) (hd : ¬ d.val < 128) (z : Fin 2304) (hz : z.val = 512 + d.val) :
    mixed (prod (F := Ideal) x0 x1 w0 2) (k0_pay22 headMean (prod (F := Ideal) x0 x1 w0 2)) (gains (F := Ideal) x3 2) r d
      = rowProd x0 x1 w0 r z := by
  have h : 512 + d.val < 2304 := by clear hz; have := d.isLt; omega
  obtain rfl : z = ⟨512 + d.val, h⟩ := Fin.ext hz
  unfold mixed
  rw [if_neg hd, mul_one, prod_at]
  rfl

/-- The keys' heads, each twice, -/
theorem keyDup_at (b : Fin 2) (r : Fin 1024) (d : Fin 128) (z : Fin 2304) (hz : z.val = 512 + 64 * b.val + d.val % 64) :
    (keyDup (F := Ideal) x0 x1 x3 w0 b : FVec Ideal S1024x128 .bf16) (ix2 r d)
      = rowProd x0 x1 w0 r z * (headRoot (rowProd x0 x1 w0 r) z * x3 (ix2 0 z)) := by
  match b, hz with
  | 0, hz =>
    refine (pay34_at _ _ _ r d).trans ((pay30_at _ _ _ r _).trans (mixed_lo x0 x1 x3 w0 r _ ?_ z ?_))
    · dsimp only; omega
    · dsimp only; rw [hz]; show 512 + 64 * 0 + d.val % 64 = _; omega
  | 1, hz =>
    refine (pay35_at _ _ _ r d).trans ((pay30_at _ _ _ r _).trans (mixed_lo x0 x1 x3 w0 r _ ?_ z ?_))
    · dsimp only; omega
    · dsimp only; rw [hz]; show 512 + 64 * 1 + d.val % 64 = _; omega

/-- and the values'. -/
theorem valDup_at (b : Fin 2) (r : Fin 1024) (d : Fin 128) (z : Fin 2304) (hz : z.val = 640 + 64 * b.val + d.val % 64) :
    (valDup (F := Ideal) x0 x1 x3 w0 b : FVec Ideal S1024x128 .bf16) (ix2 r d) = rowProd x0 x1 w0 r z := by
  match b, hz with
  | 0, hz =>
    refine (pay37_at _ _ _ r d).trans ((pay30_at _ _ _ r _).trans (mixed_hi x0 x1 x3 w0 r _ ?_ z ?_))
    · dsimp only; omega
    · dsimp only; rw [hz]; show 640 + 64 * 0 + d.val % 64 = _; omega
  | 1, hz =>
    refine (pay38_at _ _ _ r d).trans ((pay30_at _ _ _ r _).trans (mixed_hi x0 x1 x3 w0 r _ ?_ z ?_))
    · dsimp only; omega
    · dsimp only; rw [hz]; show 640 + 64 * 1 + d.val % 64 = _; omega

theorem pay1_at (b : FVec Ideal S1x128x2304 .f32) (x : Fin 128) (j : Fin 2304) : (k0_pay1 b : FVec Ideal S128x2304 .bf16) (ix2 x j) = b (ix3 0 x j) := by
  pointwise [k0_pay1]

/-- The cast of a slab. -/
theorem cast0_at (b : FVec Ideal S1x128x2304 .f32) (x : Fin 128) (j : Fin 2304) : (cast0 (F := Ideal) b : FVec Ideal S128x2304 .bf16) (ix2 x j) = b (ix3 0 x j) := by
  refine (pay1_at _ x j).trans (congrArg b ?_)
  funext a
  refine Fin.ext ?_
  match a with
  | ⟨0, _⟩ => rfl
  | ⟨1, _⟩ => show 0 + 1 * x.val = x.val; omega
  | ⟨2, _⟩ => show 0 + 1 * j.val = j.val; omega
end

end Cert.EvenProof
end
-- ==== Proof.EvenFinal.lean ====
module

public import proofs.«01_k».proof.Proof.EvenFrame
public import proofs.«01_k».proof.Proof.EvenValue
public import Idealize.ShloMosaic.Lib.StableHlo.RunRead

@[expose] public section

set_option maxRecDepth 16384

noncomputable section

namespace Cert.EvenProof

open Cert.Kernel5Ideal Cert.Kernel5Ideal.Gen Idealize.ShloMosaic Idealize.ShloMosaic.TcCoe Idealize.SL.Sem Idealize.ShloMosaic.Tactic

variable (m : (ℓ : Loc nD τ sig) → Buf (Elt Ideal) ℓ) (c : Dev nD)

/-! ## The arguments' entries -/

def xA (n : Fin 16384) (d : Fin 1024) : EReal := (m ((c : Thread nD τ).loc main_arg0) : FVec Ideal S16384x1024 .f32) (ix2 n d)
def gA (d : Fin 1024) : EReal := (m ((c : Thread nD τ).loc main_arg1) : FVec Ideal S1x1024 .f32) (ix2 0 d)
def wA (e : Fin 1024) (j : Fin 2304) : EReal := (m ((c : Thread nD τ).loc main_arg2) : FVec Ideal S1x1024x2304 .f32) (ix3 0 e j)
def qnA (l : Fin 64) : EReal := (m ((c : Thread nD τ).loc main_arg3) : FVec Ideal S1x64 .f32) (ix2 0 l)
def knA (l : Fin 64) : EReal := (m ((c : Thread nD τ).loc main_arg4) : FVec Ideal S1x64 .f32) (ix2 0 l)
def qnB (l : Fin 64) : EReal := (m ((c : Thread nD τ).loc main_arg5) : FVec Ideal S1x64 .f32) (ix2 0 l)
def knB (l : Fin 64) : EReal := (m ((c : Thread nD τ).loc main_arg6) : FVec Ideal S1x64 .f32) (ix2 0 l)

/-! ## The host's gains -/

/-- The scale as the host computes it. -/
theorem host_scale : Ideal.ofBits .f32 0x3E000000#32 * Ideal.div 1 (Ideal.log (Ideal.ofBits .f32 0x40000000#32)) = scale := by
  have h : (Ideal.ofBits FTy.f32 0x40000000#32 : EReal) = ((2 : ℝ) : EReal) := by
    simp [Ideal.ofBits, Ideal.ieee]; rw [← EReal.coe_mul]; norm_num
  unfold scale
  rw [h, Ideal.log_coe, if_neg (by norm_num), Ideal.div_coe (Real.log_pos one_lt_two).ne', Ideal.div_coe (Real.log_pos one_lt_two).ne', one_mul]

set_option maxHeartbeats 4000000 in
theorem gain_qa (d : Fin 512) : ((V m c main_v11 : FVec Ideal S512 .f32) (ix1 d) : EReal) = qnA m c ⟨d.val % 64, by omega⟩ * scale := by
  rw [← host_scale]
  entry_read
  pointwise
  rfl

theorem gain_ka (d : Fin 128) : ((V m c main_v14 : FVec Ideal S128 .f32) (ix1 d) : EReal) = knA m c ⟨d.val % 64, by omega⟩ := by
  entry_read
  pointwise
  rfl

theorem gain_qb (d : Fin 512) : ((V m c main_v20 : FVec Ideal S512 .f32) (ix1 d) : EReal) = qnB m c ⟨d.val % 64, by omega⟩ * scale := by
  rw [← host_scale]
  entry_read
  pointwise
  rfl

theorem gain_kb (d : Fin 512) : ((V m c main_v23 : FVec Ideal S512 .f32) (ix1 d) : EReal) = knB m c ⟨d.val % 64, by omega⟩ := by
  entry_read
  pointwise
  rfl

/-- A buffer the last four host operations do not write. -/
theorem before_last {r : Ref sig .tc} (hr : r ∉ [main_v25, main_v26, main_v27, main_v28]) :
    StableHlo.upto (hostOps0 (F := Ideal)) (fun b => m (c, b)) 30 (Proc.devRef .tc r) = V m c r := by
  have h := congrFun (StableHlo.after_append ((hostOps0 (F := Ideal)).take 30) ((hostOps0 (F := Ideal)).drop 30) (fun b => m (c, b))) (Proc.devRef .tc r)
  rw [List.take_append_drop] at h
  exact ((h.trans (StableHlo.after_unwritten [main_v25, main_v26, main_v27, main_v28] rfl hr _))).symm

theorem gain_pieces : (V m c main_v26 : FVec Ideal S1x2304 .f32)
    = broadcastInDim S1x2304 ![1] bcast_S2304_S1x2304_1 (concatenate S2304 0 [⟨S512, (V m c main_v11 : FVec Ideal S512 .f32)⟩, ⟨S128, (V m c main_v14 : FVec Ideal S128 .f32)⟩, ⟨S128, (V m c main_v15 : FVec Ideal S128 .f32)⟩, ⟨S512, (V m c main_v20 : FVec Ideal S512 .f32)⟩, ⟨S512, (V m c main_v23 : FVec Ideal S512 .f32)⟩, ⟨S512, (V m c main_v24 : FVec Ideal S512 .f32)⟩] concatenates_S512_S128_S128_S512_S512_S512_S2304_d0) := by
  have h26 := StableHlo.after_last_write (ops := hostOps0 (F := Ideal)) (i := 31) (r := main_v26) [main_v27, main_v28] rfl rfl (by decide) (fun b => m (c, b))
  have h25 := StableHlo.upto_last_write (ops := hostOps0 (F := Ideal)) (n := 31) (i := 30) (r := main_v25) [] rfl rfl (by decide) (fun b => m (c, b))
  refine h26.trans ((StableHlo.unary_result _ _ _ _ _ _).trans ?_)
  refine congrArg (broadcastInDim S1x2304 ![1] bcast_S2304_S1x2304_1) (h25.trans ((StableHlo.nary_result _ _ _ _ _ _).trans ?_))
  rw [← before_last m c (r := main_v11) (by decide), ← before_last m c (r := main_v14) (by decide), ← before_last m c (r := main_v15) (by decide),
    ← before_last m c (r := main_v20) (by decide), ← before_last m c (r := main_v23) (by decide), ← before_last m c (r := main_v24) (by decide)]
  rfl

theorem pieces_at (a0 : FVec Ideal S512 .f32) (a1 a2 : FVec Ideal S128 .f32) (a3 a4 a5 : FVec Ideal S512 .f32) (j : Fin 2304) :
    ((broadcastInDim S1x2304 ![1] bcast_S2304_S1x2304_1 (concatenate S2304 0 [⟨S512, a0⟩, ⟨S128, a1⟩, ⟨S128, a2⟩, ⟨S512, a3⟩, ⟨S512, a4⟩, ⟨S512, a5⟩] concatenates_S512_S128_S128_S512_S512_S512_S2304_d0) : FVec Ideal S1x2304 .f32) (ix2 0 j) : EReal)
      = if h : j.val < 512 then a0 (ix1 ⟨j.val, h⟩) else
        if h : j.val - 512 < 128 then a1 (ix1 ⟨j.val - 512, h⟩) else
        if h : j.val - 512 - 128 < 128 then a2 (ix1 ⟨j.val - 512 - 128, h⟩) else
        if h : j.val - 512 - 128 - 128 < 512 then a3 (ix1 ⟨j.val - 512 - 128 - 128, h⟩) else
        if h : j.val - 512 - 128 - 128 - 512 < 512 then a4 (ix1 ⟨j.val - 512 - 128 - 128 - 512, h⟩) else
          a5 (ix1 ⟨j.val - 512 - 128 - 128 - 512 - 512, by have := j.isLt; omega⟩) := by
  pointwise

theorem at_qa (d : Fin 512) (z : Fin 2304) (hz : z.val = d.val) : ((V m c main_v26 : FVec Ideal S1x2304 .f32) (ix2 0 z) : EReal) = qnA m c ⟨d.val % 64, by omega⟩ * scale := by
  have hd := d.isLt
  rw [gain_pieces, pieces_at, dif_pos (by omega), ← gain_qa]
  refine congrArg (fun k => (V m c main_v11 : FVec Ideal S512 .f32) (ix1 k)) (Fin.ext ?_)
  dsimp only
  omega

theorem at_ka (d : Fin 128) (z : Fin 2304) (hz : z.val = 512 + d.val) : ((V m c main_v26 : FVec Ideal S1x2304 .f32) (ix2 0 z) : EReal) = knA m c ⟨d.val % 64, by omega⟩ := by
  have hd := d.isLt
  rw [gain_pieces, pieces_at, dif_neg (by omega), dif_pos (by omega), ← gain_ka]
  refine congrArg (fun k => (V m c main_v14 : FVec Ideal S128 .f32) (ix1 k)) (Fin.ext ?_)
  dsimp only
  omega

theorem at_qb (d : Fin 512) (z : Fin 2304) (hz : z.val = 768 + d.val) : ((V m c main_v26 : FVec Ideal S1x2304 .f32) (ix2 0 z) : EReal) = qnB m c ⟨d.val % 64, by omega⟩ * scale := by
  have hd := d.isLt
  rw [gain_pieces, pieces_at, dif_neg (by omega), dif_neg (by omega), dif_neg (by omega), dif_pos (by omega), ← gain_qb]
  refine congrArg (fun k => (V m c main_v20 : FVec Ideal S512 .f32) (ix1 k)) (Fin.ext ?_)
  dsimp only
  omega

theorem at_kb (d : Fin 512) (z : Fin 2304) (hz : z.val = 1280 + d.val) : ((V m c main_v26 : FVec Ideal S1x2304 .f32) (ix2 0 z) : EReal) = knB m c ⟨d.val % 64, by omega⟩ := by
  have hd := d.isLt
  rw [gain_pieces, pieces_at, dif_neg (by omega), dif_neg (by omega), dif_neg (by omega), dif_neg (by omega), dif_pos (by omega), ← gain_kb]
  refine congrArg (fun k => (V m c main_v23 : FVec Ideal S512 .f32) (ix1 k)) (Fin.ext ?_)
  dsimp only
  omega

/-! ## The results, an entry from its token's row -/

def row (n : Fin 16384) : Fin 2304 → EReal := prodOf (gA m c) (wA m c) (xA m c n)

/-- A head's lane, normalised. -/
def unitAt (n : Fin 16384) (z : Fin 2304) : EReal := row m c n z * headRoot (row m c n) z

def goalQa : FVec Ideal S16384x512 .bf16 := fun i =>
  unitAt m c (i 0) ⟨(i 1).val, lt_trans (i 1).isLt (by decide)⟩ * qnA m c ⟨(i 1).val % 64, Nat.mod_lt _ (by decide)⟩ * scale
def goalKa : FVec Ideal S16384x256 .bf16 := fun i =>
  unitAt m c (i 0) ⟨512 + 64 * ((i 1).val / 128) + (i 1).val % 64, by have : (i 1).val < 256 := (i 1).isLt; omega⟩ * knA m c ⟨(i 1).val % 64, Nat.mod_lt _ (by decide)⟩
def goalVa : FVec Ideal S16384x256 .bf16 := fun i =>
  row m c (i 0) ⟨640 + 64 * ((i 1).val / 128) + (i 1).val % 64, by have : (i 1).val < 256 := (i 1).isLt; omega⟩
def goalQb : FVec Ideal S16384x512 .bf16 := fun i =>
  unitAt m c (i 0) ⟨768 + (i 1).val, by have : (i 1).val < 512 := (i 1).isLt; omega⟩ * qnB m c ⟨(i 1).val % 64, Nat.mod_lt _ (by decide)⟩ * scale
def goalKb : FVec Ideal S16384x512 .bf16 := fun i =>
  unitAt m c (i 0) ⟨1280 + (i 1).val, by have : (i 1).val < 512 := (i 1).isLt; omega⟩ * knB m c ⟨(i 1).val % 64, Nat.mod_lt _ (by decide)⟩
def goalVb : FVec Ideal S16384x512 .bf16 := fun i =>
  row m c (i 0) ⟨1792 + (i 1).val, by have : (i 1).val < 512 := (i 1).isLt; omega⟩

/-! ## The windows' blocks, read in the arguments -/

theorem at0 : ∀ t : Fin cfg0.N, win0_0.index t 0 = t.val - 8 ∧ win0_0.index t 1 = 0 :=
  (by decide +kernel : ∀ t : Fin grid0.N, win0_0.index t 0 = t.val - 8 ∧ win0_0.index t 1 = 0)
theorem at2 : ∀ t : Fin cfg0.N, win0_2.index t 0 = 0 ∧ win0_2.index t 1 = min t.val 7 ∧ win0_2.index t 2 = 0 :=
  (by decide +kernel : ∀ t : Fin grid0.N, win0_2.index t 0 = 0 ∧ win0_2.index t 1 = min t.val 7 ∧ win0_2.index t 2 = 0)
theorem at4 : ∀ t : Fin cfg0.N, win0_4.index t 0 = t.val - 8 ∧ win0_4.index t 1 = 0 :=
  (by decide +kernel : ∀ t : Fin grid0.N, win0_4.index t 0 = t.val - 8 ∧ win0_4.index t 1 = 0)
theorem at5 : ∀ t : Fin cfg0.N, win0_5.index t 0 = t.val - 8 ∧ win0_5.index t 1 = 0 :=
  (by decide +kernel : ∀ t : Fin grid0.N, win0_5.index t 0 = t.val - 8 ∧ win0_5.index t 1 = 0)
theorem at6 : ∀ t : Fin cfg0.N, win0_6.index t 0 = t.val - 8 ∧ win0_6.index t 1 = 0 :=
  (by decide +kernel : ∀ t : Fin grid0.N, win0_6.index t 0 = t.val - 8 ∧ win0_6.index t 1 = 0)
theorem at7 : ∀ t : Fin cfg0.N, win0_7.index t 0 = t.val - 8 ∧ win0_7.index t 1 = 0 :=
  (by decide +kernel : ∀ t : Fin grid0.N, win0_7.index t 0 = t.val - 8 ∧ win0_7.index t 1 = 0)
theorem at8 : ∀ t : Fin cfg0.N, win0_8.index t 0 = t.val - 8 ∧ win0_8.index t 1 = 0 :=
  (by decide +kernel : ∀ t : Fin grid0.N, win0_8.index t 0 = t.val - 8 ∧ win0_8.index t 1 = 0)
theorem at9 : ∀ t : Fin cfg0.N, win0_9.index t 0 = t.val - 8 ∧ win0_9.index t 1 = 0 :=
  (by decide +kernel : ∀ t : Fin grid0.N, win0_9.index t 0 = t.val - 8 ∧ win0_9.index t 1 = 0)
theorem lt24 (t : Fin cfg0.N) : t.val < 24 := lt_of_lt_of_eq t.isLt N_0

/-- The row of the arrays a row of point `t`'s blocks is. -/
def rowAt (t : Fin cfg0.N) (r : Fin 1024) : Fin 16384 := ⟨1024 * (t.val - 8) + r.val, by have := lt24 t; omega⟩

theorem blk_x (t : Fin cfg0.N) (r : Fin 1024) (d : Fin 1024) : (iblk m c 0 t : FVec Ideal S1024x1024 .f32) (ix2 r d) = xA m c (rowAt t r) d := by
  unfold iblk xA
  rw [View.read_apply, ← V_main_arg0 m c]
  show V m c main_arg0 _ = V m c main_arg0 _
  congr 1
  funext a
  apply Fin.ext
  match a with
  | ⟨0, _⟩ => show win0_0.index t 0 * 1024 + 1 * r.val = 1024 * (t.val - 8) + r.val; rw [(at0 t).1]; omega
  | ⟨1, _⟩ => show win0_0.index t 1 * 1024 + 1 * d.val = d.val; rw [(at0 t).2]; omega

theorem row_gain (d : Fin 1024) : ((V m c main_v28 : FVec Ideal S1x1024 .f32) (ix2 0 d) : EReal) = gA m c d := by
  entry_read
  pointwise
  rfl

theorem blk_g (t : Fin cfg0.N) (d : Fin 1024) : (iblk m c 1 t : FVec Ideal S1x1024 .f32) (ix2 0 d) = gA m c d := by
  rw [← row_gain]
  unfold iblk
  rw [View.read_apply]
  show V m c main_v28 _ = V m c main_v28 _
  congr 1
  funext a
  apply Fin.ext
  match a with
  | ⟨0, _⟩ => show win0_1.index t 0 * 1 + 1 * 0 = 0; rw [show win0_1.index t 0 = 0 from rfl]
  | ⟨1, _⟩ => show win0_1.index t 1 * 1024 + 1 * d.val = d.val; rw [show win0_1.index t 1 = 0 from rfl]; omega

theorem blk_n (t : Fin cfg0.N) (z : Fin 2304) : (iblk m c 3 t : FVec Ideal S1x2304 .f32) (ix2 0 z) = (V m c main_v26 : FVec Ideal S1x2304 .f32) (ix2 0 z) := by
  unfold iblk
  rw [View.read_apply]
  show V m c main_v26 _ = V m c main_v26 _
  congr 1
  funext a
  apply Fin.ext
  match a with
  | ⟨0, _⟩ => show win0_3.index t 0 * 1 + 1 * 0 = 0; rw [show win0_3.index t 0 = 0 from rfl]
  | ⟨1, _⟩ => show win0_3.index t 1 * 2304 + 1 * z.val = z.val; rw [show win0_3.index t 1 = 0 from rfl]; omega

theorem blk_w (k : Fin 8) (x : Fin 128) (j : Fin 2304) : (iblk m c 2 (pt k) : FVec Ideal S1x128x2304 .f32) (ix3 0 x j) = wA m c ⟨128 * k.val + x.val, by omega⟩ j := by
  unfold iblk wA
  rw [View.read_apply, ← V_main_arg2 m c]
  show V m c main_arg2 _ = V m c main_arg2 _
  congr 1
  funext a
  apply Fin.ext
  have hk := k.isLt
  match a with
  | ⟨0, _⟩ => show win0_2.index (pt k) 0 * 1 + 1 * 0 = 0; rw [(at2 _).1]
  | ⟨1, _⟩ => show win0_2.index (pt k) 1 * 128 + 1 * x.val = 128 * k.val + x.val; rw [(at2 _).2.1]; show min k.val 7 * 128 + 1 * x.val = _; omega
  | ⟨2, _⟩ => show win0_2.index (pt k) 2 * 2304 + 1 * j.val = j.val; rw [(at2 _).2.2]; omega

/-- The slab at a casting point. -/
theorem slab0_at (k : Fin 8) (x : Fin 128) (j : Fin 2304) : (slab0 m c (pt k) (ix2 x j) : EReal) = wA m c ⟨128 * k.val + x.val, by omega⟩ j := by
  rw [← blk_w]
  unfold slab0
  generalize (iblk m c 2 (pt k) : FVec Ideal S1x128x2304 .f32) = b
  exact cast0_at b x j

/-- The kept weight is the argument's. -/
theorem kept0_at (e : Fin 1024) (j : Fin 2304) : (kept0 m c (ix2 e j) : EReal) = wA m c e j :=
  (slab0_at m c ⟨e.val / 128, by omega⟩ ⟨e.val % 128, by omega⟩ j).trans
    (congrArg (fun k => wA m c k j) (Fin.ext (show 128 * (e.val / 128) + e.val % 128 = e.val by omega)))

theorem row_at (t : Fin cfg0.N) (r : Fin 1024) :
    rowProd (iblk m c 0 t : FVec Ideal S1024x1024 .f32) (iblk m c 1 t : FVec Ideal S1x1024 .f32) (kept0 m c) r = row m c (rowAt t r) := by
  unfold rowProd row
  simp only [blk_x, blk_g, kept0_at]

/-! ## A computing point's blocks of the results -/

theorem oqa_at (t : Fin cfg0.N) (r : Fin 1024) (d : Fin 512) : (oqa m c t (ix2 r d) : EReal) = goalQa m c (ix2 (rowAt t r) d) := by
  unfold oqa
  refine (normed_at _ _ _ (kept0 m c) ⟨d.val / 256, by omega⟩ r ⟨d.val % 256, by omega⟩ ⟨d.val, by omega⟩ (by dsimp only; omega)).trans ?_
  rw [row_at, blk_n, at_qa m c d _ rfl]
  simp only [← mul_assoc]
  rfl

theorem oka_at (t : Fin cfg0.N) (r : Fin 1024) (d : Fin 256) : (oka m c t (ix2 r d) : EReal) = goalKa m c (ix2 (rowAt t r) d) := by
  unfold oka
  refine (keyDup_at _ _ _ (kept0 m c) ⟨d.val / 128, by omega⟩ r ⟨d.val % 128, by omega⟩ ⟨512 + 64 * (d.val / 128) + d.val % 64, by omega⟩ (by dsimp only; omega)).trans ?_
  rw [row_at, blk_n, at_ka m c ⟨64 * (d.val / 128) + d.val % 64, by omega⟩ _ (by dsimp only; omega)]
  simp only [← mul_assoc]
  exact congrArg (fun l => unitAt m c (rowAt t r) ⟨512 + 64 * (d.val / 128) + d.val % 64, by omega⟩ * knA m c l)
    (Fin.ext (show (64 * (d.val / 128) + d.val % 64) % 64 = d.val % 64 by omega))

theorem ova_at (t : Fin cfg0.N) (r : Fin 1024) (d : Fin 256) : (ova m c t (ix2 r d) : EReal) = goalVa m c (ix2 (rowAt t r) d) := by
  unfold ova
  refine (valDup_at _ _ (iblk m c 3 t : FVec Ideal S1x2304 .f32) (kept0 m c) ⟨d.val / 128, by omega⟩ r ⟨d.val % 128, by omega⟩ ⟨640 + 64 * (d.val / 128) + d.val % 64, by omega⟩ (by dsimp only; omega)).trans ?_
  rw [row_at]
  rfl

theorem oqb_at (t : Fin cfg0.N) (r : Fin 1024) (d : Fin 512) : (oqb m c t (ix2 r d) : EReal) = goalQb m c (ix2 (rowAt t r) d) := by
  unfold oqb
  refine (normed_at _ _ _ (kept0 m c) ⟨3 + d.val / 256, by omega⟩ r ⟨d.val % 256, by omega⟩ ⟨768 + d.val, by omega⟩ (by dsimp only; omega)).trans ?_
  rw [row_at, blk_n, at_qb m c d _ rfl]
  simp only [← mul_assoc]
  rfl

theorem okb_at (t : Fin cfg0.N) (r : Fin 1024) (d : Fin 512) : (okb m c t (ix2 r d) : EReal) = goalKb m c (ix2 (rowAt t r) d) := by
  unfold okb
  refine (normed_at _ _ _ (kept0 m c) ⟨5 + d.val / 256, by omega⟩ r ⟨d.val % 256, by omega⟩ ⟨1280 + d.val, by omega⟩ (by dsimp only; omega)).trans ?_
  rw [row_at, blk_n, at_kb m c d _ rfl]
  simp only [← mul_assoc]
  rfl

theorem ovb_at (t : Fin cfg0.N) (r : Fin 1024) (d : Fin 512) : (ovb m c t (ix2 r d) : EReal) = goalVb m c (ix2 (rowAt t r) d) := by
  unfold ovb
  refine (plain_at _ _ (kept0 m c) ⟨7 + d.val / 256, by omega⟩ r ⟨d.val % 256, by omega⟩ ⟨1792 + d.val, by omega⟩ (by dsimp only; omega)).trans ?_
  rw [row_at]
  rfl

/-! ## The results, as whole arrays -/

theorem flushed_qa (t : Fin cfg0.N) : (dats m 0 c).flushed 4 t = ((cfg0.win 4).blk t).view.read (Elt Ideal) (goalQa m c) := by
  refine (dats_after4 m c t).trans ?_
  funext y
  have hy : y = ix2 (y 0) (y 1) := by
    funext a
    match a with
    | ⟨0, _⟩ => rfl
    | ⟨1, _⟩ => rfl
  rw [View.read_apply]
  refine (congrArg _ hy).trans ((oqa_at m c t (y 0) (y 1)).trans ?_)
  show goalQa m c _ = goalQa m c _
  congr 1
  funext a
  apply Fin.ext
  match a with
  | ⟨0, _⟩ => show 1024 * (t.val - 8) + (y 0).val = win0_4.index t 0 * 1024 + 1 * (y 0).val; rw [(at4 t).1]; omega
  | ⟨1, _⟩ => show (y 1).val = win0_4.index t 1 * 512 + 1 * (y 1).val; rw [(at4 t).2]; omega

theorem final_qa : (dats m 0 c).arrAt 4 cfg0.N = goalQa m c := by
  refine (dats m 0 c).arrAt_eq_of_cover 4 (goalQa m c) (fun t _ => flushed_qa m c t) fun y => ?_
  have h0 : (y 0).val < 16384 := (y 0).isLt
  have h1 : (y 1).val < 512 := (y 1).isLt
  have hN : (y 0).val / 1024 + 8 < cfg0.N := by
    rw [show cfg0.N = 24 from N_0]
    omega
  refine ⟨⟨(y 0).val / 1024 + 8, hN⟩, (flush_out4 _).mpr (by simp only; omega), ?_⟩
  have h := ((cfg0.win 4).blk ⟨(y 0).val / 1024 + 8, hN⟩).view.emb_mem_set (ix2 (⟨(y 0).val % 1024, by omega⟩ : Fin 1024) (⟨(y 1).val, h1⟩ : Fin 512))
  refine (congrArg (· ∈ ((cfg0.win 4).blk ⟨(y 0).val / 1024 + 8, hN⟩).view.set) (funext fun a => Fin.ext ?_)).mp h
  match a with
  | ⟨0, _⟩ => show win0_4.index ⟨(y 0).val / 1024 + 8, hN⟩ 0 * 1024 + 1 * ((y 0).val % 1024) = (y 0).val; rw [(at4 _).1]; simp only; omega
  | ⟨1, _⟩ => show win0_4.index ⟨(y 0).val / 1024 + 8, hN⟩ 1 * 512 + 1 * (y 1).val = (y 1).val; rw [(at4 _).2]; omega

theorem flushed_ka (t : Fin cfg0.N) : (dats m 0 c).flushed 5 t = ((cfg0.win 5).blk t).view.read (Elt Ideal) (goalKa m c) := by
  refine (dats_after5 m c t).trans ?_
  funext y
  have hy : y = ix2 (y 0) (y 1) := by
    funext a
    match a with
    | ⟨0, _⟩ => rfl
    | ⟨1, _⟩ => rfl
  rw [View.read_apply]
  refine (congrArg _ hy).trans ((oka_at m c t (y 0) (y 1)).trans ?_)
  show goalKa m c _ = goalKa m c _
  congr 1
  funext a
  apply Fin.ext
  match a with
  | ⟨0, _⟩ => show 1024 * (t.val - 8) + (y 0).val = win0_5.index t 0 * 1024 + 1 * (y 0).val; rw [(at5 t).1]; omega
  | ⟨1, _⟩ => show (y 1).val = win0_5.index t 1 * 256 + 1 * (y 1).val; rw [(at5 t).2]; omega

theorem final_ka : (dats m 0 c).arrAt 5 cfg0.N = goalKa m c := by
  refine (dats m 0 c).arrAt_eq_of_cover 5 (goalKa m c) (fun t _ => flushed_ka m c t) fun y => ?_
  have h0 : (y 0).val < 16384 := (y 0).isLt
  have h1 : (y 1).val < 256 := (y 1).isLt
  have hN : (y 0).val / 1024 + 8 < cfg0.N := by
    rw [show cfg0.N = 24 from N_0]
    omega
  refine ⟨⟨(y 0).val / 1024 + 8, hN⟩, (flush_out5 _).mpr (by simp only; omega), ?_⟩
  have h := ((cfg0.win 5).blk ⟨(y 0).val / 1024 + 8, hN⟩).view.emb_mem_set (ix2 (⟨(y 0).val % 1024, by omega⟩ : Fin 1024) (⟨(y 1).val, h1⟩ : Fin 256))
  refine (congrArg (· ∈ ((cfg0.win 5).blk ⟨(y 0).val / 1024 + 8, hN⟩).view.set) (funext fun a => Fin.ext ?_)).mp h
  match a with
  | ⟨0, _⟩ => show win0_5.index ⟨(y 0).val / 1024 + 8, hN⟩ 0 * 1024 + 1 * ((y 0).val % 1024) = (y 0).val; rw [(at5 _).1]; simp only; omega
  | ⟨1, _⟩ => show win0_5.index ⟨(y 0).val / 1024 + 8, hN⟩ 1 * 256 + 1 * (y 1).val = (y 1).val; rw [(at5 _).2]; omega

theorem flushed_va (t : Fin cfg0.N) : (dats m 0 c).flushed 6 t = ((cfg0.win 6).blk t).view.read (Elt Ideal) (goalVa m c) := by
  refine (dats_after6 m c t).trans ?_
  funext y
  have hy : y = ix2 (y 0) (y 1) := by
    funext a
    match a with
    | ⟨0, _⟩ => rfl
    | ⟨1, _⟩ => rfl
  rw [View.read_apply]
  refine (congrArg _ hy).trans ((ova_at m c t (y 0) (y 1)).trans ?_)
  show goalVa m c _ = goalVa m c _
  congr 1
  funext a
  apply Fin.ext
  match a with
  | ⟨0, _⟩ => show 1024 * (t.val - 8) + (y 0).val = win0_6.index t 0 * 1024 + 1 * (y 0).val; rw [(at6 t).1]; omega
  | ⟨1, _⟩ => show (y 1).val = win0_6.index t 1 * 256 + 1 * (y 1).val; rw [(at6 t).2]; omega

theorem final_va : (dats m 0 c).arrAt 6 cfg0.N = goalVa m c := by
  refine (dats m 0 c).arrAt_eq_of_cover 6 (goalVa m c) (fun t _ => flushed_va m c t) fun y => ?_
  have h0 : (y 0).val < 16384 := (y 0).isLt
  have h1 : (y 1).val < 256 := (y 1).isLt
  have hN : (y 0).val / 1024 + 8 < cfg0.N := by
    rw [show cfg0.N = 24 from N_0]
    omega
  refine ⟨⟨(y 0).val / 1024 + 8, hN⟩, (flush_out6 _).mpr (by simp only; omega), ?_⟩
  have h := ((cfg0.win 6).blk ⟨(y 0).val / 1024 + 8, hN⟩).view.emb_mem_set (ix2 (⟨(y 0).val % 1024, by omega⟩ : Fin 1024) (⟨(y 1).val, h1⟩ : Fin 256))
  refine (congrArg (· ∈ ((cfg0.win 6).blk ⟨(y 0).val / 1024 + 8, hN⟩).view.set) (funext fun a => Fin.ext ?_)).mp h
  match a with
  | ⟨0, _⟩ => show win0_6.index ⟨(y 0).val / 1024 + 8, hN⟩ 0 * 1024 + 1 * ((y 0).val % 1024) = (y 0).val; rw [(at6 _).1]; simp only; omega
  | ⟨1, _⟩ => show win0_6.index ⟨(y 0).val / 1024 + 8, hN⟩ 1 * 256 + 1 * (y 1).val = (y 1).val; rw [(at6 _).2]; omega

theorem flushed_qb (t : Fin cfg0.N) : (dats m 0 c).flushed 7 t = ((cfg0.win 7).blk t).view.read (Elt Ideal) (goalQb m c) := by
  refine (dats_after7 m c t).trans ?_
  funext y
  have hy : y = ix2 (y 0) (y 1) := by
    funext a
    match a with
    | ⟨0, _⟩ => rfl
    | ⟨1, _⟩ => rfl
  rw [View.read_apply]
  refine (congrArg _ hy).trans ((oqb_at m c t (y 0) (y 1)).trans ?_)
  show goalQb m c _ = goalQb m c _
  congr 1
  funext a
  apply Fin.ext
  match a with
  | ⟨0, _⟩ => show 1024 * (t.val - 8) + (y 0).val = win0_7.index t 0 * 1024 + 1 * (y 0).val; rw [(at7 t).1]; omega
  | ⟨1, _⟩ => show (y 1).val = win0_7.index t 1 * 512 + 1 * (y 1).val; rw [(at7 t).2]; omega

theorem final_qb : (dats m 0 c).arrAt 7 cfg0.N = goalQb m c := by
  refine (dats m 0 c).arrAt_eq_of_cover 7 (goalQb m c) (fun t _ => flushed_qb m c t) fun y => ?_
  have h0 : (y 0).val < 16384 := (y 0).isLt
  have h1 : (y 1).val < 512 := (y 1).isLt
  have hN : (y 0).val / 1024 + 8 < cfg0.N := by
    rw [show cfg0.N = 24 from N_0]
    omega
  refine ⟨⟨(y 0).val / 1024 + 8, hN⟩, (flush_out7 _).mpr (by simp only; omega), ?_⟩
  have h := ((cfg0.win 7).blk ⟨(y 0).val / 1024 + 8, hN⟩).view.emb_mem_set (ix2 (⟨(y 0).val % 1024, by omega⟩ : Fin 1024) (⟨(y 1).val, h1⟩ : Fin 512))
  refine (congrArg (· ∈ ((cfg0.win 7).blk ⟨(y 0).val / 1024 + 8, hN⟩).view.set) (funext fun a => Fin.ext ?_)).mp h
  match a with
  | ⟨0, _⟩ => show win0_7.index ⟨(y 0).val / 1024 + 8, hN⟩ 0 * 1024 + 1 * ((y 0).val % 1024) = (y 0).val; rw [(at7 _).1]; simp only; omega
  | ⟨1, _⟩ => show win0_7.index ⟨(y 0).val / 1024 + 8, hN⟩ 1 * 512 + 1 * (y 1).val = (y 1).val; rw [(at7 _).2]; omega

theorem flushed_kb (t : Fin cfg0.N) : (dats m 0 c).flushed 8 t = ((cfg0.win 8).blk t).view.read (Elt Ideal) (goalKb m c) := by
  refine (dats_after8 m c t).trans ?_
  funext y
  have hy : y = ix2 (y 0) (y 1) := by
    funext a
    match a with
    | ⟨0, _⟩ => rfl
    | ⟨1, _⟩ => rfl
  rw [View.read_apply]
  refine (congrArg _ hy).trans ((okb_at m c t (y 0) (y 1)).trans ?_)
  show goalKb m c _ = goalKb m c _
  congr 1
  funext a
  apply Fin.ext
  match a with
  | ⟨0, _⟩ => show 1024 * (t.val - 8) + (y 0).val = win0_8.index t 0 * 1024 + 1 * (y 0).val; rw [(at8 t).1]; omega
  | ⟨1, _⟩ => show (y 1).val = win0_8.index t 1 * 512 + 1 * (y 1).val; rw [(at8 t).2]; omega

theorem final_kb : (dats m 0 c).arrAt 8 cfg0.N = goalKb m c := by
  refine (dats m 0 c).arrAt_eq_of_cover 8 (goalKb m c) (fun t _ => flushed_kb m c t) fun y => ?_
  have h0 : (y 0).val < 16384 := (y 0).isLt
  have h1 : (y 1).val < 512 := (y 1).isLt
  have hN : (y 0).val / 1024 + 8 < cfg0.N := by
    rw [show cfg0.N = 24 from N_0]
    omega
  refine ⟨⟨(y 0).val / 1024 + 8, hN⟩, (flush_out8 _).mpr (by simp only; omega), ?_⟩
  have h := ((cfg0.win 8).blk ⟨(y 0).val / 1024 + 8, hN⟩).view.emb_mem_set (ix2 (⟨(y 0).val % 1024, by omega⟩ : Fin 1024) (⟨(y 1).val, h1⟩ : Fin 512))
  refine (congrArg (· ∈ ((cfg0.win 8).blk ⟨(y 0).val / 1024 + 8, hN⟩).view.set) (funext fun a => Fin.ext ?_)).mp h
  match a with
  | ⟨0, _⟩ => show win0_8.index ⟨(y 0).val / 1024 + 8, hN⟩ 0 * 1024 + 1 * ((y 0).val % 1024) = (y 0).val; rw [(at8 _).1]; simp only; omega
  | ⟨1, _⟩ => show win0_8.index ⟨(y 0).val / 1024 + 8, hN⟩ 1 * 512 + 1 * (y 1).val = (y 1).val; rw [(at8 _).2]; omega

theorem flushed_vb (t : Fin cfg0.N) : (dats m 0 c).flushed 9 t = ((cfg0.win 9).blk t).view.read (Elt Ideal) (goalVb m c) := by
  refine (dats_after9 m c t).trans ?_
  funext y
  have hy : y = ix2 (y 0) (y 1) := by
    funext a
    match a with
    | ⟨0, _⟩ => rfl
    | ⟨1, _⟩ => rfl
  rw [View.read_apply]
  refine (congrArg _ hy).trans ((ovb_at m c t (y 0) (y 1)).trans ?_)
  show goalVb m c _ = goalVb m c _
  congr 1
  funext a
  apply Fin.ext
  match a with
  | ⟨0, _⟩ => show 1024 * (t.val - 8) + (y 0).val = win0_9.index t 0 * 1024 + 1 * (y 0).val; rw [(at9 t).1]; omega
  | ⟨1, _⟩ => show (y 1).val = win0_9.index t 1 * 512 + 1 * (y 1).val; rw [(at9 t).2]; omega

theorem final_vb : (dats m 0 c).arrAt 9 cfg0.N = goalVb m c := by
  refine (dats m 0 c).arrAt_eq_of_cover 9 (goalVb m c) (fun t _ => flushed_vb m c t) fun y => ?_
  have h0 : (y 0).val < 16384 := (y 0).isLt
  have h1 : (y 1).val < 512 := (y 1).isLt
  have hN : (y 0).val / 1024 + 8 < cfg0.N := by
    rw [show cfg0.N = 24 from N_0]
    omega
  refine ⟨⟨(y 0).val / 1024 + 8, hN⟩, (flush_out9 _).mpr (by simp only; omega), ?_⟩
  have h := ((cfg0.win 9).blk ⟨(y 0).val / 1024 + 8, hN⟩).view.emb_mem_set (ix2 (⟨(y 0).val % 1024, by omega⟩ : Fin 1024) (⟨(y 1).val, h1⟩ : Fin 512))
  refine (congrArg (· ∈ ((cfg0.win 9).blk ⟨(y 0).val / 1024 + 8, hN⟩).view.set) (funext fun a => Fin.ext ?_)).mp h
  match a with
  | ⟨0, _⟩ => show win0_9.index ⟨(y 0).val / 1024 + 8, hN⟩ 0 * 1024 + 1 * ((y 0).val % 1024) = (y 0).val; rw [(at9 _).1]; simp only; omega
  | ⟨1, _⟩ => show win0_9.index ⟨(y 0).val / 1024 + 8, hN⟩ 1 * 512 + 1 * (y 1).val = (y 1).val; rw [(at9 _).2]; omega

end Cert.EvenProof
end
-- ==== Proof.EvenRef.lean ====
module

public import proofs.«01_k».proof.Proof.EvenValue
public import proofs.«01_k».proof.Proof.Gen.Reference5Ideal.Read

@[expose] public section

set_option maxRecDepth 16384

noncomputable section

namespace Cert.EvenProof

open Cert.Reference5Ideal Cert.Reference5Ideal.Gen Cert.Reference5Ideal.Read Cert.Layer Idealize.ShloMosaic Idealize.ShloMosaic.TcCoe Idealize.SL.Sem Idealize.ShloMosaic.Tactic

variable (x0 : FVec Ideal S16384x1024 .f32) (x1 : FVec Ideal S1x1024 .f32) (x2 : FVec Ideal S1x1024x2304 .f32)

theorem ref_norm (n : Fin 16384) (d : Fin 1024) :
    (val_main_v13 (F := Ideal) x0 x1 (ix2 n d) : EReal) = normOf (fun d => x1 (ix2 0 d)) (fun d => x0 (ix2 n d)) d := by
  have h2 : (val_main_v2 (F := Ideal) x0 (ix1 n) : EReal) = ∑ d : Fin 1024, (x0 (ix2 n d) * x0 (ix2 n d) : EReal) := by
    rw [val_main_v2_apply]
    pointwise [val_main_cst]
    refine Finset.sum_congr rfl fun d _ => ?_
    rw [show idx_main_v2 (ix1 n) d = ix2 n d from funext fun a => match a with | ⟨0, _⟩ => rfl | ⟨1, _⟩ => rfl]
    rfl
  have h8 : (val_main_v8 (F := Ideal) x0 (ix2 n 0) : EReal)
      = Ideal.rsqrt (Ideal.div (val_main_v2 (F := Ideal) x0 (ix1 n)) (Ideal.ofBits .f32 0x44800000#32) + Ideal.ofBits .f32 0x358637BD#32) := by
    pointwise [val_main_v8, val_main_v7, val_main_v6, val_main_v5, val_main_v4, val_main_v3, val_main_cst_0, val_main_cst_1]
  have h9 : (val_main_v9 (F := Ideal) x0 (ix2 n d) : EReal) = val_main_v8 (F := Ideal) x0 (ix2 n 0) := by
    pointwise [val_main_v9]
  have h12 : (val_main_v12 (F := Ideal) x1 (ix2 n d) : EReal) = x1 (ix2 0 d) := by
    pointwise [val_main_v12, val_main_v11, val_main_v0]
  unfold normOf
  dsimp only
  rw [← h2, ← h8, ← h9, ← h12]
  rfl

/-- A token's products. -/
def refRow (n : Fin 16384) : Fin 2304 → EReal := prodOf (fun d => x1 (ix2 0 d)) (fun e j => x2 (ix3 0 e j)) (fun d => x0 (ix2 n d))

theorem ref_prod (n : Fin 16384) (j : Fin 2304) : (val_main_v15 (F := Ideal) x0 x1 x2 (ix2 n j) : EReal) = refRow x0 x1 x2 n j := by
  have h14 : ∀ e : Fin 1024, (val_main_v14 (F := Ideal) x2 (ix2 e j) : EReal) = x2 (ix3 0 e j) := by
    intro e
    pointwise [val_main_v14]
  unfold refRow prodOf
  rw [val_main_v15_apply]
  refine Finset.sum_congr rfl fun e _ => ?_
  rw [show lidx_main_v15 (ix2 n j) e = ix2 n e from funext fun a => match a with | ⟨0, _⟩ => rfl | ⟨1, _⟩ => rfl,
    show ridx_main_v15 (ix2 n j) e = ix2 e j from funext fun a => match a with | ⟨0, _⟩ => rfl | ⟨1, _⟩ => rfl, h14, ref_norm]

/-- The heads of the queries, -/
theorem head_qa (g : FVec Ideal S1x64 .f32) (n : Fin 16384) (h : Fin 8) (l : Fin 64) (z : Fin 2304) (hz : z.val = 0 + 64 * h.val + l.val) :
    (val_main_v38 (F := Ideal) x0 x1 x2 g (ix3 n h l) : EReal)
      = refRow x0 x1 x2 n z * headRoot (refRow x0 x1 x2 n) z * g (ix2 0 l) := by
  have hy : ∀ l : Fin 64, (val_main_v25 (F := Ideal) x0 x1 x2 (ix3 n h l) : EReal) = refRow x0 x1 x2 n ⟨64 * (z.val / 64) + l.val, by omega⟩ := by
    intro k
    rw [← ref_prod]
    pointwise [val_main_v25, val_main_v16]
    refine congrArg (fun k => val_main_v15 (F := Ideal) x0 x1 x2 (ix2 n k)) (Fin.ext ?_)
    dsimp only
    omega
  have hs : (val_main_v27 (F := Ideal) x0 x1 x2 (ix2 n h) : EReal)
      = ∑ l : Fin 64, refRow x0 x1 x2 n ⟨64 * (z.val / 64) + l.val, by omega⟩ * refRow x0 x1 x2 n ⟨64 * (z.val / 64) + l.val, by omega⟩ := by
    rw [val_main_v27_apply]
    pointwise [val_main_cst_4]
    refine Finset.sum_congr rfl fun k _ => ?_
    rw [show idx_main_v27 (ix2 n h) k = ix3 n h k from funext fun a => match a with | ⟨0, _⟩ => rfl | ⟨1, _⟩ => rfl | ⟨2, _⟩ => rfl, ← hy]
    rfl
  have hr : (val_main_v33 (F := Ideal) x0 x1 x2 (ix3 n h 0) : EReal) = headRoot (refRow x0 x1 x2 n) z := by
    unfold headRoot rootOf
    rw [← hs]
    pointwise [val_main_v33, val_main_v32, val_main_v31, val_main_v30, val_main_v29, val_main_v28, val_main_cst_5, val_main_cst_6]
  have hb : (val_main_v34 (F := Ideal) x0 x1 x2 (ix3 n h l) : EReal) = val_main_v33 (F := Ideal) x0 x1 x2 (ix3 n h 0) := by
    pointwise [val_main_v34]
  have hg : (val_main_v37 (F := Ideal) g (ix3 n h l) : EReal) = g (ix2 0 l) := by
    pointwise [val_main_v37, val_main_v36, val_main_v24]
  have hz' : z = ⟨64 * (z.val / 64) + l.val, by omega⟩ := Fin.ext (by dsimp only; omega)
  have hv : refRow x0 x1 x2 n z = val_main_v25 (F := Ideal) x0 x1 x2 (ix3 n h l) := (congrArg (refRow x0 x1 x2 n) hz').trans (hy l).symm
  rw [hv, ← hr, ← hb, ← hg]
  rfl

/-- of the keys, -/
theorem head_ka (g : FVec Ideal S1x64 .f32) (n : Fin 16384) (h : Fin 2) (l : Fin 64) (z : Fin 2304) (hz : z.val = 512 + 64 * h.val + l.val) :
    (val_main_v57 (F := Ideal) x0 x1 x2 g (ix3 n h l) : EReal)
      = refRow x0 x1 x2 n z * headRoot (refRow x0 x1 x2 n) z * g (ix2 0 l) := by
  have hy : ∀ l : Fin 64, (val_main_v44 (F := Ideal) x0 x1 x2 (ix3 n h l) : EReal) = refRow x0 x1 x2 n ⟨64 * (z.val / 64) + l.val, by omega⟩ := by
    intro k
    rw [← ref_prod]
    pointwise [val_main_v44, val_main_v17]
    refine congrArg (fun k => val_main_v15 (F := Ideal) x0 x1 x2 (ix2 n k)) (Fin.ext ?_)
    dsimp only
    omega
  have hs : (val_main_v46 (F := Ideal) x0 x1 x2 (ix2 n h) : EReal)
      = ∑ l : Fin 64, refRow x0 x1 x2 n ⟨64 * (z.val / 64) + l.val, by omega⟩ * refRow x0 x1 x2 n ⟨64 * (z.val / 64) + l.val, by omega⟩ := by
    rw [val_main_v46_apply]
    pointwise [val_main_cst_7]
    refine Finset.sum_congr rfl fun k _ => ?_
    rw [show idx_main_v46 (ix2 n h) k = ix3 n h k from funext fun a => match a with | ⟨0, _⟩ => rfl | ⟨1, _⟩ => rfl | ⟨2, _⟩ => rfl, ← hy]
    rfl
  have hr : (val_main_v52 (F := Ideal) x0 x1 x2 (ix3 n h 0) : EReal) = headRoot (refRow x0 x1 x2 n) z := by
    unfold headRoot rootOf
    rw [← hs]
    pointwise [val_main_v52, val_main_v51, val_main_v50, val_main_v49, val_main_v48, val_main_v47, val_main_cst_8, val_main_cst_9]
  have hb : (val_main_v53 (F := Ideal) x0 x1 x2 (ix3 n h l) : EReal) = val_main_v52 (F := Ideal) x0 x1 x2 (ix3 n h 0) := by
    pointwise [val_main_v53]
  have hg : (val_main_v56 (F := Ideal) g (ix3 n h l) : EReal) = g (ix2 0 l) := by
    pointwise [val_main_v56, val_main_v55, val_main_v43]
  have hz' : z = ⟨64 * (z.val / 64) + l.val, by omega⟩ := Fin.ext (by dsimp only; omega)
  have hv : refRow x0 x1 x2 n z = val_main_v44 (F := Ideal) x0 x1 x2 (ix3 n h l) := (congrArg (refRow x0 x1 x2 n) hz').trans (hy l).symm
  rw [hv, ← hr, ← hb, ← hg]
  rfl

/-- of the second attention's queries -/
theorem head_qb (g : FVec Ideal S1x64 .f32) (n : Fin 16384) (h : Fin 8) (l : Fin 64) (z : Fin 2304) (hz : z.val = 768 + 64 * h.val + l.val) :
    (val_main_v73 (F := Ideal) x0 x1 x2 g (ix3 n h l) : EReal)
      = refRow x0 x1 x2 n z * headRoot (refRow x0 x1 x2 n) z * g (ix2 0 l) := by
  have hy : ∀ l : Fin 64, (val_main_v60 (F := Ideal) x0 x1 x2 (ix3 n h l) : EReal) = refRow x0 x1 x2 n ⟨64 * (z.val / 64) + l.val, by omega⟩ := by
    intro k
    rw [← ref_prod]
    pointwise [val_main_v60, val_main_v19]
    refine congrArg (fun k => val_main_v15 (F := Ideal) x0 x1 x2 (ix2 n k)) (Fin.ext ?_)
    dsimp only
    omega
  have hs : (val_main_v62 (F := Ideal) x0 x1 x2 (ix2 n h) : EReal)
      = ∑ l : Fin 64, refRow x0 x1 x2 n ⟨64 * (z.val / 64) + l.val, by omega⟩ * refRow x0 x1 x2 n ⟨64 * (z.val / 64) + l.val, by omega⟩ := by
    rw [val_main_v62_apply]
    pointwise [val_main_cst_10]
    refine Finset.sum_congr rfl fun k _ => ?_
    rw [show idx_main_v62 (ix2 n h) k = ix3 n h k from funext fun a => match a with | ⟨0, _⟩ => rfl | ⟨1, _⟩ => rfl | ⟨2, _⟩ => rfl, ← hy]
    rfl
  have hr : (val_main_v68 (F := Ideal) x0 x1 x2 (ix3 n h 0) : EReal) = headRoot (refRow x0 x1 x2 n) z := by
    unfold headRoot rootOf
    rw [← hs]
    pointwise [val_main_v68, val_main_v67, val_main_v66, val_main_v65, val_main_v64, val_main_v63, val_main_cst_11, val_main_cst_12]
  have hb : (val_main_v69 (F := Ideal) x0 x1 x2 (ix3 n h l) : EReal) = val_main_v68 (F := Ideal) x0 x1 x2 (ix3 n h 0) := by
    pointwise [val_main_v69]
  have hg : (val_main_v72 (F := Ideal) g (ix3 n h l) : EReal) = g (ix2 0 l) := by
    pointwise [val_main_v72, val_main_v71, val_main_v59]
  have hz' : z = ⟨64 * (z.val / 64) + l.val, by omega⟩ := Fin.ext (by dsimp only; omega)
  have hv : refRow x0 x1 x2 n z = val_main_v60 (F := Ideal) x0 x1 x2 (ix3 n h l) := (congrArg (refRow x0 x1 x2 n) hz').trans (hy l).symm
  rw [hv, ← hr, ← hb, ← hg]
  rfl

/-- and of its keys. -/
theorem head_kb (g : FVec Ideal S1x64 .f32) (n : Fin 16384) (h : Fin 8) (l : Fin 64) (z : Fin 2304) (hz : z.val = 1280 + 64 * h.val + l.val) :
    (val_main_v92 (F := Ideal) x0 x1 x2 g (ix3 n h l) : EReal)
      = refRow x0 x1 x2 n z * headRoot (refRow x0 x1 x2 n) z * g (ix2 0 l) := by
  have hy : ∀ l : Fin 64, (val_main_v79 (F := Ideal) x0 x1 x2 (ix3 n h l) : EReal) = refRow x0 x1 x2 n ⟨64 * (z.val / 64) + l.val, by omega⟩ := by
    intro k
    rw [← ref_prod]
    pointwise [val_main_v79, val_main_v20]
    refine congrArg (fun k => val_main_v15 (F := Ideal) x0 x1 x2 (ix2 n k)) (Fin.ext ?_)
    dsimp only
    omega
  have hs : (val_main_v81 (F := Ideal) x0 x1 x2 (ix2 n h) : EReal)
      = ∑ l : Fin 64, refRow x0 x1 x2 n ⟨64 * (z.val / 64) + l.val, by omega⟩ * refRow x0 x1 x2 n ⟨64 * (z.val / 64) + l.val, by omega⟩ := by
    rw [val_main_v81_apply]
    pointwise [val_main_cst_13]
    refine Finset.sum_congr rfl fun k _ => ?_
    rw [show idx_main_v81 (ix2 n h) k = ix3 n h k from funext fun a => match a with | ⟨0, _⟩ => rfl | ⟨1, _⟩ => rfl | ⟨2, _⟩ => rfl, ← hy]
    rfl
  have hr : (val_main_v87 (F := Ideal) x0 x1 x2 (ix3 n h 0) : EReal) = headRoot (refRow x0 x1 x2 n) z := by
    unfold headRoot rootOf
    rw [← hs]
    pointwise [val_main_v87, val_main_v86, val_main_v85, val_main_v84, val_main_v83, val_main_v82, val_main_cst_14, val_main_cst_15]
  have hb : (val_main_v88 (F := Ideal) x0 x1 x2 (ix3 n h l) : EReal) = val_main_v87 (F := Ideal) x0 x1 x2 (ix3 n h 0) := by
    pointwise [val_main_v88]
  have hg : (val_main_v91 (F := Ideal) g (ix3 n h l) : EReal) = g (ix2 0 l) := by
    pointwise [val_main_v91, val_main_v90, val_main_v78]
  have hz' : z = ⟨64 * (z.val / 64) + l.val, by omega⟩ := Fin.ext (by dsimp only; omega)
  have hv : refRow x0 x1 x2 n z = val_main_v79 (F := Ideal) x0 x1 x2 (ix3 n h l) := (congrArg (refRow x0 x1 x2 n) hz').trans (hy l).symm
  rw [hv, ← hr, ← hb, ← hg]
  rfl

/-- The results: the queries, -/
theorem ref_qa (g : FVec Ideal S1x64 .f32) (n : Fin 16384) (d : Fin 512) (z : Fin 2304) (hz : z.val = d.val) :
    (val_main_v94 (F := Ideal) x0 x1 x2 g (ix2 n d) : EReal)
      = refRow x0 x1 x2 n z * headRoot (refRow x0 x1 x2 n) z * g (ix2 0 ⟨d.val % 64, by omega⟩) * scale := by
  rw [← head_qa x0 x1 x2 g n ⟨d.val / 64, by omega⟩ ⟨d.val % 64, by omega⟩ z (by dsimp only; omega)]
  generalize hy : (val_main_v38 (F := Ideal) x0 x1 x2 g) = y
  pointwise [val_main_v94, val_main_v42, val_main_v41, val_main_v40, val_main_v39, val_main_v23, val_main_v22, val_main_cst_2, val_main_cst_3]
  rw [hy]
  rfl

/-- the keys, each head twice, -/
theorem ref_ka (g : FVec Ideal S1x64 .f32) (n : Fin 16384) (d : Fin 256) (z : Fin 2304) (hz : z.val = 512 + 64 * (d.val / 128) + d.val % 64) :
    (val_main_v98 (F := Ideal) x0 x1 x2 g (ix2 n d) : EReal)
      = refRow x0 x1 x2 n z * headRoot (refRow x0 x1 x2 n) z * g (ix2 0 ⟨d.val % 64, by omega⟩) := by
  rw [← head_ka x0 x1 x2 g n ⟨d.val / 128, by omega⟩ ⟨d.val % 64, by omega⟩ z (by dsimp only; omega)]
  have h97 : (val_main_v98 (F := Ideal) x0 x1 x2 g (ix2 n d) : EReal)
      = val_main_v96 (F := Ideal) x0 x1 x2 g (ix4 n ⟨d.val / 128, by omega⟩ ⟨d.val / 64 % 2, by omega⟩ ⟨d.val % 64, by omega⟩) := by
    generalize hy : (val_main_v96 (F := Ideal) x0 x1 x2 g) = y
    pointwise [val_main_v98, val_main_v97]
    rw [hy]
  have h95 : ∀ (a b : Fin 2) (l : Fin 64), (val_main_v96 (F := Ideal) x0 x1 x2 g (ix4 n a b l) : EReal) = val_main_v57 (F := Ideal) x0 x1 x2 g (ix3 n a l) := by
    intro a b l
    generalize hy : (val_main_v57 (F := Ideal) x0 x1 x2 g) = y
    pointwise [val_main_v96, val_main_v95, val_main_v58]
    rw [hy]
  rw [h97, h95]

/-- the values, each head twice, -/
theorem ref_va (n : Fin 16384) (d : Fin 256) (z : Fin 2304) (hz : z.val = 640 + 64 * (d.val / 128) + d.val % 64) :
    (val_main_v102 (F := Ideal) x0 x1 x2 (ix2 n d) : EReal) = refRow x0 x1 x2 n z := by
  rw [← ref_prod]
  have h97 : (val_main_v102 (F := Ideal) x0 x1 x2 (ix2 n d) : EReal)
      = val_main_v100 (F := Ideal) x0 x1 x2 (ix4 n ⟨d.val / 128, by omega⟩ ⟨d.val / 64 % 2, by omega⟩ ⟨d.val % 64, by omega⟩) := by
    generalize hy : (val_main_v100 (F := Ideal) x0 x1 x2) = y
    pointwise [val_main_v102, val_main_v101]
    rw [hy]
  have h95 : ∀ (a b : Fin 2) (l : Fin 64), (val_main_v100 (F := Ideal) x0 x1 x2 (ix4 n a b l) : EReal)
      = val_main_v15 (F := Ideal) x0 x1 x2 (ix2 n ⟨640 + 64 * a.val + l.val, by omega⟩) := by
    intro a b l
    pointwise [val_main_v100, val_main_v99, val_main_v18]
    refine congrArg (fun k => val_main_v15 (F := Ideal) x0 x1 x2 (ix2 n k)) (Fin.ext ?_)
    dsimp only
    omega
  rw [h97, h95]
  exact congrArg (fun k => val_main_v15 (F := Ideal) x0 x1 x2 (ix2 n k)) (Fin.ext hz.symm)

/-- the second attention's queries, -/
theorem ref_qb (g : FVec Ideal S1x64 .f32) (n : Fin 16384) (d : Fin 512) (z : Fin 2304) (hz : z.val = 768 + d.val) :
    (val_main_v103 (F := Ideal) x0 x1 x2 g (ix2 n d) : EReal)
      = refRow x0 x1 x2 n z * headRoot (refRow x0 x1 x2 n) z * g (ix2 0 ⟨d.val % 64, by omega⟩) * scale := by
  rw [← head_qb x0 x1 x2 g n ⟨d.val / 64, by omega⟩ ⟨d.val % 64, by omega⟩ z (by dsimp only; omega)]
  generalize hy : (val_main_v73 (F := Ideal) x0 x1 x2 g) = y
  pointwise [val_main_v103, val_main_v77, val_main_v76, val_main_v75, val_main_v74, val_main_v23, val_main_v22, val_main_cst_2, val_main_cst_3]
  rw [hy]
  rfl

/-- its keys, -/
theorem ref_kb (g : FVec Ideal S1x64 .f32) (n : Fin 16384) (d : Fin 512) (z : Fin 2304) (hz : z.val = 1280 + d.val) :
    (val_main_v104 (F := Ideal) x0 x1 x2 g (ix2 n d) : EReal)
      = refRow x0 x1 x2 n z * headRoot (refRow x0 x1 x2 n) z * g (ix2 0 ⟨d.val % 64, by omega⟩) := by
  rw [← head_kb x0 x1 x2 g n ⟨d.val / 64, by omega⟩ ⟨d.val % 64, by omega⟩ z (by dsimp only; omega)]
  generalize hy : (val_main_v92 (F := Ideal) x0 x1 x2 g) = y
  pointwise [val_main_v104, val_main_v93]
  rw [hy]

/-- and its values. -/
theorem ref_vb (n : Fin 16384) (d : Fin 512) (z : Fin 2304) (hz : z.val = 1792 + d.val) :
    (val_main_v105 (F := Ideal) x0 x1 x2 (ix2 n d) : EReal) = refRow x0 x1 x2 n z := by
  rw [← ref_prod]
  pointwise [val_main_v105, val_main_v21]
  exact congrArg (fun k => val_main_v15 (F := Ideal) x0 x1 x2 (ix2 n k)) (Fin.ext hz.symm)

end Cert.EvenProof
end
-- ==== Proof.EvenClaim.lean ====
module

public import proofs.«01_k».proof.Defs
public import proofs.«01_k».proof.Proof.EvenSame
public import proofs.«01_k».proof.Proof.EvenFinal
public import proofs.«01_k».proof.Proof.EvenRef
public import proofs.«01_k».proof.Proof.Gen.Reference5Ideal.Run

@[expose] public section

set_option maxRecDepth 65536

noncomputable section

namespace Cert.EvenProof

open Idealize.ShloMosaic Idealize.ShloMosaic.TcCoe Idealize.SL.Sem Idealize.ShloMosaic.Tactic

/-- The kernel terminates and leaves its arguments and counters as they were, at exact values, -/
theorem frame_pi5 : Cert.quiescent_Kernel5Ideal := fun m ρ _ => frame_any m ρ

/-- and at machine words, the text being the same. -/
theorem frame_p5 : Cert.quiescent_Kernel5 := fun m ρ _ => by
  have h := frame_any (F := Bits) m ρ
  rw [← main_same, ← defs_same] at h
  exact h

theorem frame_ri5 : Cert.quiescent_Reference5Ideal := fun m ρ _ =>
  (θ_run Cert.Reference5Ideal.defs _ _).mono (fun r h => ⟨fun c => (h c).2.2.2.2.2.2, sem_eq_zero_of_no_sems (by decide) r.2⟩)
    (Cert.Reference5Ideal.Value.run (F := Ideal) m ρ)

/-- Nothing is replaced. -/
theorem preserves5 : Cert.preserves_Kernel5_Kernel5Ideal := trivial

/-- The six results are the reference's, whatever the arguments. -/
theorem algebraic5 : Cert.algebraic_Kernel5Ideal_Reference5Ideal := by
  intro m ρ m' ρ' hpre hagree
  refine ⟨fun c => goalQa m c, fun c => goalKa m c, fun c => goalVa m c, fun c => goalQb m c, fun c => goalKb m c, fun c => goalVb m c, ?_, ?_⟩
  · exact (θ_run Cert.Kernel5Ideal.defs _ _).mono
      (fun _ h c => ⟨((h.1 c).1 4).trans (final_qa m c), ((h.1 c).1 5).trans (final_ka m c), ((h.1 c).1 6).trans (final_va m c),
        ((h.1 c).1 7).trans (final_qb m c), ((h.1 c).1 8).trans (final_kb m c), ((h.1 c).1 9).trans (final_vb m c), h.2.1 c⟩)
      (θ_run_and ((θ_run Cert.Kernel5Ideal.defs _ _).mono (fun _ h => h.1) (run_quiescent (F := Ideal) m ρ)) (frame_any (F := Ideal) m ρ))
  · refine (θ_run Cert.Reference5Ideal.defs _ _).mono
      (fun _ h c => ⟨(h c).1.trans ?_, (h c).2.1.trans ?_, (h c).2.2.1.trans ?_, (h c).2.2.2.1.trans ?_, (h c).2.2.2.2.1.trans ?_,
        (h c).2.2.2.2.2.1.trans ?_, (h c).2.2.2.2.2.2⟩)
      (Cert.Reference5Ideal.Value.run (F := Ideal) m' ρ')
    all_goals obtain ⟨e0, e1, e2, e3, e4, e5, e6⟩ := hagree c
    · rw [Cert.Reference5Ideal.Read.val_main_v94_eq, e0, e1, e2, e3]
      funext y
      have hy : y = ix2 (y 0) (y 1) := by
        funext a
        match a with
        | ⟨0, _⟩ => rfl
        | ⟨1, _⟩ => rfl
      exact (congrArg _ hy).trans ((ref_qa _ _ _ _ (y 0) (y 1) _ rfl).trans rfl)
    · rw [Cert.Reference5Ideal.Read.val_main_v98_eq, e0, e1, e2, e4]
      funext y
      have hy : y = ix2 (y 0) (y 1) := by
        funext a
        match a with
        | ⟨0, _⟩ => rfl
        | ⟨1, _⟩ => rfl
      exact (congrArg _ hy).trans ((ref_ka _ _ _ _ (y 0) (y 1) _ rfl).trans rfl)
    · rw [Cert.Reference5Ideal.Read.val_main_v102_eq, e0, e1, e2]
      funext y
      have hy : y = ix2 (y 0) (y 1) := by
        funext a
        match a with
        | ⟨0, _⟩ => rfl
        | ⟨1, _⟩ => rfl
      exact (congrArg _ hy).trans ((ref_va _ _ _ (y 0) (y 1) _ rfl).trans rfl)
    · rw [Cert.Reference5Ideal.Read.val_main_v103_eq, e0, e1, e2, e5]
      funext y
      have hy : y = ix2 (y 0) (y 1) := by
        funext a
        match a with
        | ⟨0, _⟩ => rfl
        | ⟨1, _⟩ => rfl
      exact (congrArg _ hy).trans ((ref_qb _ _ _ _ (y 0) (y 1) _ rfl).trans rfl)
    · rw [Cert.Reference5Ideal.Read.val_main_v104_eq, e0, e1, e2, e6]
      funext y
      have hy : y = ix2 (y 0) (y 1) := by
        funext a
        match a with
        | ⟨0, _⟩ => rfl
        | ⟨1, _⟩ => rfl
      exact (congrArg _ hy).trans ((ref_kb _ _ _ _ (y 0) (y 1) _ rfl).trans rfl)
    · rw [Cert.Reference5Ideal.Read.val_main_v105_eq, e0, e1, e2]
      funext y
      have hy : y = ix2 (y 0) (y 1) := by
        funext a
        match a with
        | ⟨0, _⟩ => rfl
        | ⟨1, _⟩ => rfl
      exact (congrArg _ hy).trans ((ref_vb _ _ _ (y 0) (y 1) _ rfl).trans rfl)

end Cert.EvenProof
end
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.WindowClaim
public import proofs.«01_k».proof.Proof.OutClaim
public import proofs.«01_k».proof.Proof.MixClaim
public import proofs.«01_k».proof.Proof.ProjClaim
public import proofs.«01_k».proof.Proof.EvenClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts,
  WindowProof.frame_p, WindowProof.frame_pi, WindowProof.frame_pi_pre, WindowProof.frame_ri, WindowProof.frame_ri_pre,
  OutProof.frame_p2, OutProof.frame_pi2, OutProof.frame_ri2, MixProof.frame_p3, MixProof.frame_pi3, MixProof.frame_ri3,
  ProjProof.frame_p4, ProjProof.frame_pi4, ProjProof.frame_ri4,
  EvenProof.frame_p5, EvenProof.frame_pi5, EvenProof.frame_ri5,
  WindowProof.preserves, WindowProof.algebraic, OutProof.preserves2, OutProof.algebraic2, MixProof.preserves3, MixProof.algebraic3,
  ProjProof.preserves4, ProjProof.algebraic4, EvenProof.preserves5, EvenProof.algebraic5⟩

end Cert.Proof

end
